-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_head [hPre_finite_head : Cert.Pre_finite_head.Facts] (m : (ℓ : Loc Cert.KernelIdeal.nD Cert.KernelIdeal.τ Cert.KernelIdeal.sig) → Buf (Elt Ideal) ℓ) : Prop :=
  ∀ c : Dev Cert.KernelIdeal.nD,
    (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_head [hPre_finite_head : Cert.Pre_finite_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attn [hPre_finite_attn : Cert.Pre_finite_attn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attn [hPre_finite_attn : Cert.Pre_finite_attn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_in [hPre_finite_in : Cert.Pre_finite_in.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2.1 = (fun _ => 1#1)
    ∧ (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_in [hPre_finite_in : Cert.Pre_finite_in.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2.1 = (fun _ => 1#1)
    ∧ (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_head [hKernelIdeal : Cert.KernelIdeal.Facts] [hPre_finite_head : Cert.Pre_finite_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_head [hReferenceIdeal : Cert.ReferenceIdeal.Facts] [hPre_finite_head : Cert.Pre_finite_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_attn [hKernel2Ideal : Cert.Kernel2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_attn [hReference2Ideal : Cert.Reference2Ideal.Facts] [hPre_finite_attn : Cert.Pre_finite_attn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_in [hKernel5Ideal : Cert.Kernel5Ideal.Facts] [hPre_finite_in : Cert.Pre_finite_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_in m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_in [hReference5Ideal : Cert.Reference5Ideal.Facts] [hPre_finite_in : Cert.Pre_finite_in.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_in m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite_head [hKernelIdeal : Cert.KernelIdeal.Facts] [hReferenceIdeal : Cert.ReferenceIdeal.Facts] [hPre_finite_head : Cert.Pre_finite_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v113) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v114) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_attn [hKernel2Ideal : Cert.Kernel2Ideal.Facts] [hReference2Ideal : Cert.Reference2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v86)) (v1 : (c : Dev Cert.Kernel2Ideal.nD) → Buf (Elt Ideal) ((c.tc : Thread Cert.Kernel2Ideal.nD Cert.Kernel2Ideal.τ).loc Cert.Kernel2Ideal.main_v88)) (v2 : (c : Dev Cert.Kernel2Ideal.nD) → Buf (Elt Ideal) ((c.tc : Thread Cert.Kernel2Ideal.nD Cert.Kernel2Ideal.τ).loc Cert.Kernel2Ideal.main_v90)) (v3 : (c : Dev Cert.Kernel2Ideal.nD) → Buf (Elt Ideal) ((c.tc : Thread Cert.Kernel2Ideal.nD Cert.Kernel2Ideal.τ).loc Cert.Kernel2Ideal.main_v92)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v86) = v0 c
          ∧ r.2.mem ((c.tc : Thread Cert.Kernel2Ideal.nD Cert.Kernel2Ideal.τ).loc Cert.Kernel2Ideal.main_v88) = v1 c
          ∧ r.2.mem ((c.tc : Thread Cert.Kernel2Ideal.nD Cert.Kernel2Ideal.τ).loc Cert.Kernel2Ideal.main_v90) = v2 c
          ∧ r.2.mem ((c.tc : Thread Cert.Kernel2Ideal.nD Cert.Kernel2Ideal.τ).loc Cert.Kernel2Ideal.main_v92) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v83) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v6_0)) (v5 : (c : Dev Cert.Kernel3Ideal.nD) → Buf (Elt Ideal) ((c.tc : Thread Cert.Kernel3Ideal.nD Cert.Kernel3Ideal.τ).loc Cert.Kernel3Ideal.main_v6_1)) (v6 : (c : Dev Cert.Kernel3Ideal.nD) → Buf (Elt Ideal) ((c.tc : Thread Cert.Kernel3Ideal.nD Cert.Kernel3Ideal.τ).loc Cert.Kernel3Ideal.main_v6_2)) (v7 : (c : Dev Cert.Kernel3Ideal.nD) → Buf (Elt Ideal) ((c.tc : Thread Cert.Kernel3Ideal.nD Cert.Kernel3Ideal.τ).loc Cert.Kernel3Ideal.main_v6_3)) (v8 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v6_0) = v4 c
          ∧ r.2.mem ((c.tc : Thread Cert.Kernel3Ideal.nD Cert.Kernel3Ideal.τ).loc Cert.Kernel3Ideal.main_v6_1) = v5 c
          ∧ r.2.mem ((c.tc : Thread Cert.Kernel3Ideal.nD Cert.Kernel3Ideal.τ).loc Cert.Kernel3Ideal.main_v6_2) = v6 c
          ∧ r.2.mem ((c.tc : Thread Cert.Kernel3Ideal.nD Cert.Kernel3Ideal.τ).loc Cert.Kernel3Ideal.main_v6_3) = v7 c
          ∧ r.2.mem ((c.tc : Thread Cert.Kernel3Ideal.nD Cert.Kernel3Ideal.τ).loc Cert.Kernel3Ideal.main_v6_4) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_v63) = v5 c
          ∧ r.2.mem ((c.tc : Thread Cert.Reference3Ideal.nD Cert.Reference3Ideal.τ).loc Cert.Reference3Ideal.main_v64) = v6 c
          ∧ r.2.mem ((c.tc : Thread Cert.Reference3Ideal.nD Cert.Reference3Ideal.τ).loc Cert.Reference3Ideal.main_v65) = v7 c
          ∧ r.2.mem ((c.tc : Thread Cert.Reference3Ideal.nD Cert.Reference3Ideal.τ).loc Cert.Reference3Ideal.main_v59) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "cubic" .f32 0x3D372713#32 ((8943 / 200000 : ℝ) : EReal)
  ∧ IdealRules.named_const.Statement Cert.Kernel4Ideal.κ "cubic3" .f32 0x3E095D4F#32 ((26829 / 200000 : ℝ) : EReal)

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v19)) (v1 : (c : Dev Cert.Kernel4Ideal.nD) → Buf (Elt Ideal) ((c.tc : Thread Cert.Kernel4Ideal.nD Cert.Kernel4Ideal.τ).loc Cert.Kernel4Ideal.main_v24)) (v2 : (c : Dev Cert.Kernel4Ideal.nD) → Buf (Elt Ideal) ((c.tc : Thread Cert.Kernel4Ideal.nD Cert.Kernel4Ideal.τ).loc Cert.Kernel4Ideal.main_v16_1)) (v3 : (c : Dev Cert.Kernel4Ideal.nD) → Buf (Elt Ideal) ((c.tc : Thread Cert.Kernel4Ideal.nD Cert.Kernel4Ideal.τ).loc Cert.Kernel4Ideal.main_v16_2)) (v4 : (c : Dev Cert.Kernel4Ideal.nD) → Buf (Elt Ideal) ((c.tc : Thread Cert.Kernel4Ideal.nD Cert.Kernel4Ideal.τ).loc Cert.Kernel4Ideal.main_v16_3)) (v5 : (c : Dev Cert.Kernel4Ideal.nD) → Buf (Elt Ideal) ((c.tc : Thread Cert.Kernel4Ideal.nD Cert.Kernel4Ideal.τ).loc Cert.Kernel4Ideal.main_v16_4)) (v6 : (c : Dev Cert.Kernel4Ideal.nD) → Buf (Elt Ideal) ((c.tc : Thread Cert.Kernel4Ideal.nD Cert.Kernel4Ideal.τ).loc Cert.Kernel4Ideal.main_v16_5)) (v7 : (c : Dev Cert.Kernel4Ideal.nD) → Buf (Elt Ideal) ((c.tc : Thread Cert.Kernel4Ideal.nD Cert.Kernel4Ideal.τ).loc Cert.Kernel4Ideal.main_v16_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_v24) = v1 c
          ∧ r.2.mem ((c.tc : Thread Cert.Kernel4Ideal.nD Cert.Kernel4Ideal.τ).loc Cert.Kernel4Ideal.main_v16_1) = v2 c
          ∧ r.2.mem ((c.tc : Thread Cert.Kernel4Ideal.nD Cert.Kernel4Ideal.τ).loc Cert.Kernel4Ideal.main_v16_2) = v3 c
          ∧ r.2.mem ((c.tc : Thread Cert.Kernel4Ideal.nD Cert.Kernel4Ideal.τ).loc Cert.Kernel4Ideal.main_v16_3) = v4 c
          ∧ r.2.mem ((c.tc : Thread Cert.Kernel4Ideal.nD Cert.Kernel4Ideal.τ).loc Cert.Kernel4Ideal.main_v16_4) = v5 c
          ∧ r.2.mem ((c.tc : Thread Cert.Kernel4Ideal.nD Cert.Kernel4Ideal.τ).loc Cert.Kernel4Ideal.main_v16_5) = v6 c
          ∧ r.2.mem ((c.tc : Thread Cert.Kernel4Ideal.nD Cert.Kernel4Ideal.τ).loc Cert.Kernel4Ideal.main_v16_6) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v140) = v0 c
          ∧ r.2.mem ((c.tc : Thread Cert.Reference4Ideal.nD Cert.Reference4Ideal.τ).loc Cert.Reference4Ideal.main_v139) = v1 c
          ∧ r.2.mem ((c.tc : Thread Cert.Reference4Ideal.nD Cert.Reference4Ideal.τ).loc Cert.Reference4Ideal.main_v136) = v2 c
          ∧ r.2.mem ((c.tc : Thread Cert.Reference4Ideal.nD Cert.Reference4Ideal.τ).loc Cert.Reference4Ideal.main_v141) = v3 c
          ∧ r.2.mem ((c.tc : Thread Cert.Reference4Ideal.nD Cert.Reference4Ideal.τ).loc Cert.Reference4Ideal.main_v142) = v4 c
          ∧ r.2.mem ((c.tc : Thread Cert.Reference4Ideal.nD Cert.Reference4Ideal.τ).loc Cert.Reference4Ideal.main_v117) = v5 c
          ∧ r.2.mem ((c.tc : Thread Cert.Reference4Ideal.nD Cert.Reference4Ideal.τ).loc Cert.Reference4Ideal.main_v96) = v6 c
          ∧ r.2.mem ((c.tc : Thread Cert.Reference4Ideal.nD Cert.Reference4Ideal.τ).loc Cert.Reference4Ideal.main_v122) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_in [hKernel5Ideal : Cert.Kernel5Ideal.Facts] [hReference5Ideal : Cert.Reference5Ideal.Facts] [hPre_finite_in : Cert.Pre_finite_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_in m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v48)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v49)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v48) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v49) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_v74) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_head : Cert.Pre_finite_head.Facts) (hPre_finite_attn : Cert.Pre_finite_attn.Facts) (hPre_finite_ffn : Cert.Pre_finite_ffn.Facts) (hPre_finite_mix : Cert.Pre_finite_mix.Facts) (hPre_finite_in : Cert.Pre_finite_in.Facts),
    quiescent_Kernel (hKernel := hKernel)
    ∧ quiescent_KernelIdeal (hKernelIdeal := hKernelIdeal)
    ∧ quiescent_KernelIdeal_pre_finite_head (hKernelIdeal := hKernelIdeal) (hPre_finite_head := hPre_finite_head)
    ∧ quiescent_ReferenceIdeal (hReferenceIdeal := hReferenceIdeal)
    ∧ quiescent_ReferenceIdeal_pre_finite_head (hReferenceIdeal := hReferenceIdeal) (hPre_finite_head := hPre_finite_head)
    ∧ quiescent_Kernel2 (hKernel2 := hKernel2)
    ∧ quiescent_Kernel2Ideal (hKernel2Ideal := hKernel2Ideal)
    ∧ quiescent_Kernel2Ideal_pre_finite_attn (hKernel2Ideal := hKernel2Ideal) (hPre_finite_attn := hPre_finite_attn)
    ∧ quiescent_Reference2Ideal (hReference2Ideal := hReference2Ideal)
    ∧ quiescent_Reference2Ideal_pre_finite_attn (hReference2Ideal := hReference2Ideal) (hPre_finite_attn := hPre_finite_attn)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ quiescent_Kernel5 (hKernel5 := hKernel5)
    ∧ quiescent_Kernel5Ideal (hKernel5Ideal := hKernel5Ideal)
    ∧ quiescent_Kernel5Ideal_pre_finite_in (hKernel5Ideal := hKernel5Ideal) (hPre_finite_in := hPre_finite_in)
    ∧ quiescent_Reference5Ideal (hReference5Ideal := hReference5Ideal)
    ∧ quiescent_Reference5Ideal_pre_finite_in (hReference5Ideal := hReference5Ideal) (hPre_finite_in := hPre_finite_in)
    ∧ preserves_Kernel_KernelIdeal
    ∧ algebraic_KernelIdeal_ReferenceIdeal_pre_finite_head (hKernelIdeal := hKernelIdeal) (hReferenceIdeal := hReferenceIdeal) (hPre_finite_head := hPre_finite_head)
    ∧ preserves_Kernel2_Kernel2Ideal
    ∧ algebraic_Kernel2Ideal_Reference2Ideal_pre_finite_attn (hKernel2Ideal := hKernel2Ideal) (hReference2Ideal := hReference2Ideal) (hPre_finite_attn := hPre_finite_attn)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
    ∧ preserves_Kernel5_Kernel5Ideal
    ∧ algebraic_Kernel5Ideal_Reference5Ideal_pre_finite_in (hKernel5Ideal := hKernel5Ideal) (hReference5Ideal := hReference5Ideal) (hPre_finite_in := hPre_finite_in)
-- ==== Pre_finite_attn.lean ====
abbrev S8192x8x64 : Shape := ⟨3, ![8192, 8, 64]⟩
abbrev S8192x8 : Shape := ⟨2, ![8192, 8]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)
  bcast_S_S8192x512 : S_.BroadcastsInDim S8192x512 (![] : Fin 0 → Fin S8192x512.rank)

variable [Facts]

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x512 .f32) : IVec S8192x8x64 1 × IVec S8192x8x64 1 × IVec S8192x8x64 1 × IVec S8192x8 1 × IVec S8192x512 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite_ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S8192x1024 1 × IVec S1x1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_head.lean ====
abbrev S8192x1024 : Shape := ⟨2, ![8192, 1024]⟩
abbrev S8192x256 : Shape := ⟨2, ![8192, 256]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1x1024 : S_.BroadcastsInDim S1x1024 (![] : Fin 0 → Fin S1x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_v2 : IVec S8192x1024 1) (main_v5 : IVec S8192x256 1) (main_v8 : IVec S8192x1024 1) (main_v11 : IVec S1x1024 1) (main_v14 : IVec S1024 1) (main_v17 : IVec S1024x1024 1) : IVec S8192x1024 1 × IVec S8192x256 1 × IVec S8192x1024 1 × IVec S1x1024 1 × IVec S1024 1 × IVec S1024x1024 1 × IVec S256x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  (main_v2, main_v5, main_v8, main_v11, main_v14, main_v17, main_v20)

def fn {F : FTy → Type} [FloatOps F] (main_arg0 : FVec F S8192x1024 .f32) (main_arg1 : FVec F S8192x256 .f32) (main_arg2 : FVec F S8192x1024 .f32) (main_arg3 : FVec F S1x1024 .f32) (main_arg4 : FVec F S1024 .f32) (main_arg5 : FVec F S1024x1024 .f32) (main_arg6 : FVec F S256x1024 .f32) : IVec S8192x1024 1 × IVec S8192x256 1 × IVec S8192x1024 1 × IVec S1x1024 1 × IVec S1024 1 × IVec S1024x1024 1 × IVec S256x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_finite_in.lean ====
abbrev S8192x1024 : Shape := ⟨2, ![8192, 1024]⟩
abbrev S1x1024 : Shape := ⟨2, ![1, 1024]⟩
abbrev S1024x2056 : Shape := ⟨2, ![1024, 2056]⟩
abbrev S1x8 : Shape := ⟨2, ![1, 8]⟩
abbrev S8192x8x64 : Shape := ⟨3, ![8192, 8, 64]⟩
abbrev S8192x8 : Shape := ⟨2, ![8192, 8]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2056 : S_.BroadcastsInDim S1024x2056 (![] : Fin 0 → Fin S1024x2056.rank)
  bcast_S_S1x8 : S_.BroadcastsInDim S1x8 (![] : Fin 0 → Fin S1x8.rank)
  bcast_S_S8192x8x64 : S_.BroadcastsInDim S8192x8x64 (![] : Fin 0 → Fin S8192x8x64.rank)
  bcast_S_S8192x8 : S_.BroadcastsInDim S8192x8 (![] : Fin 0 → Fin S8192x8.rank)
  bcast_S_S8192x512 : S_.BroadcastsInDim S8192x512 (![] : Fin 0 → Fin S8192x512.rank)

variable [Facts]

def fn_part1 {F : FTy → Type} [FloatOps F] (main_arg6 : FVec F S8192x8x64 .f32) (main_arg7 : FVec F S8192x8x64 .f32) (main_arg8 : FVec F S8192x8 .f32) (main_arg9 : FVec F S8192x512 .f32) (main_v2 : IVec S8192x1024 1) (main_v5 : IVec S1x1024 1) (main_v8 : IVec S1024x2056 1) (main_v11 : IVec S1x8 1) (main_v14 : IVec S8192x1024 1) (main_v17 : IVec S8192x8x64 1) : IVec S8192x1024 1 × IVec S1x1024 1 × IVec S1024x2056 1 × IVec S1x8 1 × IVec S8192x1024 1 × IVec S8192x8x64 1 × IVec S8192x8x64 1 × IVec S8192x8x64 1 × IVec S8192x8 1 × IVec S8192x512 1 :=
  let main_v18 : FVec F S8192x8x64 .f32 := Host.absf main_arg6
  let main_cst_5 : FVec F S_ .f32 := constant S_ .f32 0x7F800000#32
  let main_v19 : FVec F S8192x8x64 .f32 := broadcastInDim S8192x8x64 ![] bcast_S_S8192x8x64 main_cst_5
  let main_v20 : IVec S8192x8x64 1 := cmpf .olt main_v18 main_v19
  let main_v21 : FVec F S8192x8x64 .f32 := Host.absf main_arg7
  let main_cst_6 : FVec F S_ .f32 := constant S_ .f32 0x7F800000#32
  let main_v22 : FVec F S8192x8x64 .f32 := broadcastInDim S8192x8x64 ![] bcast_S_S8192x8x64 main_cst_6
  let main_v23 : IVec S8192x8x64 1 := cmpf .olt main_v21 main_v22
  let main_v24 : FVec F S8192x8 .f32 := Host.absf main_arg8
  let main_cst_7 : FVec F S_ .f32 := constant S_ .f32 0x7F800000#32
  let main_v25 : FVec F S8192x8 .f32 := broadcastInDim S8192x8 ![] bcast_S_S8192x8 main_cst_7
  let main_v26 : IVec S8192x8 1 := cmpf .olt main_v24 main_v25
  let main_v27 : FVec F S8192x512 .f32 := Host.absf main_arg9
  let main_cst_8 : FVec F S_ .f32 := constant S_ .f32 0x7F800000#32
  let main_v28 : FVec F S8192x512 .f32 := broadcastInDim S8192x512 ![] bcast_S_S8192x512 main_cst_8
  let main_v29 : IVec S8192x512 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1x1024 .f32) (main_arg2 : FVec F S1024x2056 .f32) (main_arg3 : FVec F S1x8 .f32) (main_arg4 : FVec F S8192x1024 .f32) (main_arg5 : FVec F S8192x8x64 .f32) (main_arg6 : FVec F S8192x8x64 .f32) (main_arg7 : FVec F S8192x8x64 .f32) (main_arg8 : FVec F S8192x8 .f32) (main_arg9 : FVec F S8192x512 .f32) : IVec S8192x1024 1 × IVec S1x1024 1 × IVec S1024x2056 1 × IVec S1x8 1 × IVec S8192x1024 1 × IVec S8192x8x64 1 × IVec S8192x8x64 1 × IVec S8192x8x64 1 × IVec S8192x8 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2056 .f32 := Host.absf main_arg2
  let main_cst_1 : FVec F S_ .f32 := constant S_ .f32 0x7F800000#32
  let main_v7 : FVec F S1024x2056 .f32 := broadcastInDim S1024x2056 ![] bcast_S_S1024x2056 main_cst_1
  let main_v8 : IVec S1024x2056 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x8x64 .f32 := Host.absf main_arg5
  let main_cst_4 : FVec F S_ .f32 := constant S_ .f32 0x7F800000#32
  let main_v16 : FVec F S8192x8x64 .f32 := broadcastInDim S8192x8x64 ![] bcast_S_S8192x8x64 main_cst_4
  let main_v17 : IVec S8192x8x64 1 := cmpf .olt main_v15 main_v16
  fn_part1 (F := F) main_arg6 main_arg7 main_arg8 main_arg9 main_v2 main_v5 main_v8 main_v11 main_v14 main_v17
-- ==== Pre_finite_mix.lean ====
abbrev S8192x512 : Shape := ⟨2, ![8192, 512]⟩
abbrev S1x512 : Shape := ⟨2, ![1, 512]⟩
abbrev S512x512 : Shape := ⟨2, ![512, 512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S1x512 : S_.BroadcastsInDim S1x512 (![] : Fin 0 → Fin S1x512.rank)
  bcast_S_S512x512 : S_.BroadcastsInDim S512x512 (![] : Fin 0 → Fin S512x512.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn_part1 {F : FTy → Type} [FloatOps F] (main_arg6 : FVec F S1024x1024 .f32) (main_arg7 : FVec F S8192x1024 .f32) (main_v2 : IVec S8192x512 1) (main_v5 : IVec S8192x512 1) (main_v8 : IVec S1x512 1) (main_v11 : IVec S1x512 1) (main_v14 : IVec S512x512 1) (main_v17 : IVec S1x512 1) : IVec S8192x512 1 × IVec S8192x512 1 × IVec S1x512 1 × IVec S1x512 1 × IVec S512x512 1 × IVec S1x512 1 × IVec S1024x1024 1 × IVec S8192x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x512 .f32) (main_arg1 : FVec F S8192x512 .f32) (main_arg2 : FVec F S1x512 .f32) (main_arg3 : FVec F S1x512 .f32) (main_arg4 : FVec F S512x512 .f32) (main_arg5 : FVec F S1x512 .f32) (main_arg6 : FVec F S1024x1024 .f32) (main_arg7 : FVec F S8192x1024 .f32) : IVec S8192x512 1 × IVec S8192x512 1 × IVec S1x512 1 × IVec S1x512 1 × IVec S512x512 1 × IVec S1x512 1 × IVec S1024x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S512x512 .f32 := Host.absf main_arg4
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_v2 main_v5 main_v8 main_v11 main_v14 main_v17
-- ==== Kernel.lean ====
abbrev S8192x1024 : Shape := ⟨2, ![8192, 1024]⟩
abbrev S8192x256 : Shape := ⟨2, ![8192, 256]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8x128, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S8192x256 : Shape := ⟨2, ![8192, 256]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 152
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S1024, .f32⟩
  | 5 => ⟨S1024x1024, .f32⟩
  | 6 => ⟨S256x1024, .f32⟩
  | 7 => ⟨S_, .f32⟩
  | 8 => ⟨S8192x1024, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192, .f32⟩
  | 75 => ⟨S_, .f32⟩
  | 76 => ⟨S8192, .f32⟩
  | 77 => ⟨S8192, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S8192, .f32⟩
  | 86 => ⟨S_, .f32⟩
  | 87 => ⟨S8192, .f32⟩
  | 88 => ⟨S8192, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S1x1024, .f32⟩
  | 19 => ⟨S8192x1024, .bf16⟩
  | 20 => ⟨S8192x1024, .bf16⟩
  | 21 => ⟨S8192x1024, .bf16⟩
  | 22 => ⟨S8x128, .f32⟩
  | 23 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_cst_16 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_cst_21 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_24 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_25 : Ref sig .tc := ⟨.hbm, 126, rfl⟩
abbrev main_v93 : Ref sig .tc := ⟨.hbm, 127, rfl⟩
abbrev main_v94 : Ref sig .tc := ⟨.hbm, 128, rfl⟩
abbrev main_cst_26 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_27 : Ref sig .tc := ⟨.hbm, 136, rfl⟩
abbrev main_v101 : Ref sig .tc := ⟨.hbm, 137, rfl⟩
abbrev main_v102 : Ref sig .tc := ⟨.hbm, 138, rfl⟩
abbrev main_cst_28 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Kernel2.lean ====
abbrev S8192x8x64 : Shape := ⟨3, ![8192, 8, 64]⟩
abbrev S8192x8 : Shape := ⟨2, ![8192, 8]⟩
abbrev S8192x512 : Shape := ⟨2, ![8192, 512]⟩
abbrev S_ : Shape := ⟨0, ![]⟩
abbrev S8x8192x64 : Shape := ⟨3, ![8, 8192, 64]⟩
abbrev S8x8192 : Shape := ⟨2, ![8, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S8x1x8192 : Shape := ⟨3, ![8, 1, 8192]⟩
abbrev S8x8192x1 : Shape := ⟨3, ![8, 8192, 1]⟩
abbrev S8x8192x3 : Shape := ⟨3, ![8, 8192, 3]⟩
abbrev S8x8192x58 : Shape := ⟨3, ![8, 8192, 58]⟩
abbrev S8x8192x128 : Shape := ⟨3, ![8, 8192, 128]⟩
abbrev S8x8192x61 : Shape := ⟨3, ![8, 8192, 61]⟩
abbrev S8x16x128x512 : Shape := ⟨4, ![8, 16, 128, 512]⟩
abbrev S8x16x512 : Shape := ⟨3, ![8, 16, 512]⟩
abbrev S1x8192x128 : Shape := ⟨3, ![1, 8192, 128]⟩
abbrev S1x512x128 : Shape := ⟨3, ![1, 512, 128]⟩
abbrev S1x16x128x512 : Shape := ⟨4, ![1, 16, 128, 512]⟩
abbrev S1x16x512 : Shape := ⟨3, ![1, 16, 512]⟩
abbrev S512x1 : Shape := ⟨2, ![512, 1]⟩
abbrev S512x512 : Shape := ⟨2, ![512, 512]⟩
abbrev S512x128 : Shape := ⟨2, ![512, 128]⟩
abbrev S1x1x128x512 : Shape := ⟨4, ![1, 1, 128, 512]⟩
abbrev S128x512 : Shape := ⟨2, ![128, 512]⟩
abbrev S512 : Shape := ⟨1, ![512]⟩
abbrev S1x1x512 : Shape := ⟨3, ![1, 1, 512]⟩
abbrev S1x512 : Shape := ⟨2, ![1, 512]⟩
abbrev S8x16x64x512 : Shape := ⟨4, ![8, 16, 64, 512]⟩
abbrev S16x512x8x64 : Shape := ⟨4, ![16, 512, 8, 64]⟩

abbrev nBuf : Space → Nat
  | .hbm => 117
  | .vmem => 21
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x512, .f32⟩
  | .hbm, ⟨5, _⟩ => ⟨S_, .f32⟩
  | .hbm, ⟨6, _⟩ => ⟨S8192x8x64, .f32⟩
  | .hbm, ⟨7, _⟩ => ⟨S8192x8x64, .f32⟩
  | .hbm, ⟨8, _⟩ => ⟨S8x8192x64, .f32⟩
  | .hbm, ⟨9, _⟩ => ⟨S8x8192x64, .f32⟩
  | .hbm, ⟨10, _⟩ => ⟨S8x8192x64, .f32⟩
  | .hbm, ⟨11, _⟩ => ⟨S8x8192, .f32⟩
  | .hbm, ⟨12, _⟩ => ⟨S8192x8x64, .f32⟩
  | .hbm, ⟨13, _⟩ => ⟨S8x8192x64, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8x8192x8192, .f32⟩
  | .hbm, ⟨22, _⟩ => ⟨S8x1x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x64, .f32⟩
  | .hbm, ⟨39, _⟩ => ⟨S8x8192x1, .f32⟩
  | .hbm, ⟨40, _⟩ => ⟨S8x8192x64, .f32⟩
  | .hbm, ⟨41, _⟩ => ⟨S8x8192x64, .f32⟩
  | .hbm, ⟨42, _⟩ => ⟨S8x8192, .f32⟩
  | .hbm, ⟨43, _⟩ => ⟨S8x8192, .f32⟩
  | .hbm, ⟨44, _⟩ => ⟨S8x8192x64, .f32⟩
  | .hbm, ⟨45, _⟩ => ⟨S_, .f32⟩
  | .hbm, ⟨46, _⟩ => ⟨S8x8192, .f32⟩
  | .hbm, ⟨47, _⟩ => ⟨S_, .bf16⟩
  | .hbm, ⟨48, _⟩ => ⟨S8x8192x3, .bf16⟩
  | .hbm, ⟨49, _⟩ => ⟨S8x8192, .f32⟩
  | .hbm, ⟨50, _⟩ => ⟨S8x8192, .bf16⟩
  | .hbm, ⟨51, _⟩ => ⟨S8x8192, .f32⟩
  | .hbm, ⟨52, _⟩ => ⟨S8x8192, .f32⟩
  | .hbm, ⟨53, _⟩ => ⟨S8x8192, .bf16⟩
  | .hbm, ⟨54, _⟩ => ⟨S8x8192, .f32⟩
  | .hbm, ⟨55, _⟩ => ⟨S8x8192, .f32⟩
  | .hbm, ⟨56, _⟩ => ⟨S8x8192, .bf16⟩
  | .hbm, ⟨57, _⟩ => ⟨S8x8192x1, .bf16⟩
  | .hbm, ⟨58, _⟩ => ⟨S8x8192x1, .bf16⟩
  | .hbm, ⟨59, _⟩ => ⟨S8x8192x1, .bf16⟩
  | .hbm, ⟨60, _⟩ => ⟨S_, .bf16⟩
  | .hbm, ⟨61, _⟩ => ⟨S8x8192x58, .bf16⟩
  | .hbm, ⟨62, _⟩ => ⟨S8x8192x64, .bf16⟩
  | .hbm, ⟨63, _⟩ => ⟨S8x8192x128, .bf16⟩
  | .hbm, ⟨64, _⟩ => ⟨S8x8192, .bf16⟩
  | .hbm, ⟨65, _⟩ => ⟨S8x8192, .f32⟩
  | .hbm, ⟨66, _⟩ => ⟨S8x8192, .f32⟩
  | .hbm, ⟨67, _⟩ => ⟨S8x8192, .bf16⟩
  | .hbm, ⟨68, _⟩ => ⟨S8x8192, .f32⟩
  | .hbm, ⟨69, _⟩ => ⟨S8x8192, .f32⟩
  | .hbm, ⟨70, _⟩ => ⟨S8x8192, .bf16⟩
  | .hbm, ⟨71, _⟩ => ⟨S8x8192x1, .bf16⟩
  | .hbm, ⟨72, _⟩ => ⟨S8x8192x1, .bf16⟩
  | .hbm, ⟨73, _⟩ => ⟨S8x8192x1, .bf16⟩
  | .hbm, ⟨74, _⟩ => ⟨S_, .bf16⟩
  | .hbm, ⟨75, _⟩ => ⟨S8x8192x3, .bf16⟩
  | .hbm, ⟨76, _⟩ => ⟨S_, .bf16⟩
  | .hbm, ⟨77, _⟩ => ⟨S8x8192x58, .bf16⟩
  | .hbm, ⟨78, _⟩ => ⟨S8x8192x64, .bf16⟩
  | .hbm, ⟨79, _⟩ => ⟨S8x8192x128, .bf16⟩
  | .hbm, ⟨80, _⟩ => ⟨S_, .bf16⟩
  | .hbm, ⟨81, _⟩ => ⟨S8x8192x3, .bf16⟩
  | .hbm, ⟨82, _⟩ => ⟨S_, .bf16⟩
  | .hbm, ⟨83, _⟩ => ⟨S8x8192x61, .bf16⟩
  | .hbm, ⟨84, _⟩ => ⟨S8x8192x64, .bf16⟩
  | .hbm, ⟨85, _⟩ => ⟨S8x8192x128, .bf16⟩
  | .hbm, ⟨86, _⟩ => ⟨S8x8192, .f32⟩
  | .hbm, ⟨87, _⟩ => ⟨S8x8192, .bf16⟩
  | .hbm, ⟨88, _⟩ => ⟨S8x8192, .f32⟩
  | .hbm, ⟨89, _⟩ => ⟨S8x8192, .f32⟩
  | .hbm, ⟨90, _⟩ => ⟨S8x8192, .bf16⟩
  | .hbm, ⟨91, _⟩ => ⟨S8x8192, .f32⟩
  | .hbm, ⟨92, _⟩ => ⟨S8x8192, .f32⟩
  | .hbm, ⟨93, _⟩ => ⟨S8x8192, .bf16⟩
  | .hbm, ⟨94, _⟩ => ⟨S8x8192x1, .bf16⟩
  | .hbm, ⟨95, _⟩ => ⟨S8x8192x1, .bf16⟩
  | .hbm, ⟨96, _⟩ => ⟨S8x8192x1, .bf16⟩
  | .hbm, ⟨97, _⟩ => ⟨S_, .bf16⟩
  | .hbm, ⟨98, _⟩ => ⟨S8x8192x61, .bf16⟩
  | .hbm, ⟨99, _⟩ => ⟨S8x8192x64, .bf16⟩
  | .hbm, ⟨100, _⟩ => ⟨S8x8192x128, .bf16⟩
  | .hbm, ⟨101, _⟩ => ⟨S8x16x128x512, .f32⟩
  | .hbm, ⟨102, _⟩ => ⟨S8x8192x128, .f32⟩
  | .hbm, ⟨103, _⟩ => ⟨S8x8192x128, .f32⟩
  | .hbm, ⟨104, _⟩ => ⟨S8x16x512, .f32⟩
  | .hbm, ⟨105, _⟩ => ⟨S8x16x64x512, .f32⟩
  | .hbm, ⟨106, _⟩ => ⟨S16x512x8x64, .f32⟩
  | .hbm, ⟨107, _⟩ => ⟨S8192x8x64, .f32⟩
  | .hbm, ⟨108, _⟩ => ⟨S_, .f32⟩
  | .hbm, ⟨109, _⟩ => ⟨S8192x8x64, .f32⟩
  | .hbm, ⟨110, _⟩ => ⟨S8192x8x64, .f32⟩
  | .hbm, ⟨111, _⟩ => ⟨S8x8192x64, .f32⟩
  | .hbm, ⟨112, _⟩ => ⟨S8192x8x64, .f32⟩
  | .hbm, ⟨113, _⟩ => ⟨S8x8192x64, .f32⟩
  | .hbm, ⟨114, _⟩ => ⟨S8192x8x64, .f32⟩
  | .hbm, ⟨115, _⟩ => ⟨S8x8192, .f32⟩
  | .hbm, ⟨116, _⟩ => ⟨S8192x8, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x16x128x512, .f32⟩
  | .local _ .vmem, ⟨9, _⟩ => ⟨S1x16x128x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x16x512, .f32⟩
  | .local _ .vmem, ⟨15, _⟩ => ⟨S1x16x512, .f32⟩
  | .local _ .vmem, ⟨16, _⟩ => ⟨S512x1, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81_0 : Ref sig .tc := ⟨.hbm, 101, rfl⟩
abbrev main_v81_1 : Ref sig .tc := ⟨.hbm, 102, rfl⟩
abbrev main_v81_2 : Ref sig .tc := ⟨.hbm, 103, rfl⟩
abbrev main_v81_3 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c15_i32 : BitVec 32 := 15#32
  let v15 : BitVec 32 := Scalar.minsi arg1 c15_i32
  let c512_i32 : BitVec 32 := 512#32
  let v16 : BitVec 32 := Scalar.muli v15 c512_i32
  v16
def k0_off1 (i : grid0.Coords) : Fin 3 → Nat :=
  let c0_16 : Index := 0#32
  let arg1 : BitVec 32 := BitVec.ofNat 32 (i 1).val
  let c15_i32 : BitVec 32 := 15#32
  let v15 : BitVec 32 := Scalar.minsi arg1 c15_i32
  let c512_i32 : BitVec 32 := 512#32
  let v16 : BitVec 32 := Scalar.muli v15 c512_i32
  let v17 : BitVec 32 := v16
  let v18 : Index := Scalar.indexCast v17
  let c0_17 : Index := 0#32
  ![0, v18.toNat, 0]
def k0_mult2 (i : grid0.Coords) : BitVec 32 :=
  let arg1 : BitVec 32 := BitVec.ofNat 32 (i 1).val
  let c1_i32 : BitVec 32 := 1#32
  let v32 : BitVec 32 := Scalar.addi arg1 c1_i32
  let c15_i32_26 : BitVec 32 := 15#32
  let v33 : BitVec 32 := Scalar.minsi v32 c15_i32_26
  let c512_i32_27 : BitVec 32 := 512#32
  let v34 : BitVec 32 := Scalar.muli v33 c512_i32_27
  v34
def k0_off2 (i : grid0.Coords) : Fin 3 → Nat :=
  let c0_28 : Index := 0#32
  let arg1 : BitVec 32 := BitVec.ofNat 32 (i 1).val
  let c1_i32 : BitVec 32 := 1#32
  let v32 : BitVec 32 := Scalar.addi arg1 c1_i32
  let c15_i32_26 : BitVec 32 := 15#32
  let v33 : BitVec 32 := Scalar.minsi v32 c15_i32_26
  let c512_i32_27 : BitVec 32 := 512#32
  let v34 : BitVec 32 := Scalar.muli v33 c512_i32_27
  let v35 : BitVec 32 := v34
  let v36 : Index := Scalar.indexCast v35
  let c0_29 : Index := 0#32
  ![0, v36.toNat, 0]
def k0_mult3 (i : grid0.Coords) : BitVec 32 :=
  let arg1 : BitVec 32 := BitVec.ofNat 32 (i 1).val
  let c15_i32_38 : BitVec 32 := 15#32
  let v50 : BitVec 32 := Scalar.minsi arg1 c15_i32_38
  let c512_i32_39 : BitVec 32 := 512#32
  let v51 : BitVec 32 := Scalar.muli v50 c512_i32_39
  v51
def k0_off3 (i : grid0.Coords) : Fin 4 → Nat :=
  let c0_63 : Index := 0#32
  let arg1 : BitVec 32 := BitVec.ofNat 32 (i 1).val
  let v84 : Index := Scalar.indexCast arg1
  let c0_64 : Index := 0#32
  let c0_65 : Index := 0#32
  ![0, v84.toNat, 0, 0]
def k0_off4 (i : grid0.Coords) : Fin 3 → Nat :=
  let c0_75 : Index := 0#32
  let arg1 : BitVec 32 := BitVec.ofNat 32 (i 1).val
  let v100 : Index := Scalar.indexCast arg1
  let c0_76 : Index := 0#32
  ![0, v100.toNat, 0]
@[reducible] def k0_t1_loop (i : grid0.Coords) : Scf.Loop 32 :=
  let c0_i32_88 : BitVec 32 := 0#32
  let c15_i32_80 : BitVec 32 := 15#32
  let arg1 : BitVec 32 := BitVec.ofNat 32 (i 1).val
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_90 : BitVec 32 := 1#32
  ⟨c0_i32_88, v132, c1_i32_90⟩
def k0_mult4 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_108 : BitVec 32 := 1#32
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  v164
def k0_off5 (i : grid0.Coords) (k0_t1 : Fin (k0_t1_loop i).trips) (c1_i32_108 : BitVec 32) : Fin 3 → Nat :=
  let c0_111 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  let v165 : BitVec 32 := v164
  let v166 : Index := Scalar.indexCast v165
  let c0_112 : Index := 0#32
  ![0, v166.toNat, 0]
def k0_mult5 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  v181
def k0_off6 (i : grid0.Coords) (k0_t1 : Fin (k0_t1_loop i).trips) : Fin 3 → Nat :=
  let c0_123 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  let v182 : BitVec 32 := v181
  let v183 : Index := Scalar.indexCast v182
  let c0_124 : Index := 0#32
  ![0, v183.toNat, 0]
def k0_off7 (i : grid0.Coords) (k0_t1 : Fin (k0_t1_loop i).trips) : Fin 4 → Nat :=
  let c0_145 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let v209 : Index := Scalar.indexCast v161
  let c0_146 : Index := 0#32
  let c0_147 : Index := 0#32
  ![0, v209.toNat, 0, 0]
def k0_off8 (i : grid0.Coords) (k0_t1 : Fin (k0_t1_loop i).trips) : Fin 3 → Nat :=
  let c0_157 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let v225 : Index := Scalar.indexCast v161
  let c0_158 : Index := 0#32
  ![0, v225.toNat, 0]
def k0_mult6 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c2_i32_162 : BitVec 32 := 2#32
  let v235 : BitVec 32 := Scalar.addi v161 c2_i32_162
  let c15_i32_163 : BitVec 32 := 15#32
  let v236 : BitVec 32 := Scalar.minsi v235 c15_i32_163
  let c512_i32_164 : BitVec 32 := 512#32
  let v237 : BitVec 32 := Scalar.muli v236 c512_i32_164
  v237
def k0_mult7 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_175 : BitVec 32 := 1#32
  let v253 : BitVec 32 := Scalar.addi v161 c1_i32_175
  let c15_i32_176 : BitVec 32 := 15#32
  let v254 : BitVec 32 := Scalar.minsi v253 c15_i32_176
  let c512_i32_177 : BitVec 32 := 512#32
  let v255 : BitVec 32 := Scalar.muli v254 c512_i32_177
  v255
def k0_off9 (i : grid0.Coords) (k0_t1 : Fin (k0_t1_loop i).trips) : Fin 4 → Nat :=
  let c0_200 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_175 : BitVec 32 := 1#32
  let v253 : BitVec 32 := Scalar.addi v161 c1_i32_175
  let v283 : Index := Scalar.indexCast v253
  let c0_201 : Index := 0#32
  let c0_202 : Index := 0#32
  ![0, v283.toNat, 0, 0]
def k0_off10 (i : grid0.Coords) (k0_t1 : Fin (k0_t1_loop i).trips) : Fin 3 → Nat :=
  let c0_212 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_175 : BitVec 32 := 1#32
  let v253 : BitVec 32 := Scalar.addi v161 c1_i32_175
  let v299 : Index := Scalar.indexCast v253
  let c0_213 : Index := 0#32
  ![0, v299.toNat, 0]
@[reducible] def k0_t2_loop (i : grid0.Coords) : Scf.Loop 32 :=
  let c0_i32_88 : BitVec 32 := 0#32
  let c15_i32_80 : BitVec 32 := 15#32
  let arg1 : BitVec 32 := BitVec.ofNat 32 (i 1).val
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let v129 : BitVec 32 := Scalar.addi c0_i32_88 v128
  let c1_i32_91 : BitVec 32 := 1#32
  ⟨v132, v129, c1_i32_91⟩
def k0_mult8 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_108 : BitVec 32 := 1#32
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  v164
def k0_off11 (i : grid0.Coords) (k0_t2 : Fin (k0_t2_loop i).trips) (c1_i32_108 : BitVec 32) : Fin 3 → Nat :=
  let c0_111 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  let v165 : BitVec 32 := v164
  let v166 : Index := Scalar.indexCast v165
  let c0_112 : Index := 0#32
  ![0, v166.toNat, 0]
def k0_mult9 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  v181
def k0_off12 (i : grid0.Coords) (k0_t2 : Fin (k0_t2_loop i).trips) : Fin 3 → Nat :=
  let c0_123 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  let v182 : BitVec 32 := v181
  let v183 : Index := Scalar.indexCast v182
  let c0_124 : Index := 0#32
  ![0, v183.toNat, 0]
def k0_off13 (i : grid0.Coords) (k0_t2 : Fin (k0_t2_loop i).trips) : Fin 4 → Nat :=
  let c0_145 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let v209 : Index := Scalar.indexCast v161
  let c0_146 : Index := 0#32
  let c0_147 : Index := 0#32
  ![0, v209.toNat, 0, 0]
def k0_off14 (i : grid0.Coords) (k0_t2 : Fin (k0_t2_loop i).trips) : Fin 3 → Nat :=
  let c0_157 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let v225 : Index := Scalar.indexCast v161
  let c0_158 : Index := 0#32
  ![0, v225.toNat, 0]
def k0_mult10 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c2_i32_162 : BitVec 32 := 2#32
  let v235 : BitVec 32 := Scalar.addi v161 c2_i32_162
  let c15_i32_163 : BitVec 32 := 15#32
  let v236 : BitVec 32 := Scalar.minsi v235 c15_i32_163
  let c512_i32_164 : BitVec 32 := 512#32
  let v237 : BitVec 32 := Scalar.muli v236 c512_i32_164
  v237
def k0_mult11 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_175 : BitVec 32 := 1#32
  let v253 : BitVec 32 := Scalar.addi v161 c1_i32_175
  let c15_i32_176 : BitVec 32 := 15#32
  let v254 : BitVec 32 := Scalar.minsi v253 c15_i32_176
  let c512_i32_177 : BitVec 32 := 512#32
  let v255 : BitVec 32 := Scalar.muli v254 c512_i32_177
  v255
def k0_off15 (i : grid0.Coords) (k0_t2 : Fin (k0_t2_loop i).trips) : Fin 4 → Nat :=
  let c0_200 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_175 : BitVec 32 := 1#32
  let v253 : BitVec 32 := Scalar.addi v161 c1_i32_175
  let v283 : Index := Scalar.indexCast v253
  let c0_201 : Index := 0#32
  let c0_202 : Index := 0#32
  ![0, v283.toNat, 0, 0]
def k0_off16 (i : grid0.Coords) (k0_t2 : Fin (k0_t2_loop i).trips) : Fin 3 → Nat :=
  let c0_212 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_175 : BitVec 32 := 1#32
  let v253 : BitVec 32 := Scalar.addi v161 c1_i32_175
  let v299 : Index := Scalar.indexCast v253
  let c0_213 : Index := 0#32
  ![0, v299.toNat, 0]
def k0_cond2 (i : grid0.Coords) : BitVec 1 :=
  let c15_i32_80 : BitVec 32 := 15#32
  let arg1 : BitVec 32 := BitVec.ofNat 32 (i 1).val
  let v110 : BitVec 32 := Scalar.subi c15_i32_80 arg1
  let c2_i32_92 : BitVec 32 := 2#32
  let c0_i32_93 : BitVec 32 := 0#32
  let v133 : BitVec 1 := Scalar.cmpi .eq c2_i32_92 c0_i32_93
  let c1_i32_94 : BitVec 32 := 1#32
  let v134 : BitVec 32 := Scalar.select v133 c1_i32_94 c2_i32_92
  let v135 : BitVec 32 := Scalar.remsi v110 v134
  let c0_i32_96 : BitVec 32 := 0#32
  let v137 : BitVec 1 := Scalar.cmpi .slt v135 c0_i32_96
  let c0_i32_97 : BitVec 32 := 0#32
  let v138 : BitVec 1 := Scalar.cmpi .slt v134 c0_i32_97
  let v139 : BitVec 1 := Scalar.xori v137 v138
  let c0_i32_95 : BitVec 32 := 0#32
  let v136 : BitVec 1 := Scalar.cmpi .ne v135 c0_i32_95
  let v140 : BitVec 1 := Scalar.andi v139 v136
  let v141 : BitVec 32 := Scalar.addi v135 v134
  let v142 : BitVec 32 := Scalar.select v140 v141 v135
  let c1_i32_98 : BitVec 32 := 1#32
  let v143 : BitVec 1 := Scalar.cmpi .eq v142 c1_i32_98
  let v144 : BitVec 32 := Scalar.extui v143
  let c0_i32_99 : BitVec 32 := 0#32
  let v145 : BitVec 1 := Scalar.cmpi .ne v144 c0_i32_99
  v145

def k0_mult12 : BitVec 32 :=
  let c15_i32_106 : BitVec 32 := 15#32
  let c15_i32_107 : BitVec 32 := 15#32
  let v159 : BitVec 32 := Scalar.minsi c15_i32_106 c15_i32_107
  let c512_i32_108 : BitVec 32 := 512#32
  let v160 : BitVec 32 := Scalar.muli v159 c512_i32_108
  v160
def k0_off17 : Fin 3 → Nat :=
  let c0_109 : Index := 0#32
  let c15_i32_106 : BitVec 32 := 15#32
  let c15_i32_107 : BitVec 32 := 15#32
  let v159 : BitVec 32 := Scalar.minsi c15_i32_106 c15_i32_107
  let c512_i32_108 : BitVec 32 := 512#32
  let v160 : BitVec 32 := Scalar.muli v159 c512_i32_108
  let v161 : BitVec 32 := v160
  let v162 : Index := Scalar.indexCast v161
  let c0_110 : Index := 0#32
  ![0, v162.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x8x64 : Shape := ⟨3, ![8192, 8, 64]⟩
abbrev S8192x8 : Shape := ⟨2, ![8192, 8]⟩
abbrev S8192x512 : Shape := ⟨2, ![8192, 512]⟩
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 117
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x512, .f32⟩
  | .hbm, ⟨5, _⟩ => ⟨S8x8192x64, .f32⟩
  | .hbm, ⟨6, _⟩ => ⟨S8x8192x64, .f32⟩
  | .hbm, ⟨7, _⟩ => ⟨S8x8192x64, .f32⟩
  | .hbm, ⟨8, _⟩ => ⟨S8x8192, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .i1⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .i1⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S8x8192, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x64, .f32⟩
  | .hbm, ⟨72, _⟩ => ⟨S8192x8x64, .f32⟩
  | .hbm, ⟨73, _⟩ => ⟨S8192x512, .f32⟩
  | .hbm, ⟨74, _⟩ => ⟨S8192x8x64, .f32⟩
  | .hbm, ⟨75, _⟩ => ⟨S8x8192x64, .f32⟩
  | .hbm, ⟨76, _⟩ => ⟨S8x64x8192, .f32⟩
  | .hbm, ⟨77, _⟩ => ⟨S8x8192x64, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S8x8192x1, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192, .f32⟩
  | .hbm, ⟨99, _⟩ => ⟨S8x1x8192, .f32⟩
  | .hbm, ⟨100, _⟩ => ⟨S_, .f32⟩
  | .hbm, ⟨101, _⟩ => ⟨S8x8192, .f32⟩
  | .hbm, ⟨102, _⟩ => ⟨S_, .f32⟩
  | .hbm, ⟨103, _⟩ => ⟨S8x8192, .f32⟩
  | .hbm, ⟨104, _⟩ => ⟨S8x8192x1, .f32⟩
  | .hbm, ⟨105, _⟩ => ⟨S_, .f32⟩
  | .hbm, ⟨106, _⟩ => ⟨S8x8192, .f32⟩
  | .hbm, ⟨107, _⟩ => ⟨S8x8192, .f32⟩
  | .hbm, ⟨108, _⟩ => ⟨S_, .f32⟩
  | .hbm, ⟨109, _⟩ => ⟨S8x8192x8192, .f32⟩
  | .hbm, ⟨110, _⟩ => ⟨S8x8192x8192, .f32⟩
  | .hbm, ⟨111, _⟩ => ⟨S8x8192x64, .f32⟩
  | .hbm, ⟨112, _⟩ => ⟨S8x8192x64, .f32⟩
  | .hbm, ⟨113, _⟩ => ⟨S8192x8, .f32⟩
  | .hbm, ⟨114, _⟩ => ⟨S8192x8x64, .f32⟩
  | .hbm, ⟨115, _⟩ => ⟨S8192x8x64, .f32⟩
  | .hbm, ⟨116, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1024 : Shape := ⟨1, ![1024]⟩

abbrev nBuf : Space → Nat
  | .hbm => 20
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x2816, .bf16⟩
  | .hbm, ⟨13, _⟩ => ⟨S8192x2816, .bf16⟩
  | .hbm, ⟨14, _⟩ => ⟨S8192x1024, .bf16⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | .local _ .vmem, ⟨26, _⟩ => ⟨S256x1024, .f32⟩
  | .local _ .vmem, ⟨27, _⟩ => ⟨S256x1024, .f32⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== Reference3Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S1024 : Shape := ⟨1, ![1024]⟩
abbrev S8192 : Shape := ⟨1, ![8192]⟩
abbrev S8192x1 : Shape := ⟨2, ![8192, 1]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x2816, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x2816, .bf16⟩
  | .hbm, ⟨94, _⟩ => ⟨S8192x2816, .bf16⟩
  | .hbm, ⟨95, _⟩ => ⟨S8192x1024, .bf16⟩
  | .hbm, ⟨96, _⟩ => ⟨S8192x2816, .bf16⟩
  | .hbm, ⟨97, _⟩ => ⟨S8192x2816, .bf16⟩
  | .hbm, ⟨98, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Kernel4.lean ====
abbrev S8192x512 : Shape := ⟨2, ![8192, 512]⟩
abbrev S1x512 : Shape := ⟨2, ![1, 512]⟩
abbrev S512x512 : Shape := ⟨2, ![512, 512]⟩
abbrev S1024x1024 : Shape := ⟨2, ![1024, 1024]⟩
abbrev S8192x1024 : Shape := ⟨2, ![8192, 1024]⟩
abbrev S8192x8x64 : Shape := ⟨3, ![8192, 8, 64]⟩
abbrev S8x8192x64 : Shape := ⟨3, ![8, 8192, 64]⟩
abbrev S_ : Shape := ⟨0, ![]⟩
abbrev S8x8192x3 : Shape := ⟨3, ![8, 8192, 3]⟩
abbrev S8x8192x61 : Shape := ⟨3, ![8, 8192, 61]⟩
abbrev S8x8192x128 : Shape := ⟨3, ![8, 8192, 128]⟩
abbrev S512 : Shape := ⟨1, ![512]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S512x1024 : Shape := ⟨2, ![512, 1024]⟩
abbrev S8x512x128 : Shape := ⟨3, ![8, 512, 128]⟩
abbrev S1x512x128 : Shape := ⟨3, ![1, 512, 128]⟩
abbrev S128x128 : Shape := ⟨2, ![128, 128]⟩
abbrev S8x8192 : Shape := ⟨2, ![8, 8192]⟩
abbrev S8192x8 : Shape := ⟨2, ![8192, 8]⟩

abbrev nBuf : Space → Nat
  | .hbm => 59
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S1024x1024, .f32⟩
  | .hbm, ⟨7, _⟩ => ⟨S8192x1024, .f32⟩
  | .hbm, ⟨8, _⟩ => ⟨S8192x8x64, .f32⟩
  | .hbm, ⟨9, _⟩ => ⟨S8x8192x64, .f32⟩
  | .hbm, ⟨10, _⟩ => ⟨S_, .f32⟩
  | .hbm, ⟨11, _⟩ => ⟨S8x8192x3, .f32⟩
  | .hbm, ⟨12, _⟩ => ⟨S_, .f32⟩
  | .hbm, ⟨13, _⟩ => ⟨S8x8192x61, .f32⟩
  | .hbm, ⟨14, _⟩ => ⟨S8x8192x128, .f32⟩
  | .hbm, ⟨15, _⟩ => ⟨S512, .i32⟩
  | .hbm, ⟨16, _⟩ => ⟨S512x1, .i32⟩
  | .hbm, ⟨17, _⟩ => ⟨S_, .i32⟩
  | .hbm, ⟨18, _⟩ => ⟨S_, .i32⟩
  | .hbm, ⟨19, _⟩ => ⟨S512x1, .i32⟩
  | .hbm, ⟨20, _⟩ => ⟨S512x1, .i32⟩
  | .hbm, ⟨21, _⟩ => ⟨S512x1, .i32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S512x1, .i32⟩
  | .hbm, ⟨26, _⟩ => ⟨S512x1, .i32⟩
  | .hbm, ⟨27, _⟩ => ⟨S_, .i32⟩
  | .hbm, ⟨28, _⟩ => ⟨S512x1, .i32⟩
  | .hbm, ⟨29, _⟩ => ⟨S512x1, .i1⟩
  | .hbm, ⟨30, _⟩ => ⟨S512x1, .i1⟩
  | .hbm, ⟨31, _⟩ => ⟨S_, .i32⟩
  | .hbm, ⟨32, _⟩ => ⟨S512x1, .i32⟩
  | .hbm, ⟨33, _⟩ => ⟨S512x1, .i32⟩
  | .hbm, ⟨34, _⟩ => ⟨S512x1, .i32⟩
  | .hbm, ⟨35, _⟩ => ⟨S128, .i32⟩
  | .hbm, ⟨36, _⟩ => ⟨S1x128, .i32⟩
  | .hbm, ⟨37, _⟩ => ⟨S512x128, .i32⟩
  | .hbm, ⟨38, _⟩ => ⟨S512x128, .i32⟩
  | .hbm, ⟨39, _⟩ => ⟨S512x128, .i1⟩
  | .hbm, ⟨40, _⟩ => ⟨S512x128, .f32⟩
  | .hbm, ⟨41, _⟩ => ⟨S512x512, .bf16⟩
  | .hbm, ⟨42, _⟩ => ⟨S1024x1024, .bf16⟩
  | .hbm, ⟨43, _⟩ => ⟨S8x8192x128, .bf16⟩
  | .hbm, ⟨44, _⟩ => ⟨S8192x512, .f32⟩
  | .hbm, ⟨45, _⟩ => ⟨S8192x512, .bf16⟩
  | .hbm, ⟨46, _⟩ => ⟨S8192x512, .bf16⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S8x8192x64, .bf16⟩
  | .hbm, ⟨51, _⟩ => ⟨S8192x8x64, .bf16⟩
  | .hbm, ⟨52, _⟩ => ⟨S8192x512, .bf16⟩
  | .hbm, ⟨53, _⟩ => ⟨S8x8192x3, .bf16⟩
  | .hbm, ⟨54, _⟩ => ⟨S8x8192x3, .f32⟩
  | .hbm, ⟨55, _⟩ => ⟨S_, .f32⟩
  | .hbm, ⟨56, _⟩ => ⟨S8x8192, .f32⟩
  | .hbm, ⟨57, _⟩ => ⟨S8192x8, .f32⟩
  | .hbm, ⟨58, _⟩ => ⟨S8192x8, .f32⟩
  | .local _ .vmem, ⟨0, _⟩ => ⟨S512x1024, .f32⟩
  | .local _ .vmem, ⟨1, _⟩ => ⟨S512x1024, .f32⟩
  | .local _ .vmem, ⟨2, _⟩ => ⟨S8x512x128, .f32⟩
  | .local _ .vmem, ⟨3, _⟩ => ⟨S8x512x128, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1024x1024, .bf16⟩
  | .local _ .vmem, ⟨11, _⟩ => ⟨S512x128, .f32⟩
  | .local _ .vmem, ⟨12, _⟩ => ⟨S8x512x128, .bf16⟩
  | .local _ .vmem, ⟨13, _⟩ => ⟨S8x512x128, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16_0 : Ref sig .tc := ⟨.hbm, 43, rfl⟩
abbrev main_v16_1 : Ref sig .tc := ⟨.hbm, 44, rfl⟩
abbrev main_v16_2 : Ref sig .tc := ⟨.hbm, 45, rfl⟩
abbrev main_v16_3 : Ref sig .tc := ⟨.hbm, 46, rfl⟩
abbrev main_v16_4 : Ref sig .tc := ⟨.hbm, 47, rfl⟩
abbrev main_v16_5 : Ref sig .tc := ⟨.hbm, 48, rfl⟩
abbrev main_v16_6 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel4Ideal.lean ====
variable {F : FTy → Type} [FloatOps F] [Named F]
def κ : String → Option EReal := fun
  | "cubic" => some ((8943 / 200000 : ℝ) : EReal)
  | "cubic3" => some ((26829 / 200000 : ℝ) : EReal)
  | _ => none
-- ==== Reference4Ideal.lean ====
abbrev S8192x512 : Shape := ⟨2, ![8192, 512]⟩
abbrev S1x512 : Shape := ⟨2, ![1, 512]⟩
abbrev S512x512 : Shape := ⟨2, ![512, 512]⟩
abbrev S1024x1024 : Shape := ⟨2, ![1024, 1024]⟩
abbrev S8192x1024 : Shape := ⟨2, ![8192, 1024]⟩
abbrev S_ : Shape := ⟨0, ![]⟩
abbrev S512 : Shape := ⟨1, ![512]⟩
abbrev S8192 : Shape := ⟨1, ![8192]⟩
abbrev S8192x1 : Shape := ⟨2, ![8192, 1]⟩
abbrev S8192x8x64 : Shape := ⟨3, ![8192, 8, 64]⟩
abbrev S8192x8 : Shape := ⟨2, ![8192, 8]⟩

abbrev nBuf : Space → Nat
  | .hbm => 185
  | .vmem => 0
  | .smem => 0
  | _ => 0

abbrev hbmTy0_0 (i : Nat) : BufTy := match i % 128 with
  | 0 => ⟨S8192x512, .f32⟩
  | 1 => ⟨S8192x512, .f32⟩
  | 2 => ⟨S1x512, .f32⟩
  | 3 => ⟨S1x512, .f32⟩
  | 4 => ⟨S512x512, .f32⟩
  | 5 => ⟨S1x512, .f32⟩
  | 6 => ⟨S1024x1024, .f32⟩
  | 7 => ⟨S8192x1024, .f32⟩
  | 8 => ⟨S_, .f32⟩
  | 9 => ⟨S8192x512, .f32⟩
  | 10 => ⟨S_, .f32⟩
  | 11 => ⟨S_, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S8192x512, .f32⟩
  | 57 => ⟨S512, .f32⟩
  | 58 => ⟨S8192x512, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x512, .f32⟩
  | 74 => ⟨S8192x512, .f32⟩
  | 75 => ⟨S1x512, .f32⟩
  | 76 => ⟨S8192x512, .f32⟩
  | 77 => ⟨S8192x512, .f32⟩
  | 78 => ⟨S512, .f32⟩
  | 79 => ⟨S8192x512, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x512, .f32⟩
  | 95 => ⟨S8192x512, .f32⟩
  | 96 => ⟨S1x512, .f32⟩
  | 97 => ⟨S8192x512, .f32⟩
  | 98 => ⟨S8192x512, .f32⟩
  | 99 => ⟨S8192x1024, .f32⟩
  | 100 => ⟨S8192x1024, .f32⟩
  | 101 => ⟨S8192x1024, .f32⟩
  | 102 => ⟨S8192x512, .f32⟩
  | 103 => ⟨S8192x512, .f32⟩
  | 104 => ⟨S8192x512, .f32⟩
  | 105 => ⟨S_, .f32⟩
  | 106 => ⟨S512, .f32⟩
  | 107 => ⟨S1x512, .f32⟩
  | 108 => ⟨S8192x512, .f32⟩
  | 109 => ⟨S8192x512, .f32⟩
  | 110 => ⟨S_, .f32⟩
  | 111 => ⟨S512, .f32⟩
  | 112 => ⟨S8192x512, .f32⟩
  | 113 => ⟨S_, .f32⟩
  | 114 => ⟨S8192, .f32⟩
  | 115 => ⟨S8192x1, .f32⟩
  | 116 => ⟨S8192x512, .f32⟩
  | 117 => ⟨S8192x512, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x512, .f32⟩
  | 125 => ⟨S8192x512, .f32⟩
  | 126 => ⟨S8192x512, .f32⟩
  | 127 => ⟨S8192x512, .f32⟩
  | _ => ⟨S8192x512, .f32⟩

abbrev hbmTy0_1 (i : Nat) : BufTy := match i % 128 with
  | 0 => ⟨S8192x512, .f32⟩
  | 1 => ⟨S1x512, .f32⟩
  | 2 => ⟨S8192x512, .f32⟩
  | 3 => ⟨S_, .f32⟩
  | 4 => ⟨S512, .f32⟩
  | 5 => ⟨S1x512, .f32⟩
  | 6 => ⟨S8192x512, .f32⟩
  | 7 => ⟨S8192x512, .f32⟩
  | 8 => ⟨S_, .f32⟩
  | 9 => ⟨S512, .f32⟩
  | 10 => ⟨S8192x512, .f32⟩
  | 11 => ⟨S_, .f32⟩
  | 12 => ⟨S8192, .f32⟩
  | 13 => ⟨S8192x1, .f32⟩
  | 14 => ⟨S8192x512, .f32⟩
  | 15 => ⟨S8192x512, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S_, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S8192x8x64, .f32⟩
  | 52 => ⟨S_, .f32⟩
  | 53 => ⟨S8192x8, .f32⟩
  | 54 => ⟨S8192x512, .bf16⟩
  | 55 => ⟨S8192x512, .bf16⟩
  | 56 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_v81 : Ref sig .tc := ⟨.hbm, 111, rfl⟩
abbrev main_v82 : Ref sig .tc := ⟨.hbm, 112, rfl⟩
abbrev main_cst_21 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_22 : Ref sig .tc := ⟨.hbm, 119, rfl⟩
abbrev main_v88 : Ref sig .tc := ⟨.hbm, 120, rfl⟩
abbrev main_v89 : Ref sig .tc := ⟨.hbm, 121, rfl⟩
abbrev main_cst_23 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_24 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_25 : Ref sig .tc := ⟨.hbm, 136, rfl⟩
abbrev main_v102 : Ref sig .tc := ⟨.hbm, 137, rfl⟩
abbrev main_v103 : Ref sig .tc := ⟨.hbm, 138, rfl⟩
abbrev main_cst_26 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_27 : Ref sig .tc := ⟨.hbm, 145, rfl⟩
abbrev main_v109 : Ref sig .tc := ⟨.hbm, 146, rfl⟩
abbrev main_v110 : Ref sig .tc := ⟨.hbm, 147, rfl⟩
abbrev main_cst_28 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_29 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_30 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_31 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_32 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x2056 : Shape := ⟨2, ![1024, 2056]⟩
abbrev S1x8 : Shape := ⟨2, ![1, 8]⟩
abbrev S8192x8x64 : Shape := ⟨3, ![8192, 8, 64]⟩
abbrev S8192x8 : Shape := ⟨2, ![8192, 8]⟩
abbrev S8192x512 : Shape := ⟨2, ![8192, 512]⟩
abbrev S1024x512 : Shape := ⟨2, ![1024, 512]⟩
abbrev S_ : Shape := ⟨0, ![]⟩
abbrev S1024x1024 : Shape := ⟨2, ![1024, 1024]⟩
abbrev S1024x8 : Shape := ⟨2, ![1024, 8]⟩
abbrev S1024x120 : Shape := ⟨2, ![1024, 120]⟩
abbrev S1024x2176 : Shape := ⟨2, ![1024, 2176]⟩
abbrev S1x128 : Shape := ⟨2, ![1, 128]⟩
abbrev S8192 : Shape := ⟨1, ![8192]⟩
abbrev S8192x1 : Shape := ⟨2, ![8192, 1]⟩
abbrev S8192x2176 : Shape := ⟨2, ![8192, 2176]⟩
abbrev S8192x128 : Shape := ⟨2, ![8192, 128]⟩
abbrev S8x8192x64 : Shape := ⟨3, ![8, 8192, 64]⟩
abbrev S8x8192x128 : Shape := ⟨3, ![8, 8192, 128]⟩
abbrev S8x16x512x128 : Shape := ⟨4, ![8, 16, 512, 128]⟩
abbrev S8x16x128x512 : Shape := ⟨4, ![8, 16, 128, 512]⟩
abbrev S512x1024 : Shape := ⟨2, ![512, 1024]⟩
abbrev S8x1x128x512 : Shape := ⟨4, ![8, 1, 128, 512]⟩
abbrev S8x512x128 : Shape := ⟨3, ![8, 512, 128]⟩
abbrev S512x512 : Shape := ⟨2, ![512, 512]⟩
abbrev S512x128 : Shape := ⟨2, ![512, 128]⟩
abbrev S512x2176 : Shape := ⟨2, ![512, 2176]⟩
abbrev S8x128 : Shape := ⟨2, ![8, 128]⟩
abbrev S128 : Shape := ⟨1, ![128]⟩
abbrev S1x1x128x512 : Shape := ⟨4, ![1, 1, 128, 512]⟩
abbrev S128x512 : Shape := ⟨2, ![128, 512]⟩
abbrev S128x128 : Shape := ⟨2, ![128, 128]⟩
abbrev S1x512x128 : Shape := ⟨3, ![1, 512, 128]⟩
abbrev S512 : Shape := ⟨1, ![512]⟩
abbrev S512x1 : Shape := ⟨2, ![512, 1]⟩
abbrev S1024 : Shape := ⟨1, ![1024]⟩
abbrev S8192x2056 : Shape := ⟨2, ![8192, 2056]⟩

abbrev nBuf : Space → Nat
  | .hbm => 77
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2056, .f32⟩
  | .hbm, ⟨3, _⟩ => ⟨S1x8, .f32⟩
  | .hbm, ⟨4, _⟩ => ⟨S8192x1024, .f32⟩
  | .hbm, ⟨5, _⟩ => ⟨S8192x8x64, .f32⟩
  | .hbm, ⟨6, _⟩ => ⟨S8192x8x64, .f32⟩
  | .hbm, ⟨7, _⟩ => ⟨S8192x8x64, .f32⟩
  | .hbm, ⟨8, _⟩ => ⟨S8192x8, .f32⟩
  | .hbm, ⟨9, _⟩ => ⟨S8192x512, .f32⟩
  | .hbm, ⟨10, _⟩ => ⟨S1024x2056, .bf16⟩
  | .hbm, ⟨11, _⟩ => ⟨S1024x512, .bf16⟩
  | .hbm, ⟨12, _⟩ => ⟨S_, .bf16⟩
  | .hbm, ⟨13, _⟩ => ⟨S1024x512, .bf16⟩
  | .hbm, ⟨14, _⟩ => ⟨S1024x512, .bf16⟩
  | .hbm, ⟨15, _⟩ => ⟨S1024x1024, .bf16⟩
  | .hbm, ⟨16, _⟩ => ⟨S1024x512, .bf16⟩
  | .hbm, ⟨17, _⟩ => ⟨S1024x8, .bf16⟩
  | .hbm, ⟨18, _⟩ => ⟨S_, .bf16⟩
  | .hbm, ⟨19, _⟩ => ⟨S1024x120, .bf16⟩
  | .hbm, ⟨20, _⟩ => ⟨S1024x2176, .bf16⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x2176, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S_, .f32⟩
  | .hbm, ⟨45, _⟩ => ⟨S8192x8x64, .f32⟩
  | .hbm, ⟨46, _⟩ => ⟨S8192x8x64, .f32⟩
  | .hbm, ⟨47, _⟩ => ⟨S8x8192x64, .f32⟩
  | .hbm, ⟨48, _⟩ => ⟨S_, .f32⟩
  | .hbm, ⟨49, _⟩ => ⟨S8x8192x64, .f32⟩
  | .hbm, ⟨50, _⟩ => ⟨S8x8192x128, .f32⟩
  | .hbm, ⟨51, _⟩ => ⟨S8x16x512x128, .f32⟩
  | .hbm, ⟨52, _⟩ => ⟨S8x16x128x512, .f32⟩
  | .hbm, ⟨53, _⟩ => ⟨S_, .i32⟩
  | .hbm, ⟨54, _⟩ => ⟨S_, .f32⟩
  | .hbm, ⟨55, _⟩ => ⟨S8192x128, .f32⟩
  | .hbm, ⟨56, _⟩ => ⟨S8x8192x64, .f32⟩
  | .hbm, ⟨57, _⟩ => ⟨S_, .f32⟩
  | .hbm, ⟨58, _⟩ => ⟨S8x8192x64, .f32⟩
  | .hbm, ⟨59, _⟩ => ⟨S8x8192x128, .f32⟩
  | .hbm, ⟨60, _⟩ => ⟨S8x8192x64, .f32⟩
  | .hbm, ⟨61, _⟩ => ⟨S_, .f32⟩
  | .hbm, ⟨62, _⟩ => ⟨S8x8192x64, .f32⟩
  | .hbm, ⟨63, _⟩ => ⟨S8x8192x128, .f32⟩
  | .hbm, ⟨64, _⟩ => ⟨S8192x1024, .f32⟩
  | .hbm, ⟨65, _⟩ => ⟨S8192x2176, .bf16⟩
  | .hbm, ⟨66, _⟩ => ⟨S1x1024, .f32⟩
  | .hbm, ⟨67, _⟩ => ⟨S1x128, .f32⟩
  | .hbm, ⟨68, _⟩ => ⟨S8192x512, .bf16⟩
  | .hbm, ⟨69, _⟩ => ⟨S_, .bf16⟩
  | .hbm, ⟨70, _⟩ => ⟨S8192x512, .bf16⟩
  | .hbm, ⟨71, _⟩ => ⟨S8192x512, .bf16⟩
  | .hbm, ⟨72, _⟩ => ⟨S8192x1024, .bf16⟩
  | .hbm, ⟨73, _⟩ => ⟨S8192x8, .bf16⟩
  | .hbm, ⟨74, _⟩ => ⟨S8192x512, .bf16⟩
  | .hbm, ⟨75, _⟩ => ⟨S8192x2056, .bf16⟩
  | .hbm, ⟨76, _⟩ => ⟨S1x8, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2176, .bf16⟩
  | .local _ .vmem, ⟨6, _⟩ => ⟨S8x1x128x512, .f32⟩
  | .local _ .vmem, ⟨7, _⟩ => ⟨S8x1x128x512, .f32⟩
  | .local _ .vmem, ⟨8, _⟩ => ⟨S8x512x128, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x2176, .bf16⟩
  | .local _ .vmem, ⟨21, _⟩ => ⟨S512x2176, .bf16⟩
  | .local _ .vmem, ⟨22, _⟩ => ⟨S1x1024, .f32⟩
  | .local _ .vmem, ⟨23, _⟩ => ⟨S1x128, .f32⟩
  | .local _ .vmem, ⟨24, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_call1_v0 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_v41_2 : Ref sig .tc := ⟨.hbm, 66, rfl⟩
abbrev main_v41_3 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2176 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S8192x1024 : Shape := ⟨2, ![8192, 1024]⟩
abbrev S1x1024 : Shape := ⟨2, ![1, 1024]⟩
abbrev S1024x2056 : Shape := ⟨2, ![1024, 2056]⟩
abbrev S1x8 : Shape := ⟨2, ![1, 8]⟩
abbrev S8192x8x64 : Shape := ⟨3, ![8192, 8, 64]⟩
abbrev S8192x8 : Shape := ⟨2, ![8192, 8]⟩
abbrev S8192x512 : Shape := ⟨2, ![8192, 512]⟩
abbrev S_ : Shape := ⟨0, ![]⟩
abbrev S8192x2056 : Shape := ⟨2, ![8192, 2056]⟩
abbrev S1024 : Shape := ⟨1, ![1024]⟩
abbrev S8192 : Shape := ⟨1, ![8192]⟩
abbrev S8192x1 : Shape := ⟨2, ![8192, 1]⟩
abbrev S8 : Shape := ⟨1, ![8]⟩

abbrev nBuf : Space → Nat
  | .hbm => 156
  | .vmem => 0
  | .smem => 0
  | _ => 0

abbrev hbmTy0_0 (i : Nat) : BufTy := match i % 128 with
  | 0 => ⟨S8192x1024, .f32⟩
  | 1 => ⟨S1x1024, .f32⟩
  | 2 => ⟨S1024x2056, .f32⟩
  | 3 => ⟨S1x8, .f32⟩
  | 4 => ⟨S8192x1024, .f32⟩
  | 5 => ⟨S8192x8x64, .f32⟩
  | 6 => ⟨S8192x8x64, .f32⟩
  | 7 => ⟨S8192x8x64, .f32⟩
  | 8 => ⟨S8192x8, .f32⟩
  | 9 => ⟨S8192x512, .f32⟩
  | 10 => ⟨S_, .f32⟩
  | 11 => ⟨S8192x2056, .f32⟩
  | 12 => ⟨S1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x2056, .f32⟩
  | 34 => ⟨S8192x2056, .f32⟩
  | 35 => ⟨S8192x512, .f32⟩
  | 36 => ⟨S8192x8x64, .f32⟩
  | 37 => ⟨S8192x512, .f32⟩
  | 38 => ⟨S8192x8x64, .f32⟩
  | 39 => ⟨S8192x512, .f32⟩
  | 40 => ⟨S8192x8x64, .f32⟩
  | 41 => ⟨S8192x8, .f32⟩
  | 42 => ⟨S8, .f32⟩
  | 43 => ⟨S1x8, .f32⟩
  | 44 => ⟨S8192x8, .f32⟩
  | 45 => ⟨S8192x8, .f32⟩
  | 46 => ⟨S8192x8, .f32⟩
  | 47 => ⟨S_, .f32⟩
  | 48 => ⟨S8192x8, .f32⟩
  | 49 => ⟨S8192x8, .f32⟩
  | 50 => ⟨S8192x8, .f32⟩
  | 51 => ⟨S8192x8, .f32⟩
  | 52 => ⟨S8192x8, .i1⟩
  | 53 => ⟨S8192x8, .f32⟩
  | 54 => ⟨S8192x8, .f32⟩
  | 55 => ⟨S8192x8, .f32⟩
  | 56 => ⟨S8192x8, .f32⟩
  | 57 => ⟨S8192x8, .f32⟩
  | 58 => ⟨S8192x8, .f32⟩
  | 59 => ⟨S8192x8, .f32⟩
  | 60 => ⟨S8192x8, .f32⟩
  | 61 => ⟨S_, .f32⟩
  | 62 => ⟨S8192x8, .f32⟩
  | 63 => ⟨S8192x8, .i1⟩
  | 64 => ⟨S_, .f32⟩
  | 65 => ⟨S8192x8, .f32⟩
  | 66 => ⟨S8192x8, .f32⟩
  | 67 => ⟨S_, .f32⟩
  | 68 => ⟨S8192x8, .f32⟩
  | 69 => ⟨S8192x8, .i1⟩
  | 70 => ⟨S_, .f32⟩
  | 71 => ⟨S8192x8, .f32⟩
  | 72 => ⟨S8192x8, .f32⟩
  | 73 => ⟨S8192x8, .f32⟩
  | 74 => ⟨S8192x8, .f32⟩
  | 75 => ⟨S_, .f32⟩
  | 76 => ⟨S_, .f32⟩
  | 77 => ⟨S_, .i1⟩
  | 78 => ⟨S_, .f32⟩
  | 79 => ⟨S_, .f32⟩
  | 80 => ⟨S_, .f32⟩
  | 81 => ⟨S_, .f32⟩
  | 82 => ⟨S8192x8, .f32⟩
  | 83 => ⟨S8192x8, .i1⟩
  | 84 => ⟨S_, .f32⟩
  | 85 => ⟨S8192x8, .f32⟩
  | 86 => ⟨S8192x8, .f32⟩
  | 87 => ⟨S8192x8, .f32⟩
  | 88 => ⟨S8192x8, .f32⟩
  | 89 => ⟨S8192x8, .f32⟩
  | 90 => ⟨S_, .f32⟩
  | 91 => ⟨S8192x8, .f32⟩
  | 92 => ⟨S8192x8, .f32⟩
  | 93 => ⟨S8192x8, .f32⟩
  | 94 => ⟨S_, .f32⟩
  | 95 => ⟨S_, .f32⟩
  | 96 => ⟨S8192x8, .f32⟩
  | 97 => ⟨S8192x512, .f32⟩
  | 98 => ⟨S_, .f32⟩
  | 99 => ⟨S8192x2056, .f32⟩
  | 100 => ⟨S_, .f32⟩
  | 101 => ⟨S_, .f32⟩
  | 102 => ⟨S8192x8, .f32⟩
  | 103 => ⟨S8192x8, .f32⟩
  | 104 => ⟨S8192x8, .f32⟩
  | 105 => ⟨S8192x8, .f32⟩
  | 106 => ⟨S_, .f32⟩
  | 107 => ⟨S8, .f32⟩
  | 108 => ⟨S1x8, .f32⟩
  | 109 => ⟨S_, .f32⟩
  | 110 => ⟨S8, .f32⟩
  | 111 => ⟨S1x8, .f32⟩
  | 112 => ⟨S_, .f32⟩
  | 113 => ⟨S8192x2056, .f32⟩
  | 114 => ⟨S8192x2056, .f32⟩
  | 115 => ⟨S8192x512, .f32⟩
  | 116 => ⟨S_, .f32⟩
  | 117 => ⟨S8192x2056, .f32⟩
  | 118 => ⟨S8192x2056, .f32⟩
  | 119 => ⟨S8192x512, .f32⟩
  | 120 => ⟨S_, .f32⟩
  | 121 => ⟨S8192x2056, .f32⟩
  | 122 => ⟨S8192x2056, .f32⟩
  | 123 => ⟨S8192x512, .f32⟩
  | 124 => ⟨S_, .f32⟩
  | 125 => ⟨S8192x2056, .f32⟩
  | 126 => ⟨S8192x2056, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S_, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S8192x1024, .f32⟩
  | 13 => ⟨S8192x1024, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S1x1024, .f32⟩
  | 27 => ⟨S8192x2056, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1_0 : Ref sig .tc := ⟨.hbm, 60, rfl⟩
abbrev main_call0_call0_cst_0 : Ref sig .tc := ⟨.hbm, 61, rfl⟩
abbrev main_call0_call0_v13 : Ref sig .tc := ⟨.hbm, 62, rfl⟩
abbrev main_call0_call0_v14 : Ref sig .tc := ⟨.hbm, 63, rfl⟩
abbrev main_call0_call0_cst_1 : Ref sig .tc := ⟨.hbm, 64, rfl⟩
abbrev main_call0_call0_v15 : Ref sig .tc := ⟨.hbm, 65, rfl⟩
abbrev main_call0_call0_v16 : Ref sig .tc := ⟨.hbm, 66, rfl⟩
abbrev main_call0_call0_cst_2 : Ref sig .tc := ⟨.hbm, 67, rfl⟩
abbrev main_call0_call0_v17 : Ref sig .tc := ⟨.hbm, 68, rfl⟩
abbrev main_call0_call0_v18 : Ref sig .tc := ⟨.hbm, 69, rfl⟩
abbrev main_call0_call0_cst_3 : Ref sig .tc := ⟨.hbm, 70, rfl⟩
abbrev main_call0_call0_v19 : Ref sig .tc := ⟨.hbm, 71, rfl⟩
abbrev main_call0_call0_v20 : Ref sig .tc := ⟨.hbm, 72, rfl⟩
abbrev main_call0_call0_v21 : Ref sig .tc := ⟨.hbm, 73, rfl⟩
abbrev main_v31_1 : Ref sig .tc := ⟨.hbm, 74, rfl⟩
abbrev main_call0_call0_cst_4 : Ref sig .tc := ⟨.hbm, 75, rfl⟩
abbrev main_call0_call0_cst_5 : Ref sig .tc := ⟨.hbm, 76, rfl⟩
abbrev main_call0_call0_v23 : Ref sig .tc := ⟨.hbm, 77, rfl⟩
abbrev main_call0_call0_cst_6 : Ref sig .tc := ⟨.hbm, 78, rfl⟩
abbrev main_call0_call0_cst_7 : Ref sig .tc := ⟨.hbm, 79, rfl⟩
abbrev main_call0_call0_v24 : Ref sig .tc := ⟨.hbm, 80, rfl⟩
abbrev main_call0_call0_cst_8 : Ref sig .tc := ⟨.hbm, 81, rfl⟩
abbrev main_call0_call0_v25 : Ref sig .tc := ⟨.hbm, 82, rfl⟩
abbrev main_call0_call0_v26 : Ref sig .tc := ⟨.hbm, 83, rfl⟩
abbrev main_call0_call0_cst_9 : Ref sig .tc := ⟨.hbm, 84, rfl⟩
abbrev main_call0_call0_v27 : Ref sig .tc := ⟨.hbm, 85, rfl⟩
abbrev main_call0_call0_v28 : Ref sig .tc := ⟨.hbm, 86, rfl⟩
abbrev main_call0_call0_v29 : Ref sig .tc := ⟨.hbm, 87, rfl⟩
abbrev main_call0_call0_v30 : Ref sig .tc := ⟨.hbm, 88, rfl⟩
abbrev main_call0_call0_v31 : Ref sig .tc := ⟨.hbm, 89, rfl⟩
abbrev main_call0_call0_cst_10 : Ref sig .tc := ⟨.hbm, 90, rfl⟩
abbrev main_call0_call0_v32 : Ref sig .tc := ⟨.hbm, 91, rfl⟩
abbrev main_v31_2 : Ref sig .tc := ⟨.hbm, 92, rfl⟩
abbrev main_v31_0 : Ref sig .tc := ⟨.hbm, 93, rfl⟩
abbrev main_call1_call0_cst : Ref sig .tc := ⟨.hbm, 94, rfl⟩
abbrev main_call1_call0_v0 : Ref sig .tc := ⟨.hbm, 95, rfl⟩
abbrev main_v32 : Ref sig .tc := ⟨.hbm, 96, rfl⟩
abbrev main_v33 : Ref sig .tc := ⟨.hbm, 97, rfl⟩
abbrev main_cst_4 : Ref sig .tc := ⟨.hbm, 98, rfl⟩
abbrev main_v34 : Ref sig .tc := ⟨.hbm, 99, rfl⟩
abbrev main_call2_call0_cst : Ref sig .tc := ⟨.hbm, 100, rfl⟩
abbrev main_call2_call0_v0 : Ref sig .tc := ⟨.hbm, 101, rfl⟩
abbrev main_v35 : Ref sig .tc := ⟨.hbm, 102, rfl⟩
abbrev main_call3_v0 : Ref sig .tc := ⟨.hbm, 103, rfl⟩
abbrev main_call3_v1 : Ref sig .tc := ⟨.hbm, 104, rfl⟩
abbrev main_v36 : Ref sig .tc := ⟨.hbm, 105, rfl⟩
abbrev main_cst_5 : Ref sig .tc := ⟨.hbm, 106, rfl⟩
abbrev main_v37 : Ref sig .tc := ⟨.hbm, 107, rfl⟩
abbrev main_v38 : Ref sig .tc := ⟨.hbm, 108, rfl⟩
abbrev main_cst_6 : Ref sig .tc := ⟨.hbm, 109, rfl⟩
abbrev main_v39 : Ref sig .tc := ⟨.hbm, 110, rfl⟩
abbrev main_v40 : Ref sig .tc := ⟨.hbm, 111, rfl⟩
abbrev main_cst_7 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_cst_8 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_cst_9 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_cst_10 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_cst_11 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_12 : Ref sig .tc := ⟨.hbm, 134, rfl⟩
abbrev main_v58 : Ref sig .tc := ⟨.hbm, 135, rfl⟩
abbrev main_v59 : Ref sig .tc := ⟨.hbm, 136, rfl⟩
abbrev main_cst_13 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_cst_14 : Ref sig .tc := ⟨.hbm, 144, rfl⟩
abbrev main_v66 : Ref sig .tc := ⟨.hbm, 145, rfl⟩
abbrev main_v67 : Ref sig .tc := ⟨.hbm, 146, rfl⟩
abbrev main_cst_15 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩

abbrev nD : Nat := 1
abbrev τ : Topo := Topo.v7x

variable {F : FTy → Type} [FloatOps F]
-- ==== Proof.Lift.lean ====
/-
  From extended reals to reals. A claim about finite arguments is proved over ℝ: an argument is `up1 f` or `up2 f`, the
  array of the reals `f`, and every operation of a program takes such arrays to such an array. The lemmas here say so,
  one operation each, and stand in the `pointwise` set: reading a program's expression at an index leaves one real number.
-/
module

public import Idealize.ShloMosaic.Lib.Pointwise

@[expose] public section

noncomputable section

namespace Lift

open Idealize.ShloMosaic

/-- A vector of reals as a rank-1 array. -/
def up1 {n : ℕ} (f : Fin n → ℝ) : (⟨1, ![n]⟩ : Shape).Idx → EReal := fun j => (f (j 0) : EReal)
/-- A matrix of reals as a rank-2 array. -/
def up2 {m n : ℕ} (f : Fin m → Fin n → ℝ) : (⟨2, ![m, n]⟩ : Shape).Idx → EReal := fun j => (f (j 0) (j 1) : EReal)
/-- A rank-3 array of reals. -/
def up3 {l m n : ℕ} (f : Fin l → Fin m → Fin n → ℝ) : (⟨3, ![l, m, n]⟩ : Shape).Idx → EReal :=
  fun j => (f (j 0) (j 1) (j 2) : EReal)

@[pointwise] theorem up1_apply {n : ℕ} (f : Fin n → ℝ) (j : (⟨1, ![n]⟩ : Shape).Idx) : up1 f j = (f (j 0) : EReal) := rfl
@[pointwise] theorem up2_apply {m n : ℕ} (f : Fin m → Fin n → ℝ) (j : (⟨2, ![m, n]⟩ : Shape).Idx) :
    up2 f j = (f (j 0) (j 1) : EReal) := rfl
@[pointwise] theorem up3_apply {l m n : ℕ} (f : Fin l → Fin m → Fin n → ℝ) (j : (⟨3, ![l, m, n]⟩ : Shape).Idx) :
    up3 f j = (f (j 0) (j 1) (j 2) : EReal) := rfl

/-! ### The arithmetic of finite numbers -/

@[pointwise] theorem add_coe (a b : ℝ) : (a : EReal) + b = ((a + b : ℝ) : EReal) := (EReal.coe_add a b).symm
@[pointwise] theorem mul_coe (a b : ℝ) : (a : EReal) * b = ((a * b : ℝ) : EReal) := (EReal.coe_mul a b).symm
@[pointwise] theorem sub_coe (a b : ℝ) : (a : EReal) - b = ((a - b : ℝ) : EReal) := (EReal.coe_sub a b).symm
@[pointwise] theorem neg_coe (a : ℝ) : -(a : EReal) = ((-a : ℝ) : EReal) := (EReal.coe_neg a).symm
@[pointwise] theorem one_sub_coe (a : ℝ) : 1 - (a : EReal) = ((1 - a : ℝ) : EReal) := (EReal.coe_sub 1 a).symm
@[pointwise] theorem one_add_coe (a : ℝ) : 1 + (a : EReal) = ((1 + a : ℝ) : EReal) := (EReal.coe_add 1 a).symm
@[pointwise] theorem zero_sub_coe (a : ℝ) : 0 - (a : EReal) = ((-a : ℝ) : EReal) := by rw [zero_sub, neg_coe]
@[pointwise] theorem sum_coe {ι : Type} [Fintype ι] (f : ι → ℝ) :
    ∑ k, (f k : EReal) = ((∑ k, f k : ℝ) : EReal) := by
  classical
  refine Finset.induction_on (Finset.univ : Finset ι) (by simp) fun a s ha ih => ?_
  rw [Finset.sum_insert ha, Finset.sum_insert ha, ih, add_coe]
theorem div_coe {b : ℝ} (hb : b ≠ 0) (a : ℝ) : Ideal.div (a : EReal) b = ((a / b : ℝ) : EReal) := by
  rw [Ideal.div_coe hb, mul_coe, mul_one_div]
theorem one_div_coe {b : ℝ} (hb : b ≠ 0) : Ideal.div (1 : EReal) b = ((b⁻¹ : ℝ) : EReal) := by
  rw [Ideal.div_coe hb, one_mul, one_div]
attribute [pointwise] Fin.sum_univ_one Ideal.exp_coe Ideal.logistic_coe Ideal.tanh_coe Ideal.sin_coe Ideal.cos_coe

/-- A logistic written as the host writes it. -/
@[pointwise] theorem div_one_add_exp (a : ℝ) :
    Ideal.div (1 : EReal) ((1 + Real.exp a : ℝ) : EReal) = (((1 + Real.exp a)⁻¹ : ℝ) : EReal) :=
  one_div_coe (by positivity)

/-! ### Literals -/

@[pointwise] theorem lit_1024 : Ideal.ofBits .f32 0x44800000#32 = ((1024 : ℝ) : EReal) := by
  simp [Ideal.ofBits, Ideal.ieee]; rw [mul_coe]; norm_num
@[pointwise] theorem lit_two : Ideal.ofBits .f32 0x40000000#32 = ((2 : ℝ) : EReal) := by
  simp [Ideal.ofBits, Ideal.ieee]; rw [mul_coe]; norm_num
@[pointwise] theorem lit_half : Ideal.ofBits .f32 0x3F000000#32 = ((1 / 2 : ℝ) : EReal) := by
  simp [Ideal.ofBits, Ideal.ieee]; rw [mul_coe]; norm_num
@[pointwise] theorem lit_neg_half : Ideal.ofBits .f32 0xBF000000#32 = ((-1 / 2 : ℝ) : EReal) := by
  simp [Ideal.ofBits, Ideal.ieee]; rw [mul_coe]; norm_num
@[pointwise] theorem lit_inv_1024 : Ideal.ofBits .f32 0x3A800000#32 = ((1 / 1024 : ℝ) : EReal) := by
  simp [Ideal.ofBits, Ideal.ieee]; rw [mul_coe]; norm_num
@[pointwise] theorem lit_inv_2048 : Ideal.ofBits .f32 0x3A000000#32 = ((1 / 2048 : ℝ) : EReal) := by
  simp [Ideal.ofBits, Ideal.ieee]; rw [mul_coe]; norm_num

/-- The number a norm adds to the mean square. -/
def eps : ℝ := 8796093 / 8796093022208
theorem eps_pos : 0 < eps := by unfold eps; norm_num
@[pointwise] theorem lit_eps : Ideal.ofBits .f32 0x358637BD#32 = (eps : EReal) := by
  unfold eps; simp [Ideal.ofBits, Ideal.ieee]; rw [mul_coe]; norm_num
@[pointwise] theorem div_1024 (a : ℝ) : Ideal.div (a : EReal) ((1024 : ℝ) : EReal) = ((a / 1024 : ℝ) : EReal) :=
  div_coe (by norm_num) a

/-! ### The root mean square norm of a row -/

/-- The mean square of a row, and a little more. -/
def ms (v : Fin 1024 → ℝ) : ℝ := (∑ k, v k * v k) / 1024 + eps
/-- The factor of the norm. -/
def rs (v : Fin 1024 → ℝ) : ℝ := (√(ms v))⁻¹

theorem ms_pos (v : Fin 1024 → ℝ) : 0 < ms v := by
  have h : 0 ≤ ∑ k, v k * v k := Finset.sum_nonneg fun k _ => mul_self_nonneg _
  have := eps_pos
  unfold ms; positivity

theorem rs_pos (v : Fin 1024 → ℝ) : 0 < rs v := by
  have := ms_pos v
  unfold rs; positivity

theorem rs_sq (v : Fin 1024 → ℝ) : rs v * rs v = (ms v)⁻¹ := by
  unfold rs
  rw [← mul_inv, Real.mul_self_sqrt (ms_pos v).le]

@[pointwise] theorem ms_fold (v : Fin 1024 → ℝ) :
    (((∑ k, v k * v k) / 1024 + eps : ℝ) : EReal) = (ms v : EReal) := rfl
@[pointwise] theorem rsqrt_ms (v : Fin 1024 → ℝ) : Ideal.rsqrt (ms v : EReal) = (rs v : EReal) := by
  rw [Ideal.rsqrt_coe, if_neg (ms_pos v).not_gt, if_neg (ms_pos v).ne']; rfl
@[pointwise] theorem rs_div_ms (v : Fin 1024 → ℝ) :
    Ideal.div (rs v : EReal) (ms v : EReal) = ((rs v / ms v : ℝ) : EReal) := div_coe (ms_pos v).ne' _

/-- The gradient of the norm `x ↦ x · rs x · g` in its row, for the cotangent `dy`. -/
def rmsBack (dy x g : Fin 1024 → ℝ) (j : Fin 1024) : ℝ :=
  rs x * (dy j * g j - x j * rs x * ((∑ k, dy k * g k * (x k * rs x)) / 1024))

/-- The same gradient as differentiating the norm's lines one by one leaves it: the product's part, then twice the part that
    goes through the mean square. -/
theorem rmsBack_lines (dy x g : Fin 1024 → ℝ) (j : Fin 1024) :
    dy j * g j * rs x + x j * ((∑ k, x k * (dy k * g k)) * (-1 / 2 * (rs x / ms x)) / 1024)
        + (∑ k, x k * (dy k * g k)) * (-1 / 2 * (rs x / ms x)) / 1024 * x j
      = rmsBack dy x g j := by
  have h : rs x / ms x = rs x * rs x * rs x := by rw [rs_sq, div_eq_mul_inv, mul_comm]
  have hs : ∑ k, dy k * g k * (x k * rs x) = (∑ k, x k * (dy k * g k)) * rs x := by
    rw [Finset.sum_mul]; exact Finset.sum_congr rfl fun k _ => by ring
  rw [rmsBack, h, hs]; ring

/-! An array whose every magnitude lies below infinity is an array of reals. -/

theorem real_of_lt {x : EReal} (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne fun hb => ?_).symm⟩
  simp [hb] at hlt

variable {s : Shape} {a b : FVec Ideal s .f32}

theorem real_of_finite (h : cmpf .olt (Host.absf a) b = fun _ => 1#1)
    (hb : ∀ j, b j = Ideal.ofBits .f32 0x7F800000#32 := by intro j; rfl) (j : s.Idx) : ∃ r : ℝ, a j = r := by
  have := congrFun h j
  refine real_of_lt ?_
  rw [← hb j]; exact this

theorem finite1 {n : ℕ} {a b : FVec Ideal ⟨1, ![n]⟩ .f32} (h : cmpf .olt (Host.absf a) b = fun _ => 1#1)
    (hb : ∀ j, b j = Ideal.ofBits .f32 0x7F800000#32 := by intro j; rfl) : ∃ f : Fin n → ℝ, a = up1 f := by
  choose f hf using real_of_finite h hb
  exact ⟨fun i => f (ix1 i), funext fun j => (hf j).trans (congrArg (fun k => (f k : EReal)) (eq_ix1 j))⟩

theorem finite2 {m n : ℕ} {a b : FVec Ideal ⟨2, ![m, n]⟩ .f32} (h : cmpf .olt (Host.absf a) b = fun _ => 1#1)
    (hb : ∀ j, b j = Ideal.ofBits .f32 0x7F800000#32 := by intro j; rfl) : ∃ f : Fin m → Fin n → ℝ, a = up2 f := by
  choose f hf using real_of_finite h hb
  exact ⟨fun i k => f (ix2 i k), funext fun j => (hf j).trans (congrArg (fun k => (f k : EReal)) (eq_ix2 j))⟩

theorem finiteRow {n : ℕ} {a b : FVec Ideal ⟨2, ![1, n]⟩ .f32} (h : cmpf .olt (Host.absf a) b = fun _ => 1#1)
    (hb : ∀ j, b j = Ideal.ofBits .f32 0x7F800000#32 := by intro j; rfl) : ∃ f : Fin n → ℝ, a = up2 fun _ => f := by
  obtain ⟨f, hf⟩ := finite2 h hb
  exact ⟨f 0, hf.trans (congrArg up2 (funext fun i => congrArg f (Subsingleton.elim i 0)))⟩

end Lift

end
-- ==== Proof.HeadMath.lean ====
/-
  The head of the step, one token at a time, over the reals: a gate from the normed stream, the gated embedding, the final
  norm, the squared error; and the gradient of half the mean squared error in each of them.
-/
module

public import proofs.«01_k».proof.Proof.Lift

@[expose] public section

noncomputable section

open Lift

/-- The weights of the head: the two norms' gains, the gate's matrix, the embedding's projection. -/
structure Head where
  gp : Fin 1024 → ℝ
  gf : Fin 1024 → ℝ
  wg : Fin 1024 → Fin 1024 → ℝ
  wp : Fin 256 → Fin 1024 → ℝ

namespace Head

variable (N : Head) (x : Fin 1024 → ℝ) (p : Fin 256 → ℝ) (tg : Fin 1024 → ℝ)

/-- The stream after the norm before the gate. -/
def n3 (j : Fin 1024) : ℝ := x j * rs x * N.gp j
/-- The gate. -/
def gate (j : Fin 1024) : ℝ := (1 + Real.exp (-∑ k, N.n3 x k * N.wg k j))⁻¹
/-- The projected embedding. -/
def pp (j : Fin 1024) : ℝ := ∑ k, p k * N.wp k j
/-- The stream with the gated embedding added. -/
def h4 (j : Fin 1024) : ℝ := x j + N.gate x j * N.pp p j
/-- The error of the prediction. -/
def err (j : Fin 1024) : ℝ := N.h4 x p j * rs (N.h4 x p) * N.gf j - tg j
/-- The token's share of the loss, and of the gradient in the prediction. -/
def loss : ℝ := (∑ j, N.err x p tg j * N.err x p tg j) * (1 / 2048)
def dy (j : Fin 1024) : ℝ := N.err x p tg j * (1 / 1024)
/-- The gradient in the stream that the final norm reads. -/
def dh4 (j : Fin 1024) : ℝ := rmsBack (N.dy x p tg) (N.h4 x p) N.gf j
/-- The token's share of the gradient in the final norm's gain. -/
def dgf (j : Fin 1024) : ℝ := N.dy x p tg j * (N.h4 x p j * rs (N.h4 x p))
/-- The gradient at the gate's logistic, at the embedding's projection, and at the norm before the gate. -/
def dz (j : Fin 1024) : ℝ := N.dh4 x p tg j * N.pp p j * N.gate x j * (1 - N.gate x j)
def de (j : Fin 1024) : ℝ := N.dh4 x p tg j * N.gate x j
def dn (j : Fin 1024) : ℝ := ∑ k, N.dz x p tg k * N.wg j k
/-- The token's share of the gradient in that norm's gain, and the gradient in the stream. -/
def dgp (j : Fin 1024) : ℝ := N.dn x p tg j * (x j * rs x)
def dh (j : Fin 1024) : ℝ := N.dh4 x p tg j + rmsBack (N.dn x p tg) x N.gp j

end Head
end
-- ==== Proof.HeadRef.lean ====
/-
  What the reference of the head computes, for finite arguments: the rows of HeadMath.
-/
module

public import proofs.«01_k».proof.Proof.HeadMath
public import proofs.«01_k».proof.Proof.Gen.ReferenceIdeal.Read
public import proofs.«01_k».proof.Proof.Gen.ReferenceIdeal.Run

@[expose] public section

set_option maxRecDepth 16384

noncomputable section

namespace HeadRef

open Idealize.ShloMosaic Cert.ReferenceIdeal Cert.ReferenceIdeal.Read Lift

variable (N : Head) (X : Fin 8192 → Fin 1024 → ℝ) (Pe : Fin 8192 → Fin 256 → ℝ) (Tg : Fin 8192 → Fin 1024 → ℝ)

local notation "xX" => (up2 X : S8192x1024.Idx → EReal)
local notation "xP" => (up2 Pe : S8192x256.Idx → EReal)
local notation "xT" => (up2 Tg : S8192x1024.Idx → EReal)
local notation "xGp" => (up2 (fun (_ : Fin 1) => N.gp) : S1x1024.Idx → EReal)
local notation "xGf" => (up1 N.gf : S1024.Idx → EReal)
local notation "xWg" => (up2 N.wg : S1024x1024.Idx → EReal)
local notation "xWp" => (up2 N.wp : S256x1024.Idx → EReal)

theorem v9 : val_main_v9 (F := Ideal) xX = up2 fun t _ => rs (X t) := by
  funext j
  pointwise [val_main_v9, val_main_v8, val_main_v7, val_main_cst_2, val_main_v6, val_main_v5, val_main_cst_1, val_main_v4,
    val_main_v3, val_main_v2, val_main_cst_0]

theorem v12 : val_main_v12 (F := Ideal) xX = up2 fun t _ => -1 / 2 * (rs (X t) / ms (X t)) := by
  funext j
  pointwise [val_main_v12, val_main_v11, val_main_cst_3, val_main_v10, v9, val_main_v8, val_main_v7, val_main_cst_2, val_main_v6,
    val_main_v5, val_main_cst_1, val_main_v4, val_main_v3, val_main_v2, val_main_cst_0]

theorem v14 : val_main_v14 (F := Ideal) xX = up2 fun t l => X t l * rs (X t) := by
  funext j
  pointwise [val_main_v14, val_main_v13, v9]

theorem v15 : val_main_v15 (F := Ideal) xGp = up2 fun _ => N.gp := by
  funext j
  pointwise [val_main_v15, val_main_v1]

theorem v17 : val_main_v17 (F := Ideal) xX xGp = up2 fun t => N.n3 (X t) := by
  funext j
  pointwise [val_main_v17, val_main_v16, v15, v14, Head.n3]

theorem v25 : val_main_v25 (F := Ideal) xX xGp xWg = up2 fun t => N.gate (X t) := by
  funext j
  pointwise [val_main_v25, val_main_v24, val_main_cst_5, val_main_v23, val_main_v22, val_main_cst_4, val_main_v21, val_main_v20,
    val_main_v19, val_main_v18, val_main_v0, val_main_cst, v17, dot_S8192x1024_S1024x1024_S8192x1024_1_0_0_1_n_n, Head.gate]

theorem v28 : val_main_v28 (F := Ideal) xX xGp xWg = up2 fun t l => N.gate (X t) l * (1 - N.gate (X t) l) := by
  funext j
  pointwise [val_main_v28, val_main_v27, val_main_v26, val_main_cst_6, v25]

theorem v30 : val_main_v30 (F := Ideal) xP xWp = up2 fun t => N.pp (Pe t) := by
  funext j
  pointwise [val_main_v30, val_main_v29, val_main_v0, val_main_cst, dot_S8192x256_S256x1024_S8192x1024_1_0_0_1_n_n, Head.pp]

theorem v32 : val_main_v32 (F := Ideal) xX xP xGp xWg xWp = up2 fun t => N.h4 (X t) (Pe t) := by
  funext j
  pointwise [val_main_v32, val_main_v31, v25, v30, Head.h4]

theorem v40 : val_main_v40 (F := Ideal) xX xP xGp xWg xWp = up2 fun t _ => rs (N.h4 (X t) (Pe t)) := by
  funext j
  pointwise [val_main_v40, val_main_v39, val_main_v38, val_main_cst_9, val_main_v37, val_main_v36, val_main_cst_8, val_main_v35,
    val_main_v34, val_main_v33, val_main_cst_7, v32]

theorem v43 : val_main_v43 (F := Ideal) xX xP xGp xWg xWp
    = up2 fun t _ => -1 / 2 * (rs (N.h4 (X t) (Pe t)) / ms (N.h4 (X t) (Pe t))) := by
  funext j
  pointwise [val_main_v43, val_main_v42, val_main_cst_10, val_main_v41, v40, val_main_v39, val_main_v38, val_main_cst_9,
    val_main_v37, val_main_v36, val_main_cst_8, val_main_v35, val_main_v34, val_main_v33, val_main_cst_7, v32]

theorem v45 : val_main_v45 (F := Ideal) xX xP xGp xWg xWp
    = up2 fun t l => N.h4 (X t) (Pe t) l * rs (N.h4 (X t) (Pe t)) := by
  funext j
  pointwise [val_main_v45, val_main_v44, v32, v40]

theorem v46 : val_main_v46 (F := Ideal) xGf = up2 fun _ => N.gf := by
  funext j
  pointwise [val_main_v46]

theorem v49 : val_main_v49 (F := Ideal) xX xP xT xGp xGf xWg xWp = up2 fun t => N.err (X t) (Pe t) (Tg t) := by
  funext j
  pointwise [val_main_v49, val_main_v48, val_main_v47, v46, v45, Head.err]

/-- The loss of all tokens. -/
theorem v113 : val_main_v113 (F := Ideal) xX xP xT xGp xGf xWg xWp
    = up2 fun _ _ => ∑ t, N.loss (X t) (Pe t) (Tg t) := by
  funext j
  pointwise [val_main_v113, val_main_v57, val_main_v56, val_main_v55, val_main_v54, val_main_cst_13, val_main_v53, val_main_v50,
    val_main_cst_12, val_main_cst_14, val_main_cst_15, v49, Head.loss]
  rw [Finset.mul_sum]
  exact congrArg _ (Finset.sum_congr rfl fun t _ => by ring)

theorem v63 : val_main_v63 (F := Ideal) xX xP xT xGp xGf xWg xWp = up2 fun t => N.dy (X t) (Pe t) (Tg t) := by
  funext j
  pointwise [val_main_v63, val_main_v62, val_main_v61, val_main_v60, val_main_cst_18, val_main_v59, val_main_v58, val_main_cst_16,
    val_main_cst_17, val_main_v52, val_main_v51, val_main_cst_11, v49, Head.dy]
  exact congrArg _ (by ring)

theorem v68 : val_main_v68 (F := Ideal) xX xP xT xGp xGf xWg xWp
    = up2 fun t l => N.dy (X t) (Pe t) (Tg t) l * N.gf l := by
  funext j
  pointwise [val_main_v68, val_main_v67, v46, v63]

theorem v64 : val_main_v64 (F := Ideal) xX xP xT xGp xGf xWg xWp = up2 fun t => N.dgf (X t) (Pe t) (Tg t) := by
  funext j
  pointwise [val_main_v64, v45, v63, Head.dgf]
  exact congrArg _ (mul_comm _ _)

theorem v65 : val_main_v65 (F := Ideal) xX xP xT xGp xGf xWg xWp = up1 fun l => ∑ t, N.dgf (X t) (Pe t) (Tg t) l := by
  funext j
  pointwise [val_main_v65, val_main_cst_19, v64]

theorem v114 : val_main_v114 (F := Ideal) xX xP xT xGp xGf xWg xWp
    = up2 fun _ l => ∑ t, N.dgf (X t) (Pe t) (Tg t) l := by
  funext j
  pointwise [val_main_v114, val_main_v69, val_main_v66, val_main_cst_20, v65]

theorem v83 : val_main_v83 (F := Ideal) xX xP xT xGp xGf xWg xWp = up2 fun t => N.dh4 (X t) (Pe t) (Tg t) := by
  funext j
  pointwise [val_main_v83, val_main_v82, val_main_v81, val_main_v80, val_main_v79, val_main_v78, val_main_v77, val_main_v76,
    val_main_cst_22, val_main_cst_23, val_main_v75, val_main_v74, val_main_v73, val_main_v72, val_main_v71, val_main_cst_21,
    val_main_v70, v32, v40, v43, v68, Head.dh4]
  exact congrArg _ (rmsBack_lines _ _ _ _)

theorem v112 : val_main_v112 (F := Ideal) xX xP xT xGp xGf xWg xWp = up2 fun t => N.de (X t) (Pe t) (Tg t) := by
  funext j
  pointwise [val_main_v112, val_main_v84, v25, v83, Head.de]
  exact congrArg _ (mul_comm _ _)

theorem v86 : val_main_v86 (F := Ideal) xX xP xT xGp xGf xWg xWp = up2 fun t => N.dz (X t) (Pe t) (Tg t) := by
  funext j
  pointwise [val_main_v86, val_main_v85, v28, v30, v83, Head.dz]
  exact congrArg _ (by ring)

theorem v87 : val_main_v87 (F := Ideal) xX xP xT xGp xGf xWg xWp = up2 fun t => N.dn (X t) (Pe t) (Tg t) := by
  funext j
  pointwise [val_main_v87, v86, dot_S8192x1024_S1024x1024_S8192x1024_1_1_0_0_n_n, Head.dn]

theorem v92 : val_main_v92 (F := Ideal) xX xP xT xGp xGf xWg xWp
    = up2 fun t l => N.dn (X t) (Pe t) (Tg t) l * N.gp l := by
  funext j
  pointwise [val_main_v92, val_main_v91, v15, v87]

theorem v88 : val_main_v88 (F := Ideal) xX xP xT xGp xGf xWg xWp = up2 fun t => N.dgp (X t) (Pe t) (Tg t) := by
  funext j
  pointwise [val_main_v88, v14, v87, Head.dgp]
  exact congrArg _ (mul_comm _ _)

theorem v89 : val_main_v89 (F := Ideal) xX xP xT xGp xGf xWg xWp = up1 fun l => ∑ t, N.dgp (X t) (Pe t) (Tg t) l := by
  funext j
  pointwise [val_main_v89, val_main_cst_24, v88]

theorem v109 : val_main_v109 (F := Ideal) xX xP xT xGp xGf xWg xWp
    = up2 fun _ l => ∑ t, N.dgp (X t) (Pe t) (Tg t) l := by
  funext j
  pointwise [val_main_v109, val_main_v93, val_main_v90, val_main_cst_25, v89]

theorem v108 : val_main_v108 (F := Ideal) xX xP xT xGp xGf xWg xWp = up2 fun t => N.dh (X t) (Pe t) (Tg t) := by
  funext j
  pointwise [val_main_v108, val_main_v107, val_main_v106, val_main_v105, val_main_v104, val_main_v103, val_main_v102, val_main_v101,
    val_main_cst_27, val_main_cst_28, val_main_v100, val_main_v99, val_main_v98, val_main_v97, val_main_v96, val_main_v95,
    val_main_cst_26, val_main_v94, v9, v12, v83, v92, Head.dh]
  exact congrArg _ (by rw [← rmsBack_lines (N.dn (X (j 0)) (Pe (j 0)) (Tg (j 0))) (X (j 0)) N.gp (j 1)]; ring)

/-- The two streams that leave at the narrow width. -/
theorem v110 : val_main_v110 (F := Ideal) xX xGp = up2 fun t => N.n3 (X t) :=
  v17 N X
theorem v111 : val_main_v111 (F := Ideal) xX xP xT xGp xGf xWg xWp = up2 fun t => N.dz (X t) (Pe t) (Tg t) :=
  v86 N X Pe Tg

/-- The reference's run, its results stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v110) = val_main_v110 (F := Ideal) (m ((c.tc : Thread nD τ).loc main_arg0)) (m ((c.tc : Thread nD τ).loc main_arg3))
      ∧ r.2.mem ((c.tc : Thread nD τ).loc main_v111) = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v112) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v113) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v114) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => h c) (Cert.ReferenceIdeal.Value.run m ρ)

end HeadRef
end
-- ==== Proof.HeadKernel.lean ====
/-
  What the head's kernel computes, for finite arguments: each token tile's rows are the rows of HeadMath, and the loss and the
  two gains' gradients are summed tile after tile.
-/
module

public import proofs.«01_k».proof.Proof.HeadMath
public import proofs.«01_k».proof.Proof.Gen.KernelIdeal.Value
public import Idealize.ShloMosaic.Lib.Pipeline.ValueKit

@[expose] public section

set_option maxRecDepth 16384

noncomputable section

namespace HeadKernel

open Idealize.ShloMosaic Idealize.ShloMosaic.TcCoe Idealize.SL.Sem Cert.KernelIdeal Cert.KernelIdeal.Gen Lift

variable (N : Head)

section Payloads

/-! ### One tile -/

variable (X : Fin 512 → Fin 1024 → ℝ) (Pe : Fin 512 → Fin 256 → ℝ) (Tg : Fin 512 → Fin 1024 → ℝ)

local notation "bX" => (up2 X : S512x1024.Idx → EReal)
local notation "bP" => (up2 Pe : S512x256.Idx → EReal)
local notation "bT" => (up2 Tg : S512x1024.Idx → EReal)
local notation "bGp" => (up2 (fun (_ : Fin 1) => N.gp) : S1x1024.Idx → EReal)
local notation "bGf" => (up2 (fun (_ : Fin 1) => N.gf) : S1x1024.Idx → EReal)
local notation "bWg" => (up2 N.wg : S1024x1024.Idx → EReal)
local notation "bWp" => (up2 N.wp : S256x1024.Idx → EReal)
local notation "bGate" => (up2 (fun r => N.gate (X r)) : S512x1024.Idx → EReal)
local notation "bPp" => (up2 (fun r => N.pp (Pe r)) : S512x1024.Idx → EReal)
local notation "bH" => (up2 (fun r => N.h4 (X r) (Pe r)) : S512x1024.Idx → EReal)
local notation "bSq" => (up2 (fun r _ => ∑ k, N.h4 (X r) (Pe r) k * N.h4 (X r) (Pe r) k) : S512x1.Idx → EReal)
local notation "bDy" => (up2 (fun r => N.dy (X r) (Pe r) (Tg r)) : S512x1024.Idx → EReal)
local notation "bRs" => (up2 (fun r _ => rs (N.h4 (X r) (Pe r))) : S512x1.Idx → EReal)
local notation "bXh" => (up2 (fun r l => N.h4 (X r) (Pe r) l * rs (N.h4 (X r) (Pe r))) : S512x1024.Idx → EReal)
local notation "bDxh" => (up2 (fun r l => N.dy (X r) (Pe r) (Tg r) l * N.gf l) : S512x1024.Idx → EReal)
local notation "bDot" => (up2 (fun r _ => ∑ k, N.dy (X r) (Pe r) (Tg r) k * N.gf k * (N.h4 (X r) (Pe r) k * rs (N.h4 (X r) (Pe r)))) : S512x1.Idx → EReal)
local notation "bC" => (up2 (fun _ _ => 1024) : S512x1.Idx → EReal)
local notation "bDh4" => (up2 (fun r => N.dh4 (X r) (Pe r) (Tg r)) : S512x1024.Idx → EReal)

theorem p6 : k0_pay6 (F := Ideal) bGf = bGf := by
  funext j; pointwise [k0_pay6]

theorem p7 : k0_pay7 (F := Ideal) bX bGp = up2 fun r => N.n3 (X r) := by
  funext j; pointwise [k0_pay7, Head.n3]

theorem p8 : k0_pay8 (F := Ideal) bX bGp bWg = bGate := by
  funext j; pointwise [k0_pay8, p7, dot_S512x1024_S1024x1024_S512x1024_1_0_0_1_n_n, Head.gate]

theorem p9 : k0_pay9 (F := Ideal) bP bWp = bPp := by
  funext j; pointwise [k0_pay9, dot_S512x256_S256x1024_S512x1024_1_0_0_1_n_n, Head.pp]

theorem p10 : k0_pay10 (F := Ideal) bX bGp bWg bP bWp = bH := by
  funext j; pointwise [k0_pay10, p8, p9, Head.h4]

theorem p11 : k0_pay11 (F := Ideal) bX bGp bWg bP bWp = bSq := by
  funext j; pointwise [k0_pay11, p10]

theorem p12 : k0_pay12 (F := Ideal) bGf bH bSq bT = up2 fun r => N.err (X r) (Pe r) (Tg r) := by
  funext j; pointwise [k0_pay12, Head.err]

/-- A row's sum of squares, as a column. -/
theorem q1 (E : Fin 512 → Fin 1024 → ℝ) :
    shapeCast S512x1 (multiReduction (F := Ideal) .add [1] S512 (mulf (up2 E : FVec Ideal S512x1024 .f32) (up2 E)) 0x00000000#32 reduces_S512x1024_S512 (.inl rfl) rfl) shapeCasts_S512_S512x1
      = up2 fun r _ => ∑ k, E r k * E r k := by
  funext j; pointwise
/-- A column's sum. -/
theorem q2 (f : Fin 512 → ℝ) :
    multiReduction (F := Ideal) .add [0] S1 (up2 (fun r (_ : Fin 1) => f r) : FVec Ideal S512x1 .f32) 0x00000000#32 reduces_S512x1_S1 (.inl rfl) rfl
      = up1 fun _ => ∑ r, f r := by
  funext j; pointwise

theorem p13 (A : Vec Ideal S8x128 .f32) (j : S8x128.Idx) :
    k0_pay13 (F := Ideal) bGf bH bSq bT A j = A j + ((∑ r, N.loss (X r) (Pe r) (Tg r) : ℝ) : EReal) := by
  unfold k0_pay13
  rw [p12]
  dsimp only
  rw [q1, q2]
  pointwise [Head.loss]
  rw [Finset.sum_mul]

theorem p14 : k0_pay14 (F := Ideal) bGf bH bSq bT = bDy := by
  funext j; pointwise [k0_pay14, p12, Head.dy]

theorem p15 : k0_pay15 (F := Ideal) bH = bRs := by
  funext j; pointwise [k0_pay15]

theorem p16 : k0_pay16 (F := Ideal) bH = bXh := by
  funext j; pointwise [k0_pay16, p15]

theorem p17 : k0_pay17 (F := Ideal) bGf bH bSq bT = bDxh := by
  funext j; pointwise [k0_pay17, p14]

theorem p18 : k0_pay18 (F := Ideal) bGf bH bSq bT = bDot := by
  funext j; pointwise [k0_pay18, p16, p17]

theorem p19 : k0_pay19 (F := Ideal) = bC := by
  funext j; pointwise [k0_pay19]

theorem p20 : k0_pay20 (F := Ideal) bRs bXh bDxh bDot bC = bDh4 := by
  funext j; pointwise [k0_pay20, Head.dh4, rmsBack]

theorem p21 (A : Vec Ideal S1x1024 .f32) (j : S1x1024.Idx) :
    k0_pay21 (F := Ideal) bDy bXh A j = A j + ((∑ r, N.dgf (X r) (Pe r) (Tg r) (j 1) : ℝ) : EReal) := by
  pointwise [k0_pay21, Head.dgf]

theorem p22 : k0_pay22 (F := Ideal) bGate bPp bRs bXh bDxh bDot bC = up2 fun r => N.dz (X r) (Pe r) (Tg r) := by
  funext j; pointwise [k0_pay22, p20, Head.dz]

theorem p23 : k0_pay23 (F := Ideal) bGate bRs bXh bDxh bDot bC = up2 fun r => N.de (X r) (Pe r) (Tg r) := by
  funext j; pointwise [k0_pay23, p20, Head.de]

theorem p24 : k0_pay24 (F := Ideal) bGate bPp bRs bXh bDxh bDot bC bWg = up2 fun r => N.dn (X r) (Pe r) (Tg r) := by
  funext j; pointwise [k0_pay24, p22, dot_S512x1024_S1024x1024_S512x1024_1_1_0_0_n_n, Head.dn]

theorem p25 : k0_pay25 (F := Ideal) bX = up2 fun r _ => rs (X r) := by
  funext j; pointwise [k0_pay25]

theorem p26 : k0_pay26 (F := Ideal) bX = up2 fun r l => X r l * rs (X r) := by
  funext j; pointwise [k0_pay26, p25]

theorem p27 : k0_pay27 (F := Ideal) bGp bGate bPp bRs bXh bDxh bDot bC bWg
    = up2 fun r l => N.dn (X r) (Pe r) (Tg r) l * N.gp l := by
  funext j; pointwise [k0_pay27, p24]

theorem p28 : k0_pay28 (F := Ideal) bX bGp bGate bPp bRs bXh bDxh bDot bC bWg
    = up1 fun r => ∑ k, N.dn (X r) (Pe r) (Tg r) k * N.gp k * (X r k * rs (X r)) := by
  funext j; pointwise [k0_pay28, p26, p27]

theorem p1 (A : Vec Ideal S1x1024 .f32) (j : S1x1024.Idx) :
    k0_pay1 (F := Ideal) (up2 (fun r => N.dn (X r) (Pe r) (Tg r))) (up2 fun r l => X r l * rs (X r)) A j
      = A j + ((∑ r, N.dgp (X r) (Pe r) (Tg r) (j 1) : ℝ) : EReal) := by
  pointwise [k0_pay1, Head.dgp]

theorem p2 : k0_pay2 (F := Ideal) bDh4 (up2 fun r _ => rs (X r)) (up2 fun r l => X r l * rs (X r))
      (up2 fun r l => N.dn (X r) (Pe r) (Tg r) l * N.gp l)
      (up1 fun r => ∑ k, N.dn (X r) (Pe r) (Tg r) k * N.gp k * (X r k * rs (X r)))
    = up2 fun r => N.dh (X r) (Pe r) (Tg r) := by
  funext j; pointwise [k0_pay2, Head.dh, rmsBack]

end Payloads

/-! ### The arrays -/

/-- Token `r` of tile `t`. -/
def tok (t : Fin cfg0.N) (r : Fin 512) : Fin 8192 :=
  ⟨t.val * 512 + r.val, by have h : t.val < 16 := t.isLt; omega⟩

variable (m : (ℓ : Loc nD τ sig) → Buf (Elt Ideal) ℓ) (c : Dev nD)
variable (X : Fin 8192 → Fin 1024 → ℝ) (Pe : Fin 8192 → Fin 256 → ℝ) (Tg : Fin 8192 → Fin 1024 → ℝ)

/-- The kernel's arguments hold the reals `X`, `Pe`, `Tg` and the weights `N`. -/
structure Holds : Prop where
  h0 : m ((c : Thread nD τ).loc main_arg0) = (up2 X : S8192x1024.Idx → EReal)
  h1 : m ((c : Thread nD τ).loc main_arg1) = (up2 Pe : S8192x256.Idx → EReal)
  h2 : m ((c : Thread nD τ).loc main_arg2) = (up2 Tg : S8192x1024.Idx → EReal)
  h3 : m ((c : Thread nD τ).loc main_arg3) = (up2 (fun _ => N.gp) : S1x1024.Idx → EReal)
  h4 : m ((c : Thread nD τ).loc main_arg4) = (up1 N.gf : S1024.Idx → EReal)
  h5 : m ((c : Thread nD τ).loc main_arg5) = (up2 N.wg : S1024x1024.Idx → EReal)
  h6 : m ((c : Thread nD τ).loc main_arg6) = (up2 N.wp : S256x1024.Idx → EReal)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

variable {N m c X Pe Tg} (H : Holds N m c X Pe Tg) (t : Fin cfg0.N)
include H

/-- The weights, as the kernel's region finds them. -/
theorem V4 : V m c main_v0 = (up2 (fun _ => N.gf) : S1x1024.Idx → EReal) := by
  show StableHlo.after hostOps0 _ (Proc.devRef .tc main_v0) = _
  after_results
  rw [H.h4]
  funext j; pointwise
theorem V5 : V m c main_v1 = (up2 N.wg : S1024x1024.Idx → EReal) := by
  show StableHlo.after hostOps0 _ (Proc.devRef .tc main_v1) = _
  after_results
  rw [H.h5]
  funext j; pointwise
theorem V6 : V m c main_v2 = (up2 N.wp : S256x1024.Idx → EReal) := by
  show StableHlo.after hostOps0 _ (Proc.devRef .tc main_v2) = _
  after_results
  rw [H.h6]
  funext j; pointwise

/-- The blocks that tile `t` reads. -/
theorem b0 : iblk m c 0 t = (up2 (fun r => X (tok t r)) : S512x1024.Idx → EReal) := by
  funext y
  have e : iblk m c 0 t y = m ((c : Thread nD τ).loc main_arg0) (ix2 (tok t (y 0)) (y 1)) := by
    unfold iblk; rw [V_main_arg0]; blk_ext! [idx0 t, tok]
  rw [e, H.h0]; rfl
theorem b1 : iblk m c 1 t = (up2 (fun r => Pe (tok t r)) : S512x256.Idx → EReal) := by
  funext y
  have e : iblk m c 1 t y = m ((c : Thread nD τ).loc main_arg1) (ix2 (tok t (y 0)) (y 1)) := by
    unfold iblk; rw [V_main_arg1]; blk_ext! [idx1 t, tok]
  rw [e, H.h1]; rfl
theorem b2 : iblk m c 2 t = (up2 (fun r => Tg (tok t r)) : S512x1024.Idx → EReal) := by
  funext y
  have e : iblk m c 2 t y = m ((c : Thread nD τ).loc main_arg2) (ix2 (tok t (y 0)) (y 1)) := by
    unfold iblk; rw [V_main_arg2]; blk_ext! [idx2 t, tok]
  rw [e, H.h2]; rfl
theorem b3 : iblk m c 3 t = (up2 (fun _ => N.gp) : S1x1024.Idx → EReal) := by
  rw [← H.h3]
  unfold iblk; rw [V_main_arg3]; blk_ext! [idx3 t]
theorem b4 : iblk m c 4 t = (up2 (fun _ => N.gf) : S1x1024.Idx → EReal) := by
  rw [← V4 H]
  unfold iblk; blk_ext! [idx4 t]
theorem b5 : iblk m c 5 t = (up2 N.wg : S1024x1024.Idx → EReal) := by
  rw [← V5 H]
  unfold iblk; blk_ext! [idx5 t]
theorem b6 : iblk m c 6 t = (up2 N.wp : S256x1024.Idx → EReal) := by
  rw [← V6 H]
  unfold iblk; blk_ext! [idx6 t]

/-! What tile `t` leaves of the four row-wise results, and those arrays after the run. -/

omit H t in
theorem idx7 : ∀ t : Fin cfg0.N, win0_7.index t = ![t.val, 0] := (by decide +kernel : ∀ t : Fin grid0.N, _)
theorem o7 : (outsAt0 m c t.val t.isLt).1 = (up2 (fun r => N.dh (X (tok t r)) (Pe (tok t r)) (Tg (tok t r))) : S512x1024.Idx → EReal) := by
  by_cases h : t.val % 16 = 0
  · rw [outsAt0_A m c t h]; frame_out
    simp only [b0 H t, b1 H t, b2 H t, b3 H t, b4 H t, b5 H t, b6 H t, p2, p6, p7, p8, p9, p10, p11, p15, p16, p17, p18, p19, p20,
      p22, p23, p25, p24, p26, p27, p28]
  · rw [outsAt0_B m c t h]; frame_out
    simp only [b0 H t, b1 H t, b2 H t, b3 H t, b4 H t, b5 H t, b6 H t, p2, p6, p7, p8, p9, p10, p11, p15, p16, p17, p18, p19, p20,
      p22, p23, p25, p24, p26, p27, p28]
omit t in
theorem w7 : (dats m 0 c).arrAt 7 cfg0.N = (up2 (fun t => N.dh (X t) (Pe t) (Tg t)) : S8192x1024.Idx → EReal) :=
  (dats m 0 c).arrAt_eq_of_covers 7 _ (by decide +kernel) fun t hf y => by
    blk_simp
    rw [after0_7, o7 H t]
    exact congrArg₂ (fun a b => (up2 (fun t => N.dh (X t) (Pe t) (Tg t)) : S8192x1024.Idx → EReal) (ix2 a b))
      (Fin.ext (by simp [tok, idx7 t])) (Fin.ext (by simp [idx7 t]))

omit H t in
theorem idx8 : ∀ t : Fin cfg0.N, win0_8.index t = ![t.val, 0] := (by decide +kernel : ∀ t : Fin grid0.N, _)
theorem o8 : (outsAt0 m c t.val t.isLt).2.1 = (up2 (fun r => N.n3 (X (tok t r))) : S512x1024.Idx → EReal) := by
  by_cases h : t.val % 16 = 0
  · rw [outsAt0_A m c t h]; frame_out
    simp only [b0 H t, b1 H t, b2 H t, b3 H t, b4 H t, b5 H t, b6 H t, p2, p6, p7, p8, p9, p10, p11, p15, p16, p17, p18, p19, p20,
      p22, p23, p25, p24, p26, p27, p28]
  · rw [outsAt0_B m c t h]; frame_out
    simp only [b0 H t, b1 H t, b2 H t, b3 H t, b4 H t, b5 H t, b6 H t, p2, p6, p7, p8, p9, p10, p11, p15, p16, p17, p18, p19, p20,
      p22, p23, p25, p24, p26, p27, p28]
omit t in
theorem w8 : (dats m 0 c).arrAt 8 cfg0.N = (up2 (fun t => N.n3 (X t)) : S8192x1024.Idx → EReal) :=
  (dats m 0 c).arrAt_eq_of_covers 8 _ (by decide +kernel) fun t hf y => by
    blk_simp
    rw [after0_8, o8 H t]
    exact congrArg₂ (fun a b => (up2 (fun t => N.n3 (X t)) : S8192x1024.Idx → EReal) (ix2 a b))
      (Fin.ext (by simp [tok, idx8 t])) (Fin.ext (by simp [idx8 t]))

omit H t in
theorem idx9 : ∀ t : Fin cfg0.N, win0_9.index t = ![t.val, 0] := (by decide +kernel : ∀ t : Fin grid0.N, _)
theorem o9 : (outsAt0 m c t.val t.isLt).2.2.1 = (up2 (fun r => N.dz (X (tok t r)) (Pe (tok t r)) (Tg (tok t r))) : S512x1024.Idx → EReal) := by
  by_cases h : t.val % 16 = 0
  · rw [outsAt0_A m c t h]; frame_out
    simp only [b0 H t, b1 H t, b2 H t, b3 H t, b4 H t, b5 H t, b6 H t, p2, p6, p7, p8, p9, p10, p11, p15, p16, p17, p18, p19, p20,
      p22, p23, p25, p24, p26, p27, p28]
  · rw [outsAt0_B m c t h]; frame_out
    simp only [b0 H t, b1 H t, b2 H t, b3 H t, b4 H t, b5 H t, b6 H t, p2, p6, p7, p8, p9, p10, p11, p15, p16, p17, p18, p19, p20,
      p22, p23, p25, p24, p26, p27, p28]
omit t in
theorem w9 : (dats m 0 c).arrAt 9 cfg0.N = (up2 (fun t => N.dz (X t) (Pe t) (Tg t)) : S8192x1024.Idx → EReal) :=
  (dats m 0 c).arrAt_eq_of_covers 9 _ (by decide +kernel) fun t hf y => by
    blk_simp
    rw [after0_9, o9 H t]
    exact congrArg₂ (fun a b => (up2 (fun t => N.dz (X t) (Pe t) (Tg t)) : S8192x1024.Idx → EReal) (ix2 a b))
      (Fin.ext (by simp [tok, idx9 t])) (Fin.ext (by simp [idx9 t]))

omit H t in
theorem idx10 : ∀ t : Fin cfg0.N, win0_10.index t = ![t.val, 0] := (by decide +kernel : ∀ t : Fin grid0.N, _)
theorem o10 : (outsAt0 m c t.val t.isLt).2.2.2.1 = (up2 (fun r => N.de (X (tok t r)) (Pe (tok t r)) (Tg (tok t r))) : S512x1024.Idx → EReal) := by
  by_cases h : t.val % 16 = 0
  · rw [outsAt0_A m c t h]; frame_out
    simp only [b0 H t, b1 H t, b2 H t, b3 H t, b4 H t, b5 H t, b6 H t, p2, p6, p7, p8, p9, p10, p11, p15, p16, p17, p18, p19, p20,
      p22, p23, p25, p24, p26, p27, p28]
  · rw [outsAt0_B m c t h]; frame_out
    simp only [b0 H t, b1 H t, b2 H t, b3 H t, b4 H t, b5 H t, b6 H t, p2, p6, p7, p8, p9, p10, p11, p15, p16, p17, p18, p19, p20,
      p22, p23, p25, p24, p26, p27, p28]
omit t in
theorem w10 : (dats m 0 c).arrAt 10 cfg0.N = (up2 (fun t => N.de (X t) (Pe t) (Tg t)) : S8192x1024.Idx → EReal) :=
  (dats m 0 c).arrAt_eq_of_covers 10 _ (by decide +kernel) fun t hf y => by
    blk_simp
    rw [after0_10, o10 H t]
    exact congrArg₂ (fun a b => (up2 (fun t => N.de (X t) (Pe t) (Tg t)) : S8192x1024.Idx → EReal) (ix2 a b))
      (Fin.ext (by simp [tok, idx10 t])) (Fin.ext (by simp [idx10 t]))

/-- The last tile. -/
abbrev lastTile : Fin cfg0.N := ⟨15, by decide +kernel⟩

/-! The three sums over the tokens, after the last tile, and those arrays after the run. -/

omit H t in
theorem z3 (j : S8x128.Idx) : k0_pay3 (F := Ideal) j = 0 := by pointwise [k0_pay3]
omit t in
theorem a11 (j : S8x128.Idx) : (outsAt0 m c lastTile.val lastTile.isLt).2.2.2.2.1 j
    = ((∑ t : Fin 8192, N.loss (X t) (Pe t) (Tg t) : ℝ) : EReal) := by
  rw [Pipeline.eq_sum_fin_of_reset_step_apply_last (fun n h => (outsAt0 m c n h).2.2.2.2.1) 16 (fun _ => 0)
    (fun (p : Fin cfg0.N) j => ((∑ r : Fin 512, N.loss (X (tok p r)) (Pe (tok p r)) (Tg (tok p r)) : ℝ) : EReal))
    (fun t h j => by
      rw [outsAt0_A m c t h]; frame_out
      simp only [b0 H t, b1 H t, b2 H t, b3 H t, b4 H t, b5 H t, b6 H t, p2, p6, p7, p8, p9, p10, p11, p15, p16, p17, p18, p19, p20,
      p22, p23, p25, p24, p26, p27, p28, p14, p13, z3])
    (fun t h j => by
      rw [outsAt0_B m c t h]; frame_out
      simp only [b0 H t, b1 H t, b2 H t, b3 H t, b4 H t, b5 H t, b6 H t, p2, p6, p7, p8, p9, p10, p11, p15, p16, p17, p18, p19, p20,
      p22, p23, p25, p24, p26, p27, p28, p14, p13])
    (le_of_eq N_0) lastTile rfl j, zero_add, sum_coe]
  refine congrArg _ ?_
  exact Fin.sum_mul_add_congr fun s k hl => rfl
omit t in
theorem w11 : (dats m 0 c).arrAt 11 cfg0.N = (fun j => ((∑ t : Fin 8192, N.loss (X t) (Pe t) (Tg t) : ℝ) : EReal) : S8x128.Idx → EReal) :=
  (dats m 0 c).arrAt_eq_of_after_last 11 lastTile (by decide +kernel) _ fun j => by
    blk_simp
    rw [after0_11, a11 H]

omit H t in
theorem z4 (j : S1x1024.Idx) : k0_pay4 (F := Ideal) j = 0 := by pointwise [k0_pay4]
omit t in
theorem a12 (j : S1x1024.Idx) : (outsAt0 m c lastTile.val lastTile.isLt).2.2.2.2.2.1 j
    = ((∑ t : Fin 8192, N.dgp (X t) (Pe t) (Tg t) (j 1) : ℝ) : EReal) := by
  rw [Pipeline.eq_sum_fin_of_reset_step_apply_last (fun n h => (outsAt0 m c n h).2.2.2.2.2.1) 16 (fun _ => 0)
    (fun (p : Fin cfg0.N) j => ((∑ r : Fin 512, N.dgp (X (tok p r)) (Pe (tok p r)) (Tg (tok p r)) (j 1) : ℝ) : EReal))
    (fun t h j => by
      rw [outsAt0_A m c t h]; frame_out
      simp only [b0 H t, b1 H t, b2 H t, b3 H t, b4 H t, b5 H t, b6 H t, p2, p6, p7, p8, p9, p10, p11, p15, p16, p17, p18, p19, p20,
      p22, p23, p25, p24, p26, p27, p28, p14, p1, z4])
    (fun t h j => by
      rw [outsAt0_B m c t h]; frame_out
      simp only [b0 H t, b1 H t, b2 H t, b3 H t, b4 H t, b5 H t, b6 H t, p2, p6, p7, p8, p9, p10, p11, p15, p16, p17, p18, p19, p20,
      p22, p23, p25, p24, p26, p27, p28, p14, p1])
    (le_of_eq N_0) lastTile rfl j, zero_add, sum_coe]
  refine congrArg _ ?_
  exact Fin.sum_mul_add_congr fun s k hl => rfl
omit t in
theorem w12 : (dats m 0 c).arrAt 12 cfg0.N = (fun j => ((∑ t : Fin 8192, N.dgp (X t) (Pe t) (Tg t) (j 1) : ℝ) : EReal) : S1x1024.Idx → EReal) :=
  (dats m 0 c).arrAt_eq_of_after_last 12 lastTile (by decide +kernel) _ fun j => by
    blk_simp
    rw [after0_12, a12 H]

omit H t in
theorem z5 (j : S1x1024.Idx) : k0_pay5 (F := Ideal) j = 0 := by pointwise [k0_pay5]
omit t in
theorem a13 (j : S1x1024.Idx) : (outsAt0 m c lastTile.val lastTile.isLt).2.2.2.2.2.2 j
    = ((∑ t : Fin 8192, N.dgf (X t) (Pe t) (Tg t) (j 1) : ℝ) : EReal) := by
  rw [Pipeline.eq_sum_fin_of_reset_step_apply_last (fun n h => (outsAt0 m c n h).2.2.2.2.2.2) 16 (fun _ => 0)
    (fun (p : Fin cfg0.N) j => ((∑ r : Fin 512, N.dgf (X (tok p r)) (Pe (tok p r)) (Tg (tok p r)) (j 1) : ℝ) : EReal))
    (fun t h j => by
      rw [outsAt0_A m c t h]; frame_out
      simp only [b0 H t, b1 H t, b2 H t, b3 H t, b4 H t, b5 H t, b6 H t, p2, p6, p7, p8, p9, p10, p11, p15, p16, p17, p18, p19, p20,
      p22, p23, p25, p24, p26, p27, p28, p14, p21, z5])
    (fun t h j => by
      rw [outsAt0_B m c t h]; frame_out
      simp only [b0 H t, b1 H t, b2 H t, b3 H t, b4 H t, b5 H t, b6 H t, p2, p6, p7, p8, p9, p10, p11, p15, p16, p17, p18, p19, p20,
      p22, p23, p25, p24, p26, p27, p28, p14, p21])
    (le_of_eq N_0) lastTile rfl j, zero_add, sum_coe]
  refine congrArg _ ?_
  exact Fin.sum_mul_add_congr fun s k hl => rfl
omit t in
theorem w13 : (dats m 0 c).arrAt 13 cfg0.N = (fun j => ((∑ t : Fin 8192, N.dgf (X t) (Pe t) (Tg t) (j 1) : ℝ) : EReal) : S1x1024.Idx → EReal) :=
  (dats m 0 c).arrAt_eq_of_after_last 13 lastTile (by decide +kernel) _ fun j => by
    blk_simp
    rw [after0_13, a13 H]

end HeadKernel
end
-- ==== Proof.HeadClaim.lean ====
/-
  The head's gradient call against the derivative of the forward lines: both runs end with the same seven arrays.
-/
module

public import proofs.«01_k».proof.Defs
public import proofs.«01_k».proof.Proof.HeadRef
public import proofs.«01_k».proof.Proof.HeadKernel
public import proofs.«01_k».proof.Proof.Gen.ReferenceIdeal.Run
public import proofs.«01_k».proof.Proof.Gen.Pre_finite_head

@[expose] public section

set_option maxRecDepth 65536

noncomputable section

open Idealize.ShloMosaic Idealize.SL.Sem Lift
open Cert.KernelIdeal (nD τ sig)
open Idealize.ShloMosaic.StableHlo (launchContents)

namespace HeadClaim

/-- Finite arguments are arrays of reals. -/
theorem holds (m : (ℓ : Loc nD τ sig) → Buf (Elt Ideal) ℓ) (hpre : Cert.Pre_KernelIdeal_finite_head m) (c : Dev nD) :
    ∃ N X Pe Tg, HeadKernel.Holds N m c X Pe Tg := by
  obtain ⟨h0, h1, h2, h3, h4, h5, h6⟩ := hpre c
  obtain ⟨X, hX⟩ := finite2 h0
  obtain ⟨Pe, hP⟩ := finite2 h1
  obtain ⟨Tg, hT⟩ := finite2 h2
  obtain ⟨gp, hgp⟩ := finiteRow h3
  obtain ⟨gf, hgf⟩ := finite1 h4
  obtain ⟨wg, hwg⟩ := finite2 h5
  obtain ⟨wp, hwp⟩ := finite2 h6
  exact ⟨⟨gp, gf, wg, wp⟩, X, Pe, Tg, hX, hP, hT, hgp, hgf, hwg, hwp⟩

theorem algebraic : Cert.algebraic_KernelIdeal_ReferenceIdeal_pre_finite_head := by
  pair_intro
  · run_from Cert.KernelIdeal.Value.run_blocks m g
  · run_from HeadRef.run_stages m' g'
    all_goals
      obtain ⟨N, X, Pe, Tg, H⟩ := holds m hpre c
      simp only [H.h0, H.h1, H.h2, H.h3, H.h4, H.h5, H.h6]
    · rw [HeadKernel.w7 H]; exact HeadRef.v108 N X Pe Tg
    · rw [HeadKernel.w8 H]; exact HeadRef.v110 N X
    · rw [HeadKernel.w9 H]; exact HeadRef.v111 N X Pe Tg
    · rw [HeadKernel.w10 H]; exact HeadRef.v112 N X Pe Tg
    · rw [HeadKernel.w11 H]; exact HeadRef.v113 N X Pe Tg
    · rw [HeadKernel.w12 H]; exact HeadRef.v109 N X Pe Tg
    · rw [HeadKernel.w13 H]; exact HeadRef.v114 N X Pe Tg

end HeadClaim
end
-- ==== Proof.AttnOffsets.lean ====
/- The offsets of the attention backward's blocks, in closed form: at head `h`, key block `j = i 1` and trip `k` of the
   loop over pairs of query blocks, the query rows read and the row of the per-block accumulators updated. -/
module

public import proofs.«01_k».proof.Proof.Gen.Kernel2Ideal.Frame

@[expose] public section

set_option maxRecDepth 16384

noncomputable section

namespace Cert.Kernel2Ideal

open Idealize.ShloMosaic Idealize.ShloMosaic.TcCoe

/-- The loop over pairs of query blocks after block `j` makes `(15 - j) / 2` trips. -/
theorem trips1 : ∀ i : grid0.Coords, (k0_t1_loop i).trips = (15 - (i 1).val) / 2 := by decide +kernel
/-- The second loop, which runs the remainder of the first's unrolling, makes none. -/
theorem trips2 : ∀ i : grid0.Coords, (k0_t2_loop i).trips = 0 := by decide +kernel

theorem off5_1 : ∀ (i : grid0.Coords) (k : Fin (k0_t1_loop i).trips),
    k0_off5 i k 1#32 = ![0, 512 * ((i 1).val + 2 + 2 * k.val), 0] := by decide +kernel
theorem off5_2 : ∀ (i : grid0.Coords) (k : Fin (k0_t1_loop i).trips),
    k0_off5 i k 2#32 = ![0, 512 * min ((i 1).val + 3 + 2 * k.val) 15, 0] := by decide +kernel
theorem off6 : ∀ (i : grid0.Coords) (k : Fin (k0_t1_loop i).trips),
    k0_off6 i k = ![0, 512 * ((i 1).val + 1 + 2 * k.val), 0] := by decide +kernel
theorem off7 : ∀ (i : grid0.Coords) (k : Fin (k0_t1_loop i).trips),
    k0_off7 i k = ![0, (i 1).val + 1 + 2 * k.val, 0, 0] := by decide +kernel
theorem off8 : ∀ (i : grid0.Coords) (k : Fin (k0_t1_loop i).trips),
    k0_off8 i k = ![0, (i 1).val + 1 + 2 * k.val, 0] := by decide +kernel
theorem off9 : ∀ (i : grid0.Coords) (k : Fin (k0_t1_loop i).trips),
    k0_off9 i k = ![0, (i 1).val + 2 + 2 * k.val, 0, 0] := by decide +kernel
theorem off10 : ∀ (i : grid0.Coords) (k : Fin (k0_t1_loop i).trips),
    k0_off10 i k = ![0, (i 1).val + 2 + 2 * k.val, 0] := by decide +kernel

instance (i : grid0.Coords) (k : Fin (k0_t1_loop i).trips) : ClosedOff (k0_off5 i k 1#32) := ⟨_, off5_1 i k⟩
instance (i : grid0.Coords) (k : Fin (k0_t1_loop i).trips) : ClosedOff (k0_off5 i k 2#32) := ⟨_, off5_2 i k⟩
instance (i : grid0.Coords) (k : Fin (k0_t1_loop i).trips) : ClosedOff (k0_off6 i k) := ⟨_, off6 i k⟩
instance (i : grid0.Coords) (k : Fin (k0_t1_loop i).trips) : ClosedOff (k0_off7 i k) := ⟨_, off7 i k⟩
instance (i : grid0.Coords) (k : Fin (k0_t1_loop i).trips) : ClosedOff (k0_off8 i k) := ⟨_, off8 i k⟩
instance (i : grid0.Coords) (k : Fin (k0_t1_loop i).trips) : ClosedOff (k0_off9 i k) := ⟨_, off9 i k⟩
instance (i : grid0.Coords) (k : Fin (k0_t1_loop i).trips) : ClosedOff (k0_off10 i k) := ⟨_, off10 i k⟩

end Cert.Kernel2Ideal

end
-- ==== Proof.AttnState.lean ====
/- One grid point of the attention backward as a function of what its buffers hold: the diagonal block, the trips over
   pairs of later query blocks, the block left over, and the outputs handed on. For any float operations. -/
module

public import proofs.«01_k».proof.Proof.AttnOffsets
public import proofs.«01_k».proof.Proof.Gen.Kernel2Ideal.Loops
public import Idealize.ShloMosaic.Lib.VecWindow

@[expose] public section

set_option maxRecDepth 16384

noncomputable section

namespace Cert.Kernel2Ideal

open Idealize.ShloMosaic Idealize.ShloMosaic.TcCoe
open VecWindow Gen

variable {F : FTy → Type} [FloatOps F]

/-- What the accumulators and the scratch of one grid point hold: the four outputs' blocks, the running row sums of the
    score gradients, and the two double-buffered pairs of products (logits and `do · vᵀ`). -/
structure St (F : FTy → Type) where
  dq : Vec F S1x16x128x512 .f32
  dk : Vec F S1x512x128 .f32
  dv : Vec F S1x512x128 .f32
  dc : Vec F S1x16x512 .f32
  rs : Vec F S512x1 .f32
  sa : Vec F S512x512 .f32
  da : Vec F S512x512 .f32
  sb : Vec F S512x512 .f32
  db : Vec F S512x512 .f32

variable (i : grid0.Coords) (q g : Vec F S1x8192x128 .bf16)

/-- After the diagonal block: the first two pairs of products computed, the accumulators started. -/
def start (kb vb : Vec F S1x512x128 .bf16) (dq : Vec F S1x16x128x512 .f32) (dc : Vec F S1x16x512 .f32) : St F :=
  let sa := k0_pay65 kb (window q (k0_off1 i) S1x512x128.size (k0_off1_inb i))
  let da := k0_pay66 (k0_pay64 vb) (window g (k0_off1 i) S1x512x128.size (k0_off1_inb i))
  { dq := put dq (k0_off3 i) S1x1x128x512.size (k0_pay77 (k0_pay76 (k0_pay63 kb) sa da
      (window dq (k0_off3 i) S1x1x128x512.size (k0_off3_inb i))))
    dk := k0_pay75 (k0_pay69 (window q (k0_off1 i) S1x512x128.size (k0_off1_inb i))) sa da k0_pay60
    dv := k0_pay72 (k0_pay70 (window g (k0_off1 i) S1x512x128.size (k0_off1_inb i))) sa k0_pay61
    dc := put dc (k0_off4 i) S1x1x512.size (k0_pay79 (k0_pay73 sa da)
      (window dc (k0_off4 i) S1x1x512.size (k0_off4_inb i)))
    rs := k0_pay78 (k0_pay73 sa da) k0_pay62
    sa := sa
    da := da
    sb := k0_pay67 (k0_pay63 kb) (window q (k0_off2 i) S1x512x128.size (k0_off2_inb i))
    db := k0_pay68 (k0_pay64 vb) (window g (k0_off2 i) S1x512x128.size (k0_off2_inb i)) }

/-- The first half of a trip: block `i 1 + 1 + 2 k` from the second pair of products, the next block's products into
    the first. -/
def stepA (kv vv : FVec F S512x128 .bf16) (k : Fin (k0_t1_loop i).trips) (s : St F) : St F :=
  { s with
    dq := put s.dq (k0_off7 i k) S1x1x128x512.size (k0_pay20 kv (k0_pay15 s.sb) s.db
      (window s.dq (k0_off7 i k) S1x1x128x512.size (k0_off7_inb i k)))
    dk := k0_pay19 (k0_pay13 (window q (k0_off6 i k) S1x512x128.size (k0_off6_inb i k))) (k0_pay15 s.sb) s.db s.dk
    dv := k0_pay16 (k0_pay14 (window g (k0_off6 i k) S1x512x128.size (k0_off6_inb i k))) (k0_pay15 s.sb) s.dv
    dc := put s.dc (k0_off8 i k) S1x1x512.size (k0_pay23 (k0_pay17 (k0_pay15 s.sb) s.db)
      (window s.dc (k0_off8 i k) S1x1x512.size (k0_off8_inb i k)))
    rs := k0_pay22 (k0_pay21 (k0_pay15 s.sb) s.db s.rs)
    sa := k0_pay11 kv (window q (k0_off5 i k 1#32) S1x512x128.size (k0_off5_inb i k 0))
    da := k0_pay12 vv (window g (k0_off5 i k 1#32) S1x512x128.size (k0_off5_inb i k 0)) }

/-- The second half: block `i 1 + 2 + 2 k` from the first pair of products, the next block's products into the
    second. -/
def stepB (kv vv : FVec F S512x128 .bf16) (k : Fin (k0_t1_loop i).trips) (s : St F) : St F :=
  { s with
    dq := put s.dq (k0_off9 i k) S1x1x128x512.size (k0_pay1 (k0_pay31 kv s.sa s.da
      (window s.dq (k0_off9 i k) S1x1x128x512.size (k0_off9_inb i k))))
    dk := k0_pay30 (window q (k0_off5 i k 1#32) S1x512x128.size (k0_off5_inb i k 0)) s.sa s.da s.dk
    dv := k0_pay27 (window g (k0_off5 i k 1#32) S1x512x128.size (k0_off5_inb i k 0)) s.sa s.dv
    dc := put s.dc (k0_off10 i k) S1x1x512.size (k0_pay3 (k0_pay28 s.sa s.da)
      (window s.dc (k0_off10 i k) S1x1x512.size (k0_off10_inb i k)))
    rs := k0_pay2 (k0_pay28 s.sa s.da) s.rs
    sb := k0_pay24 kv (window q (k0_off5 i k 2#32) S1x512x128.size (k0_off5_inb i k 1))
    db := k0_pay25 vv (window g (k0_off5 i k 2#32) S1x512x128.size (k0_off5_inb i k 1)) }

/-- The state before trip `k`. -/
def trips (kv vv : FVec F S512x128 .bf16) (s : St F) : ℕ → St F
  | 0 => s
  | k + 1 => if h : k < (k0_t1_loop i).trips then stepB i q g kv vv ⟨k, h⟩ (stepA i q g kv vv ⟨k, h⟩ (trips kv vv s k))
    else trips kv vv s k

/-- The last query block, where the number of later blocks is odd. -/
def tail (h : k0_cond2 i = 1#1) (kv : FVec F S512x128 .bf16) (s : St F) : St F :=
  { s with
    dq := put s.dq ![0, 15, 0, 0] S1x1x128x512.size (k0_pay7 kv (k0_pay56 s.sb s.db)
      (window s.dq ![0, 15, 0, 0] S1x1x128x512.size inb_S1x16x128x512_S1x1x128x512_0_15_0_0))
    dk := k0_pay57 (window q k0_off17 S1x512x128.size (k0_off17_inb i h)) s.sb s.db s.dk
    dv := k0_pay54 (window g k0_off17 S1x512x128.size (k0_off17_inb i h)) s.sb s.dv
    dc := put s.dc ![0, 15, 0] S1x1x512.size (k0_pay9 (k0_pay55 s.sb s.db)
      (window s.dc ![0, 15, 0] S1x1x512.size inb_S1x16x512_S1x1x512_0_15_0))
    rs := k0_pay8 (k0_pay55 s.sb s.db) s.rs }

/-- The row sums taken off the key block's own row of `dc`. -/
def finish (s : St F) : St F :=
  { s with
    dc := put s.dc (k0_off4 i) S1x1x512.size (k0_pay10 (window s.dc (k0_off4 i) S1x1x512.size (k0_off4_inb i)) s.rs) }

/-- The whole grid point: what the buffers hold after it, from the blocks it is handed. -/
def point (kb vb : Vec F S1x512x128 .bf16) (dq : Vec F S1x16x128x512 .f32) (dc : Vec F S1x16x512 .f32) : St F :=
  let s := trips i q g (k0_pay63 kb) (k0_pay64 vb) (start i q g kb vb dq dc) (k0_t1_loop i).trips
  finish i (if h : k0_cond2 i = 1#1 then tail i q g h (k0_pay63 kb) s else s)

end Cert.Kernel2Ideal

end
-- ==== Proof.AttnTrip.lean ====
/- One trip of the attention backward's loop, run at a symbolic trip: the buffers go from one state to the next. -/
module

public import proofs.«01_k».proof.Proof.AttnState

@[expose] public section

set_option maxRecDepth 16384

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow Gen

variable {F : FTy → Type} [FloatOps F]

local notation "𝕄" => MT nD τ sig Unit (Elt F) ℕ (UR sig nD τ) ℕ

variable (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x512x128 .bf16) (harg4 : arg4.IsWhole)
  (arg5 : Memref sig .tc .vmem S1x512x128 .bf16) (harg5 : arg5.IsWhole)
  (arg6 : Memref sig .tc .vmem S1x16x128x512 .f32) (harg6 : arg6.IsWhole)
  (arg7 : Memref sig .tc .vmem S1x512x128 .f32) (harg7 : arg7.IsWhole)
  (arg8 : Memref sig .tc .vmem S1x512x128 .f32) (harg8 : arg8.IsWhole)
  (arg9 : Memref sig .tc .vmem S1x16x512 .f32) (harg9 : arg9.IsWhole)
  (arg10 : Memref sig .tc .vmem S512x1 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)

/-- The two query-side inputs, and the accumulators and scratch at state `s`. -/
abbrev held (q g : Vec F S1x8192x128 .bf16) (s : St F) : sProp 𝕄 :=
  iprop(owns (c : Thread nD τ) arg2 fullShare q
    ∗ owns (c : Thread nD τ) arg3 fullShare g
    ∗ owns (c : Thread nD τ) arg6 fullShare s.dq
    ∗ owns (c : Thread nD τ) arg7 fullShare s.dk
    ∗ owns (c : Thread nD τ) arg8 fullShare s.dv
    ∗ owns (c : Thread nD τ) arg9 fullShare s.dc
    ∗ owns (c : Thread nD τ) arg10 fullShare s.rs
    ∗ owns (c : Thread nD τ) arg11 fullShare s.sa
    ∗ owns (c : Thread nD τ) arg12 fullShare s.da
    ∗ owns (c : Thread nD τ) arg13 fullShare s.sb
    ∗ owns (c : Thread nD τ) arg14 fullShare s.db)

/-- A load of a block of a whole buffer reads that window of what the buffer holds. -/
theorem ld_unread {s : Shape} {e : EltTy} {sp : Space} {m : Memref sig .tc sp s e} (h : m.IsWhole) (x : s.Idx → Elt F e)
    (off size : Fin s.rank → ℕ) (inb : ∀ a, off a + size a ≤ s.size a) :
    View.readAt (Elt F) m.view (Rect.unit off size inb).toLoadRect (h.unread x) = window x off size inb := by
  rw [View.readAt_unit _ _ inb rfl inb, h.read_unread]

theorem window_sq {α : Type} (x : Shape.Idx S512x512 → α) (inb) : window (s := S512x512) x ![0, 0] ![512, 512] inb = x := by
  funext y
  exact congrArg x (funext fun a => Fin.ext (by fin_cases a <;> exact (Nat.zero_add _).trans (Nat.one_mul _)))

theorem cov_sq {sp : Space} (v : View sig .tc sp S512x512 .f32) (inb inb')
    (w : Vec F S512x512 .f32) (L : List (View.Piece (Elt F) S512x512 .f32)) :
    v.readCov (Val := Elt F) (⟨Rect.unit (s := S512x512) ![0, 0] ![512, 512] inb, w⟩ :: L) (Rect.unit (s := S512x512) ![0, 0] ![512, 512] inb').toLoadRect = w :=
  View.readCov_full v inb inb' w L

theorem writes_sq {sp : Space} (v : View sig .tc sp S512x512 .f32) (f : v.ty.Contents (Elt F)) (inb)
    (w : Vec F S512x512 .f32) (L : List (View.Piece (Elt F) S512x512 .f32)) :
    v.read (Elt F) (v.writes (Elt F) f (⟨Rect.unit (s := S512x512) ![0, 0] ![512, 512] inb, w⟩ :: L)) = w :=
  View.read_writes_full v f inb w L

theorem window_col {α : Type} (x : Shape.Idx S512x1 → α) (inb) : window (s := S512x1) x ![0, 0] ![512, 1] inb = x := by
  funext y
  exact congrArg x (funext fun a => Fin.ext (by fin_cases a <;> exact (Nat.zero_add _).trans (Nat.one_mul _)))

theorem cov_col {sp : Space} (v : View sig .tc sp S512x1 .f32) (inb inb')
    (w : Vec F S512x1 .f32) (L : List (View.Piece (Elt F) S512x1 .f32)) :
    v.readCov (Val := Elt F) (⟨Rect.unit (s := S512x1) ![0, 0] ![512, 1] inb, w⟩ :: L) (Rect.unit (s := S512x1) ![0, 0] ![512, 1] inb').toLoadRect = w :=
  View.readCov_full v inb inb' w L

theorem writes_col {sp : Space} (v : View sig .tc sp S512x1 .f32) (f : v.ty.Contents (Elt F)) (inb)
    (w : Vec F S512x1 .f32) (L : List (View.Piece (Elt F) S512x1 .f32)) :
    v.read (Elt F) (v.writes (Elt F) f (⟨Rect.unit (s := S512x1) ![0, 0] ![512, 1] inb, w⟩ :: L)) = w :=
  View.read_writes_full v f inb w L

theorem window_blk {α : Type} (x : Shape.Idx S1x512x128 → α) (inb) : window (s := S1x512x128) x ![0, 0, 0] ![1, 512, 128] inb = x := by
  funext y
  exact congrArg x (funext fun a => Fin.ext (by fin_cases a <;> exact (Nat.zero_add _).trans (Nat.one_mul _)))

theorem cov_blk {sp : Space} (v : View sig .tc sp S1x512x128 .f32) (inb inb')
    (w : Vec F S1x512x128 .f32) (L : List (View.Piece (Elt F) S1x512x128 .f32)) :
    v.readCov (Val := Elt F) (⟨Rect.unit (s := S1x512x128) ![0, 0, 0] ![1, 512, 128] inb, w⟩ :: L) (Rect.unit (s := S1x512x128) ![0, 0, 0] ![1, 512, 128] inb').toLoadRect = w :=
  View.readCov_full v inb inb' w L

theorem writes_blk {sp : Space} (v : View sig .tc sp S1x512x128 .f32) (f : v.ty.Contents (Elt F)) (inb)
    (w : Vec F S1x512x128 .f32) (L : List (View.Piece (Elt F) S1x512x128 .f32)) :
    v.read (Elt F) (v.writes (Elt F) f (⟨Rect.unit (s := S1x512x128) ![0, 0, 0] ![1, 512, 128] inb, w⟩ :: L)) = w :=
  View.read_writes_full v f inb w L

/-- Two stores into blocks that lie apart, each a function of what its block held. -/
theorem put2 {s : Shape} {e : EltTy} {sp : Space} {m : Memref sig .tc sp s e} (h : m.IsWhole) (x : s.Idx → Elt F e)
    (off off' size : Fin s.rank → ℕ) (inb : ∀ a, off a + size a ≤ s.size a) (inb' : ∀ a, off' a + size a ≤ s.size a)
    (w : ((a : Fin s.rank) → Fin (size a)) → Elt F e)
    (w' : (((a : Fin s.rank) → Fin (size a)) → Elt F e) → ((a : Fin s.rank) → Fin (size a)) → Elt F e)
    (a : Fin s.rank) (ha : off' a + size a ≤ off a ∨ off a + size a ≤ off' a) :
    m.view.read (Elt F) (m.view.writes (Elt F) (h.unread x)
        [⟨Rect.unit off' size inb', w' (window x off' size inb')⟩, ⟨Rect.unit off size inb, w⟩])
      = put (put x off size w) off' size (w' (window (put x off size w) off' size inb')) := by
  rw [View.read_writes_cons_put _ _ _ _ _ rfl, View.read_writes_cons_put _ _ _ _ _ rfl, View.writes_nil,
    h.read_unread, window_put_of_disjoint x off size off' size inb' w a ha]

set_option maxHeartbeats 4000000 in
theorem trip (arg1 : BitVec 32) (kv vv : FVec F S512x128 .bf16) (z : BitVec 32) (q g : Vec F S1x8192x128 .bf16) (s : St F)
    (k : Fin (k0_t1_loop i).trips) :
    held c arg2 arg3 arg6 arg7 arg8 arg9 arg10 arg11 arg12 arg13 arg14 q g s
      ⊢ wp frame (wpE (defs₀ (F := F)) Variants.none c none) Set.univ
          (k0_t1_body i arg2 harg2 arg3 harg3 arg4 harg4 arg5 harg5 arg6 harg6 arg7 harg7 arg8 harg8 arg9 harg9 arg10 harg10 arg11 harg11 arg12 harg12 arg13 harg13 arg14 harg14 arg1 kv vv z k ())
          (fun _ => held c arg2 arg3 arg6 arg7 arg8 arg9 arg10 arg11 arg12 arg13 arg14 q g
            (stepB i q g kv vv k (stepA i q g kv vv k s))) := by
  obtain ⟨dq, dk, dv, dc, rs, sa, da, sb, db⟩ := s
  unfold held k0_t1_body
  simp only [k0_part1_eq_skeleton, k0_part2_eq_skeleton, k0_part3_eq_skeleton, k0_part4_eq_skeleton]
  unfold owns
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩
  obtain rfl := harg2.eq_unread hf2; obtain rfl := harg3.eq_unread hf3; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec
  sl_step
  isplitl [H2]; rotate_left; isplitl [H3]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
  all_goals
    iexists _; isplitr; swap; · iassumption
    ipureintro
    try delta trip.sl.H10_1 trip.sl.H11_1 trip.sl.H12_1 trip.sl.H7_1 trip.sl.H8_1 trip.sl.r trip.sl.r_1 trip.sl.r_2 trip.sl.r_3 trip.sl.r_4 trip.sl.r_5 trip.sl.r_6 trip.sl.v263 trip.sl.v265 trip.sl.v273 trip.sl.v276 trip.sl.v284 trip.sl.v292 trip.sl.v300
    try simp only [View.readCov_full, View.readAt_full, View.read_writes_full, ld_unread, window_sq, window_col, window_blk, cov_sq, cov_col, cov_blk, writes_sq, writes_col, writes_blk, harg2.read_unread, harg3.read_unread, harg6.read_unread, harg7.read_unread, harg8.read_unread, harg9.read_unread, harg10.read_unread, harg11.read_unread, harg12.read_unread, harg13.read_unread, harg14.read_unread, stepA, stepB]
    first
      | done
      | rfl
      | exact put2 harg6 dq _ _ _ (k0_off7_inb i k) (k0_off9_inb i k) _ (fun x => k0_pay1 (k0_pay31 kv _ _ x)) 1 (by rw [off7, off9]; right; show (i 1).val + 1 + 2 * k.val + 1 ≤ (i 1).val + 2 + 2 * k.val; omega)
      | exact put2 harg9 dc _ _ _ (k0_off8_inb i k) (k0_off10_inb i k) _ (fun x => k0_pay3 _ x) 1 (by rw [off8, off10]; right; show (i 1).val + 1 + 2 * k.val + 1 ≤ (i 1).val + 2 + 2 * k.val; omega)

end Cert.Kernel2Ideal

end
-- ==== Proof.AttnBody.lean ====
/- One grid point of the attention backward run: from what it is handed to `point`. -/
module

public import proofs.«01_k».proof.Proof.AttnTrip

@[expose] public section

set_option maxRecDepth 16384

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow Gen

variable {F : FTy → Type} [FloatOps F]

local notation "𝕄" => MT nD τ sig Unit (Elt F) ℕ (UR sig nD τ) ℕ

variable (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x512x128 .bf16) (harg4 : arg4.IsWhole)
  (arg5 : Memref sig .tc .vmem S1x512x128 .bf16) (harg5 : arg5.IsWhole)
  (arg6 : Memref sig .tc .vmem S1x16x128x512 .f32) (harg6 : arg6.IsWhole)
  (arg7 : Memref sig .tc .vmem S1x512x128 .f32) (harg7 : arg7.IsWhole)
  (arg8 : Memref sig .tc .vmem S1x512x128 .f32) (harg8 : arg8.IsWhole)
  (arg9 : Memref sig .tc .vmem S1x16x512 .f32) (harg9 : arg9.IsWhole)
  (arg10 : Memref sig .tc .vmem S512x1 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (q g : Vec F S1x8192x128 .bf16) (kb vb : Vec F S1x512x128 .bf16) (dq : Vec F S1x16x128x512 .f32) (dc : Vec F S1x16x512 .f32)
  (x7 x8 : Vec F S1x512x128 .f32) (x10 : Vec F S512x1 .f32) (x11 x12 x13 x14 : Vec F S512x512 .f32)

/-- What a grid point is handed. -/
abbrev pre : sProp 𝕄 :=
  iprop(owns (c : Thread nD τ) arg2 fullShare q
    ∗ owns (c : Thread nD τ) arg3 fullShare g
    ∗ owns (c : Thread nD τ) arg4 fullShare kb
    ∗ owns (c : Thread nD τ) arg5 fullShare vb
    ∗ owns (c : Thread nD τ) arg6 fullShare dq
    ∗ owns (c : Thread nD τ) arg7 fullShare x7
    ∗ owns (c : Thread nD τ) arg8 fullShare x8
    ∗ owns (c : Thread nD τ) arg9 fullShare dc
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14)

/-- What it leaves. -/
abbrev post (s : St F) : sProp 𝕄 :=
  iprop(owns (c : Thread nD τ) arg2 fullShare q
    ∗ owns (c : Thread nD τ) arg3 fullShare g
    ∗ owns (c : Thread nD τ) arg4 fullShare kb
    ∗ owns (c : Thread nD τ) arg5 fullShare vb
    ∗ owns (c : Thread nD τ) arg6 fullShare s.dq
    ∗ owns (c : Thread nD τ) arg7 fullShare s.dk
    ∗ owns (c : Thread nD τ) arg8 fullShare s.dv
    ∗ owns (c : Thread nD τ) arg9 fullShare s.dc
    ∗ owns (c : Thread nD τ) arg10 fullShare s.rs
    ∗ owns (c : Thread nD τ) arg11 fullShare s.sa
    ∗ owns (c : Thread nD τ) arg12 fullShare s.da
    ∗ owns (c : Thread nD τ) arg13 fullShare s.sb
    ∗ owns (c : Thread nD τ) arg14 fullShare s.db)

/-- The grid point is the first of its head. -/
abbrev isFirst (i : grid0.Coords) : Prop :=
  Scalar.cmpi .ne (Scalar.extui (Scalar.cmpi .eq (BitVec.ofNat 32 (i 1).val) 0#32) : BitVec 32) 0#32 = 1#1

open Classical in
/-- The accumulators over a head, zeroed at its first point. -/
def dq0 : Vec F S1x16x128x512 .f32 := if isFirst i then k0_pay58 else dq
open Classical in
def dc0 : Vec F S1x16x512 .f32 := if isFirst i then k0_pay59 else dc

/-- The state after the accumulators have been started and the diagonal block's logits computed. -/
abbrev opened : St F :=
  ⟨dq0 i dq, k0_pay60, k0_pay61, dc0 i dc, k0_pay62,
    k0_pay65 kb (window q (k0_off1 i) S1x512x128.size (k0_off1_inb i)), x12, x13, x14⟩

theorem put1 {s : Shape} {e : EltTy} {sp : Space} {m : Memref sig .tc sp s e} (h : m.IsWhole) (x : s.Idx → Elt F e)
    (off size : Fin s.rank → ℕ) (inb : ∀ a, off a + size a ≤ s.size a) (w : ((a : Fin s.rank) → Fin (size a)) → Elt F e) :
    m.view.read (Elt F) (m.view.writes (Elt F) (h.unread x) [⟨Rect.unit off size inb, w⟩]) = put x off size w := by
  rw [View.read_writes_cons_put _ _ _ _ _ rfl, View.writes_nil, h.read_unread]

theorem put_dq {α : Type} (x w : Shape.Idx S1x16x128x512 → α) : put (s := S1x16x128x512) x ![0, 0, 0, 0] ![1, 16, 128, 512] w = w := by
  funext y
  exact (dif_pos fun a => ⟨by fin_cases a <;> exact Nat.zero_le _, by have := (y a).isLt; fin_cases a <;> exact (Nat.zero_add _).symm ▸ this⟩).trans
    (congrArg w (funext fun a => Fin.ext (by fin_cases a <;> rfl)))

theorem put_dc {α : Type} (x w : Shape.Idx S1x16x512 → α) : put (s := S1x16x512) x ![0, 0, 0] ![1, 16, 512] w = w := by
  funext y
  exact (dif_pos fun a => ⟨by fin_cases a <;> exact Nat.zero_le _, by have := (y a).isLt; fin_cases a <;> exact (Nat.zero_add _).symm ▸ this⟩).trans
    (congrArg w (funext fun a => Fin.ext (by fin_cases a <;> rfl)))

theorem put_put1 {s : Shape} {e : EltTy} {sp : Space} {m : Memref sig .tc sp s e} (h : m.IsWhole) (x : s.Idx → Elt F e)
    (off size off' size' : Fin s.rank → ℕ) (inb : ∀ a, off a + size a ≤ s.size a) (inb' : ∀ a, off' a + size' a ≤ s.size a)
    (w : ((a : Fin s.rank) → Fin (size a)) → Elt F e) (w' : ((a : Fin s.rank) → Fin (size' a)) → Elt F e) :
    m.view.read (Elt F) (m.view.writes (Elt F) (h.unread x) [⟨Rect.unit off' size' inb', w'⟩, ⟨Rect.unit off size inb, w⟩])
      = put (put x off size w) off' size' w' := by
  rw [View.read_writes_cons_put _ _ _ _ _ rfl, put1]

theorem ld_put1 {s : Shape} {e : EltTy} {sp : Space} {m : Memref sig .tc sp s e} (h : m.IsWhole) (x : s.Idx → Elt F e)
    (off size off' size' : Fin s.rank → ℕ) (inb : ∀ a, off a + size a ≤ s.size a) (inb' : ∀ a, off' a + size' a ≤ s.size a)
    (w : ((a : Fin s.rank) → Fin (size a)) → Elt F e) :
    View.readAt (Elt F) m.view (Rect.unit off' size' inb').toLoadRect (m.view.writes (Elt F) (h.unread x) [⟨Rect.unit off size inb, w⟩])
      = window (put x off size w) off' size' inb' := by
  rw [View.readAt_unit _ _ inb' rfl inb', put1]

set_option maxHeartbeats 4000000 in
theorem part10 : pre c arg2 arg3 arg4 arg5 arg6 arg7 arg8 arg9 arg10 arg11 arg12 arg13 arg14 q g kb vb dq dc x7 x8 x10 x11 x12 x13 x14
      ⊢ wp frame (wpE (defs₀ (F := F)) Variants.none c none) Set.univ (k0_part10 (F := F) i arg2 harg2 arg3 harg3 arg4 harg4 arg5 harg5 arg6 harg6 arg7 harg7 arg8 harg8 arg9 harg9 arg10 harg10 arg11 harg11 arg12 harg12 arg13 harg13 arg14 harg14)
          (fun r => iprop(⌜r = ⟨BitVec.ofNat 32 (i 1).val, k0_pay63 kb, k0_pay64 vb⟩⌝ ∗
            post c arg2 arg3 arg4 arg5 arg6 arg7 arg8 arg9 arg10 arg11 arg12 arg13 arg14 q g kb vb (opened i q kb dq dc x12 x13 x14))) := by
  unfold pre post
  simp only [k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  by_cases h0 : isFirst i
  · sl_exec (disch := sl_exact h0)
    sl_step
    isplitr
    · ipureintro; simp only [ld_unread, window_blk]
    isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
    all_goals
      iexists _; isplitr; swap; · iassumption
      ipureintro
      try simp only [put_dq, put_dc, if_pos h0, opened, dq0, dc0, View.readCov_full, View.readAt_full, View.read_writes_full, ld_unread, window_sq, window_col, window_blk, cov_sq, cov_col, cov_blk, writes_sq, writes_col, writes_blk, harg2.read_unread, harg3.read_unread, harg4.read_unread, harg5.read_unread, harg6.read_unread, harg7.read_unread, harg8.read_unread, harg9.read_unread, harg10.read_unread, harg11.read_unread, harg12.read_unread, harg13.read_unread, harg14.read_unread, put1, put_put1, ld_put1]
      try rfl
  · sl_exec (disch := sl_exact h0)
    sl_step
    isplitr
    · ipureintro; simp only [ld_unread, window_blk]
    isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
    all_goals
      iexists _; isplitr; swap; · iassumption
      ipureintro
      try simp only [if_neg h0, opened, dq0, dc0, View.readCov_full, View.readAt_full, View.read_writes_full, ld_unread, window_sq, window_col, window_blk, cov_sq, cov_col, cov_blk, writes_sq, writes_col, writes_blk, harg2.read_unread, harg3.read_unread, harg4.read_unread, harg5.read_unread, harg6.read_unread, harg7.read_unread, harg8.read_unread, harg9.read_unread, harg10.read_unread, harg11.read_unread, harg12.read_unread, harg13.read_unread, harg14.read_unread, put1, put_put1, ld_put1]
      try rfl

theorem trip_step (arg1 : BitVec 32) (kv vv : FVec F S512x128 .bf16) (z : BitVec 32) (s : St F)
    (k : Fin (k0_t1_loop i).trips) :
    held c arg2 arg3 arg6 arg7 arg8 arg9 arg10 arg11 arg12 arg13 arg14 q g (trips i q g kv vv s k)
      ⊢ wp frame (wpE (defs₀ (F := F)) Variants.none c none) Set.univ
          (k0_t1_body i arg2 harg2 arg3 harg3 arg4 harg4 arg5 harg5 arg6 harg6 arg7 harg7 arg8 harg8 arg9 harg9 arg10 harg10 arg11 harg11 arg12 harg12 arg13 harg13 arg14 harg14 arg1 kv vv z k ())
          (fun _ => held c arg2 arg3 arg6 arg7 arg8 arg9 arg10 arg11 arg12 arg13 arg14 q g (trips i q g kv vv s (k.val + 1))) := by
  rw [trips, dif_pos k.isLt]
  exact trip c i arg2 harg2 arg3 harg3 arg4 harg4 arg5 harg5 arg6 harg6 arg7 harg7 arg8 harg8 arg9 harg9 arg10 harg10 arg11 harg11 arg12 harg12 arg13 harg13 arg14 harg14 arg1 kv vv z _ _ _ k

set_option maxHeartbeats 8000000
theorem body : pre c arg2 arg3 arg4 arg5 arg6 arg7 arg8 arg9 arg10 arg11 arg12 arg13 arg14 q g kb vb dq dc x7 x8 x10 x11 x12 x13 x14
      ⊢ wp frame (wpE (defs₀ (F := F)) Variants.none c none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14)
          (fun _ => post c arg2 arg3 arg4 arg5 arg6 arg7 arg8 arg9 arg10 arg11 arg12 arg13 arg14 q g kb vb (point i q g kb vb (dq0 i dq) (dc0 i dc))) := by
  simp only [cc0_attn_bwd_eq_skeleton]
  unfold cc0_attn_bwd_skel
  rw [wp_bind]
  iintro H
  iapply (wp_wand_r frame (wpE (defs₀ (F := F)) Variants.none (c : Thread nD τ) none) Set.univ)
  isplitl [H]
  · iapply (part10 c i arg2 harg2 arg3 harg3 arg4 harg4 arg5 harg5 arg6 harg6 arg7 harg7 arg8 harg8 arg9 harg9 arg10 harg10 arg11 harg11 arg12 harg12 arg13 harg13 arg14 harg14 q g kb vb dq dc x7 x8 x10 x11 x12 x13 x14); iexact H
  iintro %r ⟨%hr, H⟩
  subst hr
  simp only [k0_part9_eq_skeleton, k0_part11_eq_skeleton, k0_part12_eq_skeleton, k0_part13_eq_skeleton]
  unfold point post owns
  icases H with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  have htr : (k0_t2_loop i).trips = 0 := trips2 i
  sl_exec
  sl_for (fun k _ => held c arg2 arg3 arg6 arg7 arg8 arg9 arg10 arg11 arg12 arg13 arg14 q g (trips i q g (k0_pay63 kb) (k0_pay64 vb) (start i q g kb vb (dq0 i dq) (dc0 i dc)) k)) $$ [H2 H3 H6 H7 H8 H9 H10 H11 H12 H13 H14]
  · exact fun k acc => trip_step c i arg2 harg2 arg3 harg3 arg4 harg4 arg5 harg5 arg6 harg6 arg7 harg7 arg8 harg8 arg9 harg9 arg10 harg10 arg11 harg11 arg12 harg12 arg13 harg13 arg14 harg14 q g _ (k0_pay63 kb) (k0_pay64 vb) _ _ k
  · unfold held owns
    isplitl [H2]; rotate_left; isplitl [H3]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
    all_goals
      iexists _; isplitr; swap; · iassumption
      ipureintro
      try delta body.sl.H10_1 body.sl.H7_1 body.sl.H8_1 body.sl.H13_1 body.sl.H14_1 body.sl.H12_1 body.sl.r body.sl.r_1 body.sl.r_2 body.sl.r_3 body.sl.v74
      try simp only [trips, start, opened, View.readCov_full, View.readAt_full, View.read_writes_full, ld_unread, window_sq, window_col, window_blk, cov_sq, cov_col, cov_blk, writes_sq, writes_col, writes_blk, harg2.read_unread, harg3.read_unread, harg4.read_unread, harg5.read_unread, harg6.read_unread, harg7.read_unread, harg8.read_unread, harg9.read_unread, harg10.read_unread, harg11.read_unread, harg12.read_unread, harg13.read_unread, harg14.read_unread, put1, put_put1, ld_put1]
      try rfl
  iintro %acc HI
  generalize trips i q g (k0_pay63 kb) (k0_pay64 vb) (start i q g kb vb (dq0 i dq) (dc0 i dc)) _ = S
  obtain ⟨dq, dk, dv, dc, rs, sa, da, sb, db⟩ := S
  unfold held owns
  icases HI with ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩
  obtain rfl := harg2.eq_unread hf2; obtain rfl := harg3.eq_unread hf3; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  by_cases h2 : k0_cond2 i = 1#1
  · sl_exec (disch := sl_exact h2)
    sl_step
    isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
    all_goals
      iexists _; isplitr; swap; · iassumption
      ipureintro
      try delta body.sl.r_4 body.sl.r_5 body.sl.r body.sl.v147 body.sl.v149 body.sl.v188 body.sl.v202 body.sl.H10_1_1 body.sl.H9_1
      try simp only [dif_pos h2, finish, tail, View.readCov_full, View.readAt_full, View.read_writes_full, ld_unread, window_sq, window_col, window_blk, cov_sq, cov_col, cov_blk, writes_sq, writes_col, writes_blk, harg2.read_unread, harg3.read_unread, harg4.read_unread, harg5.read_unread, harg6.read_unread, harg7.read_unread, harg8.read_unread, harg9.read_unread, harg10.read_unread, harg11.read_unread, harg12.read_unread, harg13.read_unread, harg14.read_unread, put1, put_put1, ld_put1]
      try rfl
  · sl_exec (disch := sl_exact h2)
    sl_step
    isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
    all_goals
      iexists _; isplitr; swap; · iassumption
      ipureintro
      try simp only [dif_neg h2, finish, View.readCov_full, View.readAt_full, View.read_writes_full, ld_unread, window_sq, window_col, window_blk, cov_sq, cov_col, cov_blk, writes_sq, writes_col, writes_blk, harg2.read_unread, harg3.read_unread, harg4.read_unread, harg5.read_unread, harg6.read_unread, harg7.read_unread, harg8.read_unread, harg9.read_unread, harg10.read_unread, harg11.read_unread, harg12.read_unread, harg13.read_unread, harg14.read_unread, put1, put_put1, ld_put1]
      try rfl

end Cert.Kernel2Ideal

end
-- ==== Proof.AttnFrame.lean ====
/- The attention backward launched: what its outputs hold grid point by grid point, and the whole run. -/
module

public import proofs.«01_k».proof.Proof.AttnBody
public import Idealize.ShloMosaic.Lib.Claim

@[expose] public section

set_option maxRecDepth 16384

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A head's first point is the one its key block is the first of. -/
theorem isFirst_iff : ∀ t : Fin cfg0.N, isFirst (grid0.coords t) ↔ t.val % 16 = 0 :=
  (by decide +kernel : ∀ t : Fin grid0.N, isFirst (grid0.coords t) ↔ t.val % 16 = 0)

/-- Point `t` run from the accumulators `dq` and `dc`. -/
def run (c : Dev nD) (t : Fin cfg0.N) (dq : Vec F S1x16x128x512 .f32) (dc : Vec F S1x16x512 .f32) : St F :=
  point (grid0.coords t) (iblk m c 0 t) (iblk m c 1 t) (iblk m c 2 t) (iblk m c 3 t) dq dc

/-- What point `n` leaves: from zero at a head's first point, from the point before otherwise. -/
def state (c : Dev nD) : (n : ℕ) → n < cfg0.N → St F
  | 0, hn => run m c ⟨0, hn⟩ k0_pay58 k0_pay59
  | n + 1, hn =>
    if (n + 1) % 16 = 0 then run m c ⟨n + 1, hn⟩ k0_pay58 k0_pay59
    else run m c ⟨n + 1, hn⟩ (state c n (Nat.lt_of_succ_lt hn)).dq (state c n (Nat.lt_of_succ_lt hn)).dc

theorem state_first (c : Dev nD) (t : Fin cfg0.N) (h : t.val % 16 = 0) :
    state m c t.val t.isLt = run m c t k0_pay58 k0_pay59 := by
  obtain ⟨n, hn⟩ := t
  cases n with
  | zero => rfl
  | succ n => exact if_pos h

theorem state_later (c : Dev nD) (t : Fin cfg0.N) (h : ¬t.val % 16 = 0) :
    state m c t.val t.isLt = run m c t (state m c (t.val - 1) (Nat.lt_of_le_of_lt (Nat.sub_le _ _) t.isLt)).dq
      (state m c (t.val - 1) (Nat.lt_of_le_of_lt (Nat.sub_le _ _) t.isLt)).dc := by
  obtain ⟨n, hn⟩ := t
  cases n with
  | zero => exact absurd (Nat.zero_mod _) h
  | succ n => exact if_neg h

/-- The pipeline's data: inputs keep their blocks, outputs are at `state`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (state m c t.val t.isLt).dq
    | ⟨5, _⟩ => (state m c t.val t.isLt).dk
    | ⟨6, _⟩ => (state m c t.val t.isLt).dv
    | ⟨7, _⟩ => (state m c t.val t.isLt).dc
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (state m c t.val t.isLt).dq := by dsimp only [dats]
theorem after0_5 (c : Dev nD) (t : Fin cfg0.N) : (dats m 0 c).after 5 t = (state m c t.val t.isLt).dk := by dsimp only [dats]
theorem after0_6 (c : Dev nD) (t : Fin cfg0.N) : (dats m 0 c).after 6 t = (state m c t.val t.isLt).dv := by dsimp only [dats]
theorem after0_7 (c : Dev nD) (t : Fin cfg0.N) : (dats m 0 c).after 7 t = (state m c t.val t.isLt).dc := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Past a head's first point the accumulators hold what the point before left. -/
theorem before0_4 (c : Dev nD) (t : Fin cfg0.N) (h : ¬t.val % 16 = 0) (d) :
    (dats m 0 c).before 4 t d = (state m c (t.val - 1) (Nat.lt_of_le_of_lt (Nat.sub_le _ _) t.isLt)).dq := by
  rw [Dat.before_out_kept _ 4 rfl t (by omega) (Bool.eq_false_iff.mpr fun h' => by have := (flush0_4 _).mp h'; dsimp only at this; omega)
    (fun _ => rfl) (fun _ _ => rfl)]
  dsimp only [dats]
theorem before0_7 (c : Dev nD) (t : Fin cfg0.N) (h : ¬t.val % 16 = 0) (d) :
    (dats m 0 c).before 7 t d = (state m c (t.val - 1) (Nat.lt_of_le_of_lt (Nat.sub_le _ _) t.isLt)).dc := by
  rw [Dat.before_out_kept _ 7 rfl t (by omega) (Bool.eq_false_iff.mpr fun h' => by have := (flush0_7 _).mp h'; dsimp only at this; omega)
    (fun _ => rfl) (fun _ _ => rfl)]
  dsimp only [dats]

/-- The point run from what the accumulators hold before it is `state`. -/
theorem state_before (c : Dev nD) (t : Fin cfg0.N) (d4 d7) :
    point (grid0.coords t) (iblk m c 0 t) (iblk m c 1 t) (iblk m c 2 t) (iblk m c 3 t)
      (dq0 (grid0.coords t) ((dats m 0 c).before 4 t d4)) (dc0 (grid0.coords t) ((dats m 0 c).before 7 t d7))
      = state m c t.val t.isLt := by
  unfold dq0 dc0
  by_cases h : t.val % 16 = 0
  · rw [state_first m c t h, if_pos ((isFirst_iff t).mpr h), if_pos ((isFirst_iff t).mpr h)]; rfl
  · rw [state_later m c t h, if_neg (fun h' => h ((isFirst_iff t).mp h')), if_neg (fun h' => h ((isFirst_iff t).mp h')),
      before0_4 m c t h, before0_7 m c t h]; rfl

abbrev mem0 (t : Fin cfg0.N) : Memref sig .tc .vmem S1x8192x128 .bf16 := win0_0.stage (cfg0.slots t 0)
abbrev mem1 (t : Fin cfg0.N) : Memref sig .tc .vmem S1x8192x128 .bf16 := win0_1.stage (cfg0.slots t 1)
abbrev mem2 (t : Fin cfg0.N) : Memref sig .tc .vmem S1x512x128 .bf16 := win0_2.stage (cfg0.slots t 2)
abbrev mem3 (t : Fin cfg0.N) : Memref sig .tc .vmem S1x512x128 .bf16 := win0_3.stage (cfg0.slots t 3)
abbrev mem4 (t : Fin cfg0.N) : Memref sig .tc .vmem S1x16x128x512 .f32 := win0_4.stage (cfg0.slots t 4)
abbrev mem5 (t : Fin cfg0.N) : Memref sig .tc .vmem S1x512x128 .f32 := win0_5.stage (cfg0.slots t 5)
abbrev mem6 (t : Fin cfg0.N) : Memref sig .tc .vmem S1x512x128 .f32 := win0_6.stage (cfg0.slots t 6)
abbrev mem7 (t : Fin cfg0.N) : Memref sig .tc .vmem S1x16x512 .f32 := win0_7.stage (cfg0.slots t 7)
abbrev scr0 : Memref sig .tc .vmem S512x1 .f32 := Memref.whole cc0_scratch0
abbrev scr1 : Memref sig .tc .vmem S512x512 .f32 := Memref.whole cc0_scratch1
abbrev scr2 : Memref sig .tc .vmem S512x512 .f32 := Memref.whole cc0_scratch2
abbrev scr3 : Memref sig .tc .vmem S512x512 .f32 := Memref.whole cc0_scratch3
abbrev scr4 : Memref sig .tc .vmem S512x512 .f32 := Memref.whole cc0_scratch4

/-- The pipeline's invariant: the scratch buffers at some contents, and the generator register. -/
theorem invariant_eq (c : Dev nD) :
    (Pipeline.ΦA spec0 c : sProp 𝕄)
      = iprop(iprop((∃ d, owns (c : Thread nD τ) scr0 fullShare d) ∗ (∃ d, owns (c : Thread nD τ) scr1 fullShare d)
        ∗ (∃ d, owns (c : Thread nD τ) scr2 fullShare d) ∗ (∃ d, owns (c : Thread nD τ) scr3 fullShare d)
        ∗ (∃ d, owns (c : Thread nD τ) scr4 fullShare d)) ∗ (∃ r : PrngReg, prngReg c r)) := by
  unfold Pipeline.ΦA; rw [scopedRest0_eq]; simp only [scr0, scr1, scr2, scr3, scr4, owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, invariant_eq]
  iintro ⟨⟨⟨⟨%x0, HS0⟩, ⟨%x1, HS1⟩, ⟨%x2, HS2⟩, ⟨%x3, HS3⟩, ⟨%x4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := body c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7))
    scr0 (Memref.isWhole_whole _) scr1 (Memref.isWhole_whole _) scr2 (Memref.isWhole_whole _) scr3 (Memref.isWhole_whole _) scr4 (Memref.isWhole_whole _)
    (iblk m c 0 t) (iblk m c 1 t) (iblk m c 2 t) (iblk m c 3 t) ((dats m 0 c).before 4 t d4) ((dats m 0 c).before 7 t d7)
    ((dats m 0 c).before 5 t d5) ((dats m 0 c).before 6 t d6) x0 x1 x2 x3 x4
  rw [state_before m c t d4 d7] at hb
  iapply (wp_wand_r frame (wpE (defs₀ (F := F)) Variants.none (c : Thread nD τ) none) Set.univ)
  isplitl [H0 H1 H2 H3 H4 H5 H6 H7 HS0 HS1 HS2 HS3 HS4]
  · iapply hb
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [HS0]; rotate_left; isplitl [HS1]; rotate_left; isplitl [HS2]; rotate_left; isplitl [HS3]; rotate_left
    all_goals iassumption
  iintro %_ ⟨H0, H1, H2, H3, H4, H5, H6, H7, HS0, HS1, HS2, HS3, HS4⟩
  isplitl [HS0 HS1 HS2 HS3 HS4 Hg]
  · isplitl [HS0 HS1 HS2 HS3 HS4]
    · isplitl [HS0]; rotate_left; isplitl [HS1]; rotate_left; isplitl [HS2]; rotate_left; isplitl [HS3]; rotate_left
      all_goals iexists _; iassumption
    iexact Hg
  isplitl [Ho]; rotate_left
  isplitl [H0]; rotate_left; isplitl [H1]; rotate_left; isplitl [H2]; rotate_left; isplitl [H3]; rotate_left; isplitl [H4]; rotate_left; isplitl [H5]; rotate_left; isplitl [H6]; rotate_left
  all_goals iassumption

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what its windows leave, every other buffer at what the lines after the
    kernel leave, every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged, and every semaphore at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel2Ideal

end
-- ==== Proof.AttnWords.lean ====
/- The attention backward over words: the same program under the other name, so the same run. -/
module

public import proofs.«01_k».proof.Proof.AttnFrame
public import proofs.«01_k».proof.Proof.Gen.Kernel2
public import proofs.«01_k».proof.Defs

@[expose] public section

set_option maxRecDepth 65536

noncomputable section

namespace AttnWords

open Idealize.ShloMosaic Idealize.ShloMosaic.TcCoe Idealize.SL.Sem

section
open Cert.Kernel2Ideal
/-- The frame of the idealized program, read at words. -/
def frameIdeal : Prop :=
  ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
end

section
open Cert.Kernel2
def frameWords : Prop :=
  ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
end

theorem same : frameIdeal = frameWords := by sl_kernel_rfl

theorem frame_words : Cert.quiescent_Kernel2 (hKernel2 := Cert.Kernel2.Gen.facts) := fun m ρ _ =>
  (same.mp fun m ρ => Cert.Kernel2Ideal.frame_attn m ρ : frameWords) m ρ

end AttnWords

end
-- ==== Proof.AttnMath.lean ====
/-
  The attention backward over the reals, one head at a time: the weights, the score gradients, and the sums the kernel's
  blocks add up to. Also reading and writing a block of a larger array of reals.
-/
module

public import proofs.«01_k».proof.Proof.Lift
public import Idealize.ShloMosaic.Lib.VecWindow
public import Idealize.ShloMosaic.Lib.Pipeline.ValueKit

@[expose] public section

noncomputable section

namespace Lift

open Idealize.ShloMosaic

/-- A rank-4 array of reals. -/
def up4 {k l m n : ℕ} (f : Fin k → Fin l → Fin m → Fin n → ℝ) : (⟨4, ![k, l, m, n]⟩ : Shape).Idx → EReal :=
  fun j => (f (j 0) (j 1) (j 2) (j 3) : EReal)

@[pointwise] theorem up4_apply {k l m n : ℕ} (f : Fin k → Fin l → Fin m → Fin n → ℝ) (j : (⟨4, ![k, l, m, n]⟩ : Shape).Idx) :
    up4 f j = (f (j 0) (j 1) (j 2) (j 3) : EReal) := rfl

theorem finite3 {l m n : ℕ} {a b : FVec Ideal ⟨3, ![l, m, n]⟩ .f32} (h : cmpf .olt (Host.absf a) b = fun _ => 1#1)
    (hb : ∀ j, b j = Ideal.ofBits .f32 0x7F800000#32 := by intro j; rfl) : ∃ f : Fin l → Fin m → Fin n → ℝ, a = up3 f := by
  choose f hf using real_of_finite h hb
  exact ⟨fun i k p => f (ix3 i k p), funext fun j => (hf j).trans (congrArg (fun k => (f k : EReal)) (eq_ix3 j))⟩

end Lift

namespace Attn

open Idealize.ShloMosaic Lift VecWindow

/-- Token `b` of token block `n`; a block past the last is the last one. -/
def row (n : ℕ) (b : Fin 512) : Fin 8192 := ⟨512 * min n 15 + b.val, by omega⟩

theorem row_le {j i : ℕ} (hj : j ≤ 15) (hi : i ≤ 15) (s t : Fin 512) :
    row j s ≤ row i t ↔ j < i ∨ j = i ∧ s ≤ t := by
  simp only [row, Fin.le_def]; omega

/-! ### Blocks of an array -/

section Blocks

variable {off : Fin 3 → ℕ} {off4 : Fin 4 → ℕ}

/-- The rows of a token block. -/
theorem window_rows (A : Fin 8192 → Fin 128 → ℝ) (n : ℕ) (h : off = ![0, 512 * min n 15, 0])
    (inb : ∀ a, off a + (![1, 512, 128] : Fin 3 → ℕ) a ≤ (![1, 8192, 128] : Fin 3 → ℕ) a) :
    window (s := ⟨3, ![1, 8192, 128]⟩) (up3 fun _ => A) off ![1, 512, 128] inb = up3 fun _ b => A (row n b) := by
  subst h
  funext y
  have h1 : (Rect.unit (s := ⟨3, ![1, 8192, 128]⟩) ![0, 512 * min n 15, 0] ![1, 512, 128] inb).emb y 1 = row n (y 1) :=
    Fin.ext (by show 512 * min n 15 + 1 * (y 1).val = _; rw [one_mul]; rfl)
  have h2 : (Rect.unit (s := ⟨3, ![1, 8192, 128]⟩) ![0, 512 * min n 15, 0] ![1, 512, 128] inb).emb y 2 = y 2 :=
    Fin.ext (by show 0 + 1 * (y 2).val = _; omega)
  simp only [window, up3, h1, h2]

theorem window_row4 (X : Fin 16 → Fin 128 → Fin 512 → ℝ) (i : Fin 16) (h : off4 = ![0, i.val, 0, 0])
    (inb : ∀ a, off4 a + (![1, 1, 128, 512] : Fin 4 → ℕ) a ≤ (![1, 16, 128, 512] : Fin 4 → ℕ) a) :
    window (s := ⟨4, ![1, 16, 128, 512]⟩) (up4 fun _ => X) off4 ![1, 1, 128, 512] inb = up4 fun _ _ => X i := by
  subst h
  funext y
  have h0 := (y 1).isLt
  have h1 : (Rect.unit (s := ⟨4, ![1, 16, 128, 512]⟩) ![0, i.val, 0, 0] ![1, 1, 128, 512] inb).emb y 1 = i :=
    Fin.ext (by show i.val + 1 * (y 1).val = _; change (y 1).val < 1 at h0; omega)
  have h2 : (Rect.unit (s := ⟨4, ![1, 16, 128, 512]⟩) ![0, i.val, 0, 0] ![1, 1, 128, 512] inb).emb y 2 = y 2 :=
    Fin.ext (by show 0 + 1 * (y 2).val = _; omega)
  have h3 : (Rect.unit (s := ⟨4, ![1, 16, 128, 512]⟩) ![0, i.val, 0, 0] ![1, 1, 128, 512] inb).emb y 3 = y 3 :=
    Fin.ext (by show 0 + 1 * (y 3).val = _; omega)
  simp only [window, up4, h1, h2, h3]

theorem window_row3 (X : Fin 16 → Fin 512 → ℝ) (i : Fin 16) (h : off = ![0, i.val, 0])
    (inb : ∀ a, off a + (![1, 1, 512] : Fin 3 → ℕ) a ≤ (![1, 16, 512] : Fin 3 → ℕ) a) :
    window (s := ⟨3, ![1, 16, 512]⟩) (up3 fun _ => X) off ![1, 1, 512] inb = up3 fun _ _ => X i := by
  subst h
  funext y
  have h0 := (y 1).isLt
  have h1 : (Rect.unit (s := ⟨3, ![1, 16, 512]⟩) ![0, i.val, 0] ![1, 1, 512] inb).emb y 1 = i :=
    Fin.ext (by show i.val + 1 * (y 1).val = _; change (y 1).val < 1 at h0; omega)
  have h2 : (Rect.unit (s := ⟨3, ![1, 16, 512]⟩) ![0, i.val, 0] ![1, 1, 512] inb).emb y 2 = y 2 :=
    Fin.ext (by show 0 + 1 * (y 2).val = _; omega)
  simp only [window, up3, h1, h2]

theorem put_row4 (X : Fin 16 → Fin 128 → Fin 512 → ℝ) (w : Fin 128 → Fin 512 → ℝ) (i : Fin 16) (h : off4 = ![0, i.val, 0, 0]) :
    put (s := ⟨4, ![1, 16, 128, 512]⟩) (up4 fun _ => X) off4 ![1, 1, 128, 512] (up4 (k := 1) (l := 1) fun _ _ => w)
      = up4 fun _ => Function.update X i w := by
  subst h
  funext y
  have h0 : (y 0).val < 1 := (y 0).isLt
  have h2 := (y 2).isLt
  have h3 := (y 3).isLt
  by_cases hy : y 1 = i
  · unfold put
    rw [dif_pos]
    · simp only [up4, Rect.unitLocal, hy, Function.update_self]
      rfl
    · intro a; fin_cases a
      · show 0 ≤ (y 0).val ∧ (y 0).val < 0 + 1; omega
      · show i.val ≤ (y 1).val ∧ (y 1).val < i.val + 1; rw [hy]; omega
      · show 0 ≤ (y 2).val ∧ (y 2).val < 0 + _; exact ⟨Nat.zero_le _, by rw [Nat.zero_add]; exact h2⟩
      · show 0 ≤ (y 3).val ∧ (y 3).val < 0 + _; exact ⟨Nat.zero_le _, by rw [Nat.zero_add]; exact h3⟩
  · unfold put
    rw [dif_neg]
    · exact congrArg (fun w : Fin 128 → Fin 512 → ℝ => ((w (y 2) (y 3) : ℝ) : EReal)) (Function.update_of_ne hy _ _).symm
    · intro hh
      have h1 : i.val ≤ (y 1).val ∧ (y 1).val < i.val + 1 := hh 1
      exact hy (Fin.ext (by omega))

theorem put_row3 (X : Fin 16 → Fin 512 → ℝ) (w : Fin 512 → ℝ) (i : Fin 16) (h : off = ![0, i.val, 0]) :
    put (s := ⟨3, ![1, 16, 512]⟩) (up3 fun _ => X) off ![1, 1, 512] (up3 (l := 1) (m := 1) fun _ _ => w)
      = up3 fun _ => Function.update X i w := by
  subst h
  funext y
  have h0 : (y 0).val < 1 := (y 0).isLt
  have h2 := (y 2).isLt
  by_cases hy : y 1 = i
  · unfold put
    rw [dif_pos]
    · simp only [up3, Rect.unitLocal, hy, Function.update_self]
      rfl
    · intro a; fin_cases a
      · show 0 ≤ (y 0).val ∧ (y 0).val < 0 + 1; omega
      · show i.val ≤ (y 1).val ∧ (y 1).val < i.val + 1; rw [hy]; omega
      · show 0 ≤ (y 2).val ∧ (y 2).val < 0 + _; exact ⟨Nat.zero_le _, by rw [Nat.zero_add]; exact h2⟩
  · unfold put
    rw [dif_neg]
    · exact congrArg (fun w : Fin 512 → ℝ => ((w (y 2) : ℝ) : EReal)) (Function.update_of_ne hy _ _).symm
    · intro hh
      have h1 : i.val ≤ (y 1).val ∧ (y 1).val < i.val + 1 := hh 1
      exact hy (Fin.ext (by omega))

end Blocks

/-! ### One head -/

/-- What the kernel is handed of one head: queries, output gradients, keys and values, each with its extra columns. -/
structure Head where
  A : Fin 8192 → Fin 128 → ℝ
  G : Fin 8192 → Fin 128 → ℝ
  K : Fin 8192 → Fin 128 → ℝ
  W : Fin 8192 → Fin 128 → ℝ

namespace Head

variable (H : Head)

/-- The exponent of the weight of key `s` for query `t`. -/
def lg (s t : Fin 8192) : ℝ := ∑ l, H.K s l * H.A t l
/-- The weight. -/
def P (s t : Fin 8192) : ℝ := if s ≤ t then Real.exp (H.lg s t) else 0
/-- The weight's gradient, less the row's mean. -/
def dp (s t : Fin 8192) : ℝ := ∑ l, H.W s l * H.G t l
/-- The score's gradient. -/
def dS (s t : Fin 8192) : ℝ := H.P s t * H.dp s t

/-- What query block `i` adds to the gradients of key block `j`: -/
def dvB (j i : ℕ) (s : Fin 512) (l : Fin 128) : ℝ := ∑ t, H.P (row j s) (row i t) * H.G (row i t) l
def dkB (j i : ℕ) (s : Fin 512) (l : Fin 128) : ℝ := ∑ t, H.dS (row j s) (row i t) * H.A (row i t) l
def rsB (j i : ℕ) (s : Fin 512) : ℝ := ∑ t, H.dS (row j s) (row i t)
/-- and what key block `j` adds to those of query block `i`. -/
def dqB (j i : ℕ) (l : Fin 128) (b : Fin 512) : ℝ := ∑ s, H.K (row j s) l * H.dS (row j s) (row i b)
def csB (j i : ℕ) (b : Fin 512) : ℝ := ∑ s, H.dS (row j s) (row i b)

/-! The accumulators of key block `j` after the query blocks `j ≤ i < n`. -/

def qAt (X : Fin 16 → Fin 128 → Fin 512 → ℝ) (j n : ℕ) (i : Fin 16) (l : Fin 128) (b : Fin 512) : ℝ :=
  X i l b + if j ≤ i.val ∧ i.val < n then H.dqB j i l b else 0
def cAt (Y : Fin 16 → Fin 512 → ℝ) (j n : ℕ) (i : Fin 16) (b : Fin 512) : ℝ :=
  Y i b + if j ≤ i.val ∧ i.val < n then H.csB j i b else 0
def kAt (j n : ℕ) (s : Fin 512) (l : Fin 128) : ℝ := ∑ i ∈ Finset.Ico j n, H.dkB j i s l
def vAt (j n : ℕ) (s : Fin 512) (l : Fin 128) : ℝ := ∑ i ∈ Finset.Ico j n, H.dvB j i s l
def rAt (j n : ℕ) (s : Fin 512) : ℝ := ∑ i ∈ Finset.Ico j n, H.rsB j i s

variable {H} {X : Fin 16 → Fin 128 → Fin 512 → ℝ} {Y : Fin 16 → Fin 512 → ℝ} {j n : ℕ}

theorem qAt_self : H.qAt X j j = X := by
  funext i l b; rw [qAt, if_neg (by omega), add_zero]
theorem cAt_self : H.cAt Y j j = Y := by
  funext i b; rw [cAt, if_neg (by omega), add_zero]
theorem kAt_self : H.kAt j j = fun _ _ => 0 := by
  funext s l; rw [kAt, Finset.Ico_self, Finset.sum_empty]
theorem vAt_self : H.vAt j j = fun _ _ => 0 := by
  funext s l; rw [vAt, Finset.Ico_self, Finset.sum_empty]
theorem rAt_self : H.rAt j j = fun _ => 0 := by
  funext s; rw [rAt, Finset.Ico_self, Finset.sum_empty]

theorem qAt_succ (h : j ≤ n) (i : Fin 16) (hi : i.val = n) :
    Function.update (H.qAt X j n) i (fun l b => H.qAt X j n i l b + H.dqB j n l b) = H.qAt X j (n + 1) := by
  subst hi
  funext i' l b
  rcases eq_or_ne i' i with rfl | hne
  · rw [Function.update_self, qAt, qAt, if_neg (by omega), if_pos (by omega), add_zero]
  · have : i'.val ≠ i.val := fun e => hne (Fin.ext e)
    rw [Function.update_of_ne hne, qAt, qAt]
    by_cases hc : j ≤ i'.val ∧ i'.val < i.val
    · rw [if_pos hc, if_pos (by omega)]
    · rw [if_neg hc, if_neg (by omega)]

theorem cAt_succ (h : j ≤ n) (i : Fin 16) (hi : i.val = n) :
    Function.update (H.cAt Y j n) i (fun b => H.cAt Y j n i b + H.csB j n b) = H.cAt Y j (n + 1) := by
  subst hi
  funext i' b
  rcases eq_or_ne i' i with rfl | hne
  · rw [Function.update_self, cAt, cAt, if_neg (by omega), if_pos (by omega), add_zero]
  · have : i'.val ≠ i.val := fun e => hne (Fin.ext e)
    rw [Function.update_of_ne hne, cAt, cAt]
    by_cases hc : j ≤ i'.val ∧ i'.val < i.val
    · rw [if_pos hc, if_pos (by omega)]
    · rw [if_neg hc, if_neg (by omega)]

theorem kAt_succ (h : j ≤ n) (s : Fin 512) (l : Fin 128) : H.kAt j n s l + H.dkB j n s l = H.kAt j (n + 1) s l :=
  (Finset.sum_Ico_succ_top h _).symm
theorem vAt_succ (h : j ≤ n) (s : Fin 512) (l : Fin 128) : H.vAt j n s l + H.dvB j n s l = H.vAt j (n + 1) s l :=
  (Finset.sum_Ico_succ_top h _).symm
theorem rAt_succ (h : j ≤ n) (s : Fin 512) : H.rAt j n s + H.rsB j n s = H.rAt j (n + 1) s :=
  (Finset.sum_Ico_succ_top h _).symm

/-! The gradients of the query blocks after the key blocks before `j`. -/

variable (H)

def QT (j : ℕ) (i : Fin 16) (l : Fin 128) (b : Fin 512) : ℝ :=
  ∑ j' ∈ Finset.range j, if j' ≤ i.val then H.dqB j' i l b else 0
def CT (j : ℕ) (i : Fin 16) (b : Fin 512) : ℝ :=
  (∑ j' ∈ Finset.range j, if j' ≤ i.val then H.csB j' i b else 0) - if i.val < j then H.rAt i 16 b else 0

variable {H}

theorem QT_zero : H.QT 0 = fun _ _ _ => 0 := by
  funext i l b; rw [QT, Finset.range_zero, Finset.sum_empty]
theorem CT_zero : H.CT 0 = fun _ _ => 0 := by
  funext i b; rw [CT, Finset.range_zero, Finset.sum_empty, if_neg (by omega), sub_zero]

theorem QT_succ (j : ℕ) : H.qAt (H.QT j) j 16 = H.QT (j + 1) := by
  funext i l b
  rw [qAt, QT, QT, Finset.sum_range_succ]
  congr 1
  by_cases h : j ≤ i.val
  · rw [if_pos h, if_pos ⟨h, i.isLt⟩]
  · rw [if_neg h, if_neg (fun e => h e.1)]

theorem CT_succ (j : ℕ) (i : Fin 16) (b : Fin 512) :
    H.cAt (H.CT j) j 16 i b - (if i.val = j then H.rAt j 16 b else 0) = H.CT (j + 1) i b := by
  rw [cAt, CT, CT, Finset.sum_range_succ]
  have hi := i.isLt
  rcases lt_trichotomy i.val j with h | h | h
  · simp only [show ¬(j ≤ i.val ∧ i.val < 16) by omega, show ¬i.val = j by omega, h, show i.val < j + 1 by omega, show ¬j ≤ i.val by omega,
      if_true, if_false, and_true, false_and, and_self]
    ring
  · simp only [h, le_refl, show j < 16 by omega, true_and, lt_irrefl, show j < j + 1 by omega, if_true, if_false]
    ring
  · simp only [hi, show ¬i.val = j by omega, show ¬i.val < j by omega, show ¬i.val < j + 1 by omega,
      show j ≤ i.val by omega, and_self, if_true, if_false]
    ring

/-! The sums over blocks are sums over tokens. -/

theorem sum_rows (f : Fin 8192 → ℝ) : ∑ i ∈ Finset.range 16, ∑ b, f (row i b) = ∑ t, f t := by
  rw [Finset.sum_range (n := 16) (fun i => ∑ b, f (row i b))]
  refine Fin.sum_mul_add_congr fun i b h => ?_
  refine congrArg f (Fin.ext ?_)
  have hi := i.isLt
  have hm : min i.val 15 = i.val := by omega
  show 512 * min i.val 15 + b.val = i.val * 512 + b.val
  rw [hm, mul_comm]

theorem dS_later {i j : ℕ} (hj : j ≤ 15) (hi : i < j) (s t : Fin 512) : H.dS (row j s) (row i t) = 0 := by
  rw [dS, P, if_neg (by rw [row_le hj (by omega)]; omega), zero_mul]
theorem P_later {i j : ℕ} (hj : j ≤ 15) (hi : i < j) (s t : Fin 512) : H.P (row j s) (row i t) = 0 := by
  rw [P, if_neg (by rw [row_le hj (by omega)]; omega)]

/-- A sum over the query blocks from `j` on is one over all of them, where the earlier ones add nothing. -/
theorem sum_Ico (f : ℕ → ℝ) (hj : j ≤ 15) (hf : ∀ i < j, f i = 0) : ∑ i ∈ Finset.Ico j 16, f i = ∑ i ∈ Finset.range 16, f i := by
  rw [Finset.range_eq_Ico]
  refine Finset.sum_subset (Finset.Ico_subset_Ico_left (Nat.zero_le _)) fun i _ h => hf i ?_
  simp only [Finset.mem_Ico, not_and, not_lt] at h ⊢
  by_contra hn
  have := Finset.mem_Ico.mp ‹i ∈ Finset.Ico 0 16›
  omega

theorem kAt_total (hj : j ≤ 15) (s : Fin 512) (l : Fin 128) : H.kAt j 16 s l = ∑ t, H.dS (row j s) t * H.A t l := by
  rw [kAt, sum_Ico _ hj fun i hi => by simp only [dkB, dS_later hj hi, zero_mul, Finset.sum_const_zero], ← sum_rows]
  rfl
theorem vAt_total (hj : j ≤ 15) (s : Fin 512) (l : Fin 128) : H.vAt j 16 s l = ∑ t, H.P (row j s) t * H.G t l := by
  rw [vAt, sum_Ico _ hj fun i hi => by simp only [dvB, P_later hj hi, zero_mul, Finset.sum_const_zero], ← sum_rows]
  rfl
theorem rAt_total (hj : j ≤ 15) (s : Fin 512) : H.rAt j 16 s = ∑ t, H.dS (row j s) t := by
  rw [rAt, sum_Ico _ hj fun i hi => by simp only [rsB, dS_later hj hi, Finset.sum_const_zero], ← sum_rows]
  rfl
theorem QT_total (i : Fin 16) (l : Fin 128) (b : Fin 512) : H.QT 16 i l b = ∑ s, H.K s l * H.dS s (row i b) := by
  rw [QT, ← sum_rows]
  refine Finset.sum_congr rfl fun j hj => ?_
  have := Finset.mem_range.mp hj
  split
  · rfl
  · next h => simp only [dS_later (by omega : j ≤ 15) (by omega : i.val < j), mul_zero, Finset.sum_const_zero]
theorem CT_total (i : Fin 16) (b : Fin 512) :
    H.CT 16 i b = (∑ s, H.dS s (row i b)) - ∑ t, H.dS (row i b) t := by
  have hi := i.isLt
  rw [CT, if_pos hi, rAt_total (by omega), ← sum_rows fun s => H.dS s (row i b)]
  congr 1
  refine Finset.sum_congr rfl fun j hj => ?_
  have := Finset.mem_range.mp hj
  split
  · rfl
  · next h => simp only [dS_later (by omega : j ≤ 15) (by omega : i.val < j), Finset.sum_const_zero]

end Head

end Attn

end
-- ==== Proof.AttnSoft.lean ====
/-
  The numbers of the forgetting attention, over the reals: one head's masked logits, their row maximum, the exponentials and
  their sum, the output row, and what the gradient's kernel is handed of them in 128 lanes.
-/
module

public import proofs.«01_k».proof.Proof.AttnMath
public import Idealize.ShloMosaic.Lib.WordCmp

@[expose] public section

noncomputable section

namespace Attn

open Idealize.ShloMosaic Lift

/-! ### A row's maximum over the keys it sees -/

theorem fold_real (t : Fin 8192) (f : Fin 8192 → ℝ) :
    ∃ r : ℝ, Finset.univ.fold max (⊥ : EReal) (fun s => if s ≤ t then ((f s : ℝ) : EReal) else ⊥) = r := by
  have hlt : Finset.univ.fold max (⊥ : EReal) (fun s => if s ≤ t then ((f s : ℝ) : EReal) else ⊥) < ⊤ := by
    rw [Finset.fold_max_lt]
    refine ⟨bot_lt_top, fun s _ => ?_⟩
    split_ifs
    · exact EReal.coe_lt_top _
    · exact bot_lt_top
  have hgt : (⊥ : EReal) < Finset.univ.fold max (⊥ : EReal) (fun s => if s ≤ t then ((f s : ℝ) : EReal) else ⊥) := by
    rw [Finset.lt_fold_max]
    exact .inr ⟨t, Finset.mem_univ _, by rw [if_pos le_rfl]; exact EReal.bot_lt_coe _⟩
  exact ⟨_, (EReal.coe_toReal hlt.ne hgt.ne').symm⟩

/-- The maximum of `f` over the keys up to `t`. -/
def rowMax (t : Fin 8192) (f : Fin 8192 → ℝ) : ℝ := (fold_real t f).choose
/-- A comparison of two token positions, choosing between two values. -/
theorem select_keep (s t : Fin 8192) (x z : EReal) :
    Scalar.select (IntOp.cmpi .sle (BitVec.ofNat 32 s.val) (BitVec.ofNat 32 t.val)) x z = if s ≤ t then x else z := by
  have h : IntOp.cmpi .sle (BitVec.ofNat 32 s.val) (BitVec.ofNat 32 t.val) = 1#1 ↔ s ≤ t :=
    WordCmp.cmpi_sle_ofNat_eq_one_iff (by omega) (by omega)
  by_cases hst : s ≤ t
  · rw [if_pos hst, h.mpr hst]; rfl
  · rw [if_neg hst]; exact if_neg (c := _ = 1#1) (mt h.mp hst)

@[pointwise] theorem fold_rowMax (t : Fin 8192) (f : Fin 8192 → ℝ) :
    Finset.univ.fold max (⊥ : EReal) (fun s => if s ≤ t then ((f s : ℝ) : EReal) else ⊥) = (rowMax t f : EReal) :=
  (fold_real t f).choose_spec

@[pointwise] theorem exp_masked (p : Prop) [Decidable p] (z m : ℝ) :
    Ideal.exp ((if p then (z : EReal) else ⊥) - (m : EReal)) = ((if p then Real.exp (z - m) else 0 : ℝ) : EReal) := by
  split_ifs
  · rw [sub_coe, Ideal.exp_coe]
  · rw [EReal.bot_sub, Ideal.exp_bot]; exact EReal.coe_zero.symm

@[pointwise] theorem lit_eighth : Ideal.ofBits .f32 0x3E000000#32 = ((1 / 8 : ℝ) : EReal) := by
  simp [Ideal.ofBits, Ideal.ieee]; rw [mul_coe]; norm_num
@[pointwise] theorem lit_neg_one : Ideal.ofBits .bf16 0xBF80#16 = ((-1 : ℝ) : EReal) := by
  simp [Ideal.ofBits, Ideal.ieee]; rw [mul_coe]; norm_num
@[pointwise] theorem lit_ninf : Ideal.ofBits .f32 0xFF800000#32 = (⊥ : EReal) := by
  simp [Ideal.ofBits, Ideal.ieee]

/-- Lane `l` of head `h` in a row of all heads. -/
def lane (h : Fin 8) (l : Fin 64) : Fin 512 := ⟨h.val * 64 + l.val, by omega⟩

/-- 64 numbers of a head, then what the 64 lanes after them hold. -/
def lanes (x : Fin 64 → ℝ) (y : ℕ → ℝ) (l : Fin 128) : ℝ := if h : l.val < 64 then x ⟨l.val, h⟩ else y (l.val - 64)

theorem lanes_lt (x : Fin 64 → ℝ) (y : ℕ → ℝ) (l : Fin 64) : lanes x y (Fin.castAdd 64 l) = x l := dif_pos l.isLt
theorem lanes_ge (x : Fin 64 → ℝ) (y : ℕ → ℝ) (n : Fin 64) : lanes x y (Fin.natAdd 64 n) = y n.val := by
  have h : ¬ (Fin.natAdd 64 n).val < 64 := by simp
  rw [lanes, dif_neg h]; congr 1; simp

/-- A product of two such rows, the second of them empty from lane 70 on. -/
theorem sum_lanes (x x' : Fin 64 → ℝ) (y y' : ℕ → ℝ) (h : ∀ n, 6 ≤ n → y' n = 0) :
    ∑ l, lanes x y l * lanes x' y' l
      = (∑ l, x l * x' l) + (y 0 * y' 0 + y 1 * y' 1 + y 2 * y' 2 + y 3 * y' 3 + y 4 * y' 4 + y 5 * y' 5) := by
  have h2 : ∑ n : Fin 64, y n.val * y' n.val
      = y 0 * y' 0 + y 1 * y' 1 + y 2 * y' 2 + y 3 * y' 3 + y 4 * y' 4 + y 5 * y' 5 := by
    rw [show (∑ n : Fin 64, y n.val * y' n.val) = ∑ n : Fin (6 + 58), y n.val * y' n.val from rfl, Fin.sum_univ_add,
      Fin.sum_univ_six, Finset.sum_eq_zero (s := Finset.univ (α := Fin 58)), add_zero]
    · rfl
    · intro n _
      rw [h _ (by simp), mul_zero]
  rw [show (∑ l, lanes x y l * lanes x' y' l) = ∑ l : Fin (64 + 64), lanes x y l * lanes x' y' l from rfl, Fin.sum_univ_add, ← h2]
  simp only [lanes_lt, lanes_ge]

/-- The lanes after the queries, the keys, the values and the cotangents. -/
def yA (r : ℝ) (n : ℕ) : ℝ := if n < 3 then -1 else if n = 3 then -r else 0
def yK (r : ℝ) (n : ℕ) : ℝ := if n = 0 then r else if n < 3 then 0 else if n < 6 then 1 else 0
def yW (n : ℕ) : ℝ := if n < 3 then 1 else 0
def yG (r : ℝ) (n : ℕ) : ℝ := if n = 0 then -r else 0

/-- The attention's arguments: queries, keys and values, the running sums of the forget gates, and the cotangent. -/
structure Args where
  q : Fin 8192 → Fin 8 → Fin 64 → ℝ
  k : Fin 8192 → Fin 8 → Fin 64 → ℝ
  v : Fin 8192 → Fin 8 → Fin 64 → ℝ
  c : Fin 8192 → Fin 8 → ℝ
  g : Fin 8192 → Fin 512 → ℝ

namespace Args

variable (a : Args) (h : Fin 8) (t s : Fin 8192)

/-- The logit without what is the same for the whole row. -/
def z : ℝ := (∑ l, a.q t h l * (1 / 8) * a.k s h l) - a.c s h
/-- The logit, or −∞ for a key behind the query. -/
def masked : EReal := if s ≤ t then (a.z h t s : EReal) else ⊥
/-- The row's maximum. -/
def top : ℝ := rowMax t (a.z h t)
/-- The exponentials of a row. -/
def e : ℝ := if s ≤ t then Real.exp (a.z h t s - a.top h t) else 0
/-- Their sum. -/
def den : ℝ := ∑ s, a.e h t s
/-- The output. -/
def out (l : Fin 64) : ℝ := (∑ s, a.e h t s * a.v s h l) / a.den h t
/-- The logarithm of the sum of exponentials. -/
def lse : ℝ := a.top h t + Real.log (a.den h t)
/-- The output times the cotangent. -/
def delta : ℝ := ∑ l, a.g t (lane h l) * a.out h t l

theorem e_nonneg : 0 ≤ a.e h t s := by
  unfold e; split_ifs
  · exact (Real.exp_pos _).le
  · exact le_rfl
theorem den_pos : 0 < a.den h t := by
  have h1 : a.e h t t ≤ a.den h t := Finset.single_le_sum (fun s _ => a.e_nonneg h t s) (Finset.mem_univ t)
  refine lt_of_lt_of_le ?_ h1
  unfold e; rw [if_pos le_rfl]; exact Real.exp_pos _

@[pointwise] theorem fold_masked : Finset.univ.fold max (⊥ : EReal) (fun s => a.masked h t s) = (a.top h t : EReal) :=
  fold_rowMax t (a.z h t)
@[pointwise] theorem exp_sub_top : Ideal.exp (a.masked h t s - (a.top h t : EReal)) = (a.e h t s : EReal) :=
  exp_masked (s ≤ t) (a.z h t s) (a.top h t)
@[pointwise] theorem den_sum : (∑ s, a.e h t s) = a.den h t := rfl
@[pointwise] theorem log_den : Ideal.log (a.den h t : EReal) = (Real.log (a.den h t) : EReal) := by
  rw [Ideal.log_coe, if_neg (a.den_pos h t).not_ge]
@[pointwise] theorem div_den (x : ℝ) : Ideal.div (x : EReal) (a.den h t : EReal) = ((x / a.den h t : ℝ) : EReal) :=
  div_coe (a.den_pos h t).ne' x

/-- One head as the kernel is handed it. -/
def head : Head where
  A t := lanes (fun l => a.q t h l * (1 / 8)) (yA (a.lse h t))
  G t := lanes (fun l => a.g t (lane h l)) (yG (a.delta h t))
  K s := lanes (fun l => a.k s h l) (yK (a.c s h))
  W s := lanes (fun l => a.v s h l) yW

/-- The score's gradient: the weight times what the cotangent makes of the value, less the row's mean. -/
def ds : ℝ := a.e h t s / a.den h t * ((∑ l, a.v s h l * a.g t (lane h l)) - a.delta h t)

/-- The four gradients, of the queries, the keys, the values and the gates' running sums. -/
def dq (l : Fin 64) : ℝ := ∑ s, a.ds h t s * (1 / 8) * a.k s h l
def dk (l : Fin 64) : ℝ := ∑ t, a.ds h t s * (1 / 8) * a.q t h l
def dv (l : Fin 64) : ℝ := ∑ t, a.g t (lane h l) * (a.e h t s / a.den h t)
def dc : ℝ := (∑ u, -a.ds h u t) + ∑ s, a.ds h t s

theorem head_lg : (a.head h).lg s t = a.z h t s - a.lse h t := by
  simp only [Head.lg, head]
  rw [sum_lanes _ _ _ _ fun n hn => by simp only [yA]; rw [if_neg (by omega), if_neg (by omega)]]
  simp only [yA, yK, z]
  rw [show (∑ l, a.k s h l * (a.q t h l * (1 / 8))) = ∑ l, a.q t h l * (1 / 8) * a.k s h l from
    Finset.sum_congr rfl fun l _ => mul_comm _ _]
  norm_num
  ring

theorem head_P : (a.head h).P s t = a.e h t s / a.den h t := by
  rw [Head.P, head_lg, e]
  split_ifs
  · rw [lse, ← sub_sub, Real.exp_sub, Real.exp_log (a.den_pos h t)]
  · rw [zero_div]

theorem head_dp : (a.head h).dp s t = (∑ l, a.v s h l * a.g t (lane h l)) - a.delta h t := by
  simp only [Head.dp, head]
  rw [sum_lanes _ _ _ _ fun n hn => by simp only [yG]; rw [if_neg (by omega)]]
  simp only [yG, yW]
  norm_num
  ring

theorem head_dS : (a.head h).dS s t = a.ds h t s := by
  rw [Head.dS, head_P, head_dp]; rfl

/-! ### The whole logit

The logit with the part that is the same for its row: the weights do not feel it. -/

/-- The logit. -/
def y : ℝ := (∑ l, a.q t h l * a.k s h l) * (1 / 8) + a.c t h - a.c s h
/-- The logit, or −∞ for a key behind the query. -/
def maskedY : EReal := if s ≤ t then (a.y h t s : EReal) else ⊥
def topY : ℝ := rowMax t (a.y h t)
/-- How much larger this row's exponentials are. -/
def mu : ℝ := Real.exp (a.c t h + a.top h t - a.topY h t)

theorem mu_pos : 0 < a.mu h t := Real.exp_pos _

theorem y_eq : a.y h t s = a.z h t s + a.c t h := by
  have : (∑ l, a.q t h l * a.k s h l) * (1 / 8) = ∑ l, a.q t h l * (1 / 8) * a.k s h l := by
    rw [Finset.sum_mul]; exact Finset.sum_congr rfl fun l _ => by ring
  rw [y, z, this]; ring

@[pointwise] theorem fold_maskedY : Finset.univ.fold max (⊥ : EReal) (fun s => a.maskedY h t s) = (a.topY h t : EReal) :=
  fold_rowMax t (a.y h t)
@[pointwise] theorem exp_sub_topY :
    Ideal.exp (a.maskedY h t s - (a.topY h t : EReal)) = ((a.e h t s * a.mu h t : ℝ) : EReal) := by
  refine (exp_masked (s ≤ t) (a.y h t s) (a.topY h t)).trans (congrArg _ ?_)
  rw [e, mu]
  split_ifs
  · rw [← Real.exp_add, y_eq]; congr 1; ring
  · rw [zero_mul]
@[pointwise] theorem den_mu : (∑ s, a.e h t s * a.mu h t) = a.den h t * a.mu h t := (Finset.sum_mul _ _ _).symm
@[pointwise] theorem div_mu (x : ℝ) :
    Ideal.div (x : EReal) ((a.den h t * a.mu h t : ℝ) : EReal) = ((x / (a.den h t * a.mu h t) : ℝ) : EReal) :=
  div_coe (mul_pos (a.den_pos h t) (a.mu_pos h t)).ne' x
@[pointwise] theorem inv_sq_mu :
    Ideal.div (1 : EReal) ((a.den h t * a.mu h t * (a.den h t * a.mu h t) : ℝ) : EReal)
      = (((a.den h t * a.mu h t * (a.den h t * a.mu h t))⁻¹ : ℝ) : EReal) :=
  one_div_coe (mul_pos (mul_pos (a.den_pos h t) (a.mu_pos h t)) (mul_pos (a.den_pos h t) (a.mu_pos h t))).ne'

/-- What the cotangent makes of a value. -/
def dw : ℝ := ∑ l, a.g t (lane h l) * a.v s h l

theorem sum_div_congr {ι : Type} [Fintype ι] {f g : ι → ℝ} (d : ℝ) (H : ∀ s, f s = g s) : (∑ s, f s) / d = (∑ s, g s) / d := by
  rw [Finset.sum_congr rfl fun s _ => H s]

theorem delta_eq : a.delta h t = (∑ s, a.dw h t s * a.e h t s) / a.den h t := by
  have : ∀ l, a.g t (lane h l) * a.out h t l = (∑ s, a.g t (lane h l) * a.v s h l * a.e h t s) / a.den h t := fun l => by
    rw [out, mul_div_assoc', Finset.mul_sum]
    exact sum_div_congr _ fun s => by ring
  simp only [delta, this, dw]
  rw [← Finset.sum_div, Finset.sum_comm]
  exact sum_div_congr _ fun s => (Finset.sum_mul _ _ _).symm

/-- The score's gradient as differentiating the softmax's lines one by one leaves it. -/
theorem ds_lines : (a.dw h t s / (a.den h t * a.mu h t)
      + -∑ s, a.dw h t s * (a.den h t * a.mu h t * (a.den h t * a.mu h t))⁻¹ * (a.e h t s * a.mu h t)) * (a.e h t s * a.mu h t)
    = a.ds h t s := by
  have hd := (a.den_pos h t).ne'
  have hm := (a.mu_pos h t).ne'
  have h1 : (∑ s, a.dw h t s * (a.den h t * a.mu h t * (a.den h t * a.mu h t))⁻¹ * (a.e h t s * a.mu h t))
      = (∑ s, a.dw h t s * a.e h t s) / (a.den h t * a.den h t * a.mu h t) := by
    rw [Finset.sum_div]
    exact Finset.sum_congr rfl fun s _ => by field_simp
  have h2 : (∑ l, a.v s h l * a.g t (lane h l)) = a.dw h t s := Finset.sum_congr rfl fun l _ => mul_comm _ _
  rw [h1, ds, h2, delta_eq]
  field_simp
  ring

theorem w_eq : a.e h t s * a.mu h t / (a.den h t * a.mu h t) = a.e h t s / a.den h t :=
  mul_div_mul_right _ _ (a.mu_pos h t).ne'

theorem ds_masked : (if s ≤ t then (a.ds h t s : EReal) else 0) = (a.ds h t s : EReal) := by
  split_ifs with hs
  · rfl
  · rw [ds, e, if_neg hs, zero_div, zero_mul]; exact EReal.coe_zero.symm

end Args
end Attn
end
-- ==== Proof.AttnRef.lean ====
/-
  What the derivative of the attention's forward lines computes, for finite arguments: the gradients of AttnSoft.
-/
module

public import proofs.«01_k».proof.Proof.AttnSoft
public import proofs.«01_k».proof.Proof.Gen.Reference2Ideal.Read
public import proofs.«01_k».proof.Proof.Gen.Reference2Ideal.Run

@[expose] public section

set_option maxRecDepth 16384

noncomputable section

namespace AttnRef

open Idealize.ShloMosaic Idealize.SL.Sem Cert.Reference2Ideal Cert.Reference2Ideal.Read Lift Attn

variable (a : Args)

local notation "xQ" => (up3 a.q : S8192x8x64.Idx → EReal)
local notation "xK" => (up3 a.k : S8192x8x64.Idx → EReal)
local notation "xV" => (up3 a.v : S8192x8x64.Idx → EReal)
local notation "xC" => (up2 a.c : S8192x8.Idx → EReal)
local notation "xG" => (up2 a.g : S8192x512.Idx → EReal)

theorem v12 : val_main_v12 (F := Ideal) xQ xK xC = up3 a.y := by
  funext j
  pointwise [val_main_v12, val_main_v11, val_main_v10, val_main_v9, val_main_v8, val_main_v7, val_main_v6, val_main_v5, val_main_cst,
    val_main_v4, val_main_v3, val_main_v1, val_main_v0, dot_S8x8192x64_S8x8192x64_S8x8192x8192_2_2_1_1_0_0, Args.y]

theorem v20_1 (j : S8x8192x8192.Idx) :
    val_main_v20_1 (F := Ideal) j = IntOp.cmpi .sle (BitVec.ofNat 32 (j 2).val) (BitVec.ofNat 32 (j 1).val) := by
  pointwise [val_main_v20_1, val_main_v19, val_main_v18, val_main_v17, val_main_v16, val_main_v15, val_main_v14, val_main_v13]

theorem v20 : val_main_v20_0 (F := Ideal) xQ xK xC = fun j => a.maskedY (j 0) (j 1) (j 2) := by
  funext j
  pointwise [val_main_v20_0, v20_1, v12, val_main_call0_v2, val_main_call0_v0, val_main_cst_0, Args.maskedY]
  exact select_keep _ _ _ _

theorem v21 : val_main_v21 (F := Ideal) xQ xK xC = up2 a.topY := by
  funext j
  pointwise [val_main_v21, val_main_cst_1, v20]

theorem v28 : val_main_v28 (F := Ideal) xQ xK xC = up2 a.topY := by
  funext j
  pointwise [val_main_v28, val_main_v27, val_main_cst_3, v21]
  exact max_eq_right bot_le

theorem v41 : val_main_v41 (F := Ideal) xQ xK xC = up3 fun h t s => a.e h t s * a.mu h t := by
  funext j
  pointwise [val_main_v41, val_main_v40, val_main_v39, val_main_v38, v28, v20]

theorem v42 : val_main_v42 (F := Ideal) xQ xK xC = up2 fun h t => a.den h t * a.mu h t := by
  funext j
  pointwise [val_main_v42, val_main_cst_9, v41]

theorem v45 : val_main_v45 (F := Ideal) xQ xK xC = up3 fun h t s => a.e h t s / a.den h t := by
  funext j
  pointwise [val_main_v45, val_main_v44, val_main_v43, v42, v41, Args.w_eq]

theorem v56 : val_main_v56 (F := Ideal) xV xG = up3 a.dw := by
  funext j
  pointwise [val_main_v56, val_main_v53, val_main_v52, val_main_v2, dot_S8x8192x64_S8x8192x64_S8x8192x8192_2_2_1_1_0_0, Args.dw, lane]

theorem v59 : val_main_v59 (F := Ideal) xQ xK xV xC xG
    = up3 fun h t s => a.dw h t s * (a.den h t * a.mu h t * (a.den h t * a.mu h t))⁻¹ * (a.e h t s * a.mu h t) := by
  funext j
  pointwise [val_main_v59, val_main_v58, val_main_v57, val_main_v48, val_main_v47, val_main_cst_10, val_main_v46, val_main_v43,
    v42, v41, v56]

theorem v69 : val_main_v69 (F := Ideal) xQ xK xV xC xG = up3 a.ds := by
  funext j
  pointwise [val_main_v69, v20_1, val_main_v68, val_main_v67, val_main_v66, val_main_v65, val_main_cst_12, val_main_v64, val_main_v63,
    val_main_v62, val_main_v61, val_main_v60, val_main_cst_11, val_main_v43, v42, v41, v56, v59, val_main_call1_v0, val_main_call1_cst,
    Args.ds_lines]
  exact (select_keep _ _ _ _).trans (a.ds_masked _ _ _)

theorem v83 : val_main_v83 (F := Ideal) xQ xK xC xG = up3 fun s h l => a.dv h s l := by
  funext j
  pointwise [val_main_v83, val_main_v55, val_main_v54, val_main_v53, val_main_v52, v45,
    dot_S8x8192x64_S8x8192x8192_S8x64x8192_1_1_2_2_0_0, Args.dv, lane]

theorem v82 : val_main_v82 (F := Ideal) xQ xK xV xC xG = up2 fun t h => a.dc h t := by
  funext j
  pointwise [val_main_v82, val_main_v77, val_main_v76, val_main_v75, val_main_v74, val_main_v73, val_main_v72, val_main_v71,
    val_main_v70, val_main_cst_13, val_main_cst_14, val_main_cst_15, val_main_cst_16, v69, Args.dc]

theorem v84 : val_main_v84 (F := Ideal) xQ xK xV xC xG = up3 fun s h l => a.dk h s l := by
  funext j
  pointwise [val_main_v84, val_main_v80, val_main_v79, val_main_v78, val_main_cst_17, v69, val_main_v0,
    dot_S8x8192x8192_S8x8192x64_S8x8192x64_1_1_2_2_0_0, Args.dk]

theorem v85 : val_main_v85 (F := Ideal) xQ xK xV xC xG = up3 fun t h l => a.dq h t l := by
  funext j
  pointwise [val_main_v85, val_main_v81, val_main_v79, val_main_v78, val_main_cst_17, v69, val_main_v1,
    dot_S8x8192x8192_S8x8192x64_S8x8192x64_2_1_1_2_0_0, Args.dq]

/-- The run, its results by the stages above. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v84) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.Reference2Ideal.Value.run m ρ)

end AttnRef
end
-- ==== Proof.AttnPay.lean ====
/-
  The payloads of the attention backward's grid point, for finite arguments: each takes arrays of reals to an array of reals.
-/
module

public import proofs.«01_k».proof.Proof.AttnMath
public import proofs.«01_k».proof.Proof.AttnState

@[expose] public section

set_option maxRecDepth 16384

noncomputable section

namespace AttnPay

open Idealize.ShloMosaic Idealize.ShloMosaic.TcCoe Cert.Kernel2Ideal Cert.Kernel2Ideal.Gen Lift

variable (K A : Fin 512 → Fin 128 → ℝ) (L D : Fin 512 → Fin 512 → ℝ) (x : Fin 128 → Fin 512 → ℝ) (y : Fin 512 → Fin 128 → ℝ)
  (r : Fin 512 → ℝ)

/-- The weights of a block on the diagonal. -/
def low (s t : Fin 512) : ℝ := if s ≤ t then Real.exp (L s t) else 0
/-- The weights of a block above it. -/
def full (s t : Fin 512) : ℝ := Real.exp (L s t)

local notation "bK" => (up2 K : S512x128.Idx → EReal)
local notation "bA" => (up2 A : S512x128.Idx → EReal)
local notation "bL" => (up2 L : S512x512.Idx → EReal)
local notation "bD" => (up2 D : S512x512.Idx → EReal)
local notation "bE" => (up2 (full L) : S512x512.Idx → EReal)
local notation "bA3" => (up3 (fun (_ : Fin 1) => A) : S1x512x128.Idx → EReal)
local notation "bK3" => (up3 (fun (_ : Fin 1) => K) : S1x512x128.Idx → EReal)
local notation "bY" => (up3 (fun (_ : Fin 1) => y) : S1x512x128.Idx → EReal)
local notation "bX" => (up4 (fun (_ : Fin 1) (_ : Fin 1) => x) : S1x1x128x512.Idx → EReal)
local notation "bR" => (up2 (fun s (_ : Fin 1) => r s) : S512x1.Idx → EReal)
local notation "bC" => (up3 (fun (_ : Fin 1) (_ : Fin 1) => r) : S1x1x512.Idx → EReal)

/-- A comparison of two positions as the vector unit makes it. -/
theorem select_low (s t : Fin 512) (x : ℝ) :
    Scalar.select (IntOp.cmpi .sle (BitVec.ofNat 32 s.val) (BitVec.ofNat 32 t.val)) (x : EReal) (0 : EReal)
      = ((if s ≤ t then x else 0 : ℝ) : EReal) := by
  have h : IntOp.cmpi .sle (BitVec.ofNat 32 s.val) (BitVec.ofNat 32 t.val) = 1#1 ↔ s ≤ t :=
    WordCmp.cmpi_sle_ofNat_eq_one_iff (by omega) (by omega)
  by_cases hst : s ≤ t
  · rw [if_pos hst, h.mpr hst]; rfl
  · rw [if_neg hst]; exact if_neg (c := _ = 1#1) (mt h.mp hst)

/-- A product of keys and queries, both by rows. -/
def prod (s t : Fin 512) : ℝ := ∑ l, K s l * A t l
def addDq (E : Fin 512 → Fin 512 → ℝ) (l : Fin 128) (b : Fin 512) : ℝ := x l b + ∑ s, K s l * E s b
def addRow (E : Fin 512 → Fin 512 → ℝ) (s : Fin 512) (l : Fin 128) : ℝ := y s l + ∑ t, E s t * A t l
def addCols (E : Fin 512 → Fin 512 → ℝ) (b : Fin 512) : ℝ := r b + ∑ s, E s b
def addRows (E : Fin 512 → Fin 512 → ℝ) (s : Fin 512) : ℝ := r s + ∑ t, E s t
def grad (E : Fin 512 → Fin 512 → ℝ) (s t : Fin 512) : ℝ := E s t * D s t

theorem p13 : k0_pay13 (F := Ideal) bA3 = up2 A := by
  funext j; pointwise [k0_pay13]

theorem p14 : k0_pay14 (F := Ideal) bA3 = up2 A := by
  funext j; pointwise [k0_pay14]

theorem p69 : k0_pay69 (F := Ideal) bA3 = up2 A := by
  funext j; pointwise [k0_pay69]

theorem p70 : k0_pay70 (F := Ideal) bA3 = up2 A := by
  funext j; pointwise [k0_pay70]

theorem p63 : k0_pay63 (F := Ideal) bK3 = up2 K := by
  funext j; pointwise [k0_pay63]

theorem p64 : k0_pay64 (F := Ideal) bK3 = up2 K := by
  funext j; pointwise [k0_pay64]

theorem p11 : k0_pay11 (F := Ideal) bK bA3 = up2 (prod K A) := by
  funext j; pointwise [k0_pay11, dot_S512x128_S512x128_S512x512_1_1_0_0_n_n, prod]

theorem p12 : k0_pay12 (F := Ideal) bK bA3 = up2 (prod K A) := by
  funext j; pointwise [k0_pay12, dot_S512x128_S512x128_S512x512_1_1_0_0_n_n, prod]

theorem p24 : k0_pay24 (F := Ideal) bK bA3 = up2 (prod K A) := by
  funext j; pointwise [k0_pay24, dot_S512x128_S512x128_S512x512_1_1_0_0_n_n, prod]

theorem p25 : k0_pay25 (F := Ideal) bK bA3 = up2 (prod K A) := by
  funext j; pointwise [k0_pay25, dot_S512x128_S512x128_S512x512_1_1_0_0_n_n, prod]

theorem p66 : k0_pay66 (F := Ideal) bK bA3 = up2 (prod K A) := by
  funext j; pointwise [k0_pay66, dot_S512x128_S512x128_S512x512_1_1_0_0_n_n, prod]

theorem p67 : k0_pay67 (F := Ideal) bK bA3 = up2 (prod K A) := by
  funext j; pointwise [k0_pay67, dot_S512x128_S512x128_S512x512_1_1_0_0_n_n, prod]

theorem p68 : k0_pay68 (F := Ideal) bK bA3 = up2 (prod K A) := by
  funext j; pointwise [k0_pay68, dot_S512x128_S512x128_S512x512_1_1_0_0_n_n, prod]

theorem p65 : k0_pay65 (F := Ideal) bK3 bA3 = up2 (prod K A) := by
  funext j; pointwise [k0_pay65, p63, dot_S512x128_S512x128_S512x512_1_1_0_0_n_n, prod]

theorem p15 : k0_pay15 (F := Ideal) bL = up2 (full L) := by
  funext j; pointwise [k0_pay15, full]

theorem p26 : k0_pay26 (F := Ideal) bL = up2 (full L) := by
  funext j; pointwise [k0_pay26, full]

theorem p53 : k0_pay53 (F := Ideal) bL = up2 (full L) := by
  funext j; pointwise [k0_pay53, full]

theorem p71 : k0_pay71 (F := Ideal) bL = up2 (low L) := by
  funext j; pointwise [k0_pay71]; exact select_low _ _ _

theorem p17 : k0_pay17 (F := Ideal) bL bD = up2 (grad D L) := by
  funext j; pointwise [k0_pay17, grad]

theorem p18 : k0_pay18 (F := Ideal) bL bD = up2 (grad D L) := by
  funext j; pointwise [k0_pay18, p17]

theorem p28 : k0_pay28 (F := Ideal) bL bD = up2 (grad D (full L)) := by
  funext j; pointwise [k0_pay28, p26, grad]

theorem p55 : k0_pay55 (F := Ideal) bL bD = up2 (grad D (full L)) := by
  funext j; pointwise [k0_pay55, p53, grad]

theorem p73 : k0_pay73 (F := Ideal) bL bD = up2 (grad D (low L)) := by
  funext j; pointwise [k0_pay73, p71, grad]

theorem p29 : k0_pay29 (F := Ideal) bL bD = up2 (grad D (full L)) := by
  funext j; pointwise [k0_pay29, p28]

theorem p56 : k0_pay56 (F := Ideal) bL bD = up2 (grad D (full L)) := by
  funext j; pointwise [k0_pay56, p55]

theorem p74 : k0_pay74 (F := Ideal) bL bD = up2 (grad D (low L)) := by
  funext j; pointwise [k0_pay74, p73]

theorem p16 : k0_pay16 (F := Ideal) bA bL bY = up3 fun _ => addRow A y L := by
  funext j; pointwise [k0_pay16, dot_S512x512_S512x128_S512x128_1_0_0_1_n_n, addRow]

theorem p27 : k0_pay27 (F := Ideal) bA3 bL bY = up3 fun _ => addRow A y (full L) := by
  funext j; pointwise [k0_pay27, p26, dot_S512x512_S512x128_S512x128_1_0_0_1_n_n, addRow]

theorem p54 : k0_pay54 (F := Ideal) bA3 bL bY = up3 fun _ => addRow A y (full L) := by
  funext j; pointwise [k0_pay54, p53, dot_S512x512_S512x128_S512x128_1_0_0_1_n_n, addRow]

theorem p72 : k0_pay72 (F := Ideal) bA bL bY = up3 fun _ => addRow A y (low L) := by
  funext j; pointwise [k0_pay72, p71, dot_S512x512_S512x128_S512x128_1_0_0_1_n_n, addRow]

theorem p19 : k0_pay19 (F := Ideal) bA bL bD bY = up3 fun _ => addRow A y (grad D L) := by
  funext j; pointwise [k0_pay19, p18, dot_S512x512_S512x128_S512x128_1_0_0_1_n_n, addRow]

theorem p30 : k0_pay30 (F := Ideal) bA3 bL bD bY = up3 fun _ => addRow A y (grad D (full L)) := by
  funext j; pointwise [k0_pay30, p29, dot_S512x512_S512x128_S512x128_1_0_0_1_n_n, addRow]

theorem p57 : k0_pay57 (F := Ideal) bA3 bL bD bY = up3 fun _ => addRow A y (grad D (full L)) := by
  funext j; pointwise [k0_pay57, p56, dot_S512x512_S512x128_S512x128_1_0_0_1_n_n, addRow]

theorem p75 : k0_pay75 (F := Ideal) bA bL bD bY = up3 fun _ => addRow A y (grad D (low L)) := by
  funext j; pointwise [k0_pay75, p74, dot_S512x512_S512x128_S512x128_1_0_0_1_n_n, addRow]

theorem p20 : k0_pay20 (F := Ideal) bK bL bD bX = up4 fun _ _ => addDq K x (grad D L) := by
  funext j; pointwise [k0_pay20, p18, dot_S512x128_S512x512_S128x512_0_0_1_1_n_n, addDq]

theorem p7 : k0_pay7 (F := Ideal) bK bL bX = up4 fun _ _ => addDq K x L := by
  funext j; pointwise [k0_pay7, dot_S512x128_S512x512_S128x512_0_0_1_1_n_n, addDq]

theorem p31 : k0_pay31 (F := Ideal) bK bL bD bX = up2 (addDq K x (grad D (full L))) := by
  funext j; pointwise [k0_pay31, p29, dot_S512x128_S512x512_S128x512_0_0_1_1_n_n, addDq]

theorem p76 : k0_pay76 (F := Ideal) bK bL bD bX = up2 (addDq K x (grad D (low L))) := by
  funext j; pointwise [k0_pay76, p74, dot_S512x128_S512x512_S128x512_0_0_1_1_n_n, addDq]

theorem p1 : k0_pay1 (F := Ideal) (up2 x : S128x512.Idx → EReal) = up4 fun _ _ => x := by
  funext j; pointwise [k0_pay1]

theorem p77 : k0_pay77 (F := Ideal) (up2 x : S128x512.Idx → EReal) = up4 fun _ _ => x := by
  funext j; pointwise [k0_pay77]

theorem p2 : k0_pay2 (F := Ideal) bL bR = up2 fun s _ => addRows r L s := by
  funext j; pointwise [k0_pay2, addRows]

theorem p8 : k0_pay8 (F := Ideal) bL bR = up2 fun s _ => addRows r L s := by
  funext j; pointwise [k0_pay8, addRows]

theorem p78 : k0_pay78 (F := Ideal) bL bR = up2 fun s _ => addRows r L s := by
  funext j; pointwise [k0_pay78, addRows]

theorem p21 : k0_pay21 (F := Ideal) bL bD bR = up2 fun s _ => addRows r (grad D L) s := by
  funext j; pointwise [k0_pay21, p17, addRows]

theorem p22 : k0_pay22 (F := Ideal) bR = up2 fun s _ => r s := by
  funext j; pointwise [k0_pay22]

theorem p3 : k0_pay3 (F := Ideal) bL bC = up3 fun _ _ => addCols r L := by
  funext j; pointwise [k0_pay3, addCols]

theorem p9 : k0_pay9 (F := Ideal) bL bC = up3 fun _ _ => addCols r L := by
  funext j; pointwise [k0_pay9, addCols]

theorem p23 : k0_pay23 (F := Ideal) bL bC = up3 fun _ _ => addCols r L := by
  funext j; pointwise [k0_pay23, addCols]

theorem p79 : k0_pay79 (F := Ideal) bL bC = up3 fun _ _ => addCols r L := by
  funext j; pointwise [k0_pay79, addCols]

theorem p10 (c : Fin 512 → ℝ) : k0_pay10 (F := Ideal) bC (up2 (fun s (_ : Fin 1) => c s) : S512x1.Idx → EReal) = up3 fun _ _ b => r b - c b := by
  funext j; pointwise [k0_pay10]

theorem p58 : k0_pay58 (F := Ideal) = up4 fun _ _ _ _ => 0 := by
  funext j; pointwise [k0_pay58]; exact EReal.coe_zero.symm

theorem p59 : k0_pay59 (F := Ideal) = up3 fun _ _ _ => 0 := by
  funext j; pointwise [k0_pay59]; exact EReal.coe_zero.symm

theorem p60 : k0_pay60 (F := Ideal) = up3 fun _ _ _ => 0 := by
  funext j; pointwise [k0_pay60]; exact EReal.coe_zero.symm

theorem p61 : k0_pay61 (F := Ideal) = up3 fun _ _ _ => 0 := by
  funext j; pointwise [k0_pay61]; exact EReal.coe_zero.symm

theorem p62 : k0_pay62 (F := Ideal) = up2 fun _ _ => 0 := by
  funext j; pointwise [k0_pay62]; exact EReal.coe_zero.symm

end AttnPay

end
-- ==== Proof.AttnPoint.lean ====
/-
  One grid point of the attention backward, for finite arguments: what it adds to the gradients of its head.
-/
module

public import proofs.«01_k».proof.Proof.AttnPay

@[expose] public section

set_option maxRecDepth 16384

noncomputable section

namespace AttnPoint

open Idealize.ShloMosaic Idealize.ShloMosaic.TcCoe Cert.Kernel2Ideal Cert.Kernel2Ideal.Gen Lift Attn VecWindow AttnPay

variable (H : Head)

/-! ### Blocks -/

def lgB (j i : ℕ) (s t : Fin 512) : ℝ := H.lg (row j s) (row i t)
def dpB (j i : ℕ) (s t : Fin 512) : ℝ := H.dp (row j s) (row i t)
def PB (j i : ℕ) (s t : Fin 512) : ℝ := H.P (row j s) (row i t)
def dSB (j i : ℕ) (s t : Fin 512) : ℝ := H.dS (row j s) (row i t)

variable {H} {j n : ℕ}

theorem full_lg (hj : j < n) (hn : n ≤ 15) : full (lgB H j n) = PB H j n := by
  funext s t
  rw [PB, Head.P, if_pos ((row_le (by omega) hn s t).mpr (.inl hj))]; rfl
theorem low_lg (hj : j ≤ 15) : low (lgB H j j) = PB H j j := by
  funext s t
  rw [PB, Head.P, low]
  have := row_le hj hj s t
  by_cases h : s ≤ t
  · rw [if_pos h, if_pos (this.mpr (.inr ⟨rfl, h⟩))]; rfl
  · rw [if_neg h, if_neg (by rw [this]; omega)]
theorem grad_P : grad (dpB H j n) (PB H j n) = dSB H j n := rfl

theorem prod_lg : prod (fun s => H.K (row j s)) (fun t => H.A (row n t)) = lgB H j n := rfl
theorem prod_dp : prod (fun s => H.W (row j s)) (fun t => H.G (row n t)) = dpB H j n := rfl

variable {X : Fin 16 → Fin 128 → Fin 512 → ℝ} {Y : Fin 16 → Fin 512 → ℝ}

theorem dk_succ (h : j ≤ n) : addRow (fun t => H.A (row n t)) (H.kAt j n) (dSB H j n) = H.kAt j (n + 1) := by
  funext s l; exact Head.kAt_succ h s l
theorem dv_succ (h : j ≤ n) : addRow (fun t => H.G (row n t)) (H.vAt j n) (PB H j n) = H.vAt j (n + 1) := by
  funext s l; exact Head.vAt_succ h s l
theorem rs_succ (h : j ≤ n) : addRows (H.rAt j n) (dSB H j n) = H.rAt j (n + 1) := by
  funext s; exact Head.rAt_succ h s
theorem dq_succ (h : j ≤ n) (i : Fin 16) (hi : i.val = n) :
    Function.update (H.qAt X j n) i (addDq (fun s => H.K (row j s)) (H.qAt X j n i) (dSB H j n)) = H.qAt X j (n + 1) :=
  Head.qAt_succ h i hi
theorem dc_succ (h : j ≤ n) (i : Fin 16) (hi : i.val = n) :
    Function.update (H.cAt Y j n) i (addCols (H.cAt Y j n i) (dSB H j n)) = H.cAt Y j (n + 1) :=
  Head.cAt_succ h i hi

/-! ### The steps -/

variable (H X Y j n)

/-- The accumulators after the query blocks before `n`. -/
structure Acc (s : St Ideal) : Prop where
  dq : s.dq = up4 fun _ => H.qAt X j n
  dk : s.dk = up3 fun _ => H.kAt j n
  dv : s.dv = up3 fun _ => H.vAt j n
  dc : s.dc = up3 fun _ => H.cAt Y j n
  rs : s.rs = up2 fun b _ => H.rAt j n b

variable {H X Y j n}

/-! Blocks of arrays of reals, in the shapes of the kernel. -/

section Windows

variable {A : Fin 8192 → Fin 128 → ℝ} {off : Fin 3 → ℕ} {off4 : Fin 4 → ℕ}

theorem w3 {x : Vec Ideal S1x8192x128 .bf16} (hx : x = up3 fun _ => A) (h : off = ![0, 512 * n, 0]) (hn : n ≤ 15)
    (inb : ∀ a, off a + S1x512x128.size a ≤ S1x8192x128.size a) :
    window x off S1x512x128.size inb = up3 fun _ b => A (row n b) := by
  subst hx; exact window_rows A n (by rw [h, Nat.min_eq_left hn]) inb
theorem w3' {x : Vec Ideal S1x8192x128 .bf16} (hx : x = up3 fun _ => A) (h : off = ![0, 512 * min n 15, 0])
    (inb : ∀ a, off a + S1x512x128.size a ≤ S1x8192x128.size a) :
    window x off S1x512x128.size inb = up3 fun _ b => A (row n b) := by
  subst hx; exact window_rows A n h inb
theorem wq {x : Vec Ideal S1x16x128x512 .f32} (hx : x = up4 fun _ => X) (i : Fin 16) (h : off4 = ![0, i.val, 0, 0])
    (inb : ∀ a, off4 a + S1x1x128x512.size a ≤ S1x16x128x512.size a) :
    window x off4 S1x1x128x512.size inb = up4 fun _ _ => X i := by
  subst hx; exact window_row4 X i h inb
theorem wc {x : Vec Ideal S1x16x512 .f32} (hx : x = up3 fun _ => Y) (i : Fin 16) (h : off = ![0, i.val, 0])
    (inb : ∀ a, off a + S1x1x512.size a ≤ S1x16x512.size a) :
    window x off S1x1x512.size inb = up3 fun _ _ => Y i := by
  subst hx; exact window_row3 Y i h inb
theorem pq {x : Vec Ideal S1x16x128x512 .f32} (hx : x = up4 fun _ => X) (w : Fin 128 → Fin 512 → ℝ) (i : Fin 16)
    (h : off4 = ![0, i.val, 0, 0]) :
    put x off4 S1x1x128x512.size (up4 (k := 1) (l := 1) fun _ _ => w) = up4 fun _ => Function.update X i w := by
  subst hx; exact put_row4 X w i h
theorem pc {x : Vec Ideal S1x16x512 .f32} (hx : x = up3 fun _ => Y) (w : Fin 512 → ℝ) (i : Fin 16)
    (h : off = ![0, i.val, 0]) :
    put x off S1x1x512.size (up3 (l := 1) (m := 1) fun _ _ => w) = up3 fun _ => Function.update Y i w := by
  subst hx; exact put_row3 Y w i h

end Windows

variable (i : grid0.Coords) {s : St Ideal} {q g : Vec Ideal S1x8192x128 .bf16} {kb vb : Vec Ideal S1x512x128 .bf16}
  {kv vv : FVec Ideal S512x128 .bf16} {dq : Vec Ideal S1x16x128x512 .f32} {dc : Vec Ideal S1x16x512 .f32}

theorem i1_le : (i 1).val ≤ 15 := Nat.le_of_lt_succ (i 1).isLt

section Start

variable (hq : q = up3 fun _ => H.A) (hg : g = up3 fun _ => H.G)
  (hk : kb = up3 fun _ s => H.K (row (i 1).val s)) (hv : vb = up3 fun _ s => H.W (row (i 1).val s))
  (hx : dq = up4 fun _ => X) (hy : dc = up3 fun _ => Y)
include hq hg hk hv

theorem start_sa : (start i q g kb vb dq dc).sa = up2 (lgB H (i 1).val (i 1).val) := by
  show k0_pay65 kb (window q (k0_off1 i) S1x512x128.size (k0_off1_inb i)) = _
  rw [w3 hq (k0_off1_eq i) (i1_le i), hk, p65, prod_lg]
theorem start_da : (start i q g kb vb dq dc).da = up2 (dpB H (i 1).val (i 1).val) := by
  show k0_pay66 (k0_pay64 vb) (window g (k0_off1 i) S1x512x128.size (k0_off1_inb i)) = _
  rw [w3 hg (k0_off1_eq i) (i1_le i), hv, p64, p66, prod_dp]
theorem start_sb : (start i q g kb vb dq dc).sb = up2 (lgB H (i 1).val ((i 1).val + 1)) := by
  show k0_pay67 (k0_pay63 kb) (window q (k0_off2 i) S1x512x128.size (k0_off2_inb i)) = _
  rw [w3' (n := (i 1).val + 1) hq (k0_off2_eq i), hk, p63, p67, prod_lg]
theorem start_db : (start i q g kb vb dq dc).db = up2 (dpB H (i 1).val ((i 1).val + 1)) := by
  show k0_pay68 (k0_pay64 vb) (window g (k0_off2 i) S1x512x128.size (k0_off2_inb i)) = _
  rw [w3' (n := (i 1).val + 1) hg (k0_off2_eq i), hv, p64, p68, prod_dp]

include hx hy
theorem start_acc : Acc H (i 1).val ((i 1).val + 1) X Y (start i q g kb vb dq dc) := by
  have hj := i1_le i
  have e1 := start_sa (dq := dq) (dc := dc) i hq hg hk hv
  have e2 := start_da (dq := dq) (dc := dc) i hq hg hk hv
  constructor
  · show put dq (k0_off3 i) S1x1x128x512.size (k0_pay77 (k0_pay76 (k0_pay63 kb) (start i q g kb vb dq dc).sa
      (start i q g kb vb dq dc).da (window dq (k0_off3 i) S1x1x128x512.size (k0_off3_inb i)))) = _
    have := dq_succ (H := H) (X := X) le_rfl (i 1) rfl
    rw [Head.qAt_self] at this
    rw [e1, e2, hk, p63, wq hx (i 1) (k0_off3_eq i), p76, p77, pq hx _ (i 1) (k0_off3_eq i), low_lg hj, grad_P, this]
  · show k0_pay75 (k0_pay69 (window q (k0_off1 i) S1x512x128.size (k0_off1_inb i))) (start i q g kb vb dq dc).sa
      (start i q g kb vb dq dc).da (k0_pay60 (F := Ideal)) = _
    rw [e1, e2, w3 hq (k0_off1_eq i) hj, p69, p60, ← Head.kAt_self (H := H) (j := (i 1).val)]
    exact (p75 _ _ _ _).trans (by rw [low_lg hj, grad_P, dk_succ le_rfl])
  · show k0_pay72 (k0_pay70 (window g (k0_off1 i) S1x512x128.size (k0_off1_inb i))) (start i q g kb vb dq dc).sa (k0_pay61 (F := Ideal)) = _
    rw [e1, w3 hg (k0_off1_eq i) hj, p70, p61, ← Head.vAt_self (H := H) (j := (i 1).val)]
    exact (p72 _ _ _).trans (by rw [low_lg hj, dv_succ le_rfl])
  · show put dc (k0_off4 i) S1x1x512.size (k0_pay79 (k0_pay73 (start i q g kb vb dq dc).sa (start i q g kb vb dq dc).da)
      (window dc (k0_off4 i) S1x1x512.size (k0_off4_inb i))) = _
    have := dc_succ (H := H) (Y := Y) le_rfl (i 1) rfl
    rw [Head.cAt_self] at this
    rw [e1, e2, p73, wc hy (i 1) (k0_off4_eq i), p79, pc hy _ (i 1) (k0_off4_eq i), low_lg hj, grad_P, this]
  · show k0_pay78 (k0_pay73 (start i q g kb vb dq dc).sa (start i q g kb vb dq dc).da) (k0_pay62 (F := Ideal)) = _
    rw [e1, e2, p73, p62]
    exact (p78 _ (fun _ => 0)).trans (by
      rw [← Head.rAt_self (H := H) (j := (i 1).val), low_lg hj, grad_P, rs_succ le_rfl])

end Start

section Trip

variable (hq : q = up3 fun _ => H.A) (hg : g = up3 fun _ => H.G)
  (hk : kv = up2 fun s => H.K (row (i 1).val s)) (hv : vv = up2 fun s => H.W (row (i 1).val s))
  (k : Fin (k0_t1_loop i).trips)
include hq hg hk hv

/-- Block `i 1 + 1 + 2 k`: -/
theorem stepA_acc (h : Acc H (i 1).val ((i 1).val + 1 + 2 * k.val) X Y s)
    (hsb : s.sb = up2 (lgB H (i 1).val ((i 1).val + 1 + 2 * k.val)))
    (hdb : s.db = up2 (dpB H (i 1).val ((i 1).val + 1 + 2 * k.val))) :
    Acc H (i 1).val ((i 1).val + 2 + 2 * k.val) X Y (stepA i q g kv vv k s) ∧
    (stepA i q g kv vv k s).sa = up2 (lgB H (i 1).val ((i 1).val + 2 + 2 * k.val)) ∧
    (stepA i q g kv vv k s).da = up2 (dpB H (i 1).val ((i 1).val + 2 + 2 * k.val)) := by
  have hj := i1_le i
  have hk' : k.val < (15 - (i 1).val) / 2 := lt_of_lt_of_eq k.isLt (trips1 i)
  obtain ⟨n, hn⟩ : ∃ n, n = (i 1).val + 1 + 2 * k.val := ⟨_, rfl⟩
  have h6 := off6 i k
  have h7 := off7 i k
  have h8 := off8 i k
  rw [← hn] at h hsb hdb h6 h7 h8
  have hn' : (i 1).val + 2 + 2 * k.val = n + 1 := by omega
  have h5 := off5_1 i k
  rw [hn'] at h5 ⊢
  have hnl : n ≤ 15 := by omega
  have hf : full (lgB H (i 1).val n) = PB H (i 1).val n := full_lg (by omega) hnl
  have hjn : (i 1).val ≤ n := by omega
  refine ⟨?_, ?_, ?_⟩
  · constructor
    · show put s.dq (k0_off7 i k) S1x1x128x512.size (k0_pay20 kv (k0_pay15 s.sb) s.db
        (window s.dq (k0_off7 i k) S1x1x128x512.size (k0_off7_inb i k))) = _
      rw [hsb, hdb, hk, p15, wq h.dq ⟨n, by omega⟩ h7, p20, pq h.dq _ ⟨n, by omega⟩ h7, hf, grad_P, dq_succ hjn _ rfl]
    · show k0_pay19 (k0_pay13 (window q (k0_off6 i k) S1x512x128.size (k0_off6_inb i k))) (k0_pay15 s.sb) s.db s.dk = _
      rw [hsb, hdb, p15, w3 hq h6 hnl, p13, h.dk, p19, hf, grad_P, dk_succ hjn]
    · show k0_pay16 (k0_pay14 (window g (k0_off6 i k) S1x512x128.size (k0_off6_inb i k))) (k0_pay15 s.sb) s.dv = _
      rw [hsb, p15, w3 hg h6 hnl, p14, h.dv, p16, hf, dv_succ hjn]
    · show put s.dc (k0_off8 i k) S1x1x512.size (k0_pay23 (k0_pay17 (k0_pay15 s.sb) s.db)
        (window s.dc (k0_off8 i k) S1x1x512.size (k0_off8_inb i k))) = _
      rw [hsb, hdb, p15, p17, wc h.dc ⟨n, by omega⟩ h8, p23, pc h.dc _ ⟨n, by omega⟩ h8, hf, grad_P, dc_succ hjn _ rfl]
    · show k0_pay22 (k0_pay21 (k0_pay15 s.sb) s.db s.rs) = _
      rw [hsb, hdb, p15, h.rs, p21, p22, hf, grad_P, rs_succ hjn]
  · show k0_pay11 kv (window q (k0_off5 i k 1#32) S1x512x128.size (k0_off5_inb i k 0)) = _
    rw [w3 hq h5 (by omega), hk, p11, prod_lg]
  · show k0_pay12 vv (window g (k0_off5 i k 1#32) S1x512x128.size (k0_off5_inb i k 0)) = _
    rw [w3 hg h5 (by omega), hv, p12, prod_dp]

/-- and block `i 1 + 2 + 2 k`. -/
theorem stepB_acc (h : Acc H (i 1).val ((i 1).val + 2 + 2 * k.val) X Y s)
    (hsa : s.sa = up2 (lgB H (i 1).val ((i 1).val + 2 + 2 * k.val)))
    (hda : s.da = up2 (dpB H (i 1).val ((i 1).val + 2 + 2 * k.val))) :
    Acc H (i 1).val ((i 1).val + 3 + 2 * k.val) X Y (stepB i q g kv vv k s) ∧
    (stepB i q g kv vv k s).sb = up2 (lgB H (i 1).val ((i 1).val + 3 + 2 * k.val)) ∧
    (stepB i q g kv vv k s).db = up2 (dpB H (i 1).val ((i 1).val + 3 + 2 * k.val)) := by
  have hj := i1_le i
  have hk' : k.val < (15 - (i 1).val) / 2 := lt_of_lt_of_eq k.isLt (trips1 i)
  obtain ⟨n, hn⟩ : ∃ n, n = (i 1).val + 2 + 2 * k.val := ⟨_, rfl⟩
  have h5 := off5_1 i k
  have h9 := off9 i k
  have h10 := off10 i k
  rw [← hn] at h hsa hda h5 h9 h10
  have hn' : (i 1).val + 3 + 2 * k.val = n + 1 := by omega
  have h5' := off5_2 i k
  rw [hn'] at h5' ⊢
  have hnl : n ≤ 15 := by omega
  have hf : full (lgB H (i 1).val n) = PB H (i 1).val n := full_lg (by omega) hnl
  have hjn : (i 1).val ≤ n := by omega
  refine ⟨?_, ?_, ?_⟩
  · constructor
    · show put s.dq (k0_off9 i k) S1x1x128x512.size (k0_pay1 (k0_pay31 kv s.sa s.da
        (window s.dq (k0_off9 i k) S1x1x128x512.size (k0_off9_inb i k)))) = _
      rw [hsa, hda, hk, wq h.dq ⟨n, by omega⟩ h9, p31, p1, pq h.dq _ ⟨n, by omega⟩ h9, hf, grad_P, dq_succ hjn _ rfl]
    · show k0_pay30 (window q (k0_off5 i k 1#32) S1x512x128.size (k0_off5_inb i k 0)) s.sa s.da s.dk = _
      rw [hsa, hda, w3 hq h5 hnl, h.dk, p30, hf, grad_P, dk_succ hjn]
    · show k0_pay27 (window g (k0_off5 i k 1#32) S1x512x128.size (k0_off5_inb i k 0)) s.sa s.dv = _
      rw [hsa, w3 hg h5 hnl, h.dv, p27, hf, dv_succ hjn]
    · show put s.dc (k0_off10 i k) S1x1x512.size (k0_pay3 (k0_pay28 s.sa s.da)
        (window s.dc (k0_off10 i k) S1x1x512.size (k0_off10_inb i k))) = _
      rw [hsa, hda, p28, wc h.dc ⟨n, by omega⟩ h10, p3, pc h.dc _ ⟨n, by omega⟩ h10, hf, grad_P, dc_succ hjn _ rfl]
    · show k0_pay2 (k0_pay28 s.sa s.da) s.rs = _
      rw [hsa, hda, h.rs, p28, p2, hf, grad_P, rs_succ hjn]
  · show k0_pay24 kv (window q (k0_off5 i k 2#32) S1x512x128.size (k0_off5_inb i k 1)) = _
    rw [w3' hq h5', hk, p24, prod_lg]
  · show k0_pay25 vv (window g (k0_off5 i k 2#32) S1x512x128.size (k0_off5_inb i k 1)) = _
    rw [w3' hg h5', hv, p25, prod_dp]

omit k in
theorem trips_acc (h : Acc H (i 1).val ((i 1).val + 1) X Y s) (hsb : s.sb = up2 (lgB H (i 1).val ((i 1).val + 1)))
    (hdb : s.db = up2 (dpB H (i 1).val ((i 1).val + 1))) :
    ∀ n, n ≤ (k0_t1_loop i).trips → Acc H (i 1).val ((i 1).val + 1 + 2 * n) X Y (trips i q g kv vv s n) ∧
      (trips i q g kv vv s n).sb = up2 (lgB H (i 1).val ((i 1).val + 1 + 2 * n)) ∧
      (trips i q g kv vv s n).db = up2 (dpB H (i 1).val ((i 1).val + 1 + 2 * n))
  | 0, _ => ⟨h, hsb, hdb⟩
  | n + 1, hn => by
    obtain ⟨a, b, d⟩ := trips_acc h hsb hdb n (by omega)
    obtain ⟨a, b, d⟩ := stepA_acc i hq hg hk hv ⟨n, by omega⟩ a b d
    obtain ⟨a, b, d⟩ := stepB_acc i hq hg hk hv ⟨n, by omega⟩ a b d
    rw [trips, dif_pos (by omega : n < (k0_t1_loop i).trips), show (i 1).val + 1 + 2 * (n + 1) = (i 1).val + 3 + 2 * n by omega]
    exact ⟨a, b, d⟩

omit k hv in
theorem tail_acc (hc : k0_cond2 i = 1#1) (hlt : (i 1).val < 15) (h : Acc H (i 1).val 15 X Y s)
    (hsb : s.sb = up2 (lgB H (i 1).val 15)) (hdb : s.db = up2 (dpB H (i 1).val 15)) :
    Acc H (i 1).val 16 X Y (tail i q g hc kv s) := by
  have hf : full (lgB H (i 1).val 15) = PB H (i 1).val 15 := full_lg hlt le_rfl
  have hjn : (i 1).val ≤ 15 := by omega
  constructor
  · show put s.dq ![0, 15, 0, 0] S1x1x128x512.size (k0_pay7 kv (k0_pay56 s.sb s.db)
      (window s.dq ![0, 15, 0, 0] S1x1x128x512.size inb_S1x16x128x512_S1x1x128x512_0_15_0_0)) = _
    rw [hsb, hdb, hk, p56, wq (off4 := ![0, 15, 0, 0]) h.dq 15 rfl, p7, pq (off4 := ![0, 15, 0, 0]) h.dq _ 15 rfl, hf, grad_P, dq_succ hjn _ rfl]
  · show k0_pay57 (window q k0_off17 S1x512x128.size (k0_off17_inb i hc)) s.sb s.db s.dk = _
    rw [hsb, hdb, w3 (n := 15) hq k0_off17_eq le_rfl, h.dk, p57, hf, grad_P, dk_succ hjn]
  · show k0_pay54 (window g k0_off17 S1x512x128.size (k0_off17_inb i hc)) s.sb s.dv = _
    rw [hsb, w3 (n := 15) hg k0_off17_eq le_rfl, h.dv, p54, hf, dv_succ hjn]
  · show put s.dc ![0, 15, 0] S1x1x512.size (k0_pay9 (k0_pay55 s.sb s.db)
      (window s.dc ![0, 15, 0] S1x1x512.size inb_S1x16x512_S1x1x512_0_15_0)) = _
    rw [hsb, hdb, p55, wc (off := ![0, 15, 0]) h.dc 15 rfl, p9, pc (off := ![0, 15, 0]) h.dc _ 15 rfl, hf, grad_P, dc_succ hjn _ rfl]
  · show k0_pay8 (k0_pay55 s.sb s.db) s.rs = _
    rw [hsb, hdb, h.rs, p55, p8, hf, grad_P, rs_succ hjn]

end Trip

/-- The remainder is made exactly when the number of later query blocks is odd. -/
theorem cond2_iff : ∀ i : grid0.Coords, k0_cond2 i = 1#1 ↔ (15 - (i 1).val) % 2 = 1 := by decide +kernel

/-- After the point: the gradients of key block `i 1` whole, those of every query block one key block further. -/
structure Done (H : Head) (j : ℕ) (X : Fin 16 → Fin 128 → Fin 512 → ℝ) (Y : Fin 16 → Fin 512 → ℝ) (s : St Ideal) : Prop where
  dq : s.dq = up4 fun _ => H.qAt X j 16
  dk : s.dk = up3 fun _ => H.kAt j 16
  dv : s.dv = up3 fun _ => H.vAt j 16
  dc : s.dc = up3 fun _ i b => H.cAt Y j 16 i b - if i.val = j then H.rAt j 16 b else 0

theorem finish_done (h : Acc H (i 1).val 16 X Y s) : Done H (i 1).val X Y (finish i s) := by
  refine ⟨h.dq, h.dk, h.dv, ?_⟩
  show put s.dc (k0_off4 i) S1x1x512.size (k0_pay10 (window s.dc (k0_off4 i) S1x1x512.size (k0_off4_inb i)) s.rs) = _
  obtain ⟨k, hk⟩ : ∃ k : Fin 16, k.val = (i 1).val := ⟨i 1, rfl⟩
  have e := k0_off4_eq i
  rw [← hk] at e
  rw [h.rs, wc h.dc k e, p10, pc h.dc _ k e]
  refine congrArg up3 (funext fun _ => funext fun i' => funext fun b => ?_)
  by_cases hi : i' = k
  · rw [hi, Function.update_self, if_pos hk]
  · rw [Function.update_of_ne hi, if_neg (fun e => hi (Fin.ext (e.trans hk.symm))), sub_zero]

theorem point_done (hq : q = up3 fun _ => H.A) (hg : g = up3 fun _ => H.G)
    (hk : kb = up3 fun _ s => H.K (row (i 1).val s)) (hv : vb = up3 fun _ s => H.W (row (i 1).val s))
    (hx : dq = up4 fun _ => X) (hy : dc = up3 fun _ => Y) :
    Done H (i 1).val X Y (point i q g kb vb dq dc) := by
  have hj := i1_le i
  have hk' : k0_pay63 kb = up2 fun s => H.K (row (i 1).val s) := by rw [hk, p63]
  have hv' : k0_pay64 vb = up2 fun s => H.W (row (i 1).val s) := by rw [hv, p64]
  obtain ⟨a, b, d⟩ := trips_acc i hq hg hk' hv' (start_acc i hq hg hk hv hx hy) (start_sb i hq hg hk hv) (start_db i hq hg hk hv)
    _ le_rfl
  refine finish_done i ?_
  have hc := cond2_iff i
  have ht := trips1 i
  split
  · next h =>
    have e : (i 1).val + 1 + 2 * (k0_t1_loop i).trips = 15 := by rw [ht]; have := hc.mp h; omega
    rw [e] at a b d
    exact tail_acc i hq hg hk' h (by have := hc.mp h; omega) a b d
  · next h =>
    have e : (i 1).val + 1 + 2 * (k0_t1_loop i).trips = 16 := by rw [ht]; have := mt hc.mpr h; omega
    rw [e] at a
    exact a

end AttnPoint

end
-- ==== Proof.AttnKernel.lean ====
/-
  The attention backward's arrays after the run, for finite arguments: the points of a head add up to its gradients.
-/
module

public import proofs.«01_k».proof.Proof.AttnPoint
public import proofs.«01_k».proof.Proof.AttnFrame
public import Idealize.ShloMosaic.Lib.Pipeline.ValueKit

@[expose] public section

set_option maxRecDepth 16384

noncomputable section

namespace AttnKernel

open Idealize.ShloMosaic Idealize.ShloMosaic.TcCoe Idealize.SL.Sem Cert.Kernel2Ideal Cert.Kernel2Ideal.Gen Lift Attn

variable (m : (ℓ : Loc nD τ sig) → Buf (Elt Ideal) ℓ) (c : Dev nD) (hd : Fin 8 → Attn.Head)

/-- The region finds the heads `hd` in its input arrays. -/
structure Finds : Prop where
  q : V m c main_v48 = (up3 (fun h => (hd h).A) : S8x8192x128.Idx → EReal)
  g : V m c main_v80 = (up3 (fun h => (hd h).G) : S8x8192x128.Idx → EReal)
  k : V m c main_v62 = (up3 (fun h => (hd h).K) : S8x8192x128.Idx → EReal)
  v : V m c main_v66 = (up3 (fun h => (hd h).W) : S8x8192x128.Idx → EReal)

/-- The head of a point. -/
def hOf (n : ℕ) : Fin 8 := ⟨min (n / 16) 7, by omega⟩
theorem hOf_val (t : Fin cfg0.N) : (hOf t.val).val = t.val / 16 := by
  have h : t.val < 128 := t.isLt
  show min (t.val / 16) 7 = _
  omega
theorem coord1 : ∀ t : Fin cfg0.N, (grid0.coords t 1).val = t.val % 16 := (by decide +kernel : ∀ t : Fin grid0.N, _)

theorem idx0 : ∀ t : Fin cfg0.N, win0_0.index t = ![t.val / 16, 0, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, t.val % 16, 0] := (by decide +kernel : ∀ t : Fin grid0.N, _)
theorem idx3 : ∀ t : Fin cfg0.N, win0_3.index t = ![t.val / 16, t.val % 16, 0] := (by decide +kernel : ∀ t : Fin grid0.N, _)
theorem idx4 : ∀ t : Fin cfg0.N, win0_4.index t = ![t.val / 16, 0, 0, 0] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, 0, 0] := (by decide +kernel : ∀ t : Fin grid0.N, _)

variable {m c hd} (H : Finds m c hd)
include H

theorem b0 (t : Fin cfg0.N) : iblk m c 0 t = (up3 (fun _ => (hd (hOf t.val)).A) : S1x8192x128.Idx → EReal) := by
  funext y
  have h0 : (y 0).val < 1 := (y 0).isLt
  have e : iblk m c 0 t y = V m c main_v48 (ix3 (hOf t.val) (y 1) (y 2)) := by
    unfold iblk; blk_ext! [idx0 t, hOf_val t]
  rw [e, H.q]; rfl
theorem b1 (t : Fin cfg0.N) : iblk m c 1 t = (up3 (fun _ => (hd (hOf t.val)).G) : S1x8192x128.Idx → EReal) := by
  funext y
  have h0 : (y 0).val < 1 := (y 0).isLt
  have e : iblk m c 1 t y = V m c main_v80 (ix3 (hOf t.val) (y 1) (y 2)) := by
    unfold iblk; blk_ext! [idx1 t, hOf_val t]
  rw [e, H.g]; rfl
theorem b2 (t : Fin cfg0.N) : iblk m c 2 t = (up3 (fun _ s => (hd (hOf t.val)).K (row (grid0.coords t 1).val s)) : S1x512x128.Idx → EReal) := by
  rw [coord1]
  funext y
  have h0 : (y 0).val < 1 := (y 0).isLt
  have e : iblk m c 2 t y = V m c main_v62 (ix3 (hOf t.val) (row (t.val % 16) (y 1)) (y 2)) := by
    unfold iblk; blk_ext! [idx2 t, hOf_val t, row]
  rw [e, H.k]; rfl
theorem b3 (t : Fin cfg0.N) : iblk m c 3 t = (up3 (fun _ s => (hd (hOf t.val)).W (row (grid0.coords t 1).val s)) : S1x512x128.Idx → EReal) := by
  rw [coord1]
  funext y
  have h0 : (y 0).val < 1 := (y 0).isLt
  have e : iblk m c 3 t y = V m c main_v66 (ix3 (hOf t.val) (row (t.val % 16) (y 1)) (y 2)) := by
    unfold iblk; blk_ext! [idx3 t, hOf_val t, row]
  rw [e, H.v]; rfl

theorem run_done (t : Fin cfg0.N) {X : Fin 16 → Fin 128 → Fin 512 → ℝ} {Y : Fin 16 → Fin 512 → ℝ}
    {dq : Vec Ideal S1x16x128x512 .f32} {dc : Vec Ideal S1x16x512 .f32} (hx : dq = up4 fun _ => X) (hy : dc = up3 fun _ => Y) :
    AttnPoint.Done (hd (hOf t.val)) (t.val % 16) X Y (run m c t dq dc) := by
  have := AttnPoint.point_done (grid0.coords t) (b0 H t) (b1 H t) (b2 H t) (b3 H t) hx hy
  rwa [coord1] at this

/-- What every point leaves: its head's sums over the key blocks so far. -/
theorem state_done : ∀ (n : ℕ) (hn : n < cfg0.N), AttnPoint.Done (hd (hOf n)) (n % 16) ((hd (hOf n)).QT (n % 16)) ((hd (hOf n)).CT (n % 16)) (state m c n hn) := by
  intro n
  induction n with
  | zero =>
    intro hn
    rw [show state m c 0 hn = _ from state_first m c ⟨0, hn⟩ rfl]
    exact run_done H ⟨0, hn⟩ (AttnPay.p58.trans (by rw [Nat.zero_mod, Head.QT_zero])) (AttnPay.p59.trans (by rw [Nat.zero_mod, Head.CT_zero]))
  | succ n ih =>
    intro hn
    by_cases h : (n + 1) % 16 = 0
    · rw [show state m c (n + 1) hn = _ from state_first m c ⟨n + 1, hn⟩ h]
      exact run_done H ⟨n + 1, hn⟩ (AttnPay.p58.trans (by rw [h, Head.QT_zero])) (AttnPay.p59.trans (by rw [h, Head.CT_zero]))
    · have ih := ih (Nat.lt_of_succ_lt hn)
      have e1 : hOf (n + 1) = hOf n := Fin.ext (by show min ((n + 1) / 16) 7 = min (n / 16) 7; omega)
      have e2 : (n + 1) % 16 = n % 16 + 1 := by omega
      rw [show state m c (n + 1) hn = _ from state_later m c ⟨n + 1, hn⟩ h]
      refine run_done H ⟨n + 1, hn⟩ (ih.dq.trans ?_) (ih.dc.trans ?_)
      · rw [Head.QT_succ, e1, e2]
      · rw [e1, e2]
        exact congrArg up3 (funext fun _ => funext fun i => funext fun b => Head.CT_succ _ i b)

/-! What a point leaves that is written back. -/

theorem o4 (t : Fin cfg0.N) (ht : t.val % 16 = 15) : (state m c t.val t.isLt).dq
    = up4 fun _ i l b => ∑ s, (hd (hOf t.val)).K s l * (hd (hOf t.val)).dS s (row i.val b) := by
  rw [(state_done H t.val t.isLt).dq, ht, Head.QT_succ]
  exact congrArg up4 (funext fun _ => funext fun i => funext fun l => funext fun b => Head.QT_total i l b)
theorem o5 (t : Fin cfg0.N) : (state m c t.val t.isLt).dk
    = up3 fun _ s l => ∑ u, (hd (hOf t.val)).dS (row (t.val % 16) s) u * (hd (hOf t.val)).A u l := by
  rw [(state_done H t.val t.isLt).dk]
  exact congrArg up3 (funext fun _ => funext fun s => funext fun l => Head.kAt_total (by omega) s l)
theorem o6 (t : Fin cfg0.N) : (state m c t.val t.isLt).dv
    = up3 fun _ s l => ∑ u, (hd (hOf t.val)).P (row (t.val % 16) s) u * (hd (hOf t.val)).G u l := by
  rw [(state_done H t.val t.isLt).dv]
  exact congrArg up3 (funext fun _ => funext fun s => funext fun l => Head.vAt_total (by omega) s l)
theorem o7 (t : Fin cfg0.N) (ht : t.val % 16 = 15) : (state m c t.val t.isLt).dc
    = up3 fun _ i b => (∑ s, (hd (hOf t.val)).dS s (row i.val b)) - ∑ u, (hd (hOf t.val)).dS (row i.val b) u := by
  rw [(state_done H t.val t.isLt).dc, ht]
  exact congrArg up3 (funext fun _ => funext fun i => funext fun b => (Head.CT_succ _ i b).trans (Head.CT_total i b))

/-! ### The arrays after the run -/

omit H in
theorem up3_at {a b d : ℕ} (f : Fin a → Fin b → Fin d → ℝ) (j : (⟨3, ![a, b, d]⟩ : Shape).Idx) (x : Fin a) (y : Fin b) (z : Fin d)
    (h0 : x.val = (j 0).val) (h1 : y.val = (j 1).val) (h2 : z.val = (j 2).val) : ((f x y z : ℝ) : EReal) = up3 f j := by
  rw [up3_apply, ← (Fin.ext h0 : x = j 0), ← (Fin.ext h1 : y = j 1), ← (Fin.ext h2 : z = j 2)]
omit H in
theorem up4_at {a b d e : ℕ} (f : Fin a → Fin b → Fin d → Fin e → ℝ) (j : (⟨4, ![a, b, d, e]⟩ : Shape).Idx) (x : Fin a) (y : Fin b)
    (z : Fin d) (w : Fin e) (h0 : x.val = (j 0).val) (h1 : y.val = (j 1).val) (h2 : z.val = (j 2).val) (h3 : w.val = (j 3).val) :
    ((f x y z w : ℝ) : EReal) = up4 f j := by
  rw [up4_apply, ← (Fin.ext h0 : x = j 0), ← (Fin.ext h1 : y = j 1), ← (Fin.ext h2 : z = j 2), ← (Fin.ext h3 : w = j 3)]

variable (hd) in
/-- The four gradients of the heads. -/
def gq (h : Fin 8) (i : Fin 16) (l : Fin 128) (b : Fin 512) : ℝ := ∑ s, (hd h).K s l * (hd h).dS s (row i.val b)
variable (hd) in
def gk (h : Fin 8) (s : Fin 8192) (l : Fin 128) : ℝ := ∑ t, (hd h).dS s t * (hd h).A t l
variable (hd) in
def gv (h : Fin 8) (s : Fin 8192) (l : Fin 128) : ℝ := ∑ t, (hd h).P s t * (hd h).G t l
variable (hd) in
def gc (h : Fin 8) (i : Fin 16) (b : Fin 512) : ℝ := (∑ s, (hd h).dS s (row i.val b)) - ∑ t, (hd h).dS (row i.val b) t

theorem w4 : (dats m 0 c).arrAt 4 cfg0.N = (up4 (gq hd) : S8x16x128x512.Idx → EReal) :=
  (dats m 0 c).arrAt_eq_of_covers 4 _ (by decide +kernel) fun t hf y => by
    have ht := (flush0_4 t).mp hf
    have h0 : (y 0).val < 1 := (y 0).isLt
    have e := hOf_val t
    blk_simp
    rw [after0_4, o4 H t ht]
    exact up4_at (gq hd) _ (hOf t.val) (y 1) (y 2) (y 3) (by simp [idx4 t, e]) (by simp [idx4 t]) (by simp [idx4 t]) (by simp [idx4 t])
theorem w5 : (dats m 0 c).arrAt 5 cfg0.N = (up3 (gk hd) : S8x8192x128.Idx → EReal) :=
  (dats m 0 c).arrAt_eq_of_covers 5 _ (by decide +kernel) fun t hf y => by
    have h0 : (y 0).val < 1 := (y 0).isLt
    have e := hOf_val t
    blk_simp
    rw [after0_5, o5 H t]
    exact up3_at (gk hd) _ (hOf t.val) (row (t.val % 16) (y 1)) (y 2) (by simp [idx5 t, e]) (by simp [idx5 t, row]; omega) (by simp [idx5 t])
theorem w6 : (dats m 0 c).arrAt 6 cfg0.N = (up3 (gv hd) : S8x8192x128.Idx → EReal) :=
  (dats m 0 c).arrAt_eq_of_covers 6 _ (by decide +kernel) fun t hf y => by
    have h0 : (y 0).val < 1 := (y 0).isLt
    have e := hOf_val t
    blk_simp
    rw [after0_6, o6 H t]
    exact up3_at (gv hd) _ (hOf t.val) (row (t.val % 16) (y 1)) (y 2) (by simp [idx6 t, e]) (by simp [idx6 t, row]; omega) (by simp [idx6 t])
theorem w7 : (dats m 0 c).arrAt 7 cfg0.N = (up3 (gc hd) : S8x16x512.Idx → EReal) :=
  (dats m 0 c).arrAt_eq_of_covers 7 _ (by decide +kernel) fun t hf y => by
    have ht := (flush0_7 t).mp hf
    have h0 : (y 0).val < 1 := (y 0).isLt
    have e := hOf_val t
    blk_simp
    rw [after0_7, o7 H t ht]
    exact up3_at (gc hd) _ (hOf t.val) (y 1) (y 2) (by simp [idx7 t, e]) (by simp [idx7 t]) (by simp [idx7 t])

end AttnKernel
end
-- ==== Proof.AttnHost.lean ====
/-
  What the host lines before the attention's gradient kernel leave in its four operands, for finite arguments: the queries,
  keys, values and cotangents of the heads, with the row numbers of AttnSoft in the lanes after them.
-/
module

public import proofs.«01_k».proof.Proof.AttnSoft
public import proofs.«01_k».proof.Proof.AttnKernel
public import Idealize.ShloMosaic.Lib.StableHlo.RunRead

@[expose] public section

set_option maxRecDepth 16384

noncomputable section

namespace AttnHost

open Idealize.ShloMosaic Idealize.ShloMosaic.TcCoe Idealize.SL.Sem Cert.Kernel2Ideal Cert.Kernel2Ideal.Gen Lift Attn

/-- The buffers of a device, by name. -/
local notation "Vals" => Valuation τ sig (Elt Ideal)

variable (V : Vals) (a : Args)

/-- The arguments hold the reals `a`. -/
structure Given : Prop where
  h0 : V (Proc.devRef .tc main_arg0) = (up3 a.q : S8192x8x64.Idx → EReal)
  h1 : V (Proc.devRef .tc main_arg1) = (up3 a.k : S8192x8x64.Idx → EReal)
  h2 : V (Proc.devRef .tc main_arg2) = (up3 a.v : S8192x8x64.Idx → EReal)
  h3 : V (Proc.devRef .tc main_arg3) = (up2 a.c : S8192x8.Idx → EReal)
  h4 : V (Proc.devRef .tc main_arg4) = (up2 a.g : S8192x512.Idx → EReal)

/-- What every later line reads of the first ones. -/
structure Split : Prop where
  v2 : V (Proc.devRef .tc main_v2) = (up3 (fun h t l => a.q t h l * (1 / 8)) : S8x8192x64.Idx → EReal)
  v3 : V (Proc.devRef .tc main_v3) = (up3 (fun h t l => a.k t h l) : S8x8192x64.Idx → EReal)
  v4 : V (Proc.devRef .tc main_v4) = (up3 (fun h t l => a.v t h l) : S8x8192x64.Idx → EReal)
  v5 : V (Proc.devRef .tc main_v5) = (up2 (fun h t => a.c t h) : S8x8192.Idx → EReal)
  v7 : V (Proc.devRef .tc main_v7) = (up3 (fun h t l => a.g t (lane h l)) : S8x8192x64.Idx → EReal)

variable {V a}

theorem split0 (H : Given V a) : Split (StableHlo.after hostOps0 V) a where
  v2 := by after_reads_simp; rw [H.h0]; funext j; pointwise
  v3 := by after_reads_simp; rw [H.h1]; funext j; pointwise
  v4 := by after_reads_simp; rw [H.h2]; funext j; pointwise
  v5 := by after_reads_simp; rw [H.h3]; funext j; pointwise
  v7 := by after_reads_simp; rw [H.h4]; funext j; pointwise [lane]

theorem v18 (H : Given V a) : StableHlo.after hostOps0 V (Proc.devRef .tc main_v18) = (up3 a.z : S8x8192x8192.Idx → EReal) := by
  after_reads_simp; rw [H.h0, H.h1, H.h3]; funext j; pointwise [dot_S8x8192x64_S8x8192x64_S8x8192x8192_2_2_1_1_0_0, Args.z]
theorem v14 : StableHlo.after hostOps0 V (Proc.devRef .tc main_v14)
    = (fun j => IntOp.cmpi .sle (BitVec.ofNat 32 (j 1).val) (BitVec.ofNat 32 (j 0).val) : S8192x8192.Idx → BitVec 1) := by
  after_reads_simp; funext j; pointwise
theorem cst0 : StableHlo.after hostOps0 V (Proc.devRef .tc main_cst_0) = (fun _ => ⊥ : S_.Idx → EReal) := by
  after_reads_simp; funext j; pointwise

/-- The masked logits. -/
theorem v19 (h14 : V (Proc.devRef .tc main_v14)
      = (fun j => IntOp.cmpi .sle (BitVec.ofNat 32 (j 1).val) (BitVec.ofNat 32 (j 0).val) : S8192x8192.Idx → BitVec 1))
    (h0 : V (Proc.devRef .tc main_cst_0) = (fun _ => ⊥ : S_.Idx → EReal))
    (h18 : V (Proc.devRef .tc main_v18) = (up3 a.z : S8x8192x8192.Idx → EReal)) :
    StableHlo.after hostOps0_1 V (Proc.devRef .tc main_v19)
      = (fun j => a.masked (j 0) (j 1) (j 2) : S8x8192x8192.Idx → EReal) := by
  after_reads_simp
  rw [h14, h0, h18]; funext j; pointwise [Args.masked]; exact select_keep _ _ _ _
theorem split1 (H : Split V a) : Split (StableHlo.after hostOps0_1 V) a where
  v2 := by after_reads_simp; exact H.v2
  v3 := by after_reads_simp; exact H.v3
  v4 := by after_reads_simp; exact H.v4
  v5 := by after_reads_simp; exact H.v5
  v7 := by after_reads_simp; exact H.v7

/-- The row maxima and the exponentials: the first 6 lines after the mask. -/
theorem split2 (H : Split V a) : Split (StableHlo.after (hostOps0_2.take 6) V) a where
  v2 := by after_reads_simp; exact H.v2
  v3 := by after_reads_simp; exact H.v3
  v4 := by after_reads_simp; exact H.v4
  v5 := by after_reads_simp; exact H.v5
  v7 := by after_reads_simp; exact H.v7
theorem v20 (h : V (Proc.devRef .tc main_v19) = (fun j => a.masked (j 0) (j 1) (j 2) : S8x8192x8192.Idx → EReal)) :
    StableHlo.after (hostOps0_2.take 6) V (Proc.devRef .tc main_v20) = (up2 a.top : S8x8192.Idx → EReal) := by
  after_reads_simp; rw [h]; funext j; pointwise
theorem v24 (h : V (Proc.devRef .tc main_v19) = (fun j => a.masked (j 0) (j 1) (j 2) : S8x8192x8192.Idx → EReal)) :
    StableHlo.after (hostOps0_2.take 6) V (Proc.devRef .tc main_v24) = (up3 a.e : S8x8192x8192.Idx → EReal) := by
  after_reads_simp; rw [h]; funext j; pointwise

/-- The sums, the output and its product with the cotangent: the next 11 lines. -/
theorem split3 (H : Split V a) : Split (StableHlo.after ((hostOps0_2.drop 6).take 11) V) a where
  v2 := by after_reads_simp; exact H.v2
  v3 := by after_reads_simp; exact H.v3
  v4 := by after_reads_simp; exact H.v4
  v5 := by after_reads_simp; exact H.v5
  v7 := by after_reads_simp; exact H.v7
theorem v25 (h : V (Proc.devRef .tc main_v24) = (up3 a.e : S8x8192x8192.Idx → EReal)) :
    StableHlo.after ((hostOps0_2.drop 6).take 2) V (Proc.devRef .tc main_v25) = (up2 a.den : S8x8192.Idx → EReal) := by
  after_reads_simp; rw [h]; funext j; pointwise
theorem v31 (h : V (Proc.devRef .tc main_v24) = (up3 a.e : S8x8192x8192.Idx → EReal))
    (h20 : V (Proc.devRef .tc main_v20) = (up2 a.top : S8x8192.Idx → EReal)) :
    StableHlo.after ((hostOps0_2.drop 6).take 11) V (Proc.devRef .tc main_v31) = (up2 a.lse : S8x8192.Idx → EReal) := by
  after_reads_simp; rw [h, h20]; funext j; pointwise [Args.lse]
theorem v33 (H : Split V a) (h : V (Proc.devRef .tc main_v24) = (up3 a.e : S8x8192x8192.Idx → EReal)) :
    StableHlo.after ((hostOps0_2.drop 6).take 11) V (Proc.devRef .tc main_v33) = (up2 a.delta : S8x8192.Idx → EReal) := by
  after_reads_simp; rw [h, H.v4, H.v7]; funext j; pointwise [dot_S8x8192x8192_S8x8192x64_S8x8192x64_2_1_1_2_0_0, Args.out, Args.delta]

section Cat

variable {x0 y0 : S8x8192x64.Idx → EReal} {x3 y3 : S8x8192x3.Idx → EReal} {x1 y1 x1' y1' x1'' y1'' : S8x8192x1.Idx → EReal}
variable {x58 y58 : S8x8192x58.Idx → EReal} {x61 y61 : S8x8192x61.Idx → EReal}

theorem catA (h0 : x0 = y0) (h3 : x3 = y3) (h1 : x1 = y1) (h1' : x1' = y1') (h1'' : x1'' = y1'') (h58 : x58 = y58) :
    concatenate S8x8192x128 2 [⟨S8x8192x64, x0⟩, ⟨S8x8192x3, x3⟩, ⟨S8x8192x1, x1⟩, ⟨S8x8192x1, x1'⟩, ⟨S8x8192x1, x1''⟩, ⟨S8x8192x58, x58⟩]
        concatenates_S8x8192x64_S8x8192x3_S8x8192x1_S8x8192x1_S8x8192x1_S8x8192x58_S8x8192x128_d2
      = concatenate S8x8192x128 2 [⟨S8x8192x64, y0⟩, ⟨S8x8192x3, y3⟩, ⟨S8x8192x1, y1⟩, ⟨S8x8192x1, y1'⟩, ⟨S8x8192x1, y1''⟩, ⟨S8x8192x58, y58⟩]
        concatenates_S8x8192x64_S8x8192x3_S8x8192x1_S8x8192x1_S8x8192x1_S8x8192x58_S8x8192x128_d2 := by
  subst h0 h3 h1 h1' h1'' h58; rfl
theorem catK (h0 : x0 = y0) (h1 : x1 = y1) (h1' : x1' = y1') (h1'' : x1'' = y1'') (h3 : x3 = y3) (h58 : x58 = y58) :
    concatenate S8x8192x128 2 [⟨S8x8192x64, x0⟩, ⟨S8x8192x1, x1⟩, ⟨S8x8192x1, x1'⟩, ⟨S8x8192x1, x1''⟩, ⟨S8x8192x3, x3⟩, ⟨S8x8192x58, x58⟩]
        concatenates_S8x8192x64_S8x8192x1_S8x8192x1_S8x8192x1_S8x8192x3_S8x8192x58_S8x8192x128_d2
      = concatenate S8x8192x128 2 [⟨S8x8192x64, y0⟩, ⟨S8x8192x1, y1⟩, ⟨S8x8192x1, y1'⟩, ⟨S8x8192x1, y1''⟩, ⟨S8x8192x3, y3⟩, ⟨S8x8192x58, y58⟩]
        concatenates_S8x8192x64_S8x8192x1_S8x8192x1_S8x8192x1_S8x8192x3_S8x8192x58_S8x8192x128_d2 := by
  subst h0 h3 h1 h1' h1'' h58; rfl
theorem catW (h0 : x0 = y0) (h3 : x3 = y3) (h61 : x61 = y61) :
    concatenate S8x8192x128 2 [⟨S8x8192x64, x0⟩, ⟨S8x8192x3, x3⟩, ⟨S8x8192x61, x61⟩]
        concatenates_S8x8192x64_S8x8192x3_S8x8192x61_S8x8192x128_d2
      = concatenate S8x8192x128 2 [⟨S8x8192x64, y0⟩, ⟨S8x8192x3, y3⟩, ⟨S8x8192x61, y61⟩]
        concatenates_S8x8192x64_S8x8192x3_S8x8192x61_S8x8192x128_d2 := by
  subst h0 h3 h61; rfl
theorem catG (h0 : x0 = y0) (h1 : x1 = y1) (h1' : x1' = y1') (h1'' : x1'' = y1'') (h61 : x61 = y61) :
    concatenate S8x8192x128 2 [⟨S8x8192x64, x0⟩, ⟨S8x8192x1, x1⟩, ⟨S8x8192x1, x1'⟩, ⟨S8x8192x1, x1''⟩, ⟨S8x8192x61, x61⟩]
        concatenates_S8x8192x64_S8x8192x1_S8x8192x1_S8x8192x1_S8x8192x61_S8x8192x128_d2
      = concatenate S8x8192x128 2 [⟨S8x8192x64, y0⟩, ⟨S8x8192x1, y1⟩, ⟨S8x8192x1, y1'⟩, ⟨S8x8192x1, y1''⟩, ⟨S8x8192x61, y61⟩]
        concatenates_S8x8192x64_S8x8192x1_S8x8192x1_S8x8192x1_S8x8192x61_S8x8192x128_d2 := by
  subst h0 h1 h1' h1'' h61; rfl

end Cat

/-- The last lines: the four operands. -/
local notation "packs" => List.drop 17 (hostOps0_2 (F := Ideal))

section Packed

variable (H : Split V a)

theorem a47 (h : V (Proc.devRef .tc main_v2) = (up3 (fun h t l => a.q t h l * (1 / 8)) : S8x8192x64.Idx → EReal)) :
    StableHlo.upto packs V 16 (Proc.devRef .tc main_v47) = (up3 (fun h t l => a.q t h l * (1 / 8)) : S8x8192x64.Idx → EReal) := by
  after_reads_simp; rw [h]; funext j; pointwise
theorem a34 : StableHlo.upto packs V 16 (Proc.devRef .tc main_v34) = (up3 (fun _ _ _ => -1) : S8x8192x3.Idx → EReal) := by
  after_reads_simp; funext j; pointwise
theorem a46 : StableHlo.upto packs V 16 (Proc.devRef .tc main_v46) = (up3 (fun _ _ _ => 0) : S8x8192x58.Idx → EReal) := by
  after_reads_simp; funext j; pointwise; exact EReal.coe_zero.symm

section Lse

variable (hl : V (Proc.devRef .tc main_v31) = (up2 a.lse : S8x8192.Idx → EReal))
include hl

theorem a43 : StableHlo.upto packs V 16 (Proc.devRef .tc main_v43) = (up3 (fun h t _ => - a.lse h t) : S8x8192x1.Idx → EReal) := by
  after_reads_simp; rw [hl]; funext j; pointwise
theorem a44 : StableHlo.upto packs V 16 (Proc.devRef .tc main_v44) = (up3 (fun _ _ _ => 0) : S8x8192x1.Idx → EReal) := by
  after_reads_simp; rw [hl]; funext j; pointwise; rw [sub_self]
theorem a45 : StableHlo.upto packs V 16 (Proc.devRef .tc main_v45) = (up3 (fun _ _ _ => 0) : S8x8192x1.Idx → EReal) := by
  after_reads_simp; rw [hl]; funext j; pointwise; rw [sub_self]
end Lse

section Gates

variable (h5 : V (Proc.devRef .tc main_v5) = (up2 (fun h t => a.c t h) : S8x8192.Idx → EReal))
include h5

theorem k56 : StableHlo.upto packs V 32 (Proc.devRef .tc main_v56) = (up3 (fun h t _ => a.c t h) : S8x8192x1.Idx → EReal) := by
  after_reads_simp; rw [h5]; funext j; pointwise
theorem k57 : StableHlo.upto packs V 32 (Proc.devRef .tc main_v57) = (up3 (fun _ _ _ => 0) : S8x8192x1.Idx → EReal) := by
  after_reads_simp; rw [h5]; funext j; pointwise; rw [sub_self]
theorem k58 : StableHlo.upto packs V 32 (Proc.devRef .tc main_v58) = (up3 (fun _ _ _ => 0) : S8x8192x1.Idx → EReal) := by
  after_reads_simp; rw [h5]; funext j; pointwise; rw [sub_self]
end Gates

theorem k61 (h : V (Proc.devRef .tc main_v3) = (up3 (fun h t l => a.k t h l) : S8x8192x64.Idx → EReal)) :
    StableHlo.upto packs V 32 (Proc.devRef .tc main_v61) = (up3 (fun h t l => a.k t h l) : S8x8192x64.Idx → EReal) := by
  after_reads_simp; rw [h]; funext j; pointwise
theorem k59 : StableHlo.upto packs V 32 (Proc.devRef .tc main_v59) = (up3 (fun _ _ _ => 1) : S8x8192x3.Idx → EReal) := by
  after_reads_simp; funext j; pointwise; exact EReal.coe_one.symm
theorem k60 : StableHlo.upto packs V 32 (Proc.devRef .tc main_v60) = (up3 (fun _ _ _ => 0) : S8x8192x58.Idx → EReal) := by
  after_reads_simp; funext j; pointwise; exact EReal.coe_zero.symm

theorem w65 (h : V (Proc.devRef .tc main_v4) = (up3 (fun h t l => a.v t h l) : S8x8192x64.Idx → EReal)) :
    StableHlo.upto packs V 38 (Proc.devRef .tc main_v65) = (up3 (fun h t l => a.v t h l) : S8x8192x64.Idx → EReal) := by
  after_reads_simp; rw [h]; funext j; pointwise
theorem w63 : StableHlo.upto packs V 38 (Proc.devRef .tc main_v63) = (up3 (fun _ _ _ => 1) : S8x8192x3.Idx → EReal) := by
  after_reads_simp; funext j; pointwise; exact EReal.coe_one.symm
theorem w64 : StableHlo.upto packs V 38 (Proc.devRef .tc main_v64) = (up3 (fun _ _ _ => 0) : S8x8192x61.Idx → EReal) := by
  after_reads_simp; funext j; pointwise; exact EReal.coe_zero.symm

section Delta

variable (hd : V (Proc.devRef .tc main_v33) = (up2 a.delta : S8x8192.Idx → EReal))
include hd

theorem g75 : StableHlo.upto packs V 53 (Proc.devRef .tc main_v75) = (up3 (fun h t _ => - a.delta h t) : S8x8192x1.Idx → EReal) := by
  after_reads_simp; rw [hd]; funext j; pointwise
theorem g76 : StableHlo.upto packs V 53 (Proc.devRef .tc main_v76) = (up3 (fun _ _ _ => 0) : S8x8192x1.Idx → EReal) := by
  after_reads_simp; rw [hd]; funext j; pointwise; rw [sub_self]
theorem g77 : StableHlo.upto packs V 53 (Proc.devRef .tc main_v77) = (up3 (fun _ _ _ => 0) : S8x8192x1.Idx → EReal) := by
  after_reads_simp; rw [hd]; funext j; pointwise; rw [sub_self]
end Delta

theorem g79 (h : V (Proc.devRef .tc main_v7) = (up3 (fun h t l => a.g t (lane h l)) : S8x8192x64.Idx → EReal)) :
    StableHlo.upto packs V 53 (Proc.devRef .tc main_v79) = (up3 (fun h t l => a.g t (lane h l)) : S8x8192x64.Idx → EReal) := by
  after_reads_simp; rw [h]; funext j; pointwise
theorem g78 : StableHlo.upto packs V 53 (Proc.devRef .tc main_v78) = (up3 (fun _ _ _ => 0) : S8x8192x61.Idx → EReal) := by
  after_reads_simp; funext j; pointwise; exact EReal.coe_zero.symm

include H

theorem v48 (hl : V (Proc.devRef .tc main_v31) = (up2 a.lse : S8x8192.Idx → EReal)) :
    StableHlo.after packs V (Proc.devRef .tc main_v48) = (up3 (fun h => (a.head h).A) : S8x8192x128.Idx → EReal) := by
  after_reads_simp
  refine (catA (a47 H.v2) a34 (a43 hl) (a44 hl) (a45 hl) a46).trans ?_
  funext j; pointwise [Args.head, lanes, yA]
  split_ifs <;> first | rfl | omega
theorem v62 : StableHlo.after packs V (Proc.devRef .tc main_v62) = (up3 (fun h => (a.head h).K) : S8x8192x128.Idx → EReal) := by
  after_reads_simp
  refine (catK (k61 H.v3) (k56 H.v5) (k57 H.v5) (k58 H.v5) k59 k60).trans ?_
  funext j; pointwise [Args.head, lanes, yK]
  split_ifs <;> first | rfl | omega
theorem v66 : StableHlo.after packs V (Proc.devRef .tc main_v66) = (up3 (fun h => (a.head h).W) : S8x8192x128.Idx → EReal) := by
  after_reads_simp
  refine (catW (w65 H.v4) w63 w64).trans ?_
  funext j; pointwise [Args.head, lanes, yW]
  split_ifs <;> first | rfl | omega
theorem v80 (hd : V (Proc.devRef .tc main_v33) = (up2 a.delta : S8x8192.Idx → EReal)) :
    StableHlo.after packs V (Proc.devRef .tc main_v80) = (up3 (fun h => (a.head h).G) : S8x8192x128.Idx → EReal) := by
  after_reads_simp
  refine (catG (g79 H.v7) (g75 hd) (g76 hd) (g77 hd) g78).trans ?_
  funext j; pointwise [Args.head, lanes, yG]
  split_ifs <;> first | rfl | omega

end Packed

/-! ### The whole prefix -/

theorem prefix_eq (M : Vals) : StableHlo.after (List.flatten [hostOps0, hostOps0_1, hostOps0_2]) M
    = StableHlo.after packs (StableHlo.after ((hostOps0_2.drop 6).take 11) (StableHlo.after (hostOps0_2.take 6)
        (StableHlo.after hostOps0_1 (StableHlo.after hostOps0 M)))) := by
  have e : (List.flatten [hostOps0, hostOps0_1, hostOps0_2] : List (HloOp τ sig (Elt Ideal)))
      = hostOps0 ++ (hostOps0_1 ++ (hostOps0_2.take 6 ++ ((hostOps0_2.drop 6).take 11 ++ packs))) := rfl
  rw [e, StableHlo.after_append, StableHlo.after_append, StableHlo.after_append, StableHlo.after_append]

variable (m : (ℓ : Loc nD τ sig) → Buf (Elt Ideal) ℓ) (c : Dev nD)

/-- The kernel's region finds the heads in its four operands. -/
theorem finds (H : Given (fun b => m (c, b)) a) : AttnKernel.Finds m c a.head := by
  have s := split3 (split2 (split1 (split0 H)))
  have h19 := v19 v14 cst0 (v18 H)
  have h24 := v24 h19
  have h20 := v20 h19
  constructor
  · show StableHlo.after (List.flatten [hostOps0, hostOps0_1, hostOps0_2]) _ (Proc.devRef .tc main_v48) = _
    rw [prefix_eq]; exact v48 s (v31 h24 h20)
  · show StableHlo.after (List.flatten [hostOps0, hostOps0_1, hostOps0_2]) _ (Proc.devRef .tc main_v80) = _
    rw [prefix_eq]; exact v80 s (v33 (split2 (split1 (split0 H))) h24)
  · show StableHlo.after (List.flatten [hostOps0, hostOps0_1, hostOps0_2]) _ (Proc.devRef .tc main_v62) = _
    rw [prefix_eq]; exact v62 s
  · show StableHlo.after (List.flatten [hostOps0, hostOps0_1, hostOps0_2]) _ (Proc.devRef .tc main_v66) = _
    rw [prefix_eq]; exact v66 s

end AttnHost
end
-- ==== Proof.AttnClaim.lean ====
/-
  The attention's gradient call against the derivative of the forward lines: both runs end with the same four gradients.
-/
module

public import proofs.«01_k».proof.Defs
public import proofs.«01_k».proof.Proof.AttnRef
public import proofs.«01_k».proof.Proof.AttnHost
public import proofs.«01_k».proof.Proof.Gen.Pre_finite_attn

@[expose] public section

set_option maxRecDepth 65536

noncomputable section

open Idealize.ShloMosaic Idealize.SL.Sem Lift Attn
open Cert.Kernel2Ideal Cert.Kernel2Ideal.Gen
open Idealize.ShloMosaic.StableHlo (launchContents)

namespace AttnClaim

/-! ### The host lines after the kernel -/

variable (V : Valuation τ sig (Elt Ideal)) (a : Args)

theorem row_split (t : Fin 8192) : row (t.val / 512) ⟨t.val % 512, by omega⟩ = t := by
  apply Fin.ext; show 512 * min (t.val / 512) 15 + t.val % 512 = t.val; omega

theorem dq_at (h : Fin 8) (t : Fin 8192) (l : Fin 64) :
    AttnKernel.gq a.head h ⟨t.val / 512, by omega⟩ ⟨l.val, by omega⟩ ⟨t.val % 512, by omega⟩ * (1 / 8) = a.dq h t l := by
  rw [AttnKernel.gq, Args.dq, Finset.sum_mul]
  refine Finset.sum_congr rfl fun s _ => ?_
  have hK : (a.head h).K s ⟨l.val, by omega⟩ = a.k s h l := lanes_lt _ _ l
  rw [row_split, hK, Args.head_dS]; ring
theorem dk_at (h : Fin 8) (s : Fin 8192) (l : Fin 64) : AttnKernel.gk a.head h s ⟨l.val, by omega⟩ = a.dk h s l := by
  rw [AttnKernel.gk, Args.dk]
  refine Finset.sum_congr rfl fun t _ => ?_
  have hA : (a.head h).A t ⟨l.val, by omega⟩ = a.q t h l * (1 / 8) := lanes_lt (fun l => a.q t h l * (1 / 8)) (yA (a.lse h t)) l
  rw [hA, Args.head_dS]; ring
theorem dv_at (h : Fin 8) (s : Fin 8192) (l : Fin 64) : AttnKernel.gv a.head h s ⟨l.val, by omega⟩ = a.dv h s l := by
  rw [AttnKernel.gv, Args.dv]
  refine Finset.sum_congr rfl fun t _ => ?_
  have hG : (a.head h).G t ⟨l.val, by omega⟩ = a.g t (lane h l) := lanes_lt (fun l => a.g t (lane h l)) (yG (a.delta h t)) l
  rw [hG, Args.head_P]; ring
theorem dc_at (h : Fin 8) (t : Fin 8192) :
    AttnKernel.gc a.head h ⟨t.val / 512, by omega⟩ ⟨t.val % 512, by omega⟩ = a.dc h t := by
  rw [AttnKernel.gc, Args.dc, Finset.sum_neg_distrib, row_split]
  simp only [Args.head_dS]; ring

theorem v86 (h : V (Proc.devRef .tc main_v81_0) = (up4 (AttnKernel.gq a.head) : S8x16x128x512.Idx → EReal)) :
    StableHlo.after hostOps1 V (Proc.devRef .tc main_v86) = (up3 fun t h l => a.dq h t l : S8192x8x64.Idx → EReal) := by
  after_reads_simp; rw [h]; funext j; pointwise [← dq_at]
theorem v88 (h : V (Proc.devRef .tc main_v81_1) = (up3 (AttnKernel.gk a.head) : S8x8192x128.Idx → EReal)) :
    StableHlo.after hostOps1 V (Proc.devRef .tc main_v88) = (up3 fun s h l => a.dk h s l : S8192x8x64.Idx → EReal) := by
  after_reads_simp; rw [h]; funext j; pointwise [← dk_at]
theorem v90 (h : V (Proc.devRef .tc main_v81_2) = (up3 (AttnKernel.gv a.head) : S8x8192x128.Idx → EReal)) :
    StableHlo.after hostOps1 V (Proc.devRef .tc main_v90) = (up3 fun s h l => a.dv h s l : S8192x8x64.Idx → EReal) := by
  after_reads_simp; rw [h]; funext j; pointwise [← dv_at]
theorem v92 (h : V (Proc.devRef .tc main_v81_3) = (up3 (AttnKernel.gc a.head) : S8x16x512.Idx → EReal)) :
    StableHlo.after hostOps1 V (Proc.devRef .tc main_v92) = (up2 fun t h => a.dc h t : S8192x8.Idx → EReal) := by
  after_reads_simp; rw [h]; funext j; pointwise [← dc_at]

/-! ### The run -/

variable (m : (ℓ : Loc nD τ sig) → Buf (Elt Ideal) ℓ) (ρ : Dev nD → PrngReg) (c : Dev nD)

/-- What the last host lines find: the kernel's arrays, and every other buffer as the kernel found it. -/
abbrev found : Valuation τ sig (Elt Ideal) := Pipeline.withArrays spec0 c (V0 m c) fun w => (dats m 0 c).arrAt w cfg0.N

theorem found_arr (w : Fin cfg0.W) : found m c (Proc.devRef .tc (Pipeline.arrRef spec0 w)) = (dats m 0 c).arrAt w cfg0.N :=
  Pipeline.withArrays_arr spec0 (by decide) c (V0 m c) _ w

variable {m c a}

theorem end0 (F : AttnKernel.Finds m c a.head) : StableHlo.after hostOps1 (found m c) (Proc.devRef .tc main_v86)
    = (up3 fun t h l => a.dq h t l : S8192x8x64.Idx → EReal) := v86 _ a ((found_arr m c 4).trans (AttnKernel.w4 F))
theorem end1 (F : AttnKernel.Finds m c a.head) : StableHlo.after hostOps1 (found m c) (Proc.devRef .tc main_v88)
    = (up3 fun s h l => a.dk h s l : S8192x8x64.Idx → EReal) := v88 _ a ((found_arr m c 5).trans (AttnKernel.w5 F))
theorem end2 (F : AttnKernel.Finds m c a.head) : StableHlo.after hostOps1 (found m c) (Proc.devRef .tc main_v90)
    = (up3 fun s h l => a.dv h s l : S8192x8x64.Idx → EReal) := v90 _ a ((found_arr m c 6).trans (AttnKernel.w6 F))
theorem end3 (F : AttnKernel.Finds m c a.head) : StableHlo.after hostOps1 (found m c) (Proc.devRef .tc main_v92)
    = (up2 fun t h => a.dc h t : S8192x8.Idx → EReal) := v92 _ a ((found_arr m c 7).trans (AttnKernel.w7 F))

variable (m)

/-- The gradients end as those lines leave them, the arguments unchanged. -/
theorem run_ends : θ_run defs (onTc (τ := τ) (main (F := Ideal))) ⟨m, fun _ => 0, ρ⟩ fun r => ∀ c : Dev nD,
      r.2.mem ((c.tc : Thread nD τ).loc main_v86) = StableHlo.after hostOps1 (found m c) (Proc.devRef .tc main_v86)
      ∧ r.2.mem ((c.tc : Thread nD τ).loc main_v88) = StableHlo.after hostOps1 (found m c) (Proc.devRef .tc main_v88)
      ∧ r.2.mem ((c.tc : Thread nD τ).loc main_v90) = StableHlo.after hostOps1 (found m c) (Proc.devRef .tc main_v90)
      ∧ r.2.mem ((c.tc : Thread nD τ).loc main_v92) = StableHlo.after hostOps1 (found m c) (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).2 main_v86 (Pipeline.mem_restRefs_of main_v86 (by decide) (by decide)),
      (h.1 c).2 main_v88 (Pipeline.mem_restRefs_of main_v88 (by decide) (by decide)),
      (h.1 c).2 main_v90 (Pipeline.mem_restRefs_of main_v90 (by decide) (by decide)),
      (h.1 c).2 main_v92 (Pipeline.mem_restRefs_of main_v92 (by decide) (by decide)), h.2.1 c⟩)
    (θ_run_and (run_main m ρ) (frame_attn m ρ))

/-! ### The claim -/

/-- Finite arguments are arrays of reals. -/
theorem given (m : (ℓ : Loc nD τ sig) → Buf (Elt Ideal) ℓ) (hpre : Cert.Pre_Kernel2Ideal_finite_attn m) (c : Dev nD) :
    ∃ a, AttnHost.Given (fun b => m (c, b)) a := by
  obtain ⟨h0, h1, h2, h3, h4⟩ := hpre c
  obtain ⟨q, hq⟩ := finite3 h0
  obtain ⟨k, hk⟩ := finite3 h1
  obtain ⟨v, hv⟩ := finite3 h2
  obtain ⟨c, hc⟩ := finite2 h3
  obtain ⟨g, hg⟩ := finite2 h4
  exact ⟨⟨q, k, v, c, g⟩, hq, hk, hv, hc, hg⟩

theorem algebraic : Cert.algebraic_Kernel2Ideal_Reference2Ideal_pre_finite_attn := by
  pair_intro
  · run_from run_ends m g
  · run_from AttnRef.run_stages m' g'
    all_goals
      obtain ⟨a, H⟩ := given m hpre c
      have h0 := H.h0; have h1 := H.h1; have h2 := H.h2; have h3 := H.h3; have h4 := H.h4
      have F := AttnHost.finds m c H
      simp only [h0, h1, h2, h3, h4]
    · exact (AttnRef.v85 a).trans (end0 F).symm
    · exact (AttnRef.v84 a).trans (end1 F).symm
    · exact (AttnRef.v83 a).trans (end2 F).symm
    · exact (AttnRef.v82 a).trans (end3 F).symm

end AttnClaim
end
-- ==== Proof.FfnMath.lean ====
/-
  The feed-forward block, one token at a time, over the reals: `x + (silu (n W₁) · (n W₃)) W₂ / 2` with `n` the normed stream;
  and the gradient of it in each of its intermediate values, for a cotangent row `d`.
-/
module

public import proofs.«01_k».proof.Proof.Lift

@[expose] public section

noncomputable section

open Lift

/-- The weights of the block: the norm's gain and the three matrices. -/
structure Ffn where
  g : Fin 1024 → ℝ
  w1 : Fin 1024 → Fin 2816 → ℝ
  w3 : Fin 1024 → Fin 2816 → ℝ
  w2 : Fin 2816 → Fin 1024 → ℝ

namespace Ffn

variable (N : Ffn) (x : Fin 1024 → ℝ) (d : Fin 1024 → ℝ)

/-- The stream after the norm. -/
def n (j : Fin 1024) : ℝ := x j * rs x * N.g j
/-- The two projections. -/
def a1 (f : Fin 2816) : ℝ := ∑ k, N.n x k * N.w1 k f
def a3 (f : Fin 2816) : ℝ := ∑ k, N.n x k * N.w3 k f
/-- The logistic of the first. -/
def sg (f : Fin 2816) : ℝ := (1 + Real.exp (-N.a1 x f))⁻¹
/-- The activation. -/
def act (f : Fin 2816) : ℝ := N.a1 x f * N.sg x f * N.a3 x f
/-- The stream after the block. -/
def out (j : Fin 1024) : ℝ := x j + 1 / 2 * ∑ f, N.act x f * N.w2 f j
/-- The gradient in the activation. -/
def dact (f : Fin 2816) : ℝ := ∑ k, 1 / 2 * d k * N.w2 f k
/-- The gradients in the two projections. -/
def da1 (f : Fin 2816) : ℝ := N.dact d f * N.a3 x f * N.sg x f * (1 + N.a1 x f * (1 - N.sg x f))
def da3 (f : Fin 2816) : ℝ := N.dact d f * (N.a1 x f * N.sg x f)
/-- The gradient in the normed stream. -/
def dn (j : Fin 1024) : ℝ := ∑ f, N.da1 x d f * N.w1 j f + ∑ f, N.da3 x d f * N.w3 j f
/-- The token's share of the gradient in the norm's gain, and the gradient in the stream. -/
def dg (j : Fin 1024) : ℝ := N.dn x d j * (x j * rs x)
def dx (j : Fin 1024) : ℝ := d j + rmsBack (N.dn x d) x N.g j

/-! The hidden axis in two halves. -/

/-- Place `f` of the first half, and of the second. -/
def lo (f : Fin 1408) : Fin 2816 := Fin.castAdd 1408 f
def hi (f : Fin 1408) : Fin 2816 := Fin.natAdd 1408 f

theorem sum_halves (u : Fin 2816 → ℝ) : ∑ f, u f = ∑ f, u (lo f) + ∑ f, u (hi f) :=
  Fin.sum_univ_add (a := 1408) (b := 1408) u

/-- A half's part of what the block adds, before it is halved. -/
def add (e : Fin 1408 → Fin 2816) (j : Fin 1024) : ℝ := ∑ f, N.act x (e f) * N.w2 (e f) j

theorem out_eq (j : Fin 1024) : N.out x j = x j + 1 / 2 * N.add x lo j + 1 / 2 * N.add x hi j := by
  rw [out, sum_halves, add, add]; ring

/-- A half's part of the gradient in the normed stream. -/
def part (e : Fin 1408 → Fin 2816) (j : Fin 1024) : ℝ :=
  ∑ f, N.da1 x d (e f) * N.w1 j (e f) + ∑ f, N.da3 x d (e f) * N.w3 j (e f)

theorem dn_eq (j : Fin 1024) : N.dn x d j = N.part x d lo j + N.part x d hi j := by
  rw [dn, sum_halves, sum_halves (fun f => N.da3 x d f * _), part, part]; ring

end Ffn
end
-- ==== Proof.FfnRef.lean ====
/-
  What the reference of the feed-forward block's gradient computes, for finite arguments: the rows of FfnMath.
-/
module

public import proofs.«01_k».proof.Proof.FfnMath
public import proofs.«01_k».proof.Proof.Gen.Reference3Ideal.Read
public import proofs.«01_k».proof.Proof.Gen.Reference3Ideal.Run

@[expose] public section

set_option maxRecDepth 16384

noncomputable section

namespace FfnRef

open Idealize.ShloMosaic Cert.Reference3Ideal Cert.Reference3Ideal.Read Lift

variable (N : Ffn) (X D : Fin 8192 → Fin 1024 → ℝ)

local notation "xX" => (up2 X : S8192x1024.Idx → EReal)
local notation "xD" => (up2 D : S8192x1024.Idx → EReal)
local notation "xG" => (up2 (fun (_ : Fin 1) => N.g) : S1x1024.Idx → EReal)
local notation "x1" => (up2 N.w1 : S1024x2816.Idx → EReal)
local notation "x3" => (up2 N.w3 : S1024x2816.Idx → EReal)
local notation "x2" => (up2 N.w2 : S2816x1024.Idx → EReal)

theorem v9 : val_main_v9 (F := Ideal) xX = up2 fun t _ => rs (X t) := by
  funext j
  pointwise [val_main_v9, val_main_v8, val_main_v7, val_main_cst_2, val_main_v6, val_main_v5, val_main_cst_1, val_main_v4,
    val_main_v3, val_main_v2, val_main_cst_0]

theorem v12 : val_main_v12 (F := Ideal) xX = up2 fun t _ => -1 / 2 * (rs (X t) / ms (X t)) := by
  funext j
  pointwise [val_main_v12, val_main_v11, val_main_cst_3, val_main_v10, v9, val_main_v8, val_main_v7, val_main_cst_2, val_main_v6,
    val_main_v5, val_main_cst_1, val_main_v4, val_main_v3, val_main_v2, val_main_cst_0]

theorem v14 : val_main_v14 (F := Ideal) xX = up2 fun t l => X t l * rs (X t) := by
  funext j
  pointwise [val_main_v14, val_main_v13, v9]

theorem v15 : val_main_v15 (F := Ideal) xG = up2 fun _ => N.g := by
  funext j
  pointwise [val_main_v15, val_main_v1]

theorem v17 : val_main_v17 (F := Ideal) xX xG = up2 fun t => N.n (X t) := by
  funext j
  pointwise [val_main_v17, val_main_v16, v15, v14, Ffn.n]

theorem v19 : val_main_v19 (F := Ideal) xX xG x1 = up2 fun t => N.a1 (X t) := by
  funext j
  pointwise [val_main_v19, val_main_v18, val_main_v0, val_main_cst, v17, dot_S8192x1024_S1024x2816_S8192x2816_1_0_0_1_n_n,
    Ffn.a1]

theorem v21 : val_main_v21 (F := Ideal) xX xG x3 = up2 fun t => N.a3 (X t) := by
  funext j
  pointwise [val_main_v21, val_main_v20, val_main_v0, val_main_cst, v17, dot_S8192x1024_S1024x2816_S8192x2816_1_0_0_1_n_n,
    Ffn.a3]

theorem v22_2 : val_main_v22_2 (F := Ideal) xX xG x1 = up2 fun t => N.sg (X t) := by
  funext j
  pointwise [val_main_v22_2, val_main_call0_v4, val_main_call0_cst_0, val_main_call0_v3, val_main_call0_v2, val_main_call0_cst,
    val_main_call0_v1, val_main_call0_v0, v19, Ffn.sg]

theorem v22_1 : val_main_v22_1 (F := Ideal) xX xG x1 = up2 fun t f => N.sg (X t) f * (1 - N.sg (X t) f) := by
  funext j
  pointwise [val_main_v22_1, val_main_call0_v7, val_main_call0_v6, val_main_call0_cst_1, v22_2]

theorem v22_0 : val_main_v22_0 (F := Ideal) xX xG x1 = up2 fun t f => N.a1 (X t) f * N.sg (X t) f := by
  funext j
  pointwise [val_main_v22_0, v19, v22_2]

theorem v23 : val_main_v23 (F := Ideal) xX xG x1 x3 = up2 fun t => N.act (X t) := by
  funext j
  pointwise [val_main_v23, v22_0, v21, Ffn.act]

/-- The stream after the block. -/
theorem v27 : val_main_v27 (F := Ideal) xX xG x1 x3 x2 = up2 fun t => N.out (X t) := by
  funext j
  pointwise [val_main_v27, val_main_v26, val_main_v25, val_main_cst_4, val_main_v24, v23,
    dot_S8192x2816_S2816x1024_S8192x1024_1_0_0_1_n_n, Ffn.out]

theorem v31 : val_main_v31 (F := Ideal) x2 xD = up2 fun t => N.dact (D t) := by
  funext j
  pointwise [val_main_v31, val_main_v30, val_main_v29, val_main_cst_5, val_main_v28,
    dot_S8192x1024_S2816x1024_S8192x2816_1_1_0_0_n_n, Ffn.dact]

theorem v32 : val_main_v32 (F := Ideal) xX xG x1 x2 xD = up2 fun t => N.da3 (X t) (D t) := by
  funext j
  pointwise [val_main_v32, v22_0, v31, Ffn.da3]
  exact congrArg _ (mul_comm _ _)

theorem v33 : val_main_v33 (F := Ideal) xX xG x3 x2 xD = up2 fun t f => N.dact (D t) f * N.a3 (X t) f := by
  funext j
  pointwise [val_main_v33, v31, v21]

theorem v34 : val_main_v34 (F := Ideal) xX xG x1 x3 x2 xD = up2 fun t => N.da1 (X t) (D t) := by
  funext j
  pointwise [val_main_v34, val_main_call1_v2, val_main_call1_v1, val_main_call1_v0, v33, v22_1, v22_2, v19, Ffn.da1]
  exact congrArg _ (by ring)

theorem v37 : val_main_v37 (F := Ideal) xX xG x1 x3 x2 xD = up2 fun t => N.dn (X t) (D t) := by
  funext j
  pointwise [val_main_v37, val_main_v36, val_main_v35, v32, v34, dot_S8192x2816_S1024x2816_S8192x1024_1_1_0_0_n_n, Ffn.dn]
  exact congrArg _ (add_comm _ _)

/-- The gradient in the norm's gain. -/
theorem v59 : val_main_v59 (F := Ideal) xX xG x1 x3 x2 xD = up2 fun (_ : Fin 1) j => ∑ t, N.dg (X t) (D t) j := by
  funext j
  pointwise [val_main_v59, val_main_v43, val_main_cst_7, val_main_v40, val_main_v39, val_main_cst_6, val_main_v38, v14, v37, Ffn.dg]
  exact congrArg _ (Finset.sum_congr rfl fun t _ => mul_comm _ _)

theorem v42 : val_main_v42 (F := Ideal) xX xG x1 x3 x2 xD = up2 fun t j => N.dn (X t) (D t) j * N.g j := by
  funext j
  pointwise [val_main_v42, val_main_v41, v15, v37]

/-- The gradient in the stream. -/
theorem v58 : val_main_v58 (F := Ideal) xX xG x1 x3 x2 xD = up2 fun t => N.dx (X t) (D t) := by
  funext j
  pointwise [val_main_v58, val_main_v57, val_main_v56, val_main_v55, val_main_v54, val_main_v53, val_main_cst_10, val_main_v52,
    val_main_v51, val_main_cst_9, val_main_v50, val_main_v49, val_main_v48, val_main_v47, val_main_v46, val_main_v45,
    val_main_cst_8, val_main_v44, v9, v12, v42, Ffn.dx]
  exact congrArg _ (by rw [← rmsBack_lines (N.dn (X (j 0)) (D (j 0))) (X (j 0)) N.g (j 1)]; ring)

/-- The streams that leave at the narrow width: what the forward lines save, and three of the gradient's. -/
theorem v60 : val_main_v60 (F := Ideal) xX xG x1 = up2 fun t => N.a1 (X t) := v19 N X
theorem v61 : val_main_v61 (F := Ideal) xX xG x3 = up2 fun t => N.a3 (X t) := v21 N X
theorem v62 : val_main_v62 (F := Ideal) xX xG = up2 fun t => N.n (X t) := v17 N X
theorem v63 : val_main_v63 (F := Ideal) xX xG x1 x3 x2 xD = up2 fun t => N.da1 (X t) (D t) := v34 N X D
theorem v64 : val_main_v64 (F := Ideal) xX xG x1 x2 xD = up2 fun t => N.da3 (X t) (D t) := v32 N X D
theorem v65 : val_main_v65 (F := Ideal) xX xG x1 x3 = up2 fun t => N.act (X t) := v23 N X

/-- The reference's run, its results stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2))
      ∧ r.2.mem ((c.tc : Thread nD τ).loc main_v61) = val_main_v61 (F := Ideal) (m ((c.tc : Thread nD τ).loc main_arg0)) (m ((c.tc : Thread nD τ).loc main_arg1)) (m ((c.tc : Thread nD τ).loc main_arg3))
      ∧ r.2.mem ((c.tc : Thread nD τ).loc main_v62) = val_main_v62 (F := Ideal) (m ((c.tc : Thread nD τ).loc main_arg0)) (m ((c.tc : Thread nD τ).loc main_arg1))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v63) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v64) = val_main_v64 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (Cert.Reference3Ideal.Value.run m ρ)

end FfnRef
end
-- ==== Proof.FfnPay.lean ====
/-
  The two kernels of the feed-forward block on one tile of tokens, for finite blocks: the rows of FfnMath. Each kernel goes
  through the hidden axis in two halves; `e` below names a half's places.
-/
module

public import proofs.«01_k».proof.Proof.FfnMath
public import proofs.«01_k».proof.Proof.Gen.Kernel3Ideal.Frame
public import Idealize.ShloMosaic.Lib.Pipeline.ValueKit

@[expose] public section

set_option maxRecDepth 16384

noncomputable section

namespace FfnPay

open Idealize.ShloMosaic Idealize.ShloMosaic.TcCoe Idealize.SL.Sem Cert.Kernel3Ideal Cert.Kernel3Ideal.Gen Lift
open Ffn (lo hi)

/-! ### Halves of a block -/

theorem row_lo (W : Fin 2816 → Fin 1024 → ℝ) :
    View.ld (Val := Elt Ideal) (e' := .bf16) (up2 W : Vec Ideal S2816x1024 .bf16)
      (Rect.unit (s := S2816x1024) ![0, 0] ![1408, 1024] inb_S2816x1024_S1408x1024_0_0)
    = (up2 fun f => W (lo f) : S1408x1024.Idx → EReal) := by
  funext j
  exact (View.ld_unit_apply_of (Val := Elt Ideal) (e := .bf16) (up2 W : Vec Ideal S2816x1024 .bf16) _ _ _ _
    (ix2 (lo (j 0)) (j 1)) (by intro a; fin_cases a <;> simp [lo] <;> rfl)).trans rfl
theorem row_hi (W : Fin 2816 → Fin 1024 → ℝ) :
    View.ld (Val := Elt Ideal) (e' := .bf16) (up2 W : Vec Ideal S2816x1024 .bf16)
      (Rect.unit (s := S2816x1024) ![1408, 0] ![1408, 1024] inb_S2816x1024_S1408x1024_1408_0)
    = (up2 fun f => W (hi f) : S1408x1024.Idx → EReal) := by
  funext j
  exact (View.ld_unit_apply_of (Val := Elt Ideal) (e := .bf16) (up2 W : Vec Ideal S2816x1024 .bf16) _ _ _ _
    (ix2 (hi (j 0)) (j 1)) (by intro a; fin_cases a <;> simp [hi] <;> rfl)).trans rfl
theorem col_lo (A : Fin 256 → Fin 2816 → ℝ) :
    View.ld (Val := Elt Ideal) (e' := .bf16) (up2 A : Vec Ideal S256x2816 .bf16)
      (Rect.unit (s := S256x2816) ![0, 0] ![256, 1408] inb_S256x2816_S256x1408_0_0)
    = (up2 fun r f => A r (lo f) : S256x1408.Idx → EReal) := by
  funext j
  exact (View.ld_unit_apply_of (Val := Elt Ideal) (e := .bf16) (up2 A : Vec Ideal S256x2816 .bf16) _ _ _ _
    (ix2 (j 0) (lo (j 1))) (by intro a; fin_cases a <;> simp [lo] <;> rfl)).trans rfl
theorem col_hi (A : Fin 256 → Fin 2816 → ℝ) :
    View.ld (Val := Elt Ideal) (e' := .bf16) (up2 A : Vec Ideal S256x2816 .bf16)
      (Rect.unit (s := S256x2816) ![0, 1408] ![256, 1408] inb_S256x2816_S256x1408_0_1408)
    = (up2 fun r f => A r (hi f) : S256x1408.Idx → EReal) := by
  funext j
  exact (View.ld_unit_apply_of (Val := Elt Ideal) (e := .bf16) (up2 A : Vec Ideal S256x2816 .bf16) _ _ _ _
    (ix2 (j 0) (hi (j 1))) (by intro a; fin_cases a <;> simp [hi] <;> rfl)).trans rfl

/-- A block stored in its two halves. -/
theorem two (A : Fin 256 → Fin 2816 → ℝ) :
    View.canon (Val := Elt Ideal) (s := S256x2816) (e := .bf16)
      [⟨r0_5, (up2 fun r f => A r (hi f) : S256x1408.Idx → EReal)⟩,
       ⟨r0_3, (up2 fun r f => A r (lo f) : S256x1408.Idx → EReal)⟩] = (up2 A : S256x2816.Idx → EReal) := by
  rw [← col_hi, ← col_lo]
  funext y
  refine View.canon_apply_of_pieces (up2 A : S256x2816.Idx → EReal) _ (fun p hp x => ?_) y
    (cover0_6 (F := Ideal) _ _ y)
  rcases List.mem_cons.mp hp with rfl | hp
  · rfl
  · rcases List.mem_cons.mp hp with rfl | hp
    · rfl
    · exact absurd hp List.not_mem_nil

variable (N : Ffn) (X D : Fin 256 → Fin 1024 → ℝ) (e : Fin 1408 → Fin 2816)

local notation "bX" => (up2 X : S256x1024.Idx → EReal)
local notation "bD" => (up2 D : S256x1024.Idx → EReal)
local notation "bG" => (up2 (fun (_ : Fin 1) => N.g) : S1x1024.Idx → EReal)
local notation "bN" => (up2 (fun r => N.n (X r)) : S256x1024.Idx → EReal)
local notation "bW1" => (up2 (fun f k => N.w1 k (e f)) : S1408x1024.Idx → EReal)
local notation "bW3" => (up2 (fun f k => N.w3 k (e f)) : S1408x1024.Idx → EReal)
local notation "bW2" => (up2 (fun f => N.w2 (e f)) : S1408x1024.Idx → EReal)
local notation "bA1" => (up2 (fun r f => N.a1 (X r) (e f)) : S256x1408.Idx → EReal)
local notation "bA3" => (up2 (fun r f => N.a3 (X r) (e f)) : S256x1408.Idx → EReal)
local notation "bDh" => (up2 (fun r k => 1 / 2 * D r k) : S256x1024.Idx → EReal)
local notation "bDa1" => (up2 (fun r f => N.da1 (X r) (D r) (e f)) : S256x1408.Idx → EReal)
local notation "bDa3" => (up2 (fun r f => N.da3 (X r) (D r) (e f)) : S256x1408.Idx → EReal)

/-! ### The forward kernel -/

theorem f6 : k0_pay6 (F := Ideal) bX bG = bN := by
  funext j; pointwise [k0_pay6, Ffn.n]
theorem f12 (x2 x3 x4 : Vec Ideal S2816x1024 .bf16) : k0_pay12 (F := Ideal) bX bG x2 x3 x4 = bN := by
  unfold k0_pay12
  have h : (![0, 0] : Fin 2 → ℕ) = fun _ => 0 := by funext a; fin_cases a <;> rfl
  rw [View.ld_unit_zero (S := S256x1024) h, View.ld_unit_zero (S := S1x1024) h, f6]
theorem f9 : k0_pay9 (F := Ideal) bX bG bW1 = bA1 := by
  funext j; pointwise [k0_pay9, k0_pay7, f6, dot_S256x1024_S1408x1024_S256x1408_1_1_0_0_n_n, Ffn.a1]
theorem f10 : k0_pay10 (F := Ideal) bX bG bW3 = bA3 := by
  funext j; pointwise [k0_pay10, k0_pay8, f6, dot_S256x1024_S1408x1024_S256x1408_1_1_0_0_n_n, Ffn.a3]
theorem f3 : k0_pay3 (F := Ideal) bN bW1 = bA1 := by
  funext j; pointwise [k0_pay3, k0_pay1, dot_S256x1024_S1408x1024_S256x1408_1_1_0_0_n_n, Ffn.a1]
theorem f4 : k0_pay4 (F := Ideal) bN bW3 = bA3 := by
  funext j; pointwise [k0_pay4, k0_pay2, dot_S256x1024_S1408x1024_S256x1408_1_1_0_0_n_n, Ffn.a3]
theorem f11 : k0_pay11 (F := Ideal) bX bG bW1 bW3 bW2 = up2 fun r => N.add (X r) e := by
  funext j
  pointwise [k0_pay11, k0_pay7, k0_pay8, f6, dot_S256x1024_S1408x1024_S256x1408_1_1_0_0_n_n,
    dot_S256x1408_S1408x1024_S256x1024_1_0_0_1_n_n, Ffn.add, Ffn.act, Ffn.sg, Ffn.a1, Ffn.a3]
theorem f5 : k0_pay5 (F := Ideal) bX bN (up2 fun r => N.add (X r) lo : S256x1024.Idx → EReal) (Scalar.ofBits .f32 0x3F000000#32)
      (up2 (fun f k => N.w1 k (hi f)) : S1408x1024.Idx → EReal) (up2 (fun f k => N.w3 k (hi f)) : S1408x1024.Idx → EReal)
      (up2 (fun f => N.w2 (hi f)) : S1408x1024.Idx → EReal)
    = up2 fun r => N.out (X r) := by
  funext j
  pointwise [k0_pay5, k0_pay1, k0_pay2, dot_S256x1024_S1408x1024_S256x1408_1_1_0_0_n_n,
    dot_S256x1408_S1408x1024_S256x1024_1_0_0_1_n_n, Ffn.out_eq, Ffn.add, Ffn.act, Ffn.sg, Ffn.a1, Ffn.a3]

/-! ### The backward kernel, first half -/

theorem p2 : k1_pay2 (F := Ideal) bD = bDh := by
  funext j; pointwise [k1_pay2]
theorem p3 (A : Fin 256 → Fin 1408 → ℝ) : k1_pay3 (F := Ideal) (up2 A : S256x1408.Idx → EReal) = up2 A := by
  funext j; pointwise [k1_pay3]
theorem p4 (A : Fin 256 → Fin 1408 → ℝ) : k1_pay4 (F := Ideal) (up2 A : S256x1408.Idx → EReal) = up2 A := by
  funext j; pointwise [k1_pay4]
theorem p5 : k1_pay5 (F := Ideal) bA1 = up2 fun r f => N.sg (X r) (e f) := by
  funext j; pointwise [k1_pay5, p3, Ffn.sg]
theorem p6 : k1_pay6 (F := Ideal) bA1 = up2 fun r f => N.a1 (X r) (e f) * N.sg (X r) (e f) := by
  funext j; pointwise [k1_pay6, p3, p5]
theorem p7 : k1_pay7 (F := Ideal) bD bW2 = up2 fun r f => N.dact (D r) (e f) := by
  funext j; pointwise [k1_pay7, p2, dot_S256x1024_S1408x1024_S256x1408_1_1_0_0_n_n, Ffn.dact]
theorem p8 : k1_pay8 (F := Ideal) bA1 bA3 = up2 fun r f => N.act (X r) (e f) := by
  funext j; pointwise [k1_pay8, p4, p6, Ffn.act]
theorem p9 : k1_pay9 (F := Ideal) bD bA1 bA3 bW2 = bDa1 := by
  funext j; pointwise [k1_pay9, p3, p4, p5, p7, Ffn.da1]
theorem p10 : k1_pay10 (F := Ideal) bD bA1 bW2 = bDa3 := by
  funext j; pointwise [k1_pay10, p6, p7, Ffn.da3]
theorem p11 : k1_pay11 (F := Ideal) bDa1 bDa3 bW1 bW3 = up2 fun r => N.part (X r) (D r) e := by
  funext j; pointwise [k1_pay11, dot_S256x1408_S1408x1024_S256x1024_1_0_0_1_n_n, Ffn.part]

/-! ### The second half -/

theorem p12 (A : Fin 256 → Fin 1408 → ℝ) : k1_pay12 (F := Ideal) (up2 A : S256x1408.Idx → EReal) = up2 A := by
  funext j; pointwise [k1_pay12]
theorem p13 (A : Fin 256 → Fin 1408 → ℝ) : k1_pay13 (F := Ideal) (up2 A : S256x1408.Idx → EReal) = up2 A := by
  funext j; pointwise [k1_pay13]
theorem p14 : k1_pay14 (F := Ideal) bA1 = up2 fun r f => N.sg (X r) (e f) := by
  funext j; pointwise [k1_pay14, p12, Ffn.sg]
theorem p15 : k1_pay15 (F := Ideal) bA1 = up2 fun r f => N.a1 (X r) (e f) * N.sg (X r) (e f) := by
  funext j; pointwise [k1_pay15, p12, p14]
theorem p16 : k1_pay16 (F := Ideal) bDh bW2 = up2 fun r f => N.dact (D r) (e f) := by
  funext j; pointwise [k1_pay16, dot_S256x1024_S1408x1024_S256x1408_1_1_0_0_n_n, Ffn.dact]
theorem p17 : k1_pay17 (F := Ideal) bA1 bA3 = up2 fun r f => N.act (X r) (e f) := by
  funext j; pointwise [k1_pay17, p13, p15, Ffn.act]
theorem p18 : k1_pay18 (F := Ideal) bDh bA1 bA3 bW2 = bDa1 := by
  funext j; pointwise [k1_pay18, p12, p13, p14, p16, Ffn.da1]
theorem p19 : k1_pay19 (F := Ideal) bDh bA1 bW2 = bDa3 := by
  funext j; pointwise [k1_pay19, p15, p16, Ffn.da3]

/-! ### The norm -/

local notation "bP" => (up2 (fun r => N.part (X r) (D r) lo) : S256x1024.Idx → EReal)
local notation "hDa1" => (up2 (fun r f => N.da1 (X r) (D r) (hi f)) : S256x1408.Idx → EReal)
local notation "hDa3" => (up2 (fun r f => N.da3 (X r) (D r) (hi f)) : S256x1408.Idx → EReal)
local notation "hW1" => (up2 (fun f k => N.w1 k (hi f)) : S1408x1024.Idx → EReal)
local notation "hW3" => (up2 (fun f k => N.w3 k (hi f)) : S1408x1024.Idx → EReal)

theorem p20 : k1_pay20 (F := Ideal) bP hDa1 hDa3 hW1 hW3 = up2 fun r => N.dn (X r) (D r) := by
  funext j; pointwise [k1_pay20, dot_S256x1408_S1408x1024_S256x1024_1_0_0_1_n_n, Ffn.dn_eq, Ffn.part]
theorem p21 : k1_pay21 (F := Ideal) bX = up2 fun r _ => rs (X r) := by
  funext j; pointwise [k1_pay21]
theorem p22 : k1_pay22 (F := Ideal) bX = up2 fun r l => X r l * rs (X r) := by
  funext j; pointwise [k1_pay22, p21]
theorem p23 (A : Vec Ideal S1x1024 .f32) (j : S1x1024.Idx) :
    k1_pay23 (F := Ideal) bP hDa1 hDa3 hW1 hW3 bX A j = A j + ((∑ r, N.dg (X r) (D r) (j 1) : ℝ) : EReal) := by
  pointwise [k1_pay23, p20, p22, Ffn.dg]
theorem p24 : k1_pay24 (F := Ideal) bD bP hDa1 hDa3 hW1 hW3 bX bG = up2 fun r => N.dx (X r) (D r) := by
  funext j; pointwise [k1_pay24, p20, p21, p22, Ffn.dx, rmsBack]
theorem z1 (j : S1x1024.Idx) : k1_pay1 (F := Ideal) j = 0 := by pointwise [k1_pay1]

end FfnPay
end
-- ==== Proof.FfnKernel.lean ====
/-
  The two kernels of the feed-forward block one after the other, for finite arguments: the forward kernel leaves every
  token's stream, its two projections and its normed stream, and the backward kernel, handed them, leaves every token's gradients and the sum over the tokens of
  the gain's.
-/
module

public import proofs.«01_k».proof.Proof.FfnPay

@[expose] public section

set_option maxRecDepth 16384

noncomputable section

namespace FfnKernel

open Idealize.ShloMosaic Idealize.ShloMosaic.TcCoe Idealize.SL.Sem Cert.Kernel3Ideal Cert.Kernel3Ideal.Gen Lift FfnPay
open Ffn (lo hi)

/-- Token `r` of tile `t`. -/
def tok0 (t : Fin cfg0.N) (r : Fin 256) : Fin 8192 :=
  ⟨t.val * 256 + r.val, by have h : t.val < 32 := t.isLt; omega⟩
def tok (t : Fin cfg1.N) (r : Fin 256) : Fin 8192 :=
  ⟨t.val * 256 + r.val, by have h : t.val < 32 := t.isLt; omega⟩

variable (N : Ffn) (X D : Fin 8192 → Fin 1024 → ℝ)
variable (V : (c : Dev nD) → (b : Ref sig .tc) → Buf (Elt Ideal) ((c : Thread nD τ).loc b)) (c : Dev nD)

/-- The arrays that both kernels read: the stream, the gain, the matrices. -/
structure Weights : Prop where
  x : V c main_arg0 = (up2 X : S8192x1024.Idx → EReal)
  g : V c main_arg1 = (up2 (fun _ => N.g) : S1x1024.Idx → EReal)
  w1 : V c main_v1 = (up2 (fun f k => N.w1 k f) : S2816x1024.Idx → EReal)
  w3 : V c main_v3 = (up2 (fun f k => N.w3 k f) : S2816x1024.Idx → EReal)
  w2 : V c main_v4 = (up2 N.w2 : S2816x1024.Idx → EReal)

/-- What the backward kernel reads besides: the cotangent and the two projections. -/
structure Saved : Prop where
  d : V c main_arg5 = (up2 D : S8192x1024.Idx → EReal)
  a1 : V c main_v5_1 = (up2 (fun t => N.a1 (X t)) : S8192x2816.Idx → EReal)
  a3 : V c main_v5_2 = (up2 (fun t => N.a3 (X t)) : S8192x2816.Idx → EReal)

/-! ### The forward kernel -/

section Forward

variable {N X V c} (H : Weights N X V c) (t : Fin cfg0.N)

theorem idx00 : ∀ t : Fin cfg0.N, win0_0.index t = ![t.val, 0] := (by decide +kernel : ∀ t : Fin grid0.N, _)
theorem idx01 : ∀ t : Fin cfg0.N, win0_1.index t = ![0, 0] := (by decide +kernel : ∀ t : Fin grid0.N, _)
theorem idx02 : ∀ t : Fin cfg0.N, win0_2.index t = ![0, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![0, 0] := (by decide +kernel : ∀ t : Fin grid0.N, _)
theorem idx05 : ∀ t : Fin cfg0.N, win0_5.index t = ![t.val, 0] := (by decide +kernel : ∀ t : Fin grid0.N, _)
theorem idx06 : ∀ t : Fin cfg0.N, win0_6.index t = ![t.val, 0] := (by decide +kernel : ∀ t : Fin grid0.N, _)
theorem idx07 : ∀ t : Fin cfg0.N, win0_7.index t = ![t.val, 0] := (by decide +kernel : ∀ t : Fin grid0.N, _)
theorem idx08 : ∀ t : Fin cfg0.N, win0_8.index t = ![t.val, 0] := (by decide +kernel : ∀ t : Fin grid0.N, _)

include H

theorem b00 : iblk0 V c 0 t = (up2 (fun r => X (tok0 t r)) : S256x1024.Idx → EReal) := by
  funext y
  have e : iblk0 V c 0 t y = V c main_arg0 (ix2 (tok0 t (y 0)) (y 1)) := by
    unfold iblk0; blk_ext! [idx00 t, tok0]
  rw [e, H.x]; rfl
theorem b01 : iblk0 V c 1 t = (up2 (fun _ => N.g) : S1x1024.Idx → EReal) := by
  rw [← H.g]; unfold iblk0; blk_ext! [idx01 t]
theorem b02 : iblk0 V c 2 t = (up2 (fun f k => N.w1 k f) : S2816x1024.Idx → EReal) := by
  rw [← H.w1]; unfold iblk0; blk_ext! [idx02 t]
theorem b03 : iblk0 V c 3 t = (up2 (fun f k => N.w3 k f) : S2816x1024.Idx → EReal) := by
  rw [← H.w3]; unfold iblk0; blk_ext! [idx03 t]
theorem b04 : iblk0 V c 4 t = (up2 N.w2 : S2816x1024.Idx → EReal) := by
  rw [← H.w2]; unfold iblk0; blk_ext! [idx04 t]

theorem o05 : out0_5 (iblk0 V c 0 t) (iblk0 V c 1 t) (iblk0 V c 2 t) (iblk0 V c 3 t) (iblk0 V c 4 t)
    = (up2 (fun r => N.out (X (tok0 t r))) : S256x1024.Idx → EReal) := by
  frame_out
  rw [b00 H t, b01 H t, b02 H t, b03 H t, b04 H t, row_lo, row_lo, row_lo, row_hi, row_hi, row_hi, f12, f11, f5]
theorem o08 : out0_8 (iblk0 V c 0 t) (iblk0 V c 1 t) (iblk0 V c 2 t) (iblk0 V c 3 t) (iblk0 V c 4 t)
    = (up2 (fun r => N.n (X (tok0 t r))) : S256x1024.Idx → EReal) := by
  frame_out
  rw [b00 H t, b01 H t, f6]
theorem o06 : out0_6 (iblk0 V c 0 t) (iblk0 V c 1 t) (iblk0 V c 2 t) (iblk0 V c 3 t) (iblk0 V c 4 t)
    = (up2 (fun r => N.a1 (X (tok0 t r))) : S256x2816.Idx → EReal) := by
  frame_out
  rw [b00 H t, b01 H t, b02 H t, row_lo, row_hi, f12, f3, f9]
  exact two _
theorem o07 : out0_7 (iblk0 V c 0 t) (iblk0 V c 1 t) (iblk0 V c 2 t) (iblk0 V c 3 t) (iblk0 V c 4 t)
    = (up2 (fun r => N.a3 (X (tok0 t r))) : S256x2816.Idx → EReal) := by
  frame_out
  rw [b00 H t, b01 H t, b03 H t, row_lo, row_hi, f12, f4, f10]
  exact two _

omit t
theorem w05 : (dat0 V c).arrAt 5 cfg0.N = (up2 (fun t => N.out (X t)) : S8192x1024.Idx → EReal) :=
  (dat0 V c).arrAt_eq_of_covers 5 _ (by decide +kernel) fun t hf y => by
    blk_simp
    rw [after0_5, o05 H t]
    exact congrArg₂ (fun a b => (up2 (fun t => N.out (X t)) : S8192x1024.Idx → EReal) (ix2 a b))
      (Fin.ext (by simp [tok0, idx05 t])) (Fin.ext (by simp [idx05 t]))
theorem w06 : (dat0 V c).arrAt 6 cfg0.N = (up2 (fun t => N.a1 (X t)) : S8192x2816.Idx → EReal) :=
  (dat0 V c).arrAt_eq_of_covers 6 _ (by decide +kernel) fun t hf y => by
    blk_simp
    rw [after0_6, o06 H t]
    exact congrArg₂ (fun a b => (up2 (fun t => N.a1 (X t)) : S8192x2816.Idx → EReal) (ix2 a b))
      (Fin.ext (by simp [tok0, idx06 t])) (Fin.ext (by simp [idx06 t]))
theorem w07 : (dat0 V c).arrAt 7 cfg0.N = (up2 (fun t => N.a3 (X t)) : S8192x2816.Idx → EReal) :=
  (dat0 V c).arrAt_eq_of_covers 7 _ (by decide +kernel) fun t hf y => by
    blk_simp
    rw [after0_7, o07 H t]
    exact congrArg₂ (fun a b => (up2 (fun t => N.a3 (X t)) : S8192x2816.Idx → EReal) (ix2 a b))
      (Fin.ext (by simp [tok0, idx07 t])) (Fin.ext (by simp [idx07 t]))
theorem w08 : (dat0 V c).arrAt 8 cfg0.N = (up2 (fun t => N.n (X t)) : S8192x1024.Idx → EReal) :=
  (dat0 V c).arrAt_eq_of_covers 8 _ (by decide +kernel) fun t hf y => by
    blk_simp
    rw [after0_8, o08 H t]
    exact congrArg₂ (fun a b => (up2 (fun t => N.n (X t)) : S8192x1024.Idx → EReal) (ix2 a b))
      (Fin.ext (by simp [tok0, idx08 t])) (Fin.ext (by simp [idx08 t]))

end Forward

/-! ### The backward kernel -/

section Backward

variable {N X D V c} (H : Weights N X V c) (S : Saved N X D V c) (t : Fin cfg1.N)

theorem idx0 : ∀ t : Fin cfg1.N, win1_0.index t = ![t.val, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![t.val, 0] := (by decide +kernel : ∀ t : Fin grid1.N, _)
theorem idx3 : ∀ t : Fin cfg1.N, win1_3.index t = ![t.val, 0] := (by decide +kernel : ∀ t : Fin grid1.N, _)
theorem idx4 : ∀ t : Fin cfg1.N, win1_4.index t = ![t.val, 0] := (by decide +kernel : ∀ t : Fin grid1.N, _)
theorem idx5 : ∀ t : Fin cfg1.N, win1_5.index t = ![0, 0] := (by decide +kernel : ∀ t : Fin grid1.N, _)
theorem idx6 : ∀ t : Fin cfg1.N, win1_6.index t = ![0, 0] := (by decide +kernel : ∀ t : Fin grid1.N, _)
theorem idx7 : ∀ t : Fin cfg1.N, win1_7.index t = ![0, 0] := (by decide +kernel : ∀ t : Fin grid1.N, _)
theorem idx8 : ∀ t : Fin cfg1.N, win1_8.index t = ![t.val, 0] := (by decide +kernel : ∀ t : Fin grid1.N, _)
theorem idx9 : ∀ t : Fin cfg1.N, win1_9.index t = ![t.val, 0] := (by decide +kernel : ∀ t : Fin grid1.N, _)
theorem idx10 : ∀ t : Fin cfg1.N, win1_10.index t = ![t.val, 0] := (by decide +kernel : ∀ t : Fin grid1.N, _)
theorem idx11 : ∀ t : Fin cfg1.N, win1_11.index t = ![t.val, 0] := (by decide +kernel : ∀ t : Fin grid1.N, _)

section
include H
theorem b0 : iblk1 V c 0 t = (up2 (fun r => X (tok t r)) : S256x1024.Idx → EReal) := by
  funext y
  have e : iblk1 V c 0 t y = V c main_arg0 (ix2 (tok t (y 0)) (y 1)) := by
    unfold iblk1; blk_ext! [idx0 t, tok]
  rw [e, H.x]; rfl
theorem b1 : iblk1 V c 1 t = (up2 (fun _ => N.g) : S1x1024.Idx → EReal) := by
  rw [← H.g]; unfold iblk1; blk_ext! [idx1 t]
theorem b5 : iblk1 V c 5 t = (up2 (fun f k => N.w1 k f) : S2816x1024.Idx → EReal) := by
  rw [← H.w1]; unfold iblk1; blk_ext! [idx5 t]
theorem b6 : iblk1 V c 6 t = (up2 (fun f k => N.w3 k f) : S2816x1024.Idx → EReal) := by
  rw [← H.w3]; unfold iblk1; blk_ext! [idx6 t]
theorem b7 : iblk1 V c 7 t = (up2 N.w2 : S2816x1024.Idx → EReal) := by
  rw [← H.w2]; unfold iblk1; blk_ext! [idx7 t]
end

section
include S
theorem b2 : iblk1 V c 2 t = (up2 (fun r => D (tok t r)) : S256x1024.Idx → EReal) := by
  funext y
  have e : iblk1 V c 2 t y = V c main_arg5 (ix2 (tok t (y 0)) (y 1)) := by
    unfold iblk1; blk_ext! [idx2 t, tok]
  rw [e, S.d]; rfl
theorem b3 : iblk1 V c 3 t = (up2 (fun r => N.a1 (X (tok t r))) : S256x2816.Idx → EReal) := by
  funext y
  have e : iblk1 V c 3 t y = V c main_v5_1 (ix2 (tok t (y 0)) (y 1)) := by
    unfold iblk1; blk_ext! [idx3 t, tok]
  rw [e, S.a1]; rfl
theorem b4 : iblk1 V c 4 t = (up2 (fun r => N.a3 (X (tok t r))) : S256x2816.Idx → EReal) := by
  funext y
  have e : iblk1 V c 4 t y = V c main_v5_2 (ix2 (tok t (y 0)) (y 1)) := by
    unfold iblk1; blk_ext! [idx4 t, tok]
  rw [e, S.a3]; rfl
end

include H S

theorem o8 : (outsAt1 V c t.val t.isLt).1 = (up2 (fun r => N.dx (X (tok t r)) (D (tok t r))) : S256x1024.Idx → EReal) := by
  by_cases h : t.val % 32 = 0
  · rw [outsAt1_A V c t h]; frame_out
    simp only [b0 H t, b1 H t, b2 S t, b3 S t, b4 S t, b5 H t, b6 H t, b7 H t, row_lo, row_hi, col_lo, col_hi, p2, p9, p10, p11,
      p18, p19, p24]
  · rw [outsAt1_B V c t h]; frame_out
    simp only [b0 H t, b1 H t, b2 S t, b3 S t, b4 S t, b5 H t, b6 H t, b7 H t, row_lo, row_hi, col_lo, col_hi, p2, p9, p10, p11,
      p18, p19, p24]
theorem o9 : (outsAt1 V c t.val t.isLt).2.1 = (up2 (fun r => N.da1 (X (tok t r)) (D (tok t r))) : S256x2816.Idx → EReal) := by
  by_cases h : t.val % 32 = 0
  · rw [outsAt1_A V c t h]; frame_out
    simp only [b2 S t, b3 S t, b4 S t, b7 H t, row_lo, row_hi, col_lo, col_hi, p2, p9, p18]
    exact two _
  · rw [outsAt1_B V c t h]; frame_out
    simp only [b2 S t, b3 S t, b4 S t, b7 H t, row_lo, row_hi, col_lo, col_hi, p2, p9, p18]
    exact two _
theorem o10 : (outsAt1 V c t.val t.isLt).2.2.1 = (up2 (fun r => N.da3 (X (tok t r)) (D (tok t r))) : S256x2816.Idx → EReal) := by
  by_cases h : t.val % 32 = 0
  · rw [outsAt1_A V c t h]; frame_out
    simp only [b2 S t, b3 S t, b4 S t, b7 H t, row_lo, row_hi, col_lo, col_hi, p2, p10, p19]
    exact two _
  · rw [outsAt1_B V c t h]; frame_out
    simp only [b2 S t, b3 S t, b4 S t, b7 H t, row_lo, row_hi, col_lo, col_hi, p2, p10, p19]
    exact two _
omit H in
theorem o11 : (outsAt1 V c t.val t.isLt).2.2.2.1 = (up2 (fun r => N.act (X (tok t r))) : S256x2816.Idx → EReal) := by
  by_cases h : t.val % 32 = 0
  · rw [outsAt1_A V c t h]; frame_out
    simp only [b3 S t, b4 S t, col_lo, col_hi, p8, p17]
    exact two _
  · rw [outsAt1_B V c t h]; frame_out
    simp only [b3 S t, b4 S t, col_lo, col_hi, p8, p17]
    exact two _

omit t

theorem w8 : (dat1 V c).arrAt 8 cfg1.N = (up2 (fun t => N.dx (X t) (D t)) : S8192x1024.Idx → EReal) :=
  (dat1 V c).arrAt_eq_of_covers 8 _ (by decide +kernel) fun t hf y => by
    blk_simp
    rw [after1_8, o8 H S t]
    exact congrArg₂ (fun a b => (up2 (fun t => N.dx (X t) (D t)) : S8192x1024.Idx → EReal) (ix2 a b))
      (Fin.ext (by simp [tok, idx8 t])) (Fin.ext (by simp [idx8 t]))
theorem w9 : (dat1 V c).arrAt 9 cfg1.N = (up2 (fun t => N.da1 (X t) (D t)) : S8192x2816.Idx → EReal) :=
  (dat1 V c).arrAt_eq_of_covers 9 _ (by decide +kernel) fun t hf y => by
    blk_simp
    rw [after1_9, o9 H S t]
    exact congrArg₂ (fun a b => (up2 (fun t => N.da1 (X t) (D t)) : S8192x2816.Idx → EReal) (ix2 a b))
      (Fin.ext (by simp [tok, idx9 t])) (Fin.ext (by simp [idx9 t]))
theorem w10 : (dat1 V c).arrAt 10 cfg1.N = (up2 (fun t => N.da3 (X t) (D t)) : S8192x2816.Idx → EReal) :=
  (dat1 V c).arrAt_eq_of_covers 10 _ (by decide +kernel) fun t hf y => by
    blk_simp
    rw [after1_10, o10 H S t]
    exact congrArg₂ (fun a b => (up2 (fun t => N.da3 (X t) (D t)) : S8192x2816.Idx → EReal) (ix2 a b))
      (Fin.ext (by simp [tok, idx10 t])) (Fin.ext (by simp [idx10 t]))
omit H in
theorem w11 : (dat1 V c).arrAt 11 cfg1.N = (up2 (fun t => N.act (X t)) : S8192x2816.Idx → EReal) :=
  (dat1 V c).arrAt_eq_of_covers 11 _ (by decide +kernel) fun t hf y => by
    blk_simp
    rw [after1_11, o11 S t]
    exact congrArg₂ (fun a b => (up2 (fun t => N.act (X t)) : S8192x2816.Idx → EReal) (ix2 a b))
      (Fin.ext (by simp [tok, idx11 t])) (Fin.ext (by simp [idx11 t]))

/-- The last tile. -/
abbrev lastTile : Fin cfg1.N := ⟨31, by decide +kernel⟩

theorem a12 (j : S1x1024.Idx) : (outsAt1 V c lastTile.val lastTile.isLt).2.2.2.2 j
    = ((∑ t : Fin 8192, N.dg (X t) (D t) (j 1) : ℝ) : EReal) := by
  rw [Pipeline.eq_sum_fin_of_reset_step_apply_last (fun n h => (outsAt1 V c n h).2.2.2.2) 32 (fun _ => 0)
    (fun (p : Fin cfg1.N) j => ((∑ r : Fin 256, N.dg (X (tok p r)) (D (tok p r)) (j 1) : ℝ) : EReal))
    (fun t h j => by
      rw [outsAt1_A V c t h]; frame_out
      simp only [b0 H t, b2 S t, b3 S t, b4 S t, b5 H t, b6 H t, b7 H t, row_lo, row_hi, col_lo, col_hi, p2, p9, p10, p11,
        p18, p19, p23, z1])
    (fun t h j => by
      rw [outsAt1_B V c t h]; frame_out
      simp only [b0 H t, b2 S t, b3 S t, b4 S t, b5 H t, b6 H t, b7 H t, row_lo, row_hi, col_lo, col_hi, p2, p9, p10, p11,
        p18, p19, p23])
    (le_of_eq N_1) lastTile rfl j, zero_add, sum_coe]
  refine congrArg _ ?_
  exact Fin.sum_mul_add_congr fun s k hl => rfl
theorem w12 : (dat1 V c).arrAt 12 cfg1.N = (up2 (fun _ j => ∑ t : Fin 8192, N.dg (X t) (D t) j) : S1x1024.Idx → EReal) :=
  (dat1 V c).arrAt_eq_of_after_last 12 lastTile (by decide +kernel) _ fun j => by
    blk_simp
    rw [after1_12, a12 H S]; rfl

end Backward

end FfnKernel
end
-- ==== Proof.FfnClaim.lean ====
/-
  The feed-forward block's forward call and the gradient call behind it, against the forward lines and their derivative: both
  runs end with the same nine arrays.
-/
module

public import proofs.«01_k».proof.Defs
public import proofs.«01_k».proof.Proof.FfnRef
public import proofs.«01_k».proof.Proof.FfnKernel
public import proofs.«01_k».proof.Proof.Gen.Pre_finite_ffn

@[expose] public section

set_option maxRecDepth 65536

noncomputable section

namespace FfnClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen Lift
open Idealize.ShloMosaic.Rounds
open Idealize.ShloMosaic.StableHlo (launchContents)

local notation "𝕄" => MT nD τ sig Unit (Elt Ideal) ℕ (UR sig nD τ) ℕ

variable (m : (ℓ : Loc nD τ sig) → Buf (Elt Ideal) ℓ) (ρ : Dev nD → PrngReg) (c : Dev nD)

set_option backward.isDefEq.respectTransparency.types false in
/-- The two kernels' run: each kernel's arrays end as it leaves them, the arguments unchanged. -/
theorem run_arrays : θ_run defs (onTc (τ := τ) (main (F := Ideal))) ⟨m, fun _ => 0, ρ⟩ fun r => ∀ c : Dev nD,
      r.2.mem ((c.tc : Thread nD τ).loc main_v5_0) = (dat0 (V1 m ρ) c).arrAt 5 cfg0.N
      ∧ r.2.mem ((c.tc : Thread nD τ).loc main_v5_1) = (dat0 (V1 m ρ) c).arrAt 6 cfg0.N
      ∧ r.2.mem ((c.tc : Thread nD τ).loc main_v5_2) = (dat0 (V1 m ρ) c).arrAt 7 cfg0.N
      ∧ r.2.mem ((c.tc : Thread nD τ).loc main_v5_3) = (dat0 (V1 m ρ) c).arrAt 8 cfg0.N
      ∧ r.2.mem ((c.tc : Thread nD τ).loc main_v6_0) = (dat1 (V2 m ρ) c).arrAt 8 cfg1.N
      ∧ r.2.mem ((c.tc : Thread nD τ).loc main_v6_1) = (dat1 (V2 m ρ) c).arrAt 9 cfg1.N
      ∧ r.2.mem ((c.tc : Thread nD τ).loc main_v6_2) = (dat1 (V2 m ρ) c).arrAt 10 cfg1.N
      ∧ r.2.mem ((c.tc : Thread nD τ).loc main_v6_3) = (dat1 (V2 m ρ) c).arrAt 11 cfg1.N
      ∧ r.2.mem ((c.tc : Thread nD τ).loc main_v6_4) = (dat1 (V2 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v5_0 (by decide))).trans ((W3_of m ρ c main_v5_0 (by decide)).trans (W2_arr m ρ c 5)),
       (h c _ (mem_uc main_v5_1 (by decide))).trans ((W3_of m ρ c main_v5_1 (by decide)).trans (W2_arr m ρ c 6)),
       (h c _ (mem_uc main_v5_2 (by decide))).trans ((W3_of m ρ c main_v5_2 (by decide)).trans (W2_arr m ρ c 7)),
       (h c _ (mem_uc main_v5_3 (by decide))).trans ((W3_of m ρ c main_v5_3 (by decide)).trans (W2_arr m ρ c 8)),
       (h c _ (mem_uc main_v6_0 (by decide))).trans (W3_arr m ρ c 8),
       (h c _ (mem_uc main_v6_1 (by decide))).trans (W3_arr m ρ c 9),
       (h c _ (mem_uc main_v6_2 (by decide))).trans (W3_arr m ρ c 10),
       (h c _ (mem_uc main_v6_3 (by decide))).trans (W3_arr m ρ c 11),
       (h c _ (mem_uc main_v6_4 (by decide))).trans (W3_arr m ρ c 12),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-! ### What each kernel finds -/

variable (N : Ffn) (X D : Fin 8192 → Fin 1024 → ℝ)

/-- The arguments hold the reals `X`, `D` and the weights `N`. -/
structure Holds : Prop where
  h0 : m ((c : Thread nD τ).loc main_arg0) = (up2 X : S8192x1024.Idx → EReal)
  h1 : m ((c : Thread nD τ).loc main_arg1) = (up2 (fun _ => N.g) : S1x1024.Idx → EReal)
  h2 : m ((c : Thread nD τ).loc main_arg2) = (up2 N.w1 : S1024x2816.Idx → EReal)
  h3 : m ((c : Thread nD τ).loc main_arg3) = (up2 N.w3 : S1024x2816.Idx → EReal)
  h4 : m ((c : Thread nD τ).loc main_arg4) = (up2 N.w2 : S2816x1024.Idx → EReal)
  h5 : m ((c : Thread nD τ).loc main_arg5) = (up2 D : S8192x1024.Idx → EReal)

variable {m ρ c N X D} (H : Holds m c N X D)
include H

theorem find1 : FfnKernel.Weights N X (V1 m ρ) c where
  x := (W1_args m ρ c main_arg0 (by decide)).trans H.h0
  g := (W1_args m ρ c main_arg1 (by decide)).trans H.h1
  w1 := by
    show StableHlo.after hostOps0 _ (Proc.devRef .tc main_v1) = _
    after_results
    rw [show W0 m ρ c (Proc.devRef .tc main_arg2) = _ from H.h2]
    funext j; pointwise
  w3 := by
    show StableHlo.after hostOps0 _ (Proc.devRef .tc main_v3) = _
    after_results
    rw [show W0 m ρ c (Proc.devRef .tc main_arg3) = _ from H.h3]
    funext j; pointwise
  w2 := by
    show StableHlo.after hostOps0 _ (Proc.devRef .tc main_v4) = _
    after_results
    rw [show W0 m ρ c (Proc.devRef .tc main_arg4) = _ from H.h4]
    funext j; pointwise

theorem find2 : FfnKernel.Weights N X (V2 m ρ) c where
  x := (W2_of m ρ c main_arg0 (by decide)).trans (find1 H).x
  g := (W2_of m ρ c main_arg1 (by decide)).trans (find1 H).g
  w1 := (W2_of m ρ c main_v1 (by decide)).trans (find1 H).w1
  w3 := (W2_of m ρ c main_v3 (by decide)).trans (find1 H).w3
  w2 := (W2_of m ρ c main_v4 (by decide)).trans (find1 H).w2

theorem saved : FfnKernel.Saved N X D (V2 m ρ) c where
  d := (W2_args m ρ c main_arg5 (by decide)).trans H.h5
  a1 := (W2_arr m ρ c 6).trans (FfnKernel.w06 (find1 H))
  a3 := (W2_arr m ρ c 7).trans (FfnKernel.w07 (find1 H))

/-! ### The claim -/

omit H in
/-- Finite arguments are arrays of reals. -/
theorem holds (hpre : Cert.Pre_Kernel3Ideal_finite_ffn m) (c : Dev nD) : ∃ N X D, Holds m c N X D := by
  obtain ⟨h0, h1, h2, h3, h4, h5⟩ := hpre c
  obtain ⟨X, hX⟩ := finite2 h0
  obtain ⟨g, hg⟩ := finiteRow h1
  obtain ⟨w1, hw1⟩ := finite2 h2
  obtain ⟨w3, hw3⟩ := finite2 h3
  obtain ⟨w2, hw2⟩ := finite2 h4
  obtain ⟨D, hD⟩ := finite2 h5
  exact ⟨⟨g, w1, w3, w2⟩, X, D, hX, hg, hw1, hw3, hw2, hD⟩

omit H in
theorem algebraic : Cert.algebraic_Kernel3Ideal_Reference3Ideal_pre_finite_ffn := by
  pair_intro
  · run_from run_arrays m g
  · run_from FfnRef.run_stages m' g'
    all_goals
      obtain ⟨N, X, D, H⟩ := holds hpre c
      simp only [H.h0, H.h1, H.h2, H.h3, H.h4, H.h5]
    · rw [FfnKernel.w05 (find1 H)]; exact FfnRef.v27 N X
    · rw [FfnKernel.w06 (find1 H)]; exact FfnRef.v60 N X
    · rw [FfnKernel.w07 (find1 H)]; exact FfnRef.v61 N X
    · rw [FfnKernel.w08 (find1 H)]; exact FfnRef.v62 N X
    · rw [FfnKernel.w8 (find2 H) (saved H)]; exact FfnRef.v58 N X D
    · rw [FfnKernel.w9 (find2 H) (saved H)]; exact FfnRef.v63 N X D
    · rw [FfnKernel.w10 (find2 H) (saved H)]; exact FfnRef.v64 N X D
    · rw [FfnKernel.w11 (saved H)]; exact FfnRef.v65 N X
    · rw [FfnKernel.w12 (find2 H) (saved H)]; exact FfnRef.v59 N X D

end FfnClaim
end
-- ==== Proof.MixMath.lean ====
/-
  The two branches of the mixer on their way out, one token at a time, over the reals: the heads' output normed; the gelu of the
  state space's output through a gated linear unit and normed; both through the output product. And the gradient of it in each of
  its intermediate values, for a cotangent row `d`.
-/
module

public import proofs.«01_k».proof.Proof.Lift

@[expose] public section

noncomputable section

namespace Lift

open Idealize.ShloMosaic

/-! ### Literals -/

@[pointwise] theorem lit_512 : Ideal.ofBits .f32 0x44000000#32 = ((512 : ℝ) : EReal) := by
  simp [Ideal.ofBits, Ideal.ieee]; rw [mul_coe]; norm_num
@[pointwise] theorem lit_three : Ideal.ofBits .f32 0x40400000#32 = ((3 : ℝ) : EReal) := by
  simp [Ideal.ofBits, Ideal.ieee]; rw [mul_coe]; norm_num
@[pointwise] theorem lit_neg_one : Ideal.ofBits .f32 0xBF800000#32 = ((-1 : ℝ) : EReal) := by
  simp [Ideal.ofBits, Ideal.ieee]; rw [mul_coe]; norm_num
@[pointwise] theorem lit_cubic_num : Ideal.ofBits .f32 0x472EAB00#32 = ((44715 : ℝ) : EReal) := by
  simp [Ideal.ofBits, Ideal.ieee]; rw [mul_coe]; norm_num
@[pointwise] theorem lit_million : Ideal.ofBits .f32 0x49742400#32 = ((1000000 : ℝ) : EReal) := by
  simp [Ideal.ofBits, Ideal.ieee]; rw [mul_coe]; norm_num

/-- The factor inside the gelu's hyperbolic tangent. -/
def gc : ℝ := 13386282 / 16777216
@[pointwise] theorem lit_gc : Ideal.ofBits .f32 0x3F4C422A#32 = (gc : EReal) := by
  unfold gc; simp [Ideal.ofBits, Ideal.ieee]; rw [mul_coe]; norm_num
@[pointwise] theorem div_512 (a : ℝ) : Ideal.div (a : EReal) ((512 : ℝ) : EReal) = ((a / 512 : ℝ) : EReal) :=
  div_coe (by norm_num) a
@[pointwise] theorem div_million (a : ℝ) : Ideal.div (a : EReal) ((1000000 : ℝ) : EReal) = ((a / 1000000 : ℝ) : EReal) :=
  div_coe (by norm_num) a

/-! ### The root mean square norm of a row of 512 -/

/-- The mean square of a row, and a little more. -/
def mh (v : Fin 512 → ℝ) : ℝ := (∑ k, v k * v k) / 512 + eps
/-- The factor of the norm. -/
def rh (v : Fin 512 → ℝ) : ℝ := (√(mh v))⁻¹

theorem mh_pos (v : Fin 512 → ℝ) : 0 < mh v := by
  have h : 0 ≤ ∑ k, v k * v k := Finset.sum_nonneg fun k _ => mul_self_nonneg _
  have := eps_pos
  unfold mh; positivity
theorem rh_sq (v : Fin 512 → ℝ) : rh v * rh v = (mh v)⁻¹ := by
  unfold rh
  rw [← mul_inv, Real.mul_self_sqrt (mh_pos v).le]

@[pointwise] theorem mh_fold (v : Fin 512 → ℝ) : (((∑ k, v k * v k) / 512 + eps : ℝ) : EReal) = (mh v : EReal) := rfl
@[pointwise] theorem rsqrt_mh (v : Fin 512 → ℝ) : Ideal.rsqrt (mh v : EReal) = (rh v : EReal) := by
  rw [Ideal.rsqrt_coe, if_neg (mh_pos v).not_gt, if_neg (mh_pos v).ne']; rfl
@[pointwise] theorem rh_div_mh (v : Fin 512 → ℝ) : Ideal.div (rh v : EReal) (mh v : EReal) = ((rh v / mh v : ℝ) : EReal) :=
  div_coe (mh_pos v).ne' _

/-- The gradient of the norm `x ↦ x · rh x · g` in its row, for the cotangent `dy`. -/
def backHalf (dy x g : Fin 512 → ℝ) (j : Fin 512) : ℝ :=
  rh x * (dy j * g j - x j * rh x * ((∑ k, dy k * g k * (x k * rh x)) / 512))

/-- The same gradient as differentiating the norm's lines one by one leaves it. -/
theorem backHalf_lines (dy x g : Fin 512 → ℝ) (j : Fin 512) :
    dy j * g j * rh x + x j * ((∑ k, x k * (dy k * g k)) * (-1 / 2 * (rh x / mh x)) / 512)
        + (∑ k, x k * (dy k * g k)) * (-1 / 2 * (rh x / mh x)) / 512 * x j
      = backHalf dy x g j := by
  have h : rh x / mh x = rh x * rh x * rh x := by rw [rh_sq, div_eq_mul_inv, mul_comm]
  have hs : ∑ k, dy k * g k * (x k * rh x) = (∑ k, x k * (dy k * g k)) * rh x := by
    rw [Finset.sum_mul]; exact Finset.sum_congr rfl fun k _ => by ring
  rw [backHalf, h, hs]; ring

end Lift

open Lift

/-- The weights: the two norms' gains, the gated unit's matrix and bias, the output's matrix. -/
structure Mix where
  ga : Fin 512 → ℝ
  gs : Fin 512 → ℝ
  wg : Fin 512 → Fin 512 → ℝ
  bg : Fin 512 → ℝ
  wo : Fin 1024 → Fin 1024 → ℝ

namespace Mix

/-- Lane `l` of head `h`, in the heads' joined row. -/
def at' (h : Fin 8) (l : Fin 64) : Fin 512 := ⟨h.val * 64 + l.val, by omega⟩
/-- The places of the two branches in the mixed row. -/
def inA (j : Fin 512) : Fin 1024 := ⟨j.val, by omega⟩
def inS (j : Fin 512) : Fin 1024 := ⟨512 + j.val, by omega⟩

variable (N : Mix) (a y : Fin 512 → ℝ) (d : Fin 1024 → ℝ)

/-- The gelu and its hyperbolic tangent. -/
def th (j : Fin 512) : ℝ := Real.tanh (gc * (y j + 8943 / 200000 * y j * y j * y j))
def u (j : Fin 512) : ℝ := 1 / 2 * y j * (1 + th y j)
/-- The gate, and the gated unit. -/
def sg (j : Fin 512) : ℝ := (1 + Real.exp (-(∑ k, u y k * N.wg k j + N.bg j)))⁻¹
def gl (j : Fin 512) : ℝ := u y j * N.sg y j
/-- The gradient in the mixed row, branch by branch. -/
def dm (j : Fin 1024) : ℝ := ∑ k, d k * N.wo j k
def dma (j : Fin 512) : ℝ := ∑ k, d k * N.wo (inA j) k
def dms (j : Fin 512) : ℝ := ∑ k, d k * N.wo (inS j) k
/-- The gradient in the heads' output, the token's share of the gain's, and what each head's softmax needs of it. -/
def da (j : Fin 512) : ℝ := backHalf (N.dma d) a N.ga j
def dga (j : Fin 512) : ℝ := N.dma d j * (a j * rh a)
def delta (h : Fin 8) : ℝ := ∑ l, N.da a d (at' h l) * a (at' h l)
/-- The gradient in the gated unit, the token's share of the gain's. -/
def dgl (j : Fin 512) : ℝ := backHalf (N.dms d) (N.gl y) N.gs j
def dgs (j : Fin 512) : ℝ := N.dms d j * (N.gl y j * rh (N.gl y))
/-- The gradient at the gate, in the gelu, and in its argument. -/
def dz (j : Fin 512) : ℝ := N.dgl y d j * u y j * N.sg y j * (1 - N.sg y j)
def du (j : Fin 512) : ℝ := N.dgl y d j * N.sg y j + ∑ k, N.dz y d k * N.wg j k
def slope (j : Fin 512) : ℝ :=
  1 / 2 * (1 + th y j) + 1 / 2 * y j * (1 - th y j * th y j) * gc * (1 + 26829 / 200000 * y j * y j)
def dy (j : Fin 512) : ℝ := N.du y d j * slope y j

end Mix
end
-- ==== Proof.MixRef.lean ====
/-
  What the reference of the gradient of the mixer's way out computes, for finite arguments: the rows of MixMath.
-/
module

public import proofs.«01_k».proof.Proof.MixMath
public import proofs.«01_k».proof.Proof.Gen.Reference4Ideal.Read
public import proofs.«01_k».proof.Proof.Gen.Reference4Ideal.Run

@[expose] public section

set_option maxRecDepth 16384

noncomputable section

namespace MixRef

open Idealize.ShloMosaic Cert.Reference4Ideal Cert.Reference4Ideal.Read Lift

variable (N : Mix) (A Y : Fin 8192 → Fin 512 → ℝ) (D : Fin 8192 → Fin 1024 → ℝ)

local notation "xA" => (up2 A : S8192x512.Idx → EReal)
local notation "xY" => (up2 Y : S8192x512.Idx → EReal)
local notation "xGa" => (up2 (fun (_ : Fin 1) => N.ga) : S1x512.Idx → EReal)
local notation "xGs" => (up2 (fun (_ : Fin 1) => N.gs) : S1x512.Idx → EReal)
local notation "xWg" => (up2 N.wg : S512x512.Idx → EReal)
local notation "xBg" => (up2 (fun (_ : Fin 1) => N.bg) : S1x512.Idx → EReal)
local notation "xWo" => (up2 N.wo : S1024x1024.Idx → EReal)
local notation "xD" => (up2 D : S8192x1024.Idx → EReal)

theorem v12 : val_main_v12 (F := Ideal) xY = up2 fun t => Mix.th (Y t) := by
  funext j
  pointwise [val_main_v12, val_main_v11, val_main_v10, val_main_cst_3, val_main_v9, val_main_v8, val_main_v7, val_main_v1,
    val_main_cst_0, val_main_cst_1, val_main_v3, val_main_v2, Mix.th]
  exact congrArg _ (congrArg _ (by ring))

theorem v17 : val_main_v17 (F := Ideal) xY = up2 fun t j => (1 + Mix.th (Y t) j) * (1 - Mix.th (Y t) j) := by
  funext j
  pointwise [val_main_v17, val_main_v16, val_main_v15, val_main_cst_5, val_main_v14, val_main_v13, val_main_cst_4, v12]

theorem v21 : val_main_v21 (F := Ideal) xY = up2 fun t j => 1 / 2 * (1 + Mix.th (Y t) j) := by
  funext j
  pointwise [val_main_v21, val_main_v20, val_main_cst_7, val_main_v19, val_main_v18, val_main_cst_6, v12]

theorem v22 : val_main_v22 (F := Ideal) xY = up2 fun t => Mix.u (Y t) := by
  funext j
  pointwise [val_main_v22, v21, Mix.u]
  exact congrArg _ (by ring)

theorem v32 : val_main_v32 (F := Ideal) xY xWg xBg = up2 fun t => N.sg (Y t) := by
  funext j
  pointwise [val_main_v32, val_main_v31, val_main_cst_9, val_main_v30, val_main_v29, val_main_cst_8, val_main_v28, val_main_v27,
    val_main_v26, val_main_v0, val_main_cst, val_main_v25, val_main_v24, val_main_v23, v22,
    dot_S8192x512_S512x512_S8192x512_1_0_0_1_n_n, Mix.sg]

theorem v35 : val_main_v35 (F := Ideal) xY xWg xBg = up2 fun t j => N.sg (Y t) j * (1 - N.sg (Y t) j) := by
  funext j
  pointwise [val_main_v35, val_main_v34, val_main_v33, val_main_cst_10, v32]

theorem v36 : val_main_v36 (F := Ideal) xY xWg xBg = up2 fun t => N.gl (Y t) := by
  funext j
  pointwise [val_main_v36, v22, v32, Mix.gl]

/-! ### The two norms -/

theorem v44 : val_main_v44 (F := Ideal) xA = up2 fun t _ => mh (A t) := by
  funext j
  pointwise [val_main_v44, val_main_v43, val_main_cst_13, val_main_v42, val_main_v41, val_main_cst_12, val_main_v40, val_main_v39,
    val_main_cst_11, val_main_v38]

theorem v45 : val_main_v45 (F := Ideal) xA = up2 fun t _ => rh (A t) := by
  funext j
  pointwise [val_main_v45, v44]

theorem v48 : val_main_v48 (F := Ideal) xA = up2 fun t _ => -1 / 2 * (rh (A t) / mh (A t)) := by
  funext j
  pointwise [val_main_v48, val_main_v47, val_main_cst_14, val_main_v46, v45, v44]

theorem v50 : val_main_v50 (F := Ideal) xA = up2 fun t j => A t j * rh (A t) := by
  funext j
  pointwise [val_main_v50, val_main_v49, v45]

theorem v51 : val_main_v51 (F := Ideal) xGa = up2 fun _ => N.ga := by
  funext j
  pointwise [val_main_v51, val_main_v37]

theorem v61 : val_main_v61 (F := Ideal) xY xWg xBg = up2 fun t _ => mh (N.gl (Y t)) := by
  funext j
  pointwise [val_main_v61, val_main_v60, val_main_cst_17, val_main_v59, val_main_v58, val_main_cst_16, val_main_v57, val_main_v56,
    val_main_cst_15, val_main_v55, v36]

theorem v62 : val_main_v62 (F := Ideal) xY xWg xBg = up2 fun t _ => rh (N.gl (Y t)) := by
  funext j
  pointwise [val_main_v62, v61]

theorem v65 : val_main_v65 (F := Ideal) xY xWg xBg = up2 fun t _ => -1 / 2 * (rh (N.gl (Y t)) / mh (N.gl (Y t))) := by
  funext j
  pointwise [val_main_v65, val_main_v64, val_main_cst_18, val_main_v63, v62, v61]

theorem v67 : val_main_v67 (F := Ideal) xY xWg xBg = up2 fun t j => N.gl (Y t) j * rh (N.gl (Y t)) := by
  funext j
  pointwise [val_main_v67, val_main_v66, v62, v36]

theorem v68 : val_main_v68 (F := Ideal) xGs = up2 fun _ => N.gs := by
  funext j
  pointwise [val_main_v68, val_main_v54]

/-! ### The gradient in the mixed row, and through the norms -/

theorem v73 : val_main_v73 (F := Ideal) xWo xD = up2 fun t j => ∑ k, D t k * N.wo j k := by
  funext j
  pointwise [val_main_v73, dot_S8192x1024_S1024x1024_S8192x1024_1_1_0_0_n_n]

theorem v74 : val_main_v74 (F := Ideal) xWo xD = up2 fun t => N.dma (D t) := by
  funext j
  pointwise [val_main_v74, v73, Mix.dma, Mix.inA]

theorem v75 : val_main_v75 (F := Ideal) xWo xD = up2 fun t => N.dms (D t) := by
  funext j
  pointwise [val_main_v75, v73, Mix.dms, Mix.inS]

theorem v80 : val_main_v80 (F := Ideal) xGs xWo xD = up2 fun t j => N.dms (D t) j * N.gs j := by
  funext j
  pointwise [val_main_v80, val_main_v79, v68, v75]

theorem v95 : val_main_v95 (F := Ideal) xY xGs xWg xBg xWo xD = up2 fun t => N.dgl (Y t) (D t) := by
  funext j
  pointwise [val_main_v95, val_main_v94, val_main_v93, val_main_v92, val_main_v91, val_main_v90, val_main_cst_23, val_main_v89,
    val_main_v88, val_main_cst_22, val_main_v87, val_main_v86, val_main_v85, val_main_v84, val_main_v83, val_main_cst_21,
    val_main_v82, v62, v65, v36, v80, Mix.dgl]
  exact congrArg _ (by rw [← backHalf_lines (N.dms (D (j 0))) (N.gl (Y (j 0))) N.gs (j 1)])

theorem v101 : val_main_v101 (F := Ideal) xGa xWo xD = up2 fun t j => N.dma (D t) j * N.ga j := by
  funext j
  pointwise [val_main_v101, val_main_v100, v51, v74]

theorem v116 : val_main_v116 (F := Ideal) xA xGa xWo xD = up2 fun t => N.da (A t) (D t) := by
  funext j
  pointwise [val_main_v116, val_main_v115, val_main_v114, val_main_v113, val_main_v112, val_main_v111, val_main_cst_28,
    val_main_v110, val_main_v109, val_main_cst_27, val_main_v108, val_main_v107, val_main_v106, val_main_v105, val_main_v104,
    val_main_cst_26, val_main_v103, v45, v48, v101, Mix.da]
  exact congrArg _ (by rw [← backHalf_lines (N.dma (D (j 0))) (A (j 0)) N.ga (j 1)])

/-! ### Through the gate and the gelu -/

theorem v119 : val_main_v119 (F := Ideal) xY xGs xWg xBg xWo xD = up2 fun t j => N.dgl (Y t) (D t) j * N.sg (Y t) j := by
  funext j
  pointwise [val_main_v119, v95, v32]

theorem v120 : val_main_v120 (F := Ideal) xY xGs xWg xBg xWo xD = up2 fun t => N.dz (Y t) (D t) := by
  funext j
  pointwise [val_main_v120, val_main_v118, v95, v35, v22, Mix.dz]
  exact congrArg _ (by ring)

theorem v124 : val_main_v124 (F := Ideal) xY xGs xWg xBg xWo xD = up2 fun t => N.du (Y t) (D t) := by
  funext j
  pointwise [val_main_v124, val_main_v123, v119, v120, dot_S8192x512_S512x512_S8192x512_1_1_0_0_n_n, Mix.du]

/-! ### The results -/

/-- The gradient in the heads' output, and the softmax's share of it. -/
theorem v140 : val_main_v140 (F := Ideal) xA xGa xWo xD = up2 fun t => N.da (A t) (D t) := v116 N A D
theorem v139 : val_main_v139 (F := Ideal) xA xGa xWo xD = up2 fun t => N.delta (A t) (D t) := by
  funext j
  pointwise [val_main_v139, val_main_cst_32, val_main_v138, val_main_v137, v116, Mix.delta, Mix.at']

/-- The gradient in the state space's output. -/
theorem v136 : val_main_v136 (F := Ideal) xY xGs xWg xBg xWo xD = up2 fun t => N.dy (Y t) (D t) := by
  funext j
  pointwise [val_main_v136, val_main_v135, val_main_v134, val_main_v133, val_main_v1, val_main_cst_0, val_main_cst_1,
    val_main_v132, val_main_v131, val_main_v130, val_main_cst_31, val_main_v129, val_main_v128, val_main_v127, val_main_cst_30,
    val_main_v126, val_main_v125, val_main_v6, val_main_v5, val_main_cst_2, val_main_v4, v17, v21, v124, Mix.dy, Mix.slope]
  exact congrArg _ (by ring)

/-- The gradient at the gate, and the gelu. -/
theorem v141 : val_main_v141 (F := Ideal) xY xGs xWg xBg xWo xD = up2 fun t => N.dz (Y t) (D t) := v120 N Y D
theorem v142 : val_main_v142 (F := Ideal) xY = up2 fun t => Mix.u (Y t) := v22 Y

/-- The gradients of the two gains and of the gate's bias. -/
theorem v117 : val_main_v117 (F := Ideal) xA xWo xD = up2 fun (_ : Fin 1) j => ∑ t, N.dga (A t) (D t) j := by
  funext j
  pointwise [val_main_v117, val_main_v102, val_main_cst_25, val_main_v99, val_main_v98, val_main_cst_24, val_main_v97, v50, v74,
    Mix.dga]
  exact congrArg _ (Finset.sum_congr rfl fun t _ => mul_comm _ _)
theorem v96 : val_main_v96 (F := Ideal) xY xWg xBg xWo xD = up2 fun (_ : Fin 1) j => ∑ t, N.dgs (Y t) (D t) j := by
  funext j
  pointwise [val_main_v96, val_main_v81, val_main_cst_20, val_main_v78, val_main_v77, val_main_cst_19, val_main_v76, v67, v75,
    Mix.dgs]
  exact congrArg _ (Finset.sum_congr rfl fun t _ => mul_comm _ _)
theorem v122 : val_main_v122 (F := Ideal) xY xGs xWg xBg xWo xD = up2 fun (_ : Fin 1) j => ∑ t, N.dz (Y t) (D t) j := by
  funext j
  pointwise [val_main_v122, val_main_v121, val_main_cst_29, v120]

/-- The reference's run, its results stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v140) = val_main_v140 (F := Ideal) (m (c.tc.loc main_arg0)) (m (c.tc.loc main_arg2)) (m
          (c.tc.loc main_arg6)) (m (c.tc.loc main_arg7))
      ∧ r.2.mem (c.tc.loc main_v139) = val_main_v139 (F := Ideal) (m (c.tc.loc main_arg0)) (m (c.tc.loc main_arg2)) (m
          (c.tc.loc main_arg6)) (m (c.tc.loc main_arg7))
      ∧ r.2.mem (c.tc.loc main_v136) = val_main_v136 (F := Ideal) (m (c.tc.loc main_arg1)) (m (c.tc.loc main_arg3)) (m
          (c.tc.loc main_arg4)) (m (c.tc.loc main_arg5)) (m (c.tc.loc main_arg6)) (m (c.tc.loc main_arg7))
      ∧ r.2.mem (c.tc.loc main_v141) = val_main_v141 (F := Ideal) (m (c.tc.loc main_arg1)) (m (c.tc.loc main_arg3)) (m
          (c.tc.loc main_arg4)) (m (c.tc.loc main_arg5)) (m (c.tc.loc main_arg6)) (m (c.tc.loc main_arg7))
      ∧ r.2.mem (c.tc.loc main_v142) = val_main_v142 (F := Ideal) (m (c.tc.loc main_arg1))
      ∧ r.2.mem (c.tc.loc main_v117) = val_main_v117 (F := Ideal) (m (c.tc.loc main_arg0)) (m (c.tc.loc main_arg6)) (m
          (c.tc.loc main_arg7))
      ∧ r.2.mem (c.tc.loc main_v96) = val_main_v96 (F := Ideal) (m (c.tc.loc main_arg1)) (m (c.tc.loc main_arg4)) (m
          (c.tc.loc main_arg5)) (m (c.tc.loc main_arg6)) (m (c.tc.loc main_arg7))
      ∧ r.2.mem (c.tc.loc main_v122) = val_main_v122 (F := Ideal) (m (c.tc.loc main_arg1)) (m (c.tc.loc main_arg3)) (m
          (c.tc.loc main_arg4)) (m (c.tc.loc main_arg5)) (m (c.tc.loc main_arg6)) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => h c) (Cert.Reference4Ideal.Value.run m ρ)

end MixRef
end
-- ==== Proof.MixMove.lean ====
/-
  Moving columns by a product with zeros and ones: the mixer's kernel takes heads apart and puts them together by multiplying
  with masks it makes from two counts of the rows and columns. And the operations it uses between such products, on whole arrays.
-/
module

public import proofs.«01_k».proof.Proof.MixMath
public import proofs.«01_k».proof.Proof.Gen.Kernel4Ideal.Skeleton

@[expose] public section

set_option maxRecDepth 16384

noncomputable section

namespace MixMove

open Idealize.ShloMosaic Cert.Kernel4Ideal Cert.Kernel4Ideal.Gen Lift

/-- Columns `s … e - 1` of a row moved to `d` and after it, the rest zero. -/
def pick (d s e : ℕ) (x : Fin 128 → ℝ) (c : Fin 128) : ℝ :=
  if d ≤ c.val ∧ c.val - d + s < e then x (Fin.ofNat 128 (c.val - d + s)) else 0
theorem pick_zero (d s e : ℕ) (c : Fin 128) : pick d s e (fun _ => 0) c = 0 := ite_self _

theorem mask_iff {d s e : ℕ} (hd : d < 128) (hs : s < 128) (he : e ≤ 128) (k c : Fin 128) :
    (BitVec.ofNat 32 c.val - BitVec.ofNat 32 d = BitVec.ofNat 32 k.val - BitVec.ofNat 32 s
        ∧ (BitVec.ofNat 32 s).sle (BitVec.ofNat 32 k.val) = true) ∧ (BitVec.ofNat 32 k.val).slt (BitVec.ofNat 32 e) = true
      ↔ d ≤ c.val ∧ c.val - d + s < e ∧ k.val = c.val - d + s := by
  have hk := k.isLt
  have hc := c.isLt
  have h1 : ∀ n : ℕ, n ≤ 128 → (BitVec.ofNat 32 n).toInt = n := fun n hn => by
    rw [BitVec.toInt_eq_toNat_of_lt (by simp; omega)]; simp; omega
  rw [BitVec.sle_iff_toInt_le, BitVec.slt_iff_toInt_lt, h1 s hs.le, h1 k.val hk.le, h1 e he]
  rw [← BitVec.toNat_inj, BitVec.toNat_sub, BitVec.toNat_sub]
  simp only [BitVec.toNat_ofNat]
  omega

theorem bit_eq (p : Prop) [Decidable p] (b : BitVec 1) (h : b = 1#1 ↔ p) :
    (FloatOps.sitofp (F := Ideal) .f32 (b.setWidth 32) : EReal) = ((if p then (1 : ℝ) else 0 : ℝ) : EReal) := by
  have hb : ∀ b : BitVec 1, b = 1#1 ∨ b = 0#1 := by decide
  by_cases hp : p
  · rw [if_pos hp, h.2 hp]; show ((((1#1).setWidth 32).toInt : ℝ) : EReal) = _; simp
  · rw [if_neg hp, (hb b).resolve_left (mt h.1 hp)]; show ((((0#1).setWidth 32).toInt : ℝ) : EReal) = _; simp

/-- The mask, from the counts of its columns and rows. -/
abbrev mask (d s e : ℕ) : FVec Ideal S128x128 .bf16 :=
  truncf (F := Ideal) .bf16 (sitofp (F := Ideal) .f32 (extui 32 (andi (andi (cmpi .eq
    (subi (iota .tc S128x128 32 [1] iota_S128x128_d1_w32) (broadcast S128x128 (BitVec.ofNat 32 d)))
    (subi (iota .tc S128x128 32 [0] iota_S128x128_d0_w32) (broadcast S128x128 (BitVec.ofNat 32 s))))
    (cmpi .sge (iota .tc S128x128 32 [0] iota_S128x128_d0_w32) (broadcast S128x128 (BitVec.ofNat 32 s))))
    (cmpi .slt (iota .tc S128x128 32 [0] iota_S128x128_d0_w32) (broadcast S128x128 (BitVec.ofNat 32 e)))) natLt_1_32)) bitsLt_bf16_f32

theorem mask_eq {d s e : ℕ} (hd : d < 128) (hs : s < 128) (he : e ≤ 128) :
    mask d s e = (up2 fun k c => if d ≤ c.val ∧ c.val - d + s < e ∧ k.val = c.val - d + s then 1 else 0 : S128x128.Idx → EReal) := by
  funext j
  pointwise [mask]
  refine bit_eq _ _ (Iff.trans ?_ (mask_iff hd hs he (j 0) (j 1)))
  generalize BitVec.ofNat 32 (j 0).val = x
  generalize BitVec.ofNat 32 (j 1).val = y
  have hand : ∀ a b : BitVec 1, IntOp.andi a b = 1#1 ↔ a = 1#1 ∧ b = 1#1 := by decide
  have hbit : ∀ b : Bool, BitVec.ofBool b = 1#1 ↔ b = true := by decide
  rw [hand, hand]
  simp only [IntOp.cmpi, IntOp.subi, hbit, beq_iff_eq]

theorem pick_sum {d s e : ℕ} (he : e ≤ 128) (x : Fin 128 → ℝ) (c : Fin 128) :
    (∑ k : Fin 128, x k * if d ≤ c.val ∧ c.val - d + s < e ∧ k.val = c.val - d + s then 1 else 0) = pick d s e x c := by
  unfold pick
  by_cases h : d ≤ c.val ∧ c.val - d + s < e
  · have hk : c.val - d + s < 128 := h.2.trans_le he
    rw [if_pos h, Finset.sum_eq_single (Fin.ofNat 128 (c.val - d + s))]
    · rw [if_pos ⟨h.1, h.2, Nat.mod_eq_of_lt hk⟩, mul_one]
    · intro k _ hne
      rw [if_neg fun hh => hne (Fin.ext (hh.2.2.trans (Nat.mod_eq_of_lt hk).symm)), mul_zero]
    · exact fun hh => absurd (Finset.mem_univ _) hh
  · rw [if_neg h]
    exact Finset.sum_eq_zero fun k _ => by rw [if_neg fun hh => h ⟨hh.1, hh.2.1⟩, mul_zero]

theorem moves (X : Fin 512 → Fin 128 → ℝ) (d s e : ℕ) (hd : d < 128) (hs : s < 128) (he : e ≤ 128) :
    matmul (F := Ideal) (sl := S512x128) (φ₁ := .bf16) (φ₂ := .bf16) dot_S512x128_S128x128_S512x128_1_0_0_1_n_n none
      (up2 X : S512x128.Idx → EReal) (mask d s e) (constant (F := Ideal) S512x128 .f32 0x00000000#32)
    = (up2 fun t => pick d s e (X t) : S512x128.Idx → EReal) := by
  rw [mask_eq hd hs he]
  funext j
  pointwise [dot_S512x128_S128x128_S512x128_1_0_0_1_n_n]
  exact congrArg _ (pick_sum he (X (j 0)) (j 1))

/-- The two counts, and the same from the words the kernel makes the mask of. -/
def rows : IVec S128x128 32 := iota .tc S128x128 32 [0] iota_S128x128_d0_w32
def cols : IVec S128x128 32 := iota .tc S128x128 32 [1] iota_S128x128_d1_w32
theorem rows_eq : iota .tc S128x128 32 [0] iota_S128x128_d0_w32 = rows := rfl
theorem cols_eq : iota .tc S128x128 32 [1] iota_S128x128_d1_w32 = cols := rfl
theorem move (X : Fin 512 → Fin 128 → ℝ) (d s e : BitVec 32) (hd : d.toNat < 128) (hs : s.toNat < 128) (he : e.toNat ≤ 128) :
    matmul (F := Ideal) (sl := S512x128) (φ₁ := .bf16) (φ₂ := .bf16) dot_S512x128_S128x128_S512x128_1_0_0_1_n_n none
      (up2 X : S512x128.Idx → EReal)
      (truncf (F := Ideal) .bf16 (sitofp (F := Ideal) .f32 (extui 32 (andi (andi (cmpi .eq
        (subi cols (broadcast S128x128 d)) (subi rows (broadcast S128x128 s)))
        (cmpi .sge rows (broadcast S128x128 s))) (cmpi .slt rows (broadcast S128x128 e))) natLt_1_32)) bitsLt_bf16_f32)
      (constant (F := Ideal) S512x128 .f32 0x00000000#32)
    = (up2 fun t => pick d.toNat s.toNat e.toNat (X t) : S512x128.Idx → EReal) := by
  have h := moves X d.toNat s.toNat e.toNat hd hs he
  simp only [mask, BitVec.ofNat_toNat, BitVec.setWidth_eq] at h
  exact h

/-! ### Between the products -/

theorem trunc2 {m n : ℕ} (A : Fin m → Fin n → ℝ) (h) :
    truncf (F := Ideal) (φ := .f32) .bf16 (up2 A : (⟨2, ![m, n]⟩ : Shape).Idx → EReal) h = (up2 A : (⟨2, ![m, n]⟩ : Shape).Idx → EReal) := rfl
theorem ext2 {m n : ℕ} (A : Fin m → Fin n → ℝ) (h) :
    extf (F := Ideal) (φ := .bf16) .f32 (up2 A : (⟨2, ![m, n]⟩ : Shape).Idx → EReal) h = (up2 A : (⟨2, ![m, n]⟩ : Shape).Idx → EReal) := rfl
theorem add2 {m n : ℕ} (A B : Fin m → Fin n → ℝ) :
    addf (F := Ideal) (φ := .f32) (up2 A : (⟨2, ![m, n]⟩ : Shape).Idx → EReal) (up2 B : (⟨2, ![m, n]⟩ : Shape).Idx → EReal)
      = (up2 fun i j => A i j + B i j : (⟨2, ![m, n]⟩ : Shape).Idx → EReal) := by
  funext j
  pointwise []
/-- What rounding leaves of an array is nothing, at no rounding. -/
theorem sub2 {m n : ℕ} (A : Fin m → Fin n → ℝ) :
    subf (F := Ideal) (φ := .f32) (up2 A : (⟨2, ![m, n]⟩ : Shape).Idx → EReal) (up2 A : (⟨2, ![m, n]⟩ : Shape).Idx → EReal)
      = (up2 fun _ _ => 0 : (⟨2, ![m, n]⟩ : Shape).Idx → EReal) := by
  funext j
  pointwise []
  exact congrArg _ (sub_self _)
theorem neg2 (A : Fin 512 → Fin 128 → ℝ) :
    mulf (F := Ideal) (φ := .f32) (broadcast S512x128 (Scalar.ofBits .f32 0xBF800000#32)) (up2 A : S512x128.Idx → EReal)
      = (up2 fun i j => -1 * A i j : S512x128.Idx → EReal) := by
  funext j
  pointwise []
theorem drop3 (A : Fin 512 → Fin 128 → ℝ) (h) :
    shapeCast S512x128 (up3 (fun _ : Fin 1 => A) : S1x512x128.Idx → EReal) h = (up2 A : S512x128.Idx → EReal) := by
  funext j
  pointwise []
theorem make3 (A : Fin 512 → Fin 128 → ℝ) (h) :
    shapeCast S1x512x128 (up2 A : S512x128.Idx → EReal) h = (up3 (fun _ : Fin 1 => A) : S1x512x128.Idx → EReal) := by
  funext j
  pointwise []
theorem slice (A : Fin 512 → Fin 512 → ℝ) (o : ℕ) (ho : o + 128 ≤ 512) (h) :
    extractStridedSlice S512x128 ![0, o] (up2 A : S512x512.Idx → EReal) h
      = (up2 fun t l => A t ⟨o + l.val, by omega⟩ : S512x128.Idx → EReal) := by
  funext j
  pointwise []

/-- Four strips of 128 columns side by side. -/
def cat (A B C D : Fin 512 → Fin 128 → ℝ) (t j : Fin 512) : ℝ :=
  if h : j.val < 128 then A t ⟨j.val, h⟩
  else if h : j.val - 128 < 128 then B t ⟨j.val - 128, h⟩
  else if h : j.val - 128 - 128 < 128 then C t ⟨j.val - 128 - 128, h⟩
  else D t ⟨j.val - 128 - 128 - 128, by omega⟩
theorem cat_eq (A B C D : Fin 512 → Fin 128 → ℝ) (h) :
    concatenate S512x512 1 [⟨S512x128, (up2 A : S512x128.Idx → EReal)⟩, ⟨S512x128, (up2 B : S512x128.Idx → EReal)⟩,
      ⟨S512x128, (up2 C : S512x128.Idx → EReal)⟩, ⟨S512x128, (up2 D : S512x128.Idx → EReal)⟩] h
      = (up2 (cat A B C D) : S512x512.Idx → EReal) := by
  funext j
  pointwise []
  unfold cat
  split_ifs <;> rfl

end MixMove
end
-- ==== Proof.MixHost.lean ====
/-
  What the host lines before the mixer's kernel leave in its operands, for finite arguments: the heads with a few columns of ones
  and zeros after each, the table of which head a place belongs to, and the matrices at the narrow width.
-/
module

public import proofs.«01_k».proof.Proof.MixMath
public import proofs.«01_k».proof.Proof.Gen.Kernel4Ideal.Frame
public import Idealize.ShloMosaic.Lib.StableHlo.RunRead

@[expose] public section

set_option maxRecDepth 16384

noncomputable section

namespace MixHost

open Idealize.ShloMosaic Idealize.ShloMosaic.TcCoe Idealize.SL.Sem Cert.Kernel4Ideal Cert.Kernel4Ideal.Gen Lift

/-- A head's columns, three ones and zeros. -/
def padded (x : Fin 512 → ℝ) (h : Fin 8) (c : Fin 128) : ℝ :=
  if hc : c.val < 64 then x (Mix.at' h ⟨c.val, hc⟩) else if c.val - 64 < 3 then 1 else 0
/-- Whether place `j` is head `h`'s. -/
def table (j : Fin 512) (h : Fin 128) : ℝ := if j.val / 64 = h.val then 1 else 0

variable (V : Valuation τ sig (Elt Ideal))

theorem cat3 {x0 y0 : S8x8192x64.Idx → EReal} {x3 y3 : S8x8192x3.Idx → EReal} {x61 y61 : S8x8192x61.Idx → EReal}
    (h0 : x0 = y0) (h3 : x3 = y3) (h61 : x61 = y61) :
    concatenate S8x8192x128 2 [⟨S8x8192x64, x0⟩, ⟨S8x8192x3, x3⟩, ⟨S8x8192x61, x61⟩]
        concatenates_S8x8192x64_S8x8192x3_S8x8192x61_S8x8192x128_d2
      = concatenate S8x8192x128 2 [⟨S8x8192x64, y0⟩, ⟨S8x8192x3, y3⟩, ⟨S8x8192x61, y61⟩]
        concatenates_S8x8192x64_S8x8192x3_S8x8192x61_S8x8192x128_d2 := by
  subst h0 h3 h61; rfl
theorem v1 {A : Fin 8192 → Fin 512 → ℝ} (h : V (Proc.devRef .tc main_arg0) = (up2 A : S8192x512.Idx → EReal)) :
    StableHlo.upto hostOps0 V 6 (Proc.devRef .tc main_v1) = (up3 fun h t l => A t (Mix.at' h l) : S8x8192x64.Idx → EReal) := by
  after_reads_simp
  rw [h]
  funext j
  pointwise [Mix.at']
theorem v2 : StableHlo.upto hostOps0 V 6 (Proc.devRef .tc main_v2) = (up3 fun _ _ _ => 1 : S8x8192x3.Idx → EReal) := by
  after_reads_simp
  funext j
  pointwise []
  exact EReal.coe_one.symm
theorem v3 : StableHlo.upto hostOps0 V 6 (Proc.devRef .tc main_v3) = (up3 fun _ _ _ => 0 : S8x8192x61.Idx → EReal) := by
  after_reads_simp
  funext j
  pointwise []
  exact EReal.coe_zero.symm
theorem v4 {A : Fin 8192 → Fin 512 → ℝ} (h : V (Proc.devRef .tc main_arg0) = (up2 A : S8192x512.Idx → EReal)) :
    StableHlo.after hostOps0 V (Proc.devRef .tc main_v4) = (up3 fun h t => padded (A t) h : S8x8192x128.Idx → EReal) := by
  after_reads_simp
  refine (cat3 (v1 V h) (v2 V) (v3 V)).trans ?_
  funext j
  pointwise [padded]
  split_ifs <;> rfl

theorem v6 : StableHlo.after hostOps0 V (Proc.devRef .tc main_v6) = (fun j => BitVec.ofNat 32 (j 0).val : S512x1.Idx → BitVec 32) := by
  after_reads_simp
  funext j
  pointwise []
theorem c0 : StableHlo.after hostOps0 V (Proc.devRef .tc main_c) = (fun _ => 64#32 : S_.Idx → BitVec 32) := by
  after_reads_simp
  funext j
  pointwise []

/-- The quotient rounded down, as the host writes it. -/
theorem quotient : ∀ n : Fin 512,
    Scalar.select
      (IntOp.andi
        (IntOp.cmpi CmpIPredicate.ne
          (if BitVec.ofNat 32 n.val = 0 then 0 else if (BitVec.ofNat 32 n.val).msb = true then -1 else 1)
          (if (64#32 : BitVec 32) = 0 then 0 else if BitVec.msb 64#32 = true then -1 else (1 : BitVec 32)))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32)
    = BitVec.ofNat 32 (n.val / 64) := by decide +kernel

theorem v7 (h6 : V (Proc.devRef .tc main_v6) = (fun j => BitVec.ofNat 32 (j 0).val : S512x1.Idx → BitVec 32))
    (hc : V (Proc.devRef .tc main_c) = (fun _ => 64#32 : S_.Idx → BitVec 32)) :
    StableHlo.after hostOps0_1 V (Proc.devRef .tc main_v7) = (fun j => BitVec.ofNat 32 ((j 0).val / 64) : S512x1.Idx → BitVec 32) := by
  after_reads_simp
  simp only [StableHlo.TRef.ofBuf_toBuf, StableHlo.TRef.ofBuf, StableHlo.TRef.toBuf, cast_eq, h6, hc]
  funext j
  pointwise []
  exact quotient (j 0)

theorem bit_of (a : Fin 512) (b : Fin 128) :
    (FloatOps.uitofp (F := Ideal) .f32 (IntOp.cmpi CmpIPredicate.eq (BitVec.ofNat 32 (a.val / 64)) (BitVec.ofNat 32 b.val)) : EReal)
      = (table a b : EReal) := by
  unfold table
  have ha := a.isLt
  have hb := b.isLt
  have hiff : BitVec.ofNat 32 (a.val / 64) = BitVec.ofNat 32 b.val ↔ a.val / 64 = b.val := by
    rw [← BitVec.toNat_inj]; simp only [BitVec.toNat_ofNat]; omega
  by_cases h : a.val / 64 = b.val
  · rw [if_pos h, h]; simp [IntOp.cmpi, FloatOps.uitofp]
  · rw [if_neg h]
    have : IntOp.cmpi CmpIPredicate.eq (BitVec.ofNat 32 (a.val / 64)) (BitVec.ofNat 32 b.val) = 0#1 := by
      show BitVec.ofBool (_ == _) = 0#1
      rw [beq_false_of_ne (mt hiff.1 h)]; rfl
    rw [this]; simp [FloatOps.uitofp]

theorem v13 (h : V (Proc.devRef .tc main_v7) = (fun j => BitVec.ofNat 32 ((j 0).val / 64) : S512x1.Idx → BitVec 32)) :
    StableHlo.after hostOps0_2 V (Proc.devRef .tc main_v13) = (up2 table : S512x128.Idx → EReal) := by
  after_reads_simp
  rw [h]
  funext j
  pointwise []
  exact bit_of (j 0) (j 1)

/-! ### The whole prefix -/

variable (N : Mix) (A Y : Fin 8192 → Fin 512 → ℝ) (D : Fin 8192 → Fin 1024 → ℝ)

/-- The arguments hold the reals. -/
structure Given : Prop where
  h0 : V (Proc.devRef .tc main_arg0) = (up2 A : S8192x512.Idx → EReal)
  h1 : V (Proc.devRef .tc main_arg1) = (up2 Y : S8192x512.Idx → EReal)
  h2 : V (Proc.devRef .tc main_arg2) = (up2 (fun (_ : Fin 1) => N.ga) : S1x512.Idx → EReal)
  h3 : V (Proc.devRef .tc main_arg3) = (up2 (fun (_ : Fin 1) => N.gs) : S1x512.Idx → EReal)
  h4 : V (Proc.devRef .tc main_arg4) = (up2 N.wg : S512x512.Idx → EReal)
  h5 : V (Proc.devRef .tc main_arg5) = (up2 (fun (_ : Fin 1) => N.bg) : S1x512.Idx → EReal)
  h6 : V (Proc.devRef .tc main_arg6) = (up2 N.wo : S1024x1024.Idx → EReal)
  h7 : V (Proc.devRef .tc main_arg7) = (up2 D : S8192x1024.Idx → EReal)

variable (m : (ℓ : Loc nD τ sig) → Buf (Elt Ideal) ℓ) (c : Dev nD)

/-- The region finds them in its input arrays. -/
structure Finds : Prop where
  d : Gen.V m c main_arg7 = (up2 D : S8192x1024.Idx → EReal)
  h : Gen.V m c main_v4 = (up3 fun h t => padded (A t) h : S8x8192x128.Idx → EReal)
  y : Gen.V m c main_arg1 = (up2 Y : S8192x512.Idx → EReal)
  ga : Gen.V m c main_arg2 = (up2 (fun (_ : Fin 1) => N.ga) : S1x512.Idx → EReal)
  gs : Gen.V m c main_arg3 = (up2 (fun (_ : Fin 1) => N.gs) : S1x512.Idx → EReal)
  wg : Gen.V m c main_v14 = (up2 N.wg : S512x512.Idx → EReal)
  bg : Gen.V m c main_arg5 = (up2 (fun (_ : Fin 1) => N.bg) : S1x512.Idx → EReal)
  wo : Gen.V m c main_v15 = (up2 N.wo : S1024x1024.Idx → EReal)
  seg : Gen.V m c main_v13 = (up2 table : S512x128.Idx → EReal)

variable {N A Y D m c}

theorem prefix_eq (M : Valuation τ sig (Elt Ideal)) : StableHlo.after (List.flatten [hostOps0, hostOps0_1, hostOps0_2]) M
    = StableHlo.after hostOps0_2 (StableHlo.after hostOps0_1 (StableHlo.after hostOps0 M)) := by
  have e : (List.flatten [hostOps0, hostOps0_1, hostOps0_2] : List (HloOp τ sig (Elt Ideal)))
      = hostOps0 ++ (hostOps0_1 ++ hostOps0_2) := rfl
  rw [e, StableHlo.after_append, StableHlo.after_append]

theorem keep4 (M : Valuation τ sig (Elt Ideal)) :
    StableHlo.after hostOps0_2 (StableHlo.after hostOps0_1 M) (Proc.devRef .tc main_v4) = M (Proc.devRef .tc main_v4) := by
  after_reads_simp

theorem finds (H : Given (fun b => m (c, b)) N A Y D) : Finds N A Y D m c where
  d := (V_main_arg7 m c).trans H.h7
  h := by
    show StableHlo.after (List.flatten [hostOps0, hostOps0_1, hostOps0_2]) _ (Proc.devRef .tc main_v4) = _
    rw [prefix_eq, keep4]; exact v4 _ H.h0
  y := (V_main_arg1 m c).trans H.h1
  ga := (V_main_arg2 m c).trans H.h2
  gs := (V_main_arg3 m c).trans H.h3
  wg := by
    show StableHlo.after (List.flatten [hostOps0, hostOps0_1, hostOps0_2]) _ (Proc.devRef .tc main_v14) = _
    rw [prefix_eq]; after_reads_simp; rw [H.h4]; rfl
  bg := (V_main_arg5 m c).trans H.h5
  wo := by
    show StableHlo.after (List.flatten [hostOps0, hostOps0_1, hostOps0_2]) _ (Proc.devRef .tc main_v15) = _
    rw [prefix_eq]; after_reads_simp; rw [H.h6]; rfl
  seg := by
    show StableHlo.after (List.flatten [hostOps0, hostOps0_1, hostOps0_2]) _ (Proc.devRef .tc main_v13) = _
    rw [prefix_eq]; exact v13 _ (v7 _ (v6 _) (c0 _))

end MixHost
end
-- ==== Proof.MixPay.lean ====
/-
  The mixer's kernel on one tile of 512 tokens, for finite blocks: the rows of MixMath.
-/
module

public import proofs.«01_k».proof.Proof.MixMove
public import proofs.«01_k».proof.Proof.Gen.Kernel4Ideal.Frame
public import Idealize.ShloMosaic.Lib.Pipeline.ValueKit

@[expose] public section

set_option maxRecDepth 16384

noncomputable section

namespace MixPay

open Idealize.ShloMosaic Idealize.ShloMosaic.TcCoe Cert.Kernel4Ideal Cert.Kernel4Ideal.Gen Lift MixMove

variable (N : Mix) (Y : Fin 512 → Fin 512 → ℝ) (D : Fin 512 → Fin 1024 → ℝ)

local notation "bY" => (up2 Y : S512x512.Idx → EReal)
local notation "bGa" => (up2 (fun (_ : Fin 1) => N.ga) : S1x512.Idx → EReal)
local notation "bGs" => (up2 (fun (_ : Fin 1) => N.gs) : S1x512.Idx → EReal)
local notation "bWg" => (up2 N.wg : S512x512.Idx → EReal)
local notation "bBg" => (up2 (fun (_ : Fin 1) => N.bg) : S1x512.Idx → EReal)
local notation "bWo" => (up2 N.wo : S1024x1024.Idx → EReal)
local notation "bD" => (up2 D : S512x1024.Idx → EReal)
local notation "bDm" => (up2 (fun t => N.dm (D t)) : S512x1024.Idx → EReal)
local notation "bT" => (up2 (fun t => Mix.th (Y t)) : S512x512.Idx → EReal)

theorem p5 : k0_pay5 (F := Ideal) bD bWo = bDm := by
  funext j
  pointwise [k0_pay5, dot_S512x1024_S1024x1024_S512x1024_1_1_0_0_n_n, Mix.dm]

/-! ### The heads' branch -/

section Heads

variable (A B C E F : Fin 512 → Fin 128 → ℝ)

/-- The heads' rows from the kernel's pieces. -/
def joined : Fin 512 → Fin 512 → ℝ := cat A B C fun t c => E t c + F t c

local notation "bA" => (up2 A : S512x128.Idx → EReal)
local notation "bB" => (up2 B : S512x128.Idx → EReal)
local notation "bC" => (up2 C : S512x128.Idx → EReal)
local notation "bE" => (up2 E : S512x128.Idx → EReal)
local notation "bF" => (up2 F : S512x128.Idx → EReal)
local notation "J" => joined A B C E F

theorem p70 : k0_pay70 (F := Ideal) bA bB bC bE bF = (up2 J : S512x512.Idx → EReal) := by
  rw [k0_pay70, add2]
  exact cat_eq _ _ _ _ _

theorem p71 : k0_pay71 (F := Ideal) bDm = (up2 fun t => N.dma (D t) : S512x512.Idx → EReal) := by
  funext j
  pointwise [k0_pay71, Mix.dm, Mix.dma, Mix.inA]

theorem p72 : k0_pay72 (F := Ideal) bA bB bC bE bF = (up2 fun t _ => rh (J t) : S512x1.Idx → EReal) := by
  funext j
  pointwise [k0_pay72, p70]

theorem p73 : k0_pay73 (F := Ideal) bA bB bC bE bF = (up2 fun t j => J t j * rh (J t) : S512x512.Idx → EReal) := by
  funext j
  pointwise [k0_pay73, p70, p72]

theorem p74 : k0_pay74 (F := Ideal) bDm bA bB bC bE bF bGa = (up2 fun t => N.da (J t) (D t) : S512x512.Idx → EReal) := by
  funext j
  pointwise [k0_pay74, p71, p72, p73, Mix.da, backHalf]

theorem p75 (acc : S1x512.Idx → EReal) (j : S1x512.Idx) :
    k0_pay75 (F := Ideal) bDm bA bB bC bE bF acc j = acc j + ((∑ r, N.dga (J r) (D r) (j 1) : ℝ) : EReal) := by
  pointwise [k0_pay75, p71, p73, Mix.dga]

theorem p76 (S : Fin 512 → Fin 128 → ℝ) : k0_pay76 (F := Ideal) bDm bA bB bC bE bF bGa (up2 S : S512x128.Idx → EReal)
    = (up2 fun t h => ∑ k, N.da (J t) (D t) k * J t k * S k h : S512x128.Idx → EReal) := by
  funext j
  pointwise [k0_pay76, p70, p74, dot_S512x512_S512x128_S512x128_1_0_0_1_n_n]

end Heads

/-! ### The state space's branch -/

theorem cubic : Named.named (F := Ideal) κ "cubic" (φ := .f32) 0x3D372713#32 = ((8943 / 200000 : ℝ) : EReal) :=
  IdealRules.named_const.ideal_named_scalar _ _ _ _ rfl
theorem cubic3 : Named.named (F := Ideal) κ "cubic3" (φ := .f32) 0x3E095D4F#32 = ((26829 / 200000 : ℝ) : EReal) :=
  IdealRules.named_const.ideal_named_scalar _ _ _ _ rfl

theorem p122 : k0_pay122 (F := Ideal) bY = bT := by
  funext j
  pointwise [k0_pay122, cubic, Mix.th]

theorem p124 : k0_pay124 (F := Ideal) bY bT k0_pay123 = (up2 fun t => Mix.u (Y t) : S512x512.Idx → EReal) := by
  funext j
  pointwise [k0_pay124, k0_pay123, Mix.u]

theorem p125 : k0_pay125 (F := Ideal) bY bT k0_pay123 = (up2 fun t => Mix.u (Y t) : S512x512.Idx → EReal) := by
  rw [k0_pay125, p124]; rfl

theorem p126 : k0_pay126 (F := Ideal) bY bT k0_pay123 bWg bBg = (up2 fun t => N.sg (Y t) : S512x512.Idx → EReal) := by
  funext j
  pointwise [k0_pay126, p125, dot_S512x512_S512x512_S512x512_1_0_0_1_n_n, Mix.sg]

theorem p127 : k0_pay127 (F := Ideal) bDm = (up2 fun t => N.dms (D t) : S512x512.Idx → EReal) := by
  funext j
  pointwise [k0_pay127, Mix.dm, Mix.dms, Mix.inS]

theorem p128 : k0_pay128 (F := Ideal) bY bT k0_pay123 bWg bBg = (up2 fun t => N.gl (Y t) : S512x512.Idx → EReal) := by
  funext j
  pointwise [k0_pay128, p124, p126, Mix.gl]

theorem p129 : k0_pay129 (F := Ideal) bY bT k0_pay123 bWg bBg = (up2 fun t _ => rh (N.gl (Y t)) : S512x1.Idx → EReal) := by
  funext j
  pointwise [k0_pay129, p128]

theorem p130 : k0_pay130 (F := Ideal) bY bT k0_pay123 bWg bBg
    = (up2 fun t j => N.gl (Y t) j * rh (N.gl (Y t)) : S512x512.Idx → EReal) := by
  funext j
  pointwise [k0_pay130, p128, p129]

theorem p131 : k0_pay131 (F := Ideal) bDm bY bT k0_pay123 bWg bBg bGs
    = (up2 fun t => N.dgl (Y t) (D t) : S512x512.Idx → EReal) := by
  funext j
  pointwise [k0_pay131, p127, p129, p130, Mix.dgl, backHalf]

theorem p133 (acc : S1x512.Idx → EReal) (j : S1x512.Idx) :
    k0_pay133 (F := Ideal) (k0_pay132 bDm bY bT k0_pay123 bWg bBg) acc j
      = acc j + ((∑ r, N.dgs (Y r) (D r) (j 1) : ℝ) : EReal) := by
  pointwise [k0_pay133, k0_pay132, p127, p130, Mix.dgs]

theorem p134 : k0_pay134 (F := Ideal) (up2 fun t => Mix.u (Y t) : S512x512.Idx → EReal)
      (up2 fun t => N.sg (Y t) : S512x512.Idx → EReal) (up2 fun t => N.dgl (Y t) (D t) : S512x512.Idx → EReal)
    = (up2 fun t => N.dz (Y t) (D t) : S512x512.Idx → EReal) := by
  funext j
  pointwise [k0_pay134, Mix.dz]

theorem p135 (acc : S1x512.Idx → EReal) (j : S1x512.Idx) :
    k0_pay135 (F := Ideal) (up2 fun t => Mix.u (Y t) : S512x512.Idx → EReal) (up2 fun t => N.sg (Y t) : S512x512.Idx → EReal)
        (up2 fun t => N.dgl (Y t) (D t) : S512x512.Idx → EReal) acc j
      = acc j + ((∑ r, N.dz (Y r) (D r) (j 1) : ℝ) : EReal) := by
  pointwise [k0_pay135, p134]

theorem p136 : k0_pay136 (F := Ideal) (up2 fun t => Mix.u (Y t) : S512x512.Idx → EReal)
      (up2 fun t => N.sg (Y t) : S512x512.Idx → EReal) (up2 fun t => N.dgl (Y t) (D t) : S512x512.Idx → EReal)
    = (up2 fun t => N.dz (Y t) (D t) : S512x512.Idx → EReal) := by
  rw [k0_pay136, p134]; rfl

theorem p137 : k0_pay137 (F := Ideal) (up2 fun t => Mix.u (Y t) : S512x512.Idx → EReal)
      (up2 fun t => N.sg (Y t) : S512x512.Idx → EReal) (up2 fun t => N.dgl (Y t) (D t) : S512x512.Idx → EReal) bWg
    = (up2 fun t => N.du (Y t) (D t) : S512x512.Idx → EReal) := by
  funext j
  pointwise [k0_pay137, p136, dot_S512x512_S512x512_S512x512_1_1_0_0_n_n, Mix.du]

theorem p1 : k0_pay1 (F := Ideal) (up2 fun t => N.du (Y t) (D t) : S512x512.Idx → EReal) (k0_pay138 bT) (k0_pay139 bY bT)
      (k0_pay140 bY) (Scalar.ofBits .f32 0x3F800000#32)
    = (up2 fun t => N.dy (Y t) (D t) : S512x512.Idx → EReal) := by
  funext j
  pointwise [k0_pay1, k0_pay138, k0_pay139, k0_pay140, cubic3, Mix.dy, Mix.slope]

theorem z2 (j : S1x512.Idx) : k0_pay2 (F := Ideal) j = 0 := by
  pointwise [k0_pay2]
theorem z3 (j : S1x512.Idx) : k0_pay3 (F := Ideal) j = 0 := by
  pointwise [k0_pay3]
theorem z4 (j : S1x512.Idx) : k0_pay4 (F := Ideal) j = 0 := by
  pointwise [k0_pay4]

end MixPay
end
-- ==== Proof.MixStrip.lean ====
/-
  The four strips of the mixer's rows: two heads' 64 columns each, side by side.
-/
module

public import proofs.«01_k».proof.Proof.MixMove
public import proofs.«01_k».proof.Proof.MixHost
public import proofs.«01_k».proof.Proof.MixPay

@[expose] public section

set_option maxRecDepth 16384

noncomputable section

namespace MixStrip

open Idealize.ShloMosaic Cert.Kernel4Ideal Cert.Kernel4Ideal.Gen Lift MixMove MixPay
open MixHost (padded)

local notation "⟪" A "⟫" => (up3 (fun _ : Fin 1 => A) : S1x512x128.Idx → EReal)

/-- The counts again, their axis among two. -/
theorem rows_two : iota .tc S128x128 32 (List.cons (α := Fin 2) (0 : Fin S128x128.rank) (List.nil (α := Fin 2))) iota_S128x128_d0_w32 = rows := rfl
theorem cols_two : iota .tc S128x128 32 (List.cons (α := Fin 2) (1 : Fin S128x128.rank) (List.nil (α := Fin 2))) iota_S128x128_d1_w32 = cols := rfl

/-- Two heads side by side. -/
def strip (A B : Fin 512 → Fin 128 → ℝ) (t : Fin 512) (c : Fin 128) : ℝ := pick 0 0 64 (A t) c + pick 64 0 64 (B t) c

variable (A B : Fin 512 → Fin 128 → ℝ)

theorem p21 :
    k0_pay21 (F := Ideal) (k0_pay13 (k0_pay9 ⟪A⟫) (k0_pay10 ⟪A⟫) (k0_pay11 ⟪A⟫) rows k0_pay12)
      (k0_pay15 ⟪B⟫) (k0_pay17 ⟪B⟫) (k0_pay18 ⟪B⟫) rows k0_pay19 k0_pay20 = (up2 (strip A B) : S512x128.Idx → EReal) := by
  simp (disch := decide) only [k0_pay6, k0_pay7, k0_pay8, k0_pay9, k0_pay10, k0_pay11, k0_pay12, k0_pay13, k0_pay14, k0_pay15, k0_pay16, k0_pay17,
    k0_pay18, k0_pay19, k0_pay20, k0_pay21, ↓rows_eq, ↓cols_eq, trunc2, ext2, add2, sub2, drop3, move, pick_zero, add_zero, BitVec.reduceToNat]
  rfl
theorem p38 :
    k0_pay38 (F := Ideal) (k0_pay29 (k0_pay26 ⟪A⟫) (k0_pay27 ⟪A⟫) rows k0_pay28)
      (k0_pay33 ⟪B⟫) (k0_pay34 ⟪B⟫) (k0_pay35 ⟪B⟫) rows k0_pay36 k0_pay37 = (up2 (strip A B) : S512x128.Idx → EReal) := by
  simp (disch := decide) only [k0_pay22, k0_pay23, k0_pay24, k0_pay25, k0_pay26, k0_pay27, k0_pay28, k0_pay29, k0_pay30, k0_pay31, k0_pay32, k0_pay33,
    k0_pay34, k0_pay35, k0_pay36, k0_pay37, k0_pay38, ↓rows_eq, ↓cols_eq, trunc2, ext2, add2, sub2, drop3, move, pick_zero, add_zero, BitVec.reduceToNat]
  rfl
theorem p53 :
    k0_pay53 (F := Ideal) (k0_pay45 (k0_pay40 ⟪A⟫) (k0_pay42 ⟪A⟫) (k0_pay43 ⟪A⟫) rows k0_pay44)
      (k0_pay50 ⟪B⟫) (k0_pay51 ⟪B⟫) rows cols k0_pay52 = (up2 (strip A B) : S512x128.Idx → EReal) := by
  simp (disch := decide) only [k0_pay39, k0_pay40, k0_pay41, k0_pay42, k0_pay43, k0_pay44, k0_pay45, k0_pay46, k0_pay47, k0_pay48, k0_pay49, k0_pay50,
    k0_pay51, k0_pay52, k0_pay53, ↓rows_eq, ↓cols_eq, trunc2, ext2, add2, sub2, drop3, move, pick_zero, add_zero, BitVec.reduceToNat]
  rfl
theorem p61 :
    k0_pay61 (F := Ideal) (k0_pay57 ⟪A⟫) (k0_pay58 ⟪A⟫) (k0_pay59 ⟪A⟫) rows k0_pay60 0#32
      = (up2 (fun t => pick 0 0 64 (A t)) : S512x128.Idx → EReal) := by
  simp (disch := decide) only [k0_pay54, k0_pay55, k0_pay56, k0_pay57, k0_pay58, k0_pay59, k0_pay60, k0_pay61,
    ↓rows_eq, ↓cols_eq, trunc2, ext2, add2, sub2, drop3, move, pick_zero, add_zero, BitVec.reduceToNat]
theorem p69 :
    k0_pay69 (F := Ideal) (k0_pay63 ⟪B⟫) (k0_pay65 ⟪B⟫) (k0_pay66 ⟪B⟫) rows k0_pay67 k0_pay68
      = (up2 (fun t => pick 64 0 64 (B t)) : S512x128.Idx → EReal) := by
  simp (disch := decide) only [k0_pay62, k0_pay63, k0_pay64, k0_pay65, k0_pay66, k0_pay67, k0_pay68, k0_pay69,
    ↓rows_eq, ↓cols_eq, trunc2, ext2, add2, sub2, drop3, move, pick_zero, add_zero, BitVec.reduceToNat]

theorem load_head (X : Fin 8 → Fin 512 → Fin 128 → ℝ) (n : ℕ) (hn : n < 8) (h) :
    View.ld (Val := Elt Ideal) (e' := .f32) (up3 X : Vec Ideal S8x512x128 .f32) (Rect.unit (s := S8x512x128) ![n, 0, 0] ![1, 512, 128] h) = ⟪X ⟨n, hn⟩⟫ := by
  funext j
  exact (View.ld_unit_apply_of (Val := Elt Ideal) (e := .f32) (up3 X : Vec Ideal S8x512x128 .f32) _ _ _ _
    (ix3 ⟨n, hn⟩ (j 1) (j 2)) (by have := (j 0).isLt; intro a; fin_cases a <;> simp <;> first | rfl | exact Fin.val_eq_zero (j 0))).trans rfl

theorem padded_feature (x : Fin 512 → ℝ) (h : Fin 8) (k : Fin 128) (l : Fin 64) (hk : k.val = l.val) : padded x h k = x (Mix.at' h l) := by
  unfold padded
  rw [dif_pos (hk ▸ l.isLt)]
  exact congrArg (fun l => x (Mix.at' h l)) (Fin.ext hk)
theorem pick_low (x : Fin 512 → ℝ) (h : Fin 8) (c : Fin 128) (j : Fin 512) (hc : c.val < 64) (hj : j.val = h.val * 64 + c.val) :
    pick 0 0 64 (padded x h) c = x j := by
  unfold pick
  rw [if_pos (by omega), padded_feature x h _ ⟨c.val, hc⟩ (by simp; try omega)]
  exact congrArg x (Fin.ext hj.symm)
theorem pick_low_zero (x : Fin 128 → ℝ) (c : Fin 128) (hc : ¬ c.val < 64) : pick 0 0 64 x c = 0 := if_neg (by omega)
theorem pick_high (x : Fin 512 → ℝ) (h : Fin 8) (c : Fin 128) (j : Fin 512) (hc : ¬ c.val < 64) (hj : j.val = h.val * 64 + (c.val - 64)) :
    pick 64 0 64 (padded x h) c = x j := by
  unfold pick
  rw [if_pos (by omega), padded_feature x h _ ⟨c.val - 64, by omega⟩ (by simp; omega)]
  exact congrArg x (Fin.ext hj.symm)
theorem pick_high_zero (x : Fin 128 → ℝ) (c : Fin 128) (hc : c.val < 64) : pick 64 0 64 x c = 0 := if_neg (by omega)

theorem strip_eq (x : Fin 512 → Fin 512 → ℝ) (p q : Fin 8) (hq : q.val = p.val + 1) (t : Fin 512) (c : Fin 128) (j : Fin 512)
    (hj : j.val = p.val * 64 + c.val) : strip (fun t => padded (x t) p) (fun t => padded (x t) q) t c = x t j := by
  unfold strip
  by_cases h : c.val < 64
  · rw [pick_low (x t) p c j h hj, pick_high_zero _ c h, add_zero]
  · rw [pick_low_zero _ c h, pick_high (x t) q c j h (by omega), zero_add]

theorem joined_eq (x : Fin 512 → Fin 512 → ℝ) :
    joined (strip (fun t => padded (x t) ⟨0, by decide⟩) fun t => padded (x t) ⟨1, by decide⟩) (strip (fun t => padded (x t) ⟨2, by decide⟩) fun t => padded (x t) ⟨3, by decide⟩)
      (strip (fun t => padded (x t) ⟨4, by decide⟩) fun t => padded (x t) ⟨5, by decide⟩) (fun t => pick 0 0 64 (padded (x t) ⟨6, by decide⟩)) (fun t => pick 64 0 64 (padded (x t) ⟨7, by decide⟩)) = x := by
  funext t j
  unfold joined cat
  split_ifs with h1 h2 h3
  · exact strip_eq x ⟨0, by decide⟩ ⟨1, by decide⟩ rfl t _ j (by show j.val = 0 * 64 + j.val; omega)
  · exact strip_eq x ⟨2, by decide⟩ ⟨3, by decide⟩ rfl t _ j (by show j.val = 2 * 64 + (j.val - 128); omega)
  · exact strip_eq x ⟨4, by decide⟩ ⟨5, by decide⟩ rfl t _ j (by show j.val = 4 * 64 + (j.val - 128 - 128); omega)
  · exact strip_eq x ⟨6, by decide⟩ ⟨7, by decide⟩ rfl t _ j (by show j.val = 6 * 64 + (j.val - 128 - 128 - 128); omega)

section Heads
variable {N : Mix} {C E F : Fin 512 → Fin 128 → ℝ} {D : Fin 512 → Fin 1024 → ℝ}

local notation "bDm" => (up2 (fun t => N.dm (D t)) : S512x1024.Idx → EReal)
local notation "bGa" => (up2 (fun _ => N.ga) : S1x512.Idx → EReal)
local notation "⟬" X "⟭" => (up2 X : S512x128.Idx → EReal)

variable (S : Fin 512 → Fin 128 → ℝ)
/-- The sums of the products by head, three parts that add up to them: all is in the first. -/
theorem p77 : k0_pay77 (F := Ideal) bDm ⟬A⟭ ⟬B⟭ ⟬C⟭ ⟬E⟭ ⟬F⟭ bGa ⟬S⟭
    = ⟬fun t h => ∑ k, N.da (joined A B C E F t) (D t) k * joined A B C E F t k * S k h⟭ := by
  simp only [k0_pay77, p76, trunc2]
theorem p79 : k0_pay79 (F := Ideal) bDm ⟬A⟭ ⟬B⟭ ⟬C⟭ ⟬E⟭ ⟬F⟭ bGa ⟬S⟭ = ⟬fun _ _ => 0⟭ := by
  simp only [k0_pay79, k0_pay78, p77, p76, trunc2, ext2, sub2]
theorem p80 : k0_pay80 (F := Ideal) bDm ⟬A⟭ ⟬B⟭ ⟬C⟭ ⟬E⟭ ⟬F⟭ bGa ⟬S⟭ = ⟬fun _ _ => 0⟭ := by
  simp only [k0_pay80, k0_pay79, k0_pay78, p77, p76, trunc2, ext2, sub2]
end Heads

/-- The place of a head's sum among the sums. -/
def lane (h : Fin 8) : Fin 128 := ⟨h.val, by omega⟩
/-- A head's row: its features, minus its sum, zeros. -/
def aug (x : Fin 512 → ℝ) (δ : ℝ) (h : Fin 8) (c : Fin 128) : ℝ :=
  if hc : c.val < 64 then x (Mix.at' h ⟨c.val, hc⟩) else if c.val = 64 then -δ else 0
theorem aug_eq (x : Fin 512 → ℝ) (δ : Fin 128 → ℝ) (h : Fin 8) (o s : ℕ) (ho : o + 128 ≤ 512) (hs : s + 64 ≤ 128) (e : o + s = h.val * 64) (c : Fin 128) :
    pick 0 s (s + 64) (fun l => x ⟨o + l.val, by omega⟩) c + -1 * pick 64 h.val (h.val + 1) δ c = aug x (δ (lane h)) h c := by
  unfold pick aug
  have hh := h.isLt
  by_cases hc : c.val < 64
  · rw [if_pos (by omega), if_neg (by omega), dif_pos hc, mul_zero, add_zero]
    exact congrArg x (Fin.ext (by simp [Mix.at']; omega))
  · rw [if_neg (by omega), dif_neg hc, zero_add]
    by_cases h1 : c.val = 64
    · rw [if_pos (by omega), if_pos h1, neg_one_mul]
      exact congrArg (fun i => -δ i) (Fin.ext (by simp [lane]; omega))
    · rw [if_neg (by omega), if_neg h1, mul_zero]

variable (X : Fin 512 → Fin 512 → ℝ) (L : Fin 512 → Fin 128 → ℝ)

local notation "⟬" X "⟭" => (up2 X : S512x128.Idx → EReal)
local notation "𝒳" => (up2 X : S512x512.Idx → EReal)
local notation "𝟎" => (up2 (fun _ _ => 0) : S512x128.Idx → EReal)

theorem rows3 {f g : Fin 512 → Fin 128 → ℝ} (h : ∀ t c, f t c = g t c) : ⟪f⟫ = ⟪g⟫ := by
  rw [funext fun t => funext (h t)]

theorem h0 : k0_pay85 (F := Ideal) 𝟎 𝟎 (k0_pay82 𝒳) (k0_pay83 ⟬L⟭) rows k0_pay84 1#32 = ⟪fun t => aug (X t) (L t (lane 0)) 0⟫ := by
  simp (disch := decide) only [k0_pay81, k0_pay82, k0_pay83, k0_pay84, k0_pay85, ↓rows_eq, ↓cols_eq, trunc2, add2, slice, move, pick_zero, add_zero,
    neg2, make3, BitVec.reduceToNat]
  exact rows3 fun t c => aug_eq (X t) (L t) 0 0 0 (by decide) (by decide) rfl c
theorem h1 : k0_pay93 (F := Ideal) 𝟎 (k0_pay89 (k0_pay86 𝒳) rows k0_pay87 k0_pay88) (k0_pay90 ⟬L⟭ 𝟎) rows k0_pay91 k0_pay92
    = ⟪fun t => aug (X t) (L t (lane 1)) 1⟫ := by
  simp (disch := decide) only [k0_pay86, k0_pay87, k0_pay88, k0_pay89, k0_pay90, k0_pay91, k0_pay92, k0_pay93, ↓rows_eq, ↓cols_eq, trunc2, add2, slice,
    move, pick_zero, add_zero, neg2, make3, BitVec.reduceToNat]
  exact rows3 fun t c => aug_eq (X t) (L t) 1 0 64 (by decide) (by decide) rfl c
theorem h2 : k0_pay98 (F := Ideal) (k0_pay94 𝒳) (k0_pay96 ⟬L⟭ 𝟎 𝟎 rows k0_pay95 2#32) k0_pay97 = ⟪fun t => aug (X t) (L t (lane 2)) 2⟫ := by
  simp (disch := decide) only [k0_pay94, k0_pay95, k0_pay96, k0_pay97, k0_pay98, ↓rows_eq, ↓cols_eq, trunc2, add2, slice, move, pick_zero, add_zero,
    neg2, make3, BitVec.reduceToNat]
  exact rows3 fun t c => aug_eq (X t) (L t) 2 128 0 (by decide) (by decide) rfl c
theorem h3 : k0_pay102 (F := Ideal) 𝟎 𝟎 (k0_pay99 𝒳) (k0_pay100 ⟬L⟭) rows k0_pay101 = ⟪fun t => aug (X t) (L t (lane 3)) 3⟫ := by
  simp (disch := decide) only [k0_pay99, k0_pay100, k0_pay101, k0_pay102, ↓rows_eq, ↓cols_eq, trunc2, add2, slice, move, pick_zero, add_zero,
    neg2, make3, BitVec.reduceToNat]
  exact rows3 fun t c => aug_eq (X t) (L t) 3 128 64 (by decide) (by decide) rfl c
theorem h4 : k0_pay108 (F := Ideal) 𝟎 (k0_pay105 (k0_pay103 𝒳) rows k0_pay104 0#32) (k0_pay106 ⟬L⟭) (k0_pay107 𝟎)
    = ⟪fun t => aug (X t) (L t (lane 4)) 4⟫ := by
  simp (disch := decide) only [k0_pay103, k0_pay104, k0_pay105, k0_pay106, k0_pay107, k0_pay108, ↓rows_eq, ↓cols_eq, trunc2, add2, slice, move, pick_zero,
    add_zero, neg2, make3, BitVec.reduceToNat]
  exact rows3 fun t c => aug_eq (X t) (L t) 4 256 0 (by decide) (by decide) rfl c
theorem h5 : k0_pay113 (F := Ideal) 𝟎 (k0_pay109 𝒳) (k0_pay110 ⟬L⟭ 𝟎 rows) k0_pay111 k0_pay112 = ⟪fun t => aug (X t) (L t (lane 5)) 5⟫ := by
  simp (disch := decide) only [k0_pay109, k0_pay110, k0_pay111, k0_pay112, k0_pay113, ↓rows_eq, ↓cols_eq, trunc2, add2, slice, move, pick_zero,
    add_zero, neg2, make3, BitVec.reduceToNat]
  exact rows3 fun t c => aug_eq (X t) (L t) 5 256 64 (by decide) (by decide) rfl c
theorem h6 : k0_pay117 (F := Ideal) (k0_pay116 ⟬L⟭ 𝟎 𝟎 (k0_pay114 𝒳) k0_pay115) = ⟪fun t => aug (X t) (L t (lane 6)) 6⟫ := by
  simp (disch := decide) only [k0_pay114, k0_pay115, k0_pay116, k0_pay117, ↓rows_eq, ↓cols_eq, trunc2, add2, slice, move, pick_zero,
    add_zero, neg2, make3, BitVec.reduceToNat]
  exact rows3 fun t c => aug_eq (X t) (L t) 6 384 0 (by decide) (by decide) rfl c
theorem h7 : k0_pay121 (F := Ideal) 𝟎 𝟎 (k0_pay118 𝒳) (k0_pay119 ⟬L⟭) rows k0_pay120 = ⟪fun t => aug (X t) (L t (lane 7)) 7⟫ := by
  simp (disch := decide) only [k0_pay118, k0_pay119, k0_pay120, k0_pay121, ↓rows_eq, ↓cols_eq, trunc2, add2, slice, move, pick_zero,
    add_zero, neg2, make3, BitVec.reduceToNat]
  exact rows3 fun t c => aug_eq (X t) (L t) 7 384 64 (by decide) (by decide) rfl c

theorem at_head (G : Fin 8 → Fin 512 → Fin 128 → ℝ) (h : Fin 8) (inb) (x : (Rect.unit (s := S8x512x128) ![h.val, 0, 0] ![1, 512, 128] inb).shape.Idx) :
    ⟪G h⟫ x = (up3 G : S8x512x128.Idx → EReal) ((Rect.unit (s := S8x512x128) ![h.val, 0, 0] ![1, 512, 128] inb).emb x) :=
  (congrFun (load_head G h.val h.isLt inb) x).symm
/-- The eight heads' rows stored one after another. -/
theorem eight (G : Fin 8 → Fin 512 → Fin 128 → ℝ) :
    View.canon (Val := Elt Ideal) (s := S8x512x128) (e := .bf16)
      [⟨Rect.unit (s := S8x512x128) ![7, 0, 0] ![1, 512, 128] inb_S8x512x128_S1x512x128_7_0_0, ⟪G 7⟫⟩,
       ⟨Rect.unit (s := S8x512x128) ![6, 0, 0] ![1, 512, 128] inb_S8x512x128_S1x512x128_6_0_0, ⟪G 6⟫⟩,
       ⟨Rect.unit (s := S8x512x128) ![5, 0, 0] ![1, 512, 128] inb_S8x512x128_S1x512x128_5_0_0, ⟪G 5⟫⟩,
       ⟨Rect.unit (s := S8x512x128) ![4, 0, 0] ![1, 512, 128] inb_S8x512x128_S1x512x128_4_0_0, ⟪G 4⟫⟩,
       ⟨Rect.unit (s := S8x512x128) ![3, 0, 0] ![1, 512, 128] inb_S8x512x128_S1x512x128_3_0_0, ⟪G 3⟫⟩,
       ⟨Rect.unit (s := S8x512x128) ![2, 0, 0] ![1, 512, 128] inb_S8x512x128_S1x512x128_2_0_0, ⟪G 2⟫⟩,
       ⟨Rect.unit (s := S8x512x128) ![1, 0, 0] ![1, 512, 128] inb_S8x512x128_S1x512x128_1_0_0, ⟪G 1⟫⟩,
       ⟨Rect.unit (s := S8x512x128) ![0, 0, 0] ![1, 512, 128] inb_S8x512x128_S1x512x128_0_0_0, ⟪G 0⟫⟩] = (up3 G : S8x512x128.Idx → EReal) := by
  funext y
  refine View.canon_apply_of_pieces (Val := Elt Ideal) (e := .bf16) (up3 G : S8x512x128.Idx → EReal) _ (fun p hp x => ?_) y
    (View.cover_of_tiledL _ ![1, 512, 128] (by sl_kernel_rfl) y)
  simp only [List.mem_cons, List.not_mem_nil, or_false] at hp
  rcases hp with rfl | rfl | rfl | rfl | rfl | rfl | rfl | rfl
  exacts [
    at_head G 7 inb_S8x512x128_S1x512x128_7_0_0 x, at_head G 6 inb_S8x512x128_S1x512x128_6_0_0 x, at_head G 5 inb_S8x512x128_S1x512x128_5_0_0 x, at_head G 4 inb_S8x512x128_S1x512x128_4_0_0 x,
    at_head G 3 inb_S8x512x128_S1x512x128_3_0_0 x, at_head G 2 inb_S8x512x128_S1x512x128_2_0_0 x, at_head G 1 inb_S8x512x128_S1x512x128_1_0_0 x, at_head G 0 inb_S8x512x128_S1x512x128_0_0_0 x]

/-- The sum by head is the head's sum. -/
theorem table_sum (x : Fin 512 → ℝ) (h : Fin 8) : ∑ k, x k * MixHost.table k (lane h) = ∑ l, x (Mix.at' h l) := by
  unfold MixHost.table lane
  rw [← (finProdFinEquiv (m := 8) (n := 64)).sum_comp, Fintype.sum_prod_type, Finset.sum_eq_single h]
  · refine Finset.sum_congr rfl fun l _ => ?_
    have e : finProdFinEquiv (h, l) = Mix.at' h l := Fin.ext (by simp [finProdFinEquiv, Mix.at']; omega)
    rw [e, if_pos (by simp [Mix.at']; omega), mul_one]
  · intro g _ hg
    refine Finset.sum_eq_zero fun l _ => ?_
    rw [if_neg, mul_zero]
    intro hh
    refine hg (Fin.ext ?_)
    simp [finProdFinEquiv] at hh
    omega
  · exact fun hh => absurd (Finset.mem_univ _) hh

end MixStrip
end
-- ==== Proof.MixKernel.lean ====
/-
  The mixer's kernel over its tiles, for finite arguments: what every window holds, and the arrays after the last tile.
-/
module

public import proofs.«01_k».proof.Proof.MixStrip
public import proofs.«01_k».proof.Proof.MixHost

@[expose] public section

set_option maxRecDepth 16384

noncomputable section

namespace MixKernel

open Idealize.ShloMosaic Idealize.ShloMosaic.TcCoe Idealize.SL.Sem Cert.Kernel4Ideal Cert.Kernel4Ideal.Gen Lift MixMove MixPay MixStrip
open MixHost (padded table Finds)

/-- Token `r` of tile `t`. -/
def tok (t : Fin cfg0.N) (r : Fin 512) : Fin 8192 := ⟨t.val * 512 + r.val, by have h : t.val < 16 := t.isLt; omega⟩

variable {N : Mix} {A Y : Fin 8192 → Fin 512 → ℝ} {D : Fin 8192 → Fin 1024 → ℝ}
variable {m : (ℓ : Loc nD τ sig) → Buf (Elt Ideal) ℓ} {c : Dev nD} (H : Finds N A Y D m c) (t : Fin cfg0.N)

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

include H

theorem b0 : iblk m c 0 t = (up2 (fun r => D (tok t r)) : S512x1024.Idx → EReal) := by
  funext y
  have e : iblk m c 0 t y = V m c main_arg7 (ix2 (tok t (y 0)) (y 1)) := by
    unfold iblk; blk_ext! [idx0 t, tok]
  rw [e, H.d]; rfl
theorem b1 : iblk m c 1 t = (up3 (fun h r => padded (A (tok t r)) h) : S8x512x128.Idx → EReal) := by
  funext y
  have e : iblk m c 1 t y = V m c main_v4 (ix3 (y 0) (tok t (y 1)) (y 2)) := by
    unfold iblk; blk_ext! [idx1 t, tok]
  rw [e, H.h]; rfl
theorem b2 : iblk m c 2 t = (up2 (fun r => Y (tok t r)) : S512x512.Idx → EReal) := by
  funext y
  have e : iblk m c 2 t y = V m c main_arg1 (ix2 (tok t (y 0)) (y 1)) := by
    unfold iblk; blk_ext! [idx2 t, tok]
  rw [e, H.y]; rfl
theorem b3 : iblk m c 3 t = (up2 (fun _ => N.ga) : S1x512.Idx → EReal) := by
  rw [← H.ga]; unfold iblk; blk_ext! [idx3 t]
theorem b4 : iblk m c 4 t = (up2 (fun _ => N.gs) : S1x512.Idx → EReal) := by
  rw [← H.gs]; unfold iblk; blk_ext! [idx4 t]
theorem b5 : iblk m c 5 t = (up2 N.wg : S512x512.Idx → EReal) := by
  rw [← H.wg]; unfold iblk; blk_ext! [idx5 t]
theorem b6 : iblk m c 6 t = (up2 (fun _ => N.bg) : S1x512.Idx → EReal) := by
  rw [← H.bg]; unfold iblk; blk_ext! [idx6 t]
theorem b7 : iblk m c 7 t = (up2 N.wo : S1024x1024.Idx → EReal) := by
  rw [← H.wo]; unfold iblk; blk_ext! [idx7 t]
theorem b8 : iblk m c 8 t = (up2 table : S512x128.Idx → EReal) := by
  rw [← H.seg]; unfold iblk; blk_ext! [idx8 t]

/-- The heads' gradients of a tile, and the sums of the products by head. -/
abbrev sums (N : Mix) (A : Fin 8192 → Fin 512 → ℝ) (D : Fin 8192 → Fin 1024 → ℝ) (t : Fin 8192) (h : Fin 128) : ℝ :=
  ∑ k, N.da (A t) (D t) k * A t k * table k h
omit H in
theorem sums_eq (t : Fin 8192) (h : Fin 8) : sums N A D t (lane h) = N.delta (A t) (D t) h :=
  table_sum (fun k => N.da (A t) (D t) k * A t k) h

theorem o9 : (outsAt0 m c t.val t.isLt).1
    = (up3 (fun h r => aug (N.da (A (tok t r)) (D (tok t r))) (N.delta (A (tok t r)) (D (tok t r)) h) h) : S8x512x128.Idx → EReal) := by
  simp only [← sums_eq]
  by_cases h : t.val % 16 = 0
  · rw [outsAt0_A m c t h]; frame_out
    simp (disch := decide) only [b1 H t, load_head, rows_two, cols_two, p21, p38, p53, p61, p69, b0 H t, b7 H t, b3 H t, b8 H t, p5, p74, p77, p79, p80,
      k0_pay81, trunc2, joined_eq, MixStrip.h0, MixStrip.h1, MixStrip.h2, h3, h4, h5, h6, h7]
    exact eight fun h r => aug (N.da (A (tok t r)) (D (tok t r))) (sums N A D (tok t r) (lane h)) h
  · rw [outsAt0_B m c t h]; frame_out
    simp (disch := decide) only [b1 H t, load_head, rows_two, cols_two, p21, p38, p53, p61, p69, b0 H t, b7 H t, b3 H t, b8 H t, p5, p74, p77, p79, p80,
      k0_pay81, trunc2, joined_eq, MixStrip.h0, MixStrip.h1, MixStrip.h2, h3, h4, h5, h6, h7]
    exact eight fun h r => aug (N.da (A (tok t r)) (D (tok t r))) (sums N A D (tok t r) (lane h)) h
theorem o10 : (outsAt0 m c t.val t.isLt).2.1 = (up2 (fun r => N.dy (Y (tok t r)) (D (tok t r))) : S512x512.Idx → EReal) := by
  by_cases h : t.val % 16 = 0
  · rw [outsAt0_A m c t h]; frame_out
    simp only [b0 H t, b2 H t, b4 H t, b5 H t, b6 H t, b7 H t, p5, p122, p124, p126, p131, p137, p1]
  · rw [outsAt0_B m c t h]; frame_out
    simp only [b0 H t, b2 H t, b4 H t, b5 H t, b6 H t, b7 H t, p5, p122, p124, p126, p131, p137, p1]
theorem o11 : (outsAt0 m c t.val t.isLt).2.2.1 = (up2 (fun r => N.dz (Y (tok t r)) (D (tok t r))) : S512x512.Idx → EReal) := by
  by_cases h : t.val % 16 = 0
  · rw [outsAt0_A m c t h]; frame_out
    simp only [b0 H t, b2 H t, b4 H t, b5 H t, b6 H t, b7 H t, p5, p122, p124, p126, p131, p136]
  · rw [outsAt0_B m c t h]; frame_out
    simp only [b0 H t, b2 H t, b4 H t, b5 H t, b6 H t, b7 H t, p5, p122, p124, p126, p131, p136]
theorem o12 : (outsAt0 m c t.val t.isLt).2.2.2.1 = (up2 (fun r => Mix.u (Y (tok t r))) : S512x512.Idx → EReal) := by
  by_cases h : t.val % 16 = 0
  · rw [outsAt0_A m c t h]; frame_out
    simp only [b0 H t, b2 H t, b4 H t, b5 H t, b6 H t, b7 H t, p5, p122, p125]
  · rw [outsAt0_B m c t h]; frame_out
    simp only [b0 H t, b2 H t, b4 H t, b5 H t, b6 H t, b7 H t, p5, p122, p125]

/-! ### The arrays after the last tile -/

theorem w9 : (dats m 0 c).arrAt 9 cfg0.N
    = (up3 (fun h t => aug (N.da (A t) (D t)) (N.delta (A t) (D t) h) h) : S8x8192x128.Idx → EReal) :=
  (dats m 0 c).arrAt_eq_of_covers 9 _ (by decide +kernel) fun t hf y => by
    blk_simp
    rw [after0_9, o9 H t]
    have e : ∀ (a a' : Fin 8) (b b' : Fin 8192) (d d' : Fin 128), a = a' → b = b' → d = d' →
        (up3 (fun h t => aug (N.da (A t) (D t)) (N.delta (A t) (D t) h) h) : S8x8192x128.Idx → EReal) (ix3 a b d)
          = (up3 (fun h t => aug (N.da (A t) (D t)) (N.delta (A t) (D t) h) h) : S8x8192x128.Idx → EReal) (ix3 a' b' d') := by
      rintro _ _ _ _ _ _ rfl rfl rfl; rfl
    exact e _ _ _ _ _ _ (Fin.ext (by simp [idx9 t])) (Fin.ext (by simp [tok, idx9 t])) (Fin.ext (by simp [idx9 t]))
theorem w10 : (dats m 0 c).arrAt 10 cfg0.N = (up2 (fun t => N.dy (Y t) (D t)) : S8192x512.Idx → EReal) :=
  (dats m 0 c).arrAt_eq_of_covers 10 _ (by decide +kernel) fun t hf y => by
    blk_simp
    rw [after0_10, o10 H t]
    exact congrArg₂ (fun a b => (up2 (fun t => N.dy (Y t) (D t)) : S8192x512.Idx → EReal) (ix2 a b))
      (Fin.ext (by simp [tok, idx10 t])) (Fin.ext (by simp [idx10 t]))
theorem w11 : (dats m 0 c).arrAt 11 cfg0.N = (up2 (fun t => N.dz (Y t) (D t)) : S8192x512.Idx → EReal) :=
  (dats m 0 c).arrAt_eq_of_covers 11 _ (by decide +kernel) fun t hf y => by
    blk_simp
    rw [after0_11, o11 H t]
    exact congrArg₂ (fun a b => (up2 (fun t => N.dz (Y t) (D t)) : S8192x512.Idx → EReal) (ix2 a b))
      (Fin.ext (by simp [tok, idx11 t])) (Fin.ext (by simp [idx11 t]))
theorem w12 : (dats m 0 c).arrAt 12 cfg0.N = (up2 (fun t => Mix.u (Y t)) : S8192x512.Idx → EReal) :=
  (dats m 0 c).arrAt_eq_of_covers 12 _ (by decide +kernel) fun t hf y => by
    blk_simp
    rw [after0_12, o12 H t]
    exact congrArg₂ (fun a b => (up2 (fun t => Mix.u (Y t)) : S8192x512.Idx → EReal) (ix2 a b))
      (Fin.ext (by simp [tok, idx12 t])) (Fin.ext (by simp [idx12 t]))

/-- The last tile. -/
abbrev lastTile : Fin cfg0.N := ⟨15, by decide +kernel⟩

theorem a13 (j : S1x512.Idx) : (outsAt0 m c lastTile.val lastTile.isLt).2.2.2.2.1 j
    = ((∑ t : Fin 8192, N.dga (A t) (D t) (j 1) : ℝ) : EReal) := by
  rw [Pipeline.eq_sum_fin_of_reset_step_apply_last (fun n h => (outsAt0 m c n h).2.2.2.2.1) 16 (fun _ => 0)
    (fun (p : Fin cfg0.N) j => ((∑ r : Fin 512, N.dga (A (tok p r)) (D (tok p r)) (j 1) : ℝ) : EReal))
    (fun t h j => by
      rw [outsAt0_A m c t h]; frame_out
      simp (disch := decide) only [b1 H t, load_head, rows_two, cols_two, p21, p38, p53, p61, p69, b0 H t, b7 H t, b3 H t, p5, joined_eq, p75, z2])
    (fun t h j => by
      rw [outsAt0_B m c t h]; frame_out
      simp (disch := decide) only [b1 H t, load_head, rows_two, cols_two, p21, p38, p53, p61, p69, b0 H t, b7 H t, b3 H t, p5, joined_eq, p75])
    (le_of_eq N_0) lastTile rfl j, zero_add, sum_coe]
  refine congrArg _ ?_
  exact Fin.sum_mul_add_congr fun s k hl => rfl
theorem w13 : (dats m 0 c).arrAt 13 cfg0.N = (up2 (fun _ j => ∑ t : Fin 8192, N.dga (A t) (D t) j) : S1x512.Idx → EReal) :=
  (dats m 0 c).arrAt_eq_of_after_last 13 lastTile (by decide +kernel) _ fun j => by
    blk_simp
    rw [after0_13, a13 H]; rfl
theorem a14 (j : S1x512.Idx) : (outsAt0 m c lastTile.val lastTile.isLt).2.2.2.2.2.1 j
    = ((∑ t : Fin 8192, N.dgs (Y t) (D t) (j 1) : ℝ) : EReal) := by
  rw [Pipeline.eq_sum_fin_of_reset_step_apply_last (fun n h => (outsAt0 m c n h).2.2.2.2.2.1) 16 (fun _ => 0)
    (fun (p : Fin cfg0.N) j => ((∑ r : Fin 512, N.dgs (Y (tok p r)) (D (tok p r)) (j 1) : ℝ) : EReal))
    (fun t h j => by
      rw [outsAt0_A m c t h]; frame_out
      simp only [b0 H t, b2 H t, b4 H t, b5 H t, b6 H t, b7 H t, p5, p122, p133, z3])
    (fun t h j => by
      rw [outsAt0_B m c t h]; frame_out
      simp only [b0 H t, b2 H t, b4 H t, b5 H t, b6 H t, b7 H t, p5, p122, p133])
    (le_of_eq N_0) lastTile rfl j, zero_add, sum_coe]
  refine congrArg _ ?_
  exact Fin.sum_mul_add_congr fun s k hl => rfl
theorem w14 : (dats m 0 c).arrAt 14 cfg0.N = (up2 (fun _ j => ∑ t : Fin 8192, N.dgs (Y t) (D t) j) : S1x512.Idx → EReal) :=
  (dats m 0 c).arrAt_eq_of_after_last 14 lastTile (by decide +kernel) _ fun j => by
    blk_simp
    rw [after0_14, a14 H]; rfl
theorem a15 (j : S1x512.Idx) : (outsAt0 m c lastTile.val lastTile.isLt).2.2.2.2.2.2 j
    = ((∑ t : Fin 8192, N.dz (Y t) (D t) (j 1) : ℝ) : EReal) := by
  rw [Pipeline.eq_sum_fin_of_reset_step_apply_last (fun n h => (outsAt0 m c n h).2.2.2.2.2.2) 16 (fun _ => 0)
    (fun (p : Fin cfg0.N) j => ((∑ r : Fin 512, N.dz (Y (tok p r)) (D (tok p r)) (j 1) : ℝ) : EReal))
    (fun t h j => by
      rw [outsAt0_A m c t h]; frame_out
      simp only [b0 H t, b2 H t, b4 H t, b5 H t, b6 H t, b7 H t, p5, p122, p124, p126, p131, p135, z4])
    (fun t h j => by
      rw [outsAt0_B m c t h]; frame_out
      simp only [b0 H t, b2 H t, b4 H t, b5 H t, b6 H t, b7 H t, p5, p122, p124, p126, p131, p135])
    (le_of_eq N_0) lastTile rfl j, zero_add, sum_coe]
  refine congrArg _ ?_
  exact Fin.sum_mul_add_congr fun s k hl => rfl
theorem w15 : (dats m 0 c).arrAt 15 cfg0.N = (up2 (fun _ j => ∑ t : Fin 8192, N.dz (Y t) (D t) j) : S1x512.Idx → EReal) :=
  (dats m 0 c).arrAt_eq_of_after_last 15 lastTile (by decide +kernel) _ fun j => by
    blk_simp
    rw [after0_15, a15 H]; rfl

end MixKernel
end
-- ==== Proof.MixClaim.lean ====
/-
  The mixer's gradient call against the derivative of the forward lines: both runs end with the same eight arrays.
-/
module

public import proofs.«01_k».proof.Defs
public import proofs.«01_k».proof.Proof.MixRef
public import proofs.«01_k».proof.Proof.MixKernel
public import proofs.«01_k».proof.Proof.Gen.Pre_finite_mix

@[expose] public section

set_option maxRecDepth 65536

noncomputable section

open Idealize.ShloMosaic Idealize.SL.Sem Lift
open Cert.Kernel4Ideal Cert.Kernel4Ideal.Gen
open Idealize.ShloMosaic.StableHlo (launchContents)

namespace MixClaim

/-! ### The host lines after the kernel -/

variable (V : Valuation τ sig (Elt Ideal)) (N : Mix) (A Y : Fin 8192 → Fin 512 → ℝ) (D : Fin 8192 → Fin 1024 → ℝ)

/-- The heads' rows as the kernel leaves them. -/
abbrev left (h : Fin 8) (t : Fin 8192) : Fin 128 → ℝ := MixStrip.aug (N.da (A t) (D t)) (N.delta (A t) (D t) h) h

theorem left_da (t : Fin 8192) (j : Fin 512) : left N A D ⟨j.val / 64, by omega⟩ t ⟨j.val % 64, by omega⟩ = N.da (A t) (D t) j := by
  unfold left MixStrip.aug
  have h : j.val % 64 < 64 := Nat.mod_lt _ (by decide)
  rw [dif_pos h]
  exact congrArg _ (Fin.ext (by simp [Mix.at']; omega))
theorem left_delta (t : Fin 8192) (h : Fin 8) : -∑ k : Fin 3, left N A D h t ⟨64 + k.val, by omega⟩ = N.delta (A t) (D t) h := by
  unfold left MixStrip.aug
  rw [Fin.sum_univ_three]
  simp

theorem v19 (h : V (Proc.devRef .tc main_v16_0) = (up3 (left N A D) : S8x8192x128.Idx → EReal)) :
    StableHlo.after hostOps1 V (Proc.devRef .tc main_v19) = (up2 fun t => N.da (A t) (D t) : S8192x512.Idx → EReal) := by
  after_reads_simp; rw [h]; funext j; pointwise []
  exact congrArg _ (left_da N A D (j 0) (j 1))
theorem v24 (h : V (Proc.devRef .tc main_v16_0) = (up3 (left N A D) : S8x8192x128.Idx → EReal)) :
    StableHlo.after hostOps1 V (Proc.devRef .tc main_v24) = (up2 fun t => N.delta (A t) (D t) : S8192x8.Idx → EReal) := by
  after_reads_simp; rw [h]; funext j; pointwise []
  exact congrArg _ (left_delta N A D (j 0) (j 1))

/-! ### The run -/

variable (m : (ℓ : Loc nD τ sig) → Buf (Elt Ideal) ℓ) (ρ : Dev nD → PrngReg) (c : Dev nD)

/-- What the last host lines find: the kernel's arrays, and every other buffer as the kernel found it. -/
abbrev found : Valuation τ sig (Elt Ideal) := Pipeline.withArrays spec0 c (V0 m c) fun w => (dats m 0 c).arrAt w cfg0.N

theorem found_arr (w : Fin cfg0.W) : found m c (Proc.devRef .tc (Pipeline.arrRef spec0 w)) = (dats m 0 c).arrAt w cfg0.N :=
  Pipeline.withArrays_arr spec0 (by decide) c (V0 m c) _ w

variable {m c N A Y D}

theorem end0 (F : MixHost.Finds N A Y D m c) : StableHlo.after hostOps1 (found m c) (Proc.devRef .tc main_v19)
    = (up2 fun t => N.da (A t) (D t) : S8192x512.Idx → EReal) := v19 _ N A D ((found_arr m c 9).trans (MixKernel.w9 F))
theorem end1 (F : MixHost.Finds N A Y D m c) : StableHlo.after hostOps1 (found m c) (Proc.devRef .tc main_v24)
    = (up2 fun t => N.delta (A t) (D t) : S8192x8.Idx → EReal) := v24 _ N A D ((found_arr m c 9).trans (MixKernel.w9 F))

variable (m)

/-- Two results end as those lines leave them, six as the kernel does, the arguments unchanged. -/
theorem run_ends : θ_run defs (onTc (τ := τ) (main (F := Ideal))) ⟨m, fun _ => 0, ρ⟩ fun r => ∀ c : Dev nD,
      r.2.mem ((c.tc : Thread nD τ).loc main_v19) = StableHlo.after hostOps1 (found m c) (Proc.devRef .tc main_v19)
      ∧ r.2.mem ((c.tc : Thread nD τ).loc main_v24) = StableHlo.after hostOps1 (found m c) (Proc.devRef .tc main_v24)
      ∧ r.2.mem ((c.tc : Thread nD τ).loc main_v16_1) = (dats m 0 c).arrAt 10 cfg0.N
      ∧ r.2.mem ((c.tc : Thread nD τ).loc main_v16_2) = (dats m 0 c).arrAt 11 cfg0.N
      ∧ r.2.mem ((c.tc : Thread nD τ).loc main_v16_3) = (dats m 0 c).arrAt 12 cfg0.N
      ∧ r.2.mem ((c.tc : Thread nD τ).loc main_v16_4) = (dats m 0 c).arrAt 13 cfg0.N
      ∧ r.2.mem ((c.tc : Thread nD τ).loc main_v16_5) = (dats m 0 c).arrAt 14 cfg0.N
      ∧ r.2.mem ((c.tc : Thread nD τ).loc main_v16_6) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).2 main_v19 (Pipeline.mem_restRefs_of main_v19 (by decide) (by decide)),
      (h.1 c).2 main_v24 (Pipeline.mem_restRefs_of main_v24 (by decide) (by decide)),
      (h.1 c).1 10, (h.1 c).1 11, (h.1 c).1 12, (h.1 c).1 13, (h.1 c).1 14, (h.1 c).1 15, h.2.1 c⟩)
    (θ_run_and (run_main m ρ) (frame m ρ))

/-! ### The claim -/

/-- Finite arguments are arrays of reals. -/
theorem given (m : (ℓ : Loc nD τ sig) → Buf (Elt Ideal) ℓ) (hpre : Cert.Pre_Kernel4Ideal_finite_mix m) (c : Dev nD) :
    ∃ N A Y D, MixHost.Given (fun b => m (c, b)) N A Y D := by
  obtain ⟨h0, h1, h2, h3, h4, h5, h6, h7⟩ := hpre c
  obtain ⟨A, hA⟩ := finite2 h0
  obtain ⟨Y, hY⟩ := finite2 h1
  obtain ⟨ga, hga⟩ := finiteRow h2
  obtain ⟨gs, hgs⟩ := finiteRow h3
  obtain ⟨wg, hwg⟩ := finite2 h4
  obtain ⟨bg, hbg⟩ := finiteRow h5
  obtain ⟨wo, hwo⟩ := finite2 h6
  obtain ⟨D, hD⟩ := finite2 h7
  exact ⟨⟨ga, gs, wg, bg, wo⟩, A, Y, D, hA, hY, hga, hgs, hwg, hbg, hwo, hD⟩

set_option maxHeartbeats 1000000 in
theorem algebraic : Cert.algebraic_Kernel4Ideal_Reference4Ideal_pre_finite_mix := by
  pair_intro
  · run_from run_ends m g
  · run_from MixRef.run_stages m' g'
    all_goals
      obtain ⟨N, A, Y, D, H⟩ := given m hpre c
      have h0 := H.h0; have h1 := H.h1; have h2 := H.h2; have h3 := H.h3; have h4 := H.h4; have h5 := H.h5; have h6 := H.h6; have h7 := H.h7
      have F := MixHost.finds H
      simp only [h0, h1, h2, h3, h4, h5, h6, h7]
    · exact (MixRef.v140 N A D).trans (end0 F).symm
    · exact (MixRef.v139 N A D).trans (end1 F).symm
    · rw [MixKernel.w10 F]; exact MixRef.v136 N Y D
    · rw [MixKernel.w11 F]; exact MixRef.v141 N Y D
    · rw [MixKernel.w12 F]; exact MixRef.v142 Y
    · rw [MixKernel.w13 F]; exact MixRef.v117 N A D
    · rw [MixKernel.w14 F]; exact MixRef.v96 N Y D
    · rw [MixKernel.w15 F]; exact MixRef.v122 N Y D

end MixClaim
end
-- ==== Proof.InMath.lean ====
/-
  The mixer's input over the reals: a token's row is normed and multiplied by one matrix, whose columns are the queries, keys and
  values of eight heads, eight forget logits and the other branch's input; a token's decay is the sum, over the tokens up to it, of
  the log of the logistic of its logits. And the gradient of it, for a cotangent of each of these.
-/
module

public import proofs.«01_k».proof.Proof.Lift

@[expose] public section

noncomputable section

open Lift

/-- The weights: the norm's gain, the matrix, the logits' bias. -/
structure Inp where
  g : Fin 1024 → ℝ
  w : Fin 1024 → Fin 2056 → ℝ
  b : Fin 8 → ℝ

/-- The cotangents: of the stream itself, of the heads, of the decay, of the other branch's input. -/
structure Cot where
  d : Fin 8192 → Fin 1024 → ℝ
  q : Fin 8192 → Fin 8 → Fin 64 → ℝ
  k : Fin 8192 → Fin 8 → Fin 64 → ℝ
  v : Fin 8192 → Fin 8 → Fin 64 → ℝ
  c : Fin 8192 → Fin 8 → ℝ
  s : Fin 8192 → Fin 512 → ℝ

/-- The sum of `f` from place `a` on. -/
def tailSum (f : Fin 8192 → ℝ) (a : ℕ) : ℝ := ∑ u : Fin 8192, if a ≤ u.val then f u else 0

theorem tailSum_end (f : Fin 8192 → ℝ) : tailSum f 8192 = 0 :=
  Finset.sum_eq_zero fun u _ => if_neg (by have := u.isLt; omega)

/-- From a place inside a tile: the rest of the tile, then what is after the tile. -/
theorem tailSum_tile (f : Fin 8192 → ℝ) (o : ℕ) (ho : o + 512 ≤ 8192) (r : Fin 512) :
    tailSum f (o + r.val) = (∑ k : Fin 512, if r.val ≤ k.val then f ⟨o + k.val, by omega⟩ else 0) + tailSum f (o + 512) := by
  have h1 : ∀ u : Fin 8192, (if o + r.val ≤ u.val then f u else 0)
      = (if o + r.val ≤ u.val ∧ u.val < o + 512 then f u else 0) + (if o + 512 ≤ u.val then f u else 0) := by
    intro u
    by_cases h : o + 512 ≤ u.val
    · rw [if_pos (by have := r.isLt; omega), if_neg (by omega), if_pos h, zero_add]
    · rw [if_neg h, add_zero]
      exact if_congr ⟨fun hh => ⟨hh, by omega⟩, fun hh => hh.1⟩ rfl rfl
  unfold tailSum
  rw [Finset.sum_congr rfl fun u _ => h1 u, Finset.sum_add_distrib]
  refine congrArg (· + ∑ u : Fin 8192, if o + 512 ≤ u.val then f u else 0) ?_
  refine (Finset.sum_of_injOn (fun k : Fin 512 => (⟨o + k.val, by omega⟩ : Fin 8192)) ?_ (fun _ _ => Finset.mem_univ _) ?_ ?_).symm
  · intro a _ b _ hab
    simpa [Fin.ext_iff] using hab
  · intro u _ hu
    refine if_neg fun hh => hu ⟨⟨u.val - o, by omega⟩, Finset.mem_coe.2 (Finset.mem_univ _), Fin.ext ?_⟩
    show o + (u.val - o) = u.val
    omega
  · intro k _
    by_cases hk : r.val ≤ k.val
    · rw [if_pos hk, if_pos (⟨Nat.add_le_add_left hk o, Nat.add_lt_add_left k.isLt o⟩ : o + r.val ≤ o + k.val ∧ o + k.val < o + 512)]
    · rw [if_neg hk, if_neg fun hh => hk (Nat.le_of_add_le_add_left hh.1)]

/-- The same sum, counted from the place. -/
theorem sum_window (f : Fin 8192 → ℝ) (a : ℕ) :
    (∑ u : Fin 8192, if h : a + u.val < 8192 then f ⟨a + u.val, h⟩ else 0) = tailSum f a := by
  have h1 : ∀ u : Fin 8192, (if h : a + u.val < 8192 then f ⟨a + u.val, h⟩ else 0)
      = if a + u.val < 8192 then f ⟨(a + u.val) % 8192, Nat.mod_lt _ (by norm_num)⟩ else 0 := by
    intro u
    by_cases h : a + u.val < 8192
    · rw [dif_pos h, if_pos h]
      exact congrArg f (Fin.ext (Nat.mod_eq_of_lt h).symm)
    · rw [dif_neg h, if_neg h]
  rw [Finset.sum_congr rfl fun u _ => h1 u, ← Finset.sum_filter, tailSum, ← Finset.sum_filter]
  refine Finset.sum_nbij' (fun u => ⟨(a + u.val) % 8192, Nat.mod_lt _ (by norm_num)⟩)
    (fun u => ⟨u.val - a, by have := u.isLt; omega⟩) ?_ ?_ ?_ ?_ fun _ _ => rfl
  · intro u hu
    have h := (Finset.mem_filter.1 hu).2
    exact Finset.mem_filter.2 ⟨Finset.mem_univ _, by
      show a ≤ (a + u.val) % 8192
      rw [Nat.mod_eq_of_lt h]
      exact Nat.le_add_right _ _⟩
  · intro u hu
    have h := (Finset.mem_filter.1 hu).2
    have := u.isLt
    exact Finset.mem_filter.2 ⟨Finset.mem_univ _, by
      show a + (u.val - a) < 8192
      omega⟩
  · intro u hu
    have h := (Finset.mem_filter.1 hu).2
    refine Fin.ext ?_
    show (a + u.val) % 8192 - a = u.val
    rw [Nat.mod_eq_of_lt h]
    exact Nat.add_sub_cancel_left _ _
  · intro u hu
    have h := (Finset.mem_filter.1 hu).2
    have := u.isLt
    refine Fin.ext ?_
    show (a + (u.val - a)) % 8192 = u.val
    rw [show a + (u.val - a) = u.val by omega]
    exact Nat.mod_eq_of_lt this

/-- The soft maximum of a number and zero, as the host writes it, and how fast it grows. -/
def soft (a : ℝ) : ℝ := max a 0 + Real.log (1 + Real.exp (-max a (-a)))

theorem exp_soft (a : ℝ) : Real.exp (a - soft a) = (1 + Real.exp (-a))⁻¹ := by
  have hp : ∀ b : ℝ, 0 < 1 + Real.exp b := fun b => by positivity
  rw [soft, Real.exp_sub, Real.exp_add, Real.exp_log (hp _), div_eq_iff (by positivity), inv_mul_eq_div, eq_div_iff (hp _).ne']
  rcases le_total 0 a with h | h
  · rw [max_eq_left h, max_eq_left (by linarith)]
  · rw [max_eq_right h, max_eq_right (by linarith), neg_neg, Real.exp_zero, one_mul, mul_add, mul_one, ← Real.exp_add,
      add_neg_cancel, Real.exp_zero, add_comm]

namespace Inp

open Idealize.ShloMosaic

@[pointwise] theorem lit_eighth : Ideal.ofBits .f32 0x3E000000#32 = ((1 / 8 : ℝ) : EReal) := by
  simp [Ideal.ofBits, Ideal.ieee]; rw [mul_coe]; norm_num
@[pointwise] theorem lit_eighth_narrow : Ideal.ofBits .bf16 0x3E00#16 = ((1 / 8 : ℝ) : EReal) := by
  simp [Ideal.ofBits, Ideal.ieee]; rw [mul_coe]; norm_num
@[pointwise] theorem lit_inf : Ideal.ofBits .f32 0x7F800000#32 = (⊤ : EReal) := by
  simp [Ideal.ofBits, Ideal.ieee]
@[pointwise] theorem div_eighth (a : ℝ) : Ideal.div (a : EReal) ((1 / 8 : ℝ) : EReal) = ((a * 8 : ℝ) : EReal) := by
  rw [div_coe (by norm_num)]; exact congrArg _ (by ring)
@[pointwise] theorem max_coe (a b : ℝ) : max (a : EReal) (b : EReal) = ((max a b : ℝ) : EReal) := (EReal.coe_strictMono.monotone.map_max).symm
@[pointwise] theorem max_coe_zero (a : ℝ) : max (a : EReal) 0 = ((max a 0 : ℝ) : EReal) := max_coe a 0
@[pointwise] theorem log1p_exp (a : ℝ) : Ideal.log1p (Real.exp a : EReal) = (Real.log (1 + Real.exp a) : EReal) := by
  have h : ¬ (1 + Real.exp a ≤ 0) := not_le.2 (by positivity)
  rw [Ideal.log1p, one_add_coe, Ideal.log_coe, if_neg h]
@[pointwise] theorem ite_ne_self (x : EReal) {α : Type} (y z : α) : (if x ≠ x then y else z) = z := if_neg fun h => h rfl
@[pointwise] theorem absf_coe (a : ℝ) : FloatOps.absf (F := Ideal) (φ := .f32) (a : EReal) = ((max a (-a) : ℝ) : EReal) := by
  rw [← max_coe, ← neg_coe]; rfl
@[pointwise] theorem ite_coe_top (a : ℝ) {α : Type} (y z : α) : (if (a : EReal) = ⊤ then y else z) = z :=
  if_neg (EReal.coe_ne_top a)

/-- Heads' rows side by side. -/
def hd (a : Fin 8 → Fin 64 → ℝ) (j : Fin 512) : ℝ := a ⟨j.val / 64, by omega⟩ ⟨j.val % 64, by omega⟩

variable (N : Inp) (x : Fin 1024 → ℝ)

/-- The stream after the norm. -/
def n (j : Fin 1024) : ℝ := x j * rs x * N.g j
/-- The forget logits. -/
def lf (h : Fin 8) : ℝ := ∑ k, N.n x k * N.w k ⟨1536 + h.val, by omega⟩ + N.b h
/-- The logistic of a logit's negative: how fast its log-logistic grows. -/
def sg (h : Fin 8) : ℝ := (1 + Real.exp (N.lf x h))⁻¹

/-- The gradient in the product's row, from those in its parts. -/
def row (q k v : Fin 8 → Fin 64 → ℝ) (f : Fin 8 → ℝ) (s : Fin 512 → ℝ) (c : Fin 2056) : ℝ :=
  if h : c.val < 512 then hd q ⟨c.val, h⟩
  else if h : c.val - 512 < 512 then hd k ⟨c.val - 512, h⟩
  else if h : c.val - 512 - 512 < 512 then hd v ⟨c.val - 512 - 512, h⟩
  else if h : c.val - 512 - 512 - 512 < 8 then f ⟨c.val - 512 - 512 - 512, h⟩
  else s ⟨c.val - 512 - 512 - 512 - 8, by omega⟩

variable (z : Fin 2056 → ℝ)

/-- The gradient in the normed stream, the token's share of the gradient in the gain, the gradient in the stream. -/
def dn (j : Fin 1024) : ℝ := ∑ c, z c * N.w j c
def dg (j : Fin 1024) : ℝ := N.dn z j * (x j * rs x)
def dx (d : Fin 1024 → ℝ) (j : Fin 1024) : ℝ := d j + rmsBack (N.dn z) x N.g j

/-- The gradients in the logits, and in the product's row, of every token. -/
def df (X : Fin 8192 → Fin 1024 → ℝ) (C : Cot) (t : Fin 8192) (h : Fin 8) : ℝ := tailSum (fun u => C.c u h) t.val * N.sg (X t) h
def dz (X : Fin 8192 → Fin 1024 → ℝ) (C : Cot) (t : Fin 8192) : Fin 2056 → ℝ :=
  row (C.q t) (C.k t) (C.v t) (N.df X C t) (C.s t)

/-! The columns in the other order: the logits last, and zeros after them; the queries' eight times less. -/

/-- The matrix' row in that order, and the gradient in the product's row. -/
def wr (w : Fin 2056 → ℝ) (c : Fin 2176) : ℝ :=
  if h : c.val < 512 then w ⟨c.val, by omega⟩ * (1 / 8)
  else if h : c.val - 512 < 1024 then w ⟨512 + (c.val - 512), by omega⟩
  else if h : c.val - 512 - 1024 < 512 then w ⟨1544 + (c.val - 512 - 1024), by omega⟩
  else if h : c.val - 512 - 1024 - 512 < 8 then w ⟨1536 + (c.val - 512 - 1024 - 512), by omega⟩
  else 0
def zr (q k v s : Fin 512 → ℝ) (f : Fin 128 → ℝ) (c : Fin 2176) : ℝ :=
  if h : c.val < 512 then q ⟨c.val, h⟩
  else if h : c.val - 512 < 512 then k ⟨c.val - 512, h⟩
  else if h : c.val - 512 - 512 < 512 then v ⟨c.val - 512 - 512, h⟩
  else if h : c.val - 512 - 512 - 512 < 512 then s ⟨c.val - 512 - 512 - 512, h⟩
  else f ⟨c.val - 512 - 512 - 512 - 512, by omega⟩

/-- Where a column goes. -/
def place (c : Fin 2056) : Fin 2176 :=
  if h : c.val < 1536 then ⟨c.val, by omega⟩ else if h : c.val < 1544 then ⟨c.val + 512, by omega⟩ else ⟨c.val - 8, by omega⟩
theorem place_inj : Function.Injective place := by
  intro a b h
  have ha := a.isLt
  have hb := b.isLt
  unfold place at h
  split_ifs at h <;> (rw [Fin.ext_iff] at h; simp only at h; exact Fin.ext (by omega))

variable (q k v : Fin 8 → Fin 64 → ℝ) (f : Fin 128 → ℝ) (s : Fin 512 → ℝ) (w : Fin 2056 → ℝ)

/-- The product is the same in either order. -/
theorem reorder : ∑ c, zr (fun j => hd q j * 8) (hd k) (hd v) s f c * wr w c
    = ∑ c, row q k v (fun h => f ⟨h.val, by omega⟩) s c * w c := by
  refine (Finset.sum_of_injOn place (fun a _ b _ h => place_inj h) (fun _ _ => Finset.mem_univ _) ?_ ?_).symm
  · intro c _ hc
    have hz : wr w c = 0 := by
      by_contra hne
      refine hc ?_
      have h0 : c.val < 2056 := by
        by_contra hh
        exact hne (by unfold wr; rw [dif_neg (by omega), dif_neg (by omega), dif_neg (by omega), dif_neg (by omega)])
      by_cases h1 : c.val < 1536
      · exact ⟨⟨c.val, by omega⟩, Finset.mem_coe.2 (Finset.mem_univ _), by unfold place; rw [dif_pos h1]⟩
      · by_cases h2 : c.val < 2048
        · exact ⟨⟨c.val + 8, by omega⟩, Finset.mem_coe.2 (Finset.mem_univ _), by
            unfold place; rw [dif_neg (by simp only; omega), dif_neg (by simp only; omega)]; exact Fin.ext (by simp)⟩
        · exact ⟨⟨c.val - 512, by omega⟩, Finset.mem_coe.2 (Finset.mem_univ _), by
            unfold place; rw [dif_neg (by simp only; omega), dif_pos (by simp only; omega)]; exact Fin.ext (by simp only; omega)⟩
    rw [hz, mul_zero]
  · intro c _
    have hc := c.isLt
    have ew : ∀ i j : Fin 2056, i.val = j.val → w i = w j := fun i j h => congrArg w (Fin.ext h)
    unfold row place zr wr
    by_cases h1 : c.val < 512
    · have h' : c.val < 1536 := by omega
      simp only [h1, h', dif_pos]; ring
    · by_cases h2 : c.val - 512 < 512
      · have h' : c.val < 1536 := by omega
        have h'' : c.val - 512 < 1024 := by omega
        simp only [h1, h2, h', h'', dif_pos, dif_neg, not_false_eq_true]
        rw [ew ⟨512 + (c.val - 512), _⟩ c (by simp only; omega)]
      · by_cases h3 : c.val - 512 - 512 < 512
        · have h' : c.val < 1536 := by omega
          have h'' : c.val - 512 < 1024 := by omega
          simp only [h1, h2, h3, h', h'', dif_pos, dif_neg, not_false_eq_true]
          rw [ew ⟨512 + (c.val - 512), _⟩ c (by simp only; omega)]
        · by_cases h4 : c.val - 512 - 512 - 512 < 8
          · have a1 : ¬ c.val < 1536 := by omega
            have a2 : c.val < 1544 := by omega
            have b1 : ¬ c.val + 512 < 512 := by omega
            have b2 : ¬ c.val + 512 - 512 < 512 := by omega
            have b3 : ¬ c.val + 512 - 512 - 512 < 512 := by omega
            have b4 : ¬ c.val + 512 - 512 - 512 - 512 < 512 := by omega
            have c2 : ¬ c.val + 512 - 512 < 1024 := by omega
            have c3 : ¬ c.val + 512 - 512 - 1024 < 512 := by omega
            have c4 : c.val + 512 - 512 - 1024 - 512 < 8 := by omega
            simp only [h1, h2, h3, h4, a1, a2, b1, b2, b3, b4, c2, c3, c4, dif_pos, dif_neg, not_false_eq_true]
            rw [ew ⟨1536 + (c.val + 512 - 512 - 1024 - 512), _⟩ c (by simp only; omega)]
            exact congrArg (fun i => f i * w c) (Fin.ext (by simp only; omega))
          · have a1 : ¬ c.val < 1536 := by omega
            have a2 : ¬ c.val < 1544 := by omega
            have b1 : ¬ c.val - 8 < 512 := by omega
            have b2 : ¬ c.val - 8 - 512 < 512 := by omega
            have b3 : ¬ c.val - 8 - 512 - 512 < 512 := by omega
            have b4 : c.val - 8 - 512 - 512 - 512 < 512 := by omega
            have c2 : ¬ c.val - 8 - 512 < 1024 := by omega
            have c3 : c.val - 8 - 512 - 1024 < 512 := by omega
            simp only [h1, h2, h3, h4, a1, a2, b1, b2, b3, b4, c2, c3, dif_pos, dif_neg, not_false_eq_true]
            rw [ew ⟨1544 + (c.val - 8 - 512 - 1024), _⟩ c (by simp only; omega)]
            exact congrArg (fun i => s i * w c) (Fin.ext (by simp only; omega))

end Inp
end
-- ==== Proof.InRef.lean ====
/-
  What the reference of the mixer input's gradient computes, for finite arguments: the rows of InMath.
-/
module

public import proofs.«01_k».proof.Proof.InMath
public import proofs.«01_k».proof.Proof.Gen.Reference5Ideal.Read
public import proofs.«01_k».proof.Proof.Gen.Reference5Ideal.Run

@[expose] public section

set_option maxRecDepth 16384

noncomputable section

namespace InRef

open Idealize.ShloMosaic Cert.Reference5Ideal Cert.Reference5Ideal.Read Lift

/-! ### A sum over a window -/

theorem foldl_add {n : ℕ} (f : Fin n → EReal) : (List.finRange n).foldl (fun r k => r + f k) 0 = ∑ k, f k := by
  rw [Fin.sum_univ_def, List.sum_eq_foldl, List.foldl_map]

/-- A window's places: its tokens. -/
def places : (⟨2, ![8192, 1]⟩ : Shape).Idx ≃ Fin 8192 where
  toFun i := i 0
  invFun u := fun a => ⟨![u.val, 0] a, by fin_cases a; exacts [u.isLt, Nat.one_pos]⟩
  left_inv i := by
    funext a
    fin_cases a
    · rfl
    · exact Fin.ext (Nat.lt_one_iff.1 (i 1).isLt).symm
  right_inv u := rfl

theorem window (C : Fin 8192 → Fin 8 → ℝ) (z : S_.Idx → EReal) (hz : ∀ i, z i = 0)
    (h : S8192x8.ReduceWindows ![8192, 1] ![1, 1] ![0, 0] ![8191, 0] S8192x8) (hu : 0 < S_.numel) :
    Host.reduceWindowAdd (F := Ideal) (φ := .f32) ![8192, 1] ![1, 1] ![0, 0] ![8191, 0] (up2 C : S8192x8.Idx → EReal) z h hu
      = up2 fun t h => tailSum (fun u => C u h) t.val := by
  funext j
  rw [Host.reduceWindowAdd, Ideal.hostReduceWindowAdd_def, Ideal.hostReduceWindowAdd, Host.reduceWindow]
  simp only [hz]
  rw [foldl_add, up2_apply, ← sum_window, ← sum_coe,
    ← Equiv.sum_comp (((⟨2, ![8192, 1]⟩ : Shape).rowMajor.symm.trans places))]
  refine Finset.sum_congr rfl fun n _ => ?_
  have h1 : ((⟨2, ![8192, 1]⟩ : Shape).rowMajor.symm n 1).val = 0 :=
    Nat.lt_one_iff.1 ((⟨2, ![8192, 1]⟩ : Shape).rowMajor.symm n 1).isLt
  have h8 : (j 1).val < 8 := (j 1).isLt
  have h0 : (((⟨2, ![8192, 1]⟩ : Shape).rowMajor.symm.trans places) n).val = ((⟨2, ![8192, 1]⟩ : Shape).rowMajor.symm n 0).val := rfl
  by_cases hlt : (j 0).val + (((⟨2, ![8192, 1]⟩ : Shape).rowMajor.symm.trans places) n).val < 8192
  · refine (dif_pos fun a => ?_).trans (.trans ?_ (congrArg (Real.toEReal) (dif_pos hlt)).symm)
    · fin_cases a
      · refine ⟨Nat.zero_le _, ?_⟩
        show (j 0).val * 1 + ((⟨2, ![8192, 1]⟩ : Shape).rowMajor.symm n 0).val - 0 < 8192
        omega
      · refine ⟨Nat.zero_le _, ?_⟩
        show (j 1).val * 1 + ((⟨2, ![8192, 1]⟩ : Shape).rowMajor.symm n 1).val - 0 < 8
        omega
    · refine congrArg₂ (fun a b => ((C a b : ℝ) : EReal)) (Fin.ext ?_) (Fin.ext ?_)
      · show (j 0).val * 1 + ((⟨2, ![8192, 1]⟩ : Shape).rowMajor.symm n 0).val - 0
          = (j 0).val + (((⟨2, ![8192, 1]⟩ : Shape).rowMajor.symm.trans places) n).val
        omega
      · show (j 1).val * 1 + ((⟨2, ![8192, 1]⟩ : Shape).rowMajor.symm n 1).val - 0 = (j 1).val
        omega
  · rw [dif_neg hlt]
    refine dif_neg fun hh => hlt ?_
    have := (hh 0).2
    change (j 0).val * 1 + ((⟨2, ![8192, 1]⟩ : Shape).rowMajor.symm n 0).val - 0 < 8192 at this
    omega

variable (N : Inp) (X : Fin 8192 → Fin 1024 → ℝ) (C : Cot)

local notation "xX" => (up2 X : S8192x1024.Idx → EReal)
local notation "xG" => (up2 (fun (_ : Fin 1) => N.g) : S1x1024.Idx → EReal)
local notation "xW" => (up2 N.w : S1024x2056.Idx → EReal)
local notation "xB" => (up2 (fun (_ : Fin 1) => N.b) : S1x8.Idx → EReal)
local notation "xD" => (up2 C.d : S8192x1024.Idx → EReal)
local notation "xQ" => (up3 C.q : S8192x8x64.Idx → EReal)
local notation "xK" => (up3 C.k : S8192x8x64.Idx → EReal)
local notation "xV" => (up3 C.v : S8192x8x64.Idx → EReal)
local notation "xC" => (up2 C.c : S8192x8.Idx → EReal)
local notation "xS" => (up2 C.s : S8192x512.Idx → EReal)

theorem v9 : val_main_v9 (F := Ideal) xX = up2 fun t _ => rs (X t) := by
  funext j
  pointwise [val_main_v9, val_main_v8, val_main_v7, val_main_cst_2, val_main_v6, val_main_v5, val_main_cst_1, val_main_v4,
    val_main_v3, val_main_v2, val_main_cst_0]

theorem v12 : val_main_v12 (F := Ideal) xX = up2 fun t _ => -1 / 2 * (rs (X t) / ms (X t)) := by
  funext j
  pointwise [val_main_v12, val_main_v11, val_main_cst_3, val_main_v10, v9, val_main_v8, val_main_v7, val_main_cst_2, val_main_v6,
    val_main_v5, val_main_cst_1, val_main_v4, val_main_v3, val_main_v2, val_main_cst_0]

theorem v14 : val_main_v14 (F := Ideal) xX = up2 fun t l => X t l * rs (X t) := by
  funext j
  pointwise [val_main_v14, val_main_v13, v9]

theorem v15 : val_main_v15 (F := Ideal) xG = up2 fun _ => N.g := by
  funext j
  pointwise [val_main_v15, val_main_v1]

theorem v17 : val_main_v17 (F := Ideal) xX xG = up2 fun t => N.n (X t) := by
  funext j
  pointwise [val_main_v17, val_main_v16, v15, v14, Inp.n]

theorem v30 : val_main_v30 (F := Ideal) xX xG xW xB = up2 fun t => N.lf (X t) := by
  funext j
  pointwise [val_main_v30, val_main_v29, val_main_v28, val_main_v27, val_main_v26, val_main_v19, val_main_v18, val_main_v0,
    val_main_cst, v17, dot_S8192x1024_S1024x2056_S8192x2056_1_0_0_1_n_n, Inp.lf]

/-- The soft maximum inside the log of the logistic. -/
theorem call0_v1 : val_main_call0_v1_0 (F := Ideal) xX xG xW xB = up2 fun t h => soft (-N.lf (X t) h) := by
  funext j
  pointwise [val_main_call0_v1_0, val_main_call0_call0_v11, val_main_call0_call0_v10, val_main_call0_call0_v9,
    val_main_call0_call0_v8, val_main_call0_call0_v7, val_main_call0_call0_v6, val_main_call0_call0_v5,
    val_main_call0_call0_v4, val_main_call0_call0_v3, val_main_call0_call0_v2, val_main_call0_call0_v1,
    val_main_call0_call0_v0, val_main_call0_call0_cst, val_main_call0_v0, v30, soft]

theorem v31_1 : val_main_v31_1 (F := Ideal) xX xG xW xB = up2 fun t => N.sg (X t) := by
  funext j
  pointwise [val_main_v31_1, val_main_call0_call0_v21, val_main_call0_call0_v20, val_main_call0_call0_v19,
    val_main_call0_call0_cst_3, val_main_call0_call0_v18, val_main_call0_call0_v17, val_main_call0_call0_cst_2,
    val_main_call0_call0_v16, val_main_call0_call0_v15, val_main_call0_call0_cst_1, val_main_call0_call0_v14,
    val_main_call0_call0_v13, val_main_call0_call0_cst_0, val_main_call0_v0, call0_v1, v30, Inp.sg]
  exact congrArg _ ((exp_soft (-N.lf (X (j 0)) (j 1))).trans (by rw [neg_neg]))

theorem v35 : val_main_v35 (F := Ideal) xC = up2 fun t h => tailSum (fun u => C.c u h) t.val := by
  refine window C.c _ (fun i => ?_) _ _
  pointwise [val_main_call2_call0_v0, val_main_call2_call0_cst]

theorem v36 : val_main_v36 (F := Ideal) xX xG xW xB xC = up2 (N.df X C) := by
  funext j
  pointwise [val_main_v36, val_main_call3_v1, val_main_call3_v0, v35, v31_1, Inp.df]
  exact congrArg _ (by ring)

/-- The gradient in the logits' bias. -/
theorem v40 : val_main_v40 (F := Ideal) xX xG xW xB xC = up2 fun (_ : Fin 1) h => ∑ t, N.df X C t h := by
  funext j
  pointwise [val_main_v40, val_main_v39, val_main_cst_6, val_main_v38, val_main_v37, val_main_cst_5, v36]

/-- The gradient in the product's rows. -/
theorem v51 : val_main_v51 (F := Ideal) xX xG xW xB xQ xK xV xC xS = up2 (N.dz X C) := by
  funext j
  pointwise [val_main_v51, val_main_v50, val_main_cst_10, val_main_v49, val_main_v48, val_main_v47, val_main_cst_9, val_main_v46,
    val_main_v45, val_main_v44, val_main_cst_8, val_main_v43, val_main_v42, val_main_v41, val_main_cst_7, val_main_v34,
    val_main_cst_4, v36, Inp.dz, Inp.row, Inp.hd, Nat.sub_sub, Nat.reduceAdd]
  have hj : (j 1).val < 2056 := (j 1).isLt
  split_ifs <;> first | omega | simp only [zero_add, add_zero]

theorem v75 : val_main_v75 (F := Ideal) xX xG xW xB xQ xK xV xC xS = up2 (N.dz X C) := v51 N X C

theorem v52 : val_main_v52 (F := Ideal) xX xG xW xB xQ xK xV xC xS = up2 fun t => N.dn (N.dz X C t) := by
  funext j
  pointwise [val_main_v52, v51, dot_S8192x2056_S1024x2056_S8192x1024_1_1_0_0_n_n, Inp.dn]

/-- The gradient in the norm's gain. -/
theorem v74 : val_main_v74 (F := Ideal) xX xG xW xB xQ xK xV xC xS
    = up2 fun (_ : Fin 1) j => ∑ t, N.dg (X t) (N.dz X C t) j := by
  funext j
  pointwise [val_main_v74, val_main_v58, val_main_cst_12, val_main_v55, val_main_v54, val_main_cst_11, val_main_v53, v14, v52, Inp.dg]
  exact congrArg _ (Finset.sum_congr rfl fun t _ => mul_comm _ _)

theorem v57 : val_main_v57 (F := Ideal) xX xG xW xB xQ xK xV xC xS = up2 fun t j => N.dn (N.dz X C t) j * N.g j := by
  funext j
  pointwise [val_main_v57, val_main_v56, v15, v52]

/-- The gradient in the stream. -/
theorem v73 : val_main_v73 (F := Ideal) xX xG xW xB xD xQ xK xV xC xS = up2 fun t => N.dx (X t) (N.dz X C t) (C.d t) := by
  funext j
  pointwise [val_main_v73, val_main_v72, val_main_v71, val_main_v70, val_main_v69, val_main_v68, val_main_cst_15, val_main_v67,
    val_main_v66, val_main_cst_14, val_main_v65, val_main_v64, val_main_v63, val_main_v62, val_main_v61, val_main_v60,
    val_main_cst_13, val_main_v59, v9, v12, v57, Inp.dx]
  exact congrArg _ (by rw [← rmsBack_lines (N.dn (N.dz X C (j 0))) (X (j 0)) N.g (j 1)]; ring)

/-! ### The results of arrays that are those -/

section
variable {a0 a4 : S8192x1024.Idx → EReal} {a1 : S1x1024.Idx → EReal} {a2 : S1024x2056.Idx → EReal} {a3 : S1x8.Idx → EReal}
  {a5 a6 a7 : S8192x8x64.Idx → EReal} {a8 : S8192x8.Idx → EReal} {a9 : S8192x512.Idx → EReal}
  (h0 : a0 = up2 X) (h1 : a1 = up2 fun _ => N.g) (h2 : a2 = up2 N.w) (h3 : a3 = up2 fun _ => N.b) (h4 : a4 = up2 C.d)
  (h5 : a5 = up3 C.q) (h6 : a6 = up3 C.k) (h7 : a7 = up3 C.v) (h8 : a8 = up2 C.c) (h9 : a9 = up2 C.s)
include h0 h1 h2 h3 h8
theorem r40 : val_main_v40 (F := Ideal) a0 a1 a2 a3 a8 = up2 fun (_ : Fin 1) h => ∑ t, N.df X C t h := by
  rw [h0, h1, h2, h3, h8]; exact v40 N X C
include h5 h6 h7 h9
theorem r75 : val_main_v75 (F := Ideal) a0 a1 a2 a3 a5 a6 a7 a8 a9 = up2 (N.dz X C) := by
  rw [h0, h1, h2, h3, h5, h6, h7, h8, h9]; exact v75 N X C
theorem r74 : val_main_v74 (F := Ideal) a0 a1 a2 a3 a5 a6 a7 a8 a9 = up2 fun (_ : Fin 1) j => ∑ t, N.dg (X t) (N.dz X C t) j := by
  rw [h0, h1, h2, h3, h5, h6, h7, h8, h9]; exact v74 N X C
include h4
theorem r73 : val_main_v73 (F := Ideal) a0 a1 a2 a3 a4 a5 a6 a7 a8 a9 = up2 fun t => N.dx (X t) (N.dz X C t) (C.d t) := by
  rw [h0, h1, h2, h3, h4, h5, h6, h7, h8, h9]; exact v73 N X C
end

/-- The reference's run, its results stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => h c) (Cert.Reference5Ideal.Value.run m ρ)

end InRef
end
-- ==== Proof.InHost.lean ====
/-
  What the host lines before the mixer input's kernel leave in its operands, for finite arguments: the matrix with its columns in
  the other order, the heads' cotangents with zeros after each, the decay's with zeros after the eight, and the forget logits.
-/
module

public import proofs.«01_k».proof.Proof.InMath
public import proofs.«01_k».proof.Proof.AttnMath
public import proofs.«01_k».proof.Proof.Gen.Kernel5Ideal.Frame
public import Idealize.ShloMosaic.Lib.StableHlo.RunRead

@[expose] public section

set_option maxRecDepth 16384

noncomputable section

namespace InHost

open Idealize.ShloMosaic Idealize.ShloMosaic.TcCoe Idealize.SL.Sem Cert.Kernel5Ideal Cert.Kernel5Ideal.Gen Lift

/-- A head's columns and as many zeros. -/
def lanes (x : Fin 64 → ℝ) (c : Fin 128) : ℝ := if h : c.val < 64 then x ⟨c.val, h⟩ else 0
/-- Eight numbers and zeros after them. -/
def wide (x : Fin 8 → ℝ) (l : Fin 128) : ℝ := if h : l.val < 8 then x ⟨l.val, h⟩ else 0

variable (V : Valuation τ sig (Elt Ideal))

/-! ### The matrix -/

theorem cat5 {x1 y1 x3 y3 : S1024x512.Idx → EReal} {x2 y2 : S1024x1024.Idx → EReal} {x4 y4 : S1024x8.Idx → EReal}
    {x5 y5 : S1024x120.Idx → EReal} (h1 : x1 = y1) (h2 : x2 = y2) (h3 : x3 = y3) (h4 : x4 = y4) (h5 : x5 = y5) (h) :
    concatenate S1024x2176 1 [⟨S1024x512, x1⟩, ⟨S1024x1024, x2⟩, ⟨S1024x512, x3⟩, ⟨S1024x8, x4⟩, ⟨S1024x120, x5⟩] h
      = concatenate S1024x2176 1 [⟨S1024x512, y1⟩, ⟨S1024x1024, y2⟩, ⟨S1024x512, y3⟩, ⟨S1024x8, y4⟩, ⟨S1024x120, y5⟩] h := by
  subst h1 h2 h3 h4 h5; rfl

section
variable {w : Fin 1024 → Fin 2056 → ℝ} (h : V (Proc.devRef .tc main_arg2) = (up2 w : S1024x2056.Idx → EReal))
include h
theorem v3 : StableHlo.upto hostOps0 V 10 (Proc.devRef .tc main_v3)
    = (up2 fun k c => w k ⟨c.val, by omega⟩ * (1 / 8) : S1024x512.Idx → EReal) := by
  after_reads_simp
  rw [h]
  funext j
  pointwise []
theorem v4 : StableHlo.upto hostOps0 V 10 (Proc.devRef .tc main_v4)
    = (up2 fun k c => w k ⟨512 + c.val, by omega⟩ : S1024x1024.Idx → EReal) := by
  after_reads_simp
  rw [h]
  funext j
  pointwise []
theorem v5 : StableHlo.upto hostOps0 V 10 (Proc.devRef .tc main_v5)
    = (up2 fun k c => w k ⟨1544 + c.val, by omega⟩ : S1024x512.Idx → EReal) := by
  after_reads_simp
  rw [h]
  funext j
  pointwise []
theorem v6 : StableHlo.upto hostOps0 V 10 (Proc.devRef .tc main_v6)
    = (up2 fun k c => w k ⟨1536 + c.val, by omega⟩ : S1024x8.Idx → EReal) := by
  after_reads_simp
  rw [h]
  funext j
  pointwise []
omit h in
theorem v7 : StableHlo.upto hostOps0 V 10 (Proc.devRef .tc main_v7) = (up2 fun _ _ => 0 : S1024x120.Idx → EReal) := by
  after_reads_simp
  funext j
  pointwise []
  exact EReal.coe_zero.symm
theorem v8 : StableHlo.after hostOps0 V (Proc.devRef .tc main_v8) = (up2 fun k => Inp.wr (w k) : S1024x2176.Idx → EReal) := by
  after_reads_simp
  refine (cat5 (v3 V h) (v4 V h) (v5 V h) (v6 V h) (v7 V) _).trans ?_
  funext j
  pointwise [Inp.wr]
  split_ifs <;> rfl
end

/-! ### The cotangents -/

theorem c0 : StableHlo.after hostOps0 V (Proc.devRef .tc main_c) = (fun _ => 0#32 : S_.Idx → BitVec 32) := by
  after_reads_simp
  funext j
  pointwise []
theorem c6 : StableHlo.after hostOps0_2 V (Proc.devRef .tc main_c_6) = (fun _ => 0#32 : S_.Idx → BitVec 32) := by
  after_reads_simp
  funext j
  pointwise []
theorem zero_word : (FloatOps.sitofp (F := Ideal) .f32 (0#32 : BitVec 32) : EReal) = 0 := by
  show (((0#32 : BitVec 32).toInt : ℝ) : EReal) = 0
  simp

theorem v9 {b : Fin 8 → ℝ} (h : V (Proc.devRef .tc main_arg3) = (up2 (fun (_ : Fin 1) => b) : S1x8.Idx → EReal))
    (hc : V (Proc.devRef .tc main_c) = (fun _ => 0#32 : S_.Idx → BitVec 32)) :
    StableHlo.after hostOps0_1 V (Proc.devRef .tc main_v9) = (up2 (fun (_ : Fin 1) => wide b) : S1x128.Idx → EReal) := by
  after_reads_simp
  simp only [StableHlo.TRef.ofBuf_toBuf, StableHlo.TRef.ofBuf, StableHlo.TRef.toBuf, cast_eq, h, hc]
  funext j
  pointwise [wide, zero_word]
  split_ifs <;> rfl
theorem v34 {C : Fin 8192 → Fin 8 → ℝ} (h : V (Proc.devRef .tc main_arg8) = (up2 C : S8192x8.Idx → EReal))
    (hc : V (Proc.devRef .tc main_c_6) = (fun _ => 0#32 : S_.Idx → BitVec 32)) :
    StableHlo.after hostOps0_3 V (Proc.devRef .tc main_v34) = (up2 (fun t => wide (C t)) : S8192x128.Idx → EReal) := by
  after_reads_simp
  simp only [StableHlo.TRef.ofBuf_toBuf, StableHlo.TRef.ofBuf, StableHlo.TRef.toBuf, cast_eq, h, hc]
  funext j
  pointwise [wide, zero_word]
  split_ifs <;> rfl
theorem cat2 {x y : S8x8192x64.Idx → EReal} {K : Fin 8 → Fin 8192 → Fin 64 → ℝ} (hx : x = up3 K) (hy : y = up3 fun _ _ _ => 0) (h) :
    concatenate S8x8192x128 2 [⟨S8x8192x64, x⟩, ⟨S8x8192x64, y⟩] h = (up3 (fun h t => lanes (K h t)) : S8x8192x128.Idx → EReal) := by
  subst hx hy
  funext j
  pointwise [lanes]
  split_ifs <;> rfl
theorem v37 {K : Fin 8192 → Fin 8 → Fin 64 → ℝ} (h : V (Proc.devRef .tc main_arg6) = (up3 K : S8192x8x64.Idx → EReal)) :
    StableHlo.after hostOps0_4 V (Proc.devRef .tc main_v37) = (up3 (fun h t => lanes (K t h)) : S8x8192x128.Idx → EReal) := by
  have e1 : StableHlo.upto hostOps0_4 V 3 (Proc.devRef .tc main_v35) = (up3 (fun h t => K t h) : S8x8192x64.Idx → EReal) := by
    after_reads_simp
    rw [h]
    funext j
    pointwise []
  have e2 : StableHlo.upto hostOps0_4 V 3 (Proc.devRef .tc main_v36) = (up3 (fun _ _ _ => 0) : S8x8192x64.Idx → EReal) := by
    after_reads_simp
    funext j
    pointwise []
    exact EReal.coe_zero.symm
  after_reads_simp
  exact cat2 e1 e2 _
theorem v40 {K : Fin 8192 → Fin 8 → Fin 64 → ℝ} (h : V (Proc.devRef .tc main_arg7) = (up3 K : S8192x8x64.Idx → EReal)) :
    StableHlo.after hostOps0_4 V (Proc.devRef .tc main_v40) = (up3 (fun h t => lanes (K t h)) : S8x8192x128.Idx → EReal) := by
  have e1 : StableHlo.upto hostOps0_4 V 7 (Proc.devRef .tc main_v38) = (up3 (fun h t => K t h) : S8x8192x64.Idx → EReal) := by
    after_reads_simp
    rw [h]
    funext j
    pointwise []
  have e2 : StableHlo.upto hostOps0_4 V 7 (Proc.devRef .tc main_v39) = (up3 (fun _ _ _ => 0) : S8x8192x64.Idx → EReal) := by
    after_reads_simp
    funext j
    pointwise []
    exact EReal.coe_zero.symm
  after_reads_simp
  exact cat2 e1 e2 _
theorem v33 {K : Fin 8192 → Fin 8 → Fin 64 → ℝ} (h : V (Proc.devRef .tc main_arg5) = (up3 K : S8192x8x64.Idx → EReal)) :
    StableHlo.after hostOps0_2 V (Proc.devRef .tc main_v33)
      = (up4 (fun h p c r => lanes (fun l => K ⟨p.val * 512 + r.val, by omega⟩ h l * 8) c) : S8x16x128x512.Idx → EReal) := by
  have e1 : StableHlo.upto hostOps0_2 V 26 (Proc.devRef .tc main_v29) = (up3 (fun h t l => K t h l * 8) : S8x8192x64.Idx → EReal) := by
    after_reads_simp
    rw [h]
    funext j
    pointwise []
  have e2 : StableHlo.upto hostOps0_2 V 26 (Proc.devRef .tc main_v30) = (up3 (fun _ _ _ => 0) : S8x8192x64.Idx → EReal) := by
    after_reads_simp
    funext j
    pointwise []
    exact EReal.coe_zero.symm
  after_reads_simp
  rw [cat2 e1 e2]
  funext j
  pointwise []

/-! ### The forget logits -/

theorem v26 {N : Inp} {X : Fin 8192 → Fin 1024 → ℝ} (h0 : V (Proc.devRef .tc main_arg0) = (up2 X : S8192x1024.Idx → EReal))
    (h1 : V (Proc.devRef .tc main_arg1) = (up2 (fun (_ : Fin 1) => N.g) : S1x1024.Idx → EReal))
    (h8 : V (Proc.devRef .tc main_v8) = (up2 fun k => Inp.wr (N.w k) : S1024x2176.Idx → EReal))
    (h9 : V (Proc.devRef .tc main_v9) = (up2 (fun (_ : Fin 1) => wide N.b) : S1x128.Idx → EReal)) :
    StableHlo.after hostOps0_2 V (Proc.devRef .tc main_v26)
      = (up2 (fun t l => ∑ k, N.n (X t) k * Inp.wr (N.w k) ⟨2048 + l.val, by omega⟩ + wide N.b l) : S8192x128.Idx → EReal) := by
  after_reads_simp
  rw [h0, h1, h8, h9]
  funext j
  pointwise [dot_S8192x1024_S1024x2176_S8192x2176_1_0_0_1_n_n, Inp.n]

/-! ### The whole prefix -/

variable (N : Inp) (X : Fin 8192 → Fin 1024 → ℝ) (C : Cot)

/-- The arguments hold the reals. -/
structure Given : Prop where
  h0 : V (Proc.devRef .tc main_arg0) = (up2 X : S8192x1024.Idx → EReal)
  h1 : V (Proc.devRef .tc main_arg1) = (up2 (fun (_ : Fin 1) => N.g) : S1x1024.Idx → EReal)
  h2 : V (Proc.devRef .tc main_arg2) = (up2 N.w : S1024x2056.Idx → EReal)
  h3 : V (Proc.devRef .tc main_arg3) = (up2 (fun (_ : Fin 1) => N.b) : S1x8.Idx → EReal)
  h4 : V (Proc.devRef .tc main_arg4) = (up2 C.d : S8192x1024.Idx → EReal)
  h5 : V (Proc.devRef .tc main_arg5) = (up3 C.q : S8192x8x64.Idx → EReal)
  h6 : V (Proc.devRef .tc main_arg6) = (up3 C.k : S8192x8x64.Idx → EReal)
  h7 : V (Proc.devRef .tc main_arg7) = (up3 C.v : S8192x8x64.Idx → EReal)
  h8 : V (Proc.devRef .tc main_arg8) = (up2 C.c : S8192x8.Idx → EReal)
  h9 : V (Proc.devRef .tc main_arg9) = (up2 C.s : S8192x512.Idx → EReal)

variable (m : (ℓ : Loc nD τ sig) → Buf (Elt Ideal) ℓ) (c : Dev nD)

/-- The region finds them in its input arrays. -/
structure Finds : Prop where
  d : Gen.V m c main_arg4 = (up2 C.d : S8192x1024.Idx → EReal)
  x : Gen.V m c main_arg0 = (up2 X : S8192x1024.Idx → EReal)
  g : Gen.V m c main_arg1 = (up2 (fun (_ : Fin 1) => N.g) : S1x1024.Idx → EReal)
  w : Gen.V m c main_v8 = (up2 fun k => Inp.wr (N.w k) : S1024x2176.Idx → EReal)
  q : Gen.V m c main_v33
    = (up4 (fun h p c r => lanes (fun l => C.q ⟨p.val * 512 + r.val, by omega⟩ h l * 8) c) : S8x16x128x512.Idx → EReal)
  k : Gen.V m c main_v37 = (up3 (fun h t => lanes (C.k t h)) : S8x8192x128.Idx → EReal)
  v : Gen.V m c main_v40 = (up3 (fun h t => lanes (C.v t h)) : S8x8192x128.Idx → EReal)
  s : Gen.V m c main_arg9 = (up2 C.s : S8192x512.Idx → EReal)
  dc : Gen.V m c main_v34 = (up2 (fun t => wide (C.c t)) : S8192x128.Idx → EReal)
  f : Gen.V m c main_v26
    = (up2 (fun t l => ∑ k, N.n (X t) k * Inp.wr (N.w k) ⟨2048 + l.val, by omega⟩ + wide N.b l) : S8192x128.Idx → EReal)

variable {N X C m c}

theorem prefix_eq (M : Valuation τ sig (Elt Ideal)) :
    StableHlo.after (List.flatten [hostOps0, hostOps0_1, hostOps0_2, hostOps0_3, hostOps0_4]) M
      = StableHlo.after hostOps0_4 (StableHlo.after hostOps0_3 (StableHlo.after hostOps0_2
          (StableHlo.after hostOps0_1 (StableHlo.after hostOps0 M)))) := by
  have e : (List.flatten [hostOps0, hostOps0_1, hostOps0_2, hostOps0_3, hostOps0_4] : List (HloOp τ sig (Elt Ideal)))
      = hostOps0 ++ (hostOps0_1 ++ (hostOps0_2 ++ (hostOps0_3 ++ hostOps0_4))) := rfl
  rw [e, StableHlo.after_append, StableHlo.after_append, StableHlo.after_append, StableHlo.after_append]

/-! What later lines leave alone. -/

theorem keep34 (M : Valuation τ sig (Elt Ideal)) {b} (hb : b = Proc.devRef .tc main_v8 ∨ b = Proc.devRef .tc main_v26
      ∨ b = Proc.devRef .tc main_v33 ∨ b = Proc.devRef .tc main_arg6 ∨ b = Proc.devRef .tc main_arg7) :
    StableHlo.after hostOps0_4 (StableHlo.after hostOps0_3 M) b = M b := by
  rcases hb with rfl | rfl | rfl | rfl | rfl <;> after_reads_simp
theorem keep3 (M : Valuation τ sig (Elt Ideal)) {b} (hb : b = Proc.devRef .tc main_arg6 ∨ b = Proc.devRef .tc main_arg7) :
    StableHlo.after hostOps0_3 M b = M b := by
  rcases hb with rfl | rfl <;> after_reads_simp
theorem keep4 (M : Valuation τ sig (Elt Ideal)) :
    StableHlo.after hostOps0_4 M (Proc.devRef .tc main_v34) = M (Proc.devRef .tc main_v34) := by
  after_reads_simp
theorem keep2 (M : Valuation τ sig (Elt Ideal)) {b} (hb : b = Proc.devRef .tc main_v8 ∨ b = Proc.devRef .tc main_arg6
      ∨ b = Proc.devRef .tc main_arg7 ∨ b = Proc.devRef .tc main_arg8) :
    StableHlo.after hostOps0_2 M b = M b := by
  rcases hb with rfl | rfl | rfl | rfl <;> after_reads_simp
theorem keep1 (M : Valuation τ sig (Elt Ideal)) {b} (hb : b = Proc.devRef .tc main_v8 ∨ b = Proc.devRef .tc main_arg0
      ∨ b = Proc.devRef .tc main_arg1 ∨ b = Proc.devRef .tc main_arg5 ∨ b = Proc.devRef .tc main_arg6
      ∨ b = Proc.devRef .tc main_arg7 ∨ b = Proc.devRef .tc main_arg8) :
    StableHlo.after hostOps0_1 M b = M b := by
  rcases hb with rfl | rfl | rfl | rfl | rfl | rfl | rfl <;> after_reads_simp
theorem keep0 (M : Valuation τ sig (Elt Ideal)) {b} (hb : b = Proc.devRef .tc main_arg0 ∨ b = Proc.devRef .tc main_arg1
      ∨ b = Proc.devRef .tc main_arg3 ∨ b = Proc.devRef .tc main_arg5 ∨ b = Proc.devRef .tc main_arg6
      ∨ b = Proc.devRef .tc main_arg7 ∨ b = Proc.devRef .tc main_arg8) :
    StableHlo.after hostOps0 M b = M b := by
  rcases hb with rfl | rfl | rfl | rfl | rfl | rfl | rfl <;> after_reads_simp

theorem finds (H : Given (fun b => m (c, b)) N X C) : Finds N X C m c where
  d := (V_main_arg4 m c).trans H.h4
  x := (V_main_arg0 m c).trans H.h0
  g := (V_main_arg1 m c).trans H.h1
  w := by
    show StableHlo.after (List.flatten [hostOps0, hostOps0_1, hostOps0_2, hostOps0_3, hostOps0_4]) _ (Proc.devRef .tc main_v8) = _
    rw [prefix_eq, keep34 _ (by simp), keep2 _ (by simp), keep1 _ (by simp)]
    exact v8 _ H.h2
  q := by
    show StableHlo.after (List.flatten [hostOps0, hostOps0_1, hostOps0_2, hostOps0_3, hostOps0_4]) _ (Proc.devRef .tc main_v33) = _
    rw [prefix_eq, keep34 _ (by simp)]
    exact v33 _ (by rw [keep1 _ (by simp), keep0 _ (by simp)]; exact H.h5)
  k := by
    show StableHlo.after (List.flatten [hostOps0, hostOps0_1, hostOps0_2, hostOps0_3, hostOps0_4]) _ (Proc.devRef .tc main_v37) = _
    rw [prefix_eq]
    exact v37 _ (by rw [keep3 _ (by simp), keep2 _ (by simp), keep1 _ (by simp), keep0 _ (by simp)]; exact H.h6)
  v := by
    show StableHlo.after (List.flatten [hostOps0, hostOps0_1, hostOps0_2, hostOps0_3, hostOps0_4]) _ (Proc.devRef .tc main_v40) = _
    rw [prefix_eq]
    exact v40 _ (by rw [keep3 _ (by simp), keep2 _ (by simp), keep1 _ (by simp), keep0 _ (by simp)]; exact H.h7)
  s := (V_main_arg9 m c).trans H.h9
  dc := by
    show StableHlo.after (List.flatten [hostOps0, hostOps0_1, hostOps0_2, hostOps0_3, hostOps0_4]) _ (Proc.devRef .tc main_v34) = _
    rw [prefix_eq, keep4]
    exact v34 _ (by rw [keep2 _ (by simp), keep1 _ (by simp), keep0 _ (by simp)]; exact H.h8) (c6 _)
  f := by
    show StableHlo.after (List.flatten [hostOps0, hostOps0_1, hostOps0_2, hostOps0_3, hostOps0_4]) _ (Proc.devRef .tc main_v26) = _
    rw [prefix_eq, keep34 _ (by simp)]
    exact v26 _ (by rw [keep1 _ (by simp), keep0 _ (by simp)]; exact H.h0) (by rw [keep1 _ (by simp), keep0 _ (by simp)]; exact H.h1)
      (by rw [keep1 _ (by simp)]; exact v8 _ H.h2) (v9 _ (by rw [keep0 _ (by simp)]; exact H.h3) (c0 _))

end InHost
end
-- ==== Proof.InMove.lean ====
/-
  How the mixer input's kernel puts heads side by side: a product with a mask of ones moves a head's columns, whether the head
  lies along the rows or across them.
-/
module

public import proofs.«01_k».proof.Proof.InHost
public import proofs.«01_k».proof.Proof.MixMove

@[expose] public section

set_option maxRecDepth 16384

noncomputable section

namespace InMove

open Idealize.ShloMosaic Cert.Kernel5Ideal Cert.Kernel5Ideal.Gen Lift
open MixMove (pick pick_sum mask_iff bit_eq trunc2 add2)
open InHost (lanes wide)

/-- The mask, from the counts of its columns and rows. -/
abbrev mask (d s e : ℕ) : FVec Ideal S128x128 .bf16 :=
  truncf (F := Ideal) .bf16 (sitofp (F := Ideal) .f32 (extui 32 (andi (andi (cmpi .eq
    (subi (iota .tc S128x128 32 [1] iota_S128x128_d1_w32) (broadcast S128x128 (BitVec.ofNat 32 d)))
    (subi (iota .tc S128x128 32 [0] iota_S128x128_d0_w32) (broadcast S128x128 (BitVec.ofNat 32 s))))
    (cmpi .sge (iota .tc S128x128 32 [0] iota_S128x128_d0_w32) (broadcast S128x128 (BitVec.ofNat 32 s))))
    (cmpi .slt (iota .tc S128x128 32 [0] iota_S128x128_d0_w32) (broadcast S128x128 (BitVec.ofNat 32 e)))) natLt_1_32)) bitsLt_bf16_f32

theorem mask_eq {d s e : ℕ} (hd : d < 128) (hs : s < 128) (he : e ≤ 128) :
    mask d s e = (up2 fun k c => if d ≤ c.val ∧ c.val - d + s < e ∧ k.val = c.val - d + s then 1 else 0 : S128x128.Idx → EReal) := by
  funext j
  pointwise [mask]
  refine bit_eq _ _ (Iff.trans ?_ (mask_iff hd hs he (j 0) (j 1)))
  generalize BitVec.ofNat 32 (j 0).val = x
  generalize BitVec.ofNat 32 (j 1).val = y
  have hand : ∀ a b : BitVec 1, IntOp.andi a b = 1#1 ↔ a = 1#1 ∧ b = 1#1 := by decide
  have hbit : ∀ b : Bool, BitVec.ofBool b = 1#1 ↔ b = true := by decide
  rw [hand, hand]
  simp only [IntOp.cmpi, IntOp.subi, hbit, beq_iff_eq]

theorem moves (X : Fin 512 → Fin 128 → ℝ) (d s e : ℕ) (hd : d < 128) (hs : s < 128) (he : e ≤ 128) :
    matmul (F := Ideal) (sl := S512x128) (φ₁ := .bf16) (φ₂ := .bf16) dot_S512x128_S128x128_S512x128_1_0_0_1_n_n none
      (up2 X : S512x128.Idx → EReal) (mask d s e) (constant (F := Ideal) S512x128 .f32 0x00000000#32)
    = (up2 fun t => pick d s e (X t) : S512x128.Idx → EReal) := by
  rw [mask_eq hd hs he]
  funext j
  pointwise [dot_S512x128_S128x128_S512x128_1_0_0_1_n_n]
  exact congrArg _ (pick_sum he (X (j 0)) (j 1))
theorem movesT (X : Fin 128 → Fin 512 → ℝ) (d s e : ℕ) (hd : d < 128) (hs : s < 128) (he : e ≤ 128) :
    matmul (F := Ideal) (sl := S128x512) (φ₁ := .bf16) (φ₂ := .bf16) dot_S128x512_S128x128_S512x128_0_0_1_1_n_n none
      (up2 X : S128x512.Idx → EReal) (mask d s e) (constant (F := Ideal) S512x128 .f32 0x00000000#32)
    = (up2 fun t => pick d s e (fun l => X l t) : S512x128.Idx → EReal) := by
  rw [mask_eq hd hs he]
  funext j
  pointwise [dot_S128x512_S128x128_S512x128_0_0_1_1_n_n]
  exact congrArg _ (pick_sum he (fun l => X l (j 0)) (j 1))

/-- The two counts, and the same from the words the kernel makes the mask of. -/
def rows : IVec S128x128 32 := iota .tc S128x128 32 [0] iota_S128x128_d0_w32
def cols : IVec S128x128 32 := iota .tc S128x128 32 [1] iota_S128x128_d1_w32
theorem rows_eq : iota .tc S128x128 32 [0] iota_S128x128_d0_w32 = rows := rfl
theorem cols_eq : iota .tc S128x128 32 [1] iota_S128x128_d1_w32 = cols := rfl
theorem rows_two : iota .tc S128x128 32 (List.cons (α := Fin 2) (0 : Fin S128x128.rank) (List.nil (α := Fin 2))) iota_S128x128_d0_w32 = rows := rfl
theorem cols_two : iota .tc S128x128 32 (List.cons (α := Fin 2) (1 : Fin S128x128.rank) (List.nil (α := Fin 2))) iota_S128x128_d1_w32 = cols := rfl
theorem move (X : Fin 512 → Fin 128 → ℝ) (d s e : BitVec 32) (hd : d.toNat < 128) (hs : s.toNat < 128) (he : e.toNat ≤ 128) :
    matmul (F := Ideal) (sl := S512x128) (φ₁ := .bf16) (φ₂ := .bf16) dot_S512x128_S128x128_S512x128_1_0_0_1_n_n none
      (up2 X : S512x128.Idx → EReal)
      (truncf (F := Ideal) .bf16 (sitofp (F := Ideal) .f32 (extui 32 (andi (andi (cmpi .eq
        (subi cols (broadcast S128x128 d)) (subi rows (broadcast S128x128 s)))
        (cmpi .sge rows (broadcast S128x128 s))) (cmpi .slt rows (broadcast S128x128 e))) natLt_1_32)) bitsLt_bf16_f32)
      (constant (F := Ideal) S512x128 .f32 0x00000000#32)
    = (up2 fun t => pick d.toNat s.toNat e.toNat (X t) : S512x128.Idx → EReal) := by
  have h := moves X d.toNat s.toNat e.toNat hd hs he
  simp only [mask, BitVec.ofNat_toNat, BitVec.setWidth_eq] at h
  exact h
theorem moveT (X : Fin 128 → Fin 512 → ℝ) (d s e : BitVec 32) (hd : d.toNat < 128) (hs : s.toNat < 128) (he : e.toNat ≤ 128) :
    matmul (F := Ideal) (sl := S128x512) (φ₁ := .bf16) (φ₂ := .bf16) dot_S128x512_S128x128_S512x128_0_0_1_1_n_n none
      (up2 X : S128x512.Idx → EReal)
      (truncf (F := Ideal) .bf16 (sitofp (F := Ideal) .f32 (extui 32 (andi (andi (cmpi .eq
        (subi cols (broadcast S128x128 d)) (subi rows (broadcast S128x128 s)))
        (cmpi .sge rows (broadcast S128x128 s))) (cmpi .slt rows (broadcast S128x128 e))) natLt_1_32)) bitsLt_bf16_f32)
      (constant (F := Ideal) S512x128 .f32 0x00000000#32)
    = (up2 fun t => pick d.toNat s.toNat e.toNat (fun l => X l t) : S512x128.Idx → EReal) := by
  have h := movesT X d.toNat s.toNat e.toNat hd hs he
  simp only [mask, BitVec.ofNat_toNat, BitVec.setWidth_eq] at h
  exact h

/-! ### Between the products -/

theorem drop3 (A : Fin 512 → Fin 128 → ℝ) (h) :
    shapeCast S512x128 (up3 (fun _ : Fin 1 => A) : S1x512x128.Idx → EReal) h = (up2 A : S512x128.Idx → EReal) := by
  funext j
  pointwise []
theorem drop4 (A : Fin 128 → Fin 512 → ℝ) (h) :
    shapeCast S128x512 (up4 (fun _ _ : Fin 1 => A) : S1x1x128x512.Idx → EReal) h = (up2 A : S128x512.Idx → EReal) := by
  funext j
  pointwise []

theorem load_head (X : Fin 8 → Fin 512 → Fin 128 → ℝ) (n : ℕ) (hn : n < 8) (h) :
    View.ld (Val := Elt Ideal) (e' := .f32) (up3 X : Vec Ideal S8x512x128 .f32) (Rect.unit (s := S8x512x128) ![n, 0, 0] ![1, 512, 128] h)
      = (up3 (fun _ : Fin 1 => X ⟨n, hn⟩) : S1x512x128.Idx → EReal) := by
  funext j
  exact (View.ld_unit_apply_of (Val := Elt Ideal) (e := .f32) (up3 X : Vec Ideal S8x512x128 .f32) _ _ _ _
    (ix3 ⟨n, hn⟩ (j 1) (j 2)) (by have := (j 0).isLt; intro a; fin_cases a <;> simp <;> first | rfl | exact Fin.val_eq_zero (j 0))).trans rfl
theorem load_headT (X : Fin 8 → Fin 128 → Fin 512 → ℝ) (n : ℕ) (hn : n < 8) (h) :
    View.ld (Val := Elt Ideal) (e' := .f32) (up4 (fun h (_ : Fin 1) => X h) : Vec Ideal S8x1x128x512 .f32)
        (Rect.unit (s := S8x1x128x512) ![n, 0, 0, 0] ![1, 1, 128, 512] h)
      = (up4 (fun _ _ : Fin 1 => X ⟨n, hn⟩) : S1x1x128x512.Idx → EReal) := by
  funext j
  exact (View.ld_unit_apply_of (Val := Elt Ideal) (e := .f32) (up4 (fun h (_ : Fin 1) => X h) : Vec Ideal S8x1x128x512 .f32) _ _ _ _
    (ix4 ⟨n, hn⟩ (j 1) (j 2) (j 3)) (by have := (j 0).isLt; intro a; fin_cases a <;> simp <;> first | rfl | exact Fin.val_eq_zero (j 0))).trans rfl

/-- Two heads side by side, and four such strips. -/
def strip (A B : Fin 512 → Fin 128 → ℝ) (t : Fin 512) (c : Fin 128) : ℝ := pick 0 0 64 (A t) c + pick 64 0 64 (B t) c
def cat (A B C D : Fin 512 → Fin 128 → ℝ) (t j : Fin 512) : ℝ :=
  if h : j.val < 128 then A t ⟨j.val, h⟩
  else if h : j.val - 128 < 128 then B t ⟨j.val - 128, h⟩
  else if h : j.val - 128 - 128 < 128 then C t ⟨j.val - 128 - 128, h⟩
  else D t ⟨j.val - 128 - 128 - 128, by omega⟩
theorem cat_eq (A B C D : Fin 512 → Fin 128 → ℝ) (h) :
    concatenate S512x512 1 [⟨S512x128, (up2 A : S512x128.Idx → EReal)⟩, ⟨S512x128, (up2 B : S512x128.Idx → EReal)⟩,
      ⟨S512x128, (up2 C : S512x128.Idx → EReal)⟩, ⟨S512x128, (up2 D : S512x128.Idx → EReal)⟩] h
      = (up2 (cat A B C D) : S512x512.Idx → EReal) := by
  funext j
  pointwise []
  unfold cat
  split_ifs <;> rfl

theorem lanes_lt (x : Fin 64 → ℝ) (k : Fin 128) (l : Fin 64) (hk : k.val = l.val) : lanes x k = x l := by
  unfold lanes
  rw [dif_pos (hk ▸ l.isLt)]
  exact congrArg x (Fin.ext hk)
theorem pick_low (x : Fin 64 → ℝ) (c : Fin 128) (hc : c.val < 64) : pick 0 0 64 (lanes x) c = x ⟨c.val, hc⟩ := by
  unfold pick
  rw [if_pos (by omega)]
  exact lanes_lt x _ ⟨c.val, hc⟩ (by simp)
theorem pick_low_zero (x : Fin 128 → ℝ) (c : Fin 128) (hc : ¬ c.val < 64) : pick 0 0 64 x c = 0 := if_neg (by omega)
theorem pick_high (x : Fin 64 → ℝ) (c : Fin 128) (hc : ¬ c.val < 64) : pick 64 0 64 (lanes x) c = x ⟨c.val - 64, by omega⟩ := by
  unfold pick
  rw [if_pos (by omega)]
  exact lanes_lt x _ ⟨c.val - 64, by omega⟩ (by simp; omega)
theorem pick_high_zero (x : Fin 128 → ℝ) (c : Fin 128) (hc : c.val < 64) : pick 64 0 64 x c = 0 := if_neg (by omega)

theorem strip_eq (x : Fin 512 → Fin 8 → Fin 64 → ℝ) (p q : Fin 8) (hq : q.val = p.val + 1) (t : Fin 512) (c : Fin 128) (j : Fin 512)
    (hj : j.val = p.val * 64 + c.val) : strip (fun t => lanes (x t p)) (fun t => lanes (x t q)) t c = Inp.hd (x t) j := by
  unfold strip Inp.hd
  by_cases h : c.val < 64
  · rw [pick_low _ c h, pick_high_zero _ c h, add_zero]
    exact congrArg₂ (x t) (Fin.ext (by simp only; omega)) (Fin.ext (by simp only; omega))
  · rw [pick_low_zero _ c h, pick_high _ c h, zero_add]
    exact congrArg₂ (x t) (Fin.ext (by simp only; omega)) (Fin.ext (by simp only; omega))

/-- Eight heads side by side. -/
theorem heads_eq (x : Fin 512 → Fin 8 → Fin 64 → ℝ) :
    cat (strip (fun t => lanes (x t ⟨0, by decide⟩)) fun t => lanes (x t ⟨1, by decide⟩)) (strip (fun t => lanes (x t ⟨2, by decide⟩)) fun t => lanes (x t ⟨3, by decide⟩))
      (strip (fun t => lanes (x t ⟨4, by decide⟩)) fun t => lanes (x t ⟨5, by decide⟩)) (strip (fun t => lanes (x t ⟨6, by decide⟩)) fun t => lanes (x t ⟨7, by decide⟩))
      = fun t => Inp.hd (x t) := by
  funext t j
  unfold cat
  split_ifs with h1 h2 h3
  · exact strip_eq x ⟨0, by decide⟩ ⟨1, by decide⟩ rfl t _ j (by show j.val = 0 * 64 + j.val; omega)
  · exact strip_eq x ⟨2, by decide⟩ ⟨3, by decide⟩ rfl t _ j (by show j.val = 2 * 64 + (j.val - 128); omega)
  · exact strip_eq x ⟨4, by decide⟩ ⟨5, by decide⟩ rfl t _ j (by show j.val = 4 * 64 + (j.val - 128 - 128); omega)
  · exact strip_eq x ⟨6, by decide⟩ ⟨7, by decide⟩ rfl t _ j (by show j.val = 6 * 64 + (j.val - 128 - 128 - 128); omega)

end InMove
end
-- ==== Proof.InPay.lean ====
/-
  What the mixer input's kernel computes from a tile, array by array: the gate's gradient from the carried row, the product with
  the weights, and the norm's backward.
-/
module

public import proofs.«01_k».proof.Proof.InMove

@[expose] public section

set_option maxRecDepth 16384

noncomputable section

namespace InPay

open Idealize.ShloMosaic Cert.Kernel5Ideal Cert.Kernel5Ideal.Gen Lift
open MixMove (bit_eq trunc2 add2)
open InHost (lanes wide)

theorem tri : sitofp (F := Ideal) .f32 (extui 32 (cmpi .sge (iota .tc S512x512 32 [1] iota_S512x512_d1_w32)
      (iota .tc S512x512 32 [0] iota_S512x512_d0_w32)) natLt_1_32)
    = (up2 fun r k => if r.val ≤ k.val then 1 else 0 : S512x512.Idx → EReal) := by
  funext j
  pointwise []
  refine bit_eq _ _ ?_
  have h0 : (j 0).val < 512 := (j 0).isLt
  have h1 : (j 1).val < 512 := (j 1).isLt
  generalize (j 0).val = x at *
  generalize (j 1).val = y at *
  have hbit : ∀ b : Bool, BitVec.ofBool b = 1#1 ↔ b = true := by decide
  simp only [IntOp.cmpi, hbit, BitVec.sle_eq_decide, decide_eq_true_eq]
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega

theorem bit_mul (P : Prop) (a : ℝ) [i : Decidable P] [i' : Decidable P] : (@ite _ P i 1 0) * a = @ite _ P i' a 0 := by
  by_cases h : P
  · rw [if_pos h, if_pos h, one_mul]
  · rw [if_neg h, if_neg h, zero_mul]

theorem pay7 (A : Fin 512 → Fin 128 → ℝ) (p : Fin 128 → ℝ) :
    k0_pay7 (F := Ideal) (up2 A : S512x128.Idx → EReal) (up2 (fun _ => p) : S1x128.Idx → EReal)
      = (up2 fun r l => (∑ k : Fin 512, if r.val ≤ k.val then A k l else 0) + p l : S512x128.Idx → EReal) := by
  refine (congrArg (fun v : FVec Ideal S512x512 .f32 => addf (F := Ideal) (matmul (F := Ideal) (φ₁ := .f32) (φ₂ := .f32)
    dot_S512x512_S512x128_S512x128_1_0_0_1_n_n (some .fp32) v (shapeCast S512x128 (up2 A : S512x128.Idx → EReal) shapeCasts_S512x128_S512x128)
    (constant (F := Ideal) S512x128 .f32 0x00000000#32)) (broadcastTo S512x128 (up2 (fun _ => p) : S1x128.Idx → EReal) broadcasts_S1x128_S512x128)) tri).trans ?_
  funext j
  pointwise [dot_S512x512_S512x128_S512x128_1_0_0_1_n_n]
  refine congrArg (fun x : ℝ => ((x + p (j 1) : ℝ) : EReal)) (Finset.sum_congr rfl fun k _ => bit_mul _ _)

theorem pay8 (A : Fin 512 → Fin 128 → ℝ) (p : Fin 128 → ℝ) :
    k0_pay8 (F := Ideal) (up2 A : S512x128.Idx → EReal) (up2 (fun _ => p) : S1x128.Idx → EReal)
      = (up2 fun _ l => (∑ k : Fin 512, A k l) + p l : S8x128.Idx → EReal) := by
  simp only [k0_pay8, pay7]
  funext j
  pointwise []

theorem pay9 (A f : Fin 512 → Fin 128 → ℝ) (p : Fin 128 → ℝ) :
    k0_pay9 (F := Ideal) (up2 A : S512x128.Idx → EReal) (up2 (fun _ => p) : S1x128.Idx → EReal) (up2 f : S512x128.Idx → EReal)
      = (up2 fun r l => ((∑ k : Fin 512, if r.val ≤ k.val then A k l else 0) + p l) * (1 + Real.exp (f r l))⁻¹ : S512x128.Idx → EReal) := by
  simp only [k0_pay9, pay7]
  funext j
  pointwise [neg_neg]

theorem pay10 (A f : Fin 512 → Fin 128 → ℝ) (p : Fin 128 → ℝ) (acc : S1x128.Idx → EReal) (j : S1x128.Idx) :
    k0_pay10 (F := Ideal) (up2 A : S512x128.Idx → EReal) (up2 (fun _ => p) : S1x128.Idx → EReal) (up2 f : S512x128.Idx → EReal) acc j
      = acc j + ((∑ r : Fin 512, ((∑ k : Fin 512, if r.val ≤ k.val then A k (j 1) else 0) + p (j 1)) * (1 + Real.exp (f r (j 1)))⁻¹ : ℝ) : EReal) := by
  pointwise [k0_pay10, pay9]

theorem pay45 (X : Fin 512 → Fin 1024 → ℝ) :
    k0_pay45 (F := Ideal) (up2 X : S512x1024.Idx → EReal) = (up2 fun t _ => rs (X t) : S512x1.Idx → EReal) := by
  funext j
  pointwise [k0_pay45]

theorem pay2 (X D : Fin 512 → Fin 1024 → ℝ) (acc : S1x1024.Idx → EReal) (j : S1x1024.Idx) :
    k0_pay2 (F := Ideal) (up2 D : S512x1024.Idx → EReal) (up2 X : S512x1024.Idx → EReal) (up2 fun t _ => rs (X t) : S512x1.Idx → EReal) acc j
      = acc j + ((∑ t, D t (j 1) * (X t (j 1) * rs (X t)) : ℝ) : EReal) := by
  pointwise [k0_pay2, k0_pay1]

theorem pay3 (X D G : Fin 512 → Fin 1024 → ℝ) (g : Fin 1024 → ℝ) :
    k0_pay3 (F := Ideal) (up2 D : S512x1024.Idx → EReal) (up2 X : S512x1024.Idx → EReal) (up2 (fun _ => g) : S1x1024.Idx → EReal)
        (up2 fun t _ => rs (X t) : S512x1.Idx → EReal) (up2 G : S512x1024.Idx → EReal)
      = (up2 fun t j => G t j + rmsBack (D t) (X t) g j : S512x1024.Idx → EReal) := by
  funext j
  pointwise [k0_pay3, k0_pay1, rmsBack]

/-! ### The heads' gradients, strip by strip -/

section

open InMove

local notation "⟪" A "⟫" => (up3 (fun _ : Fin 1 => A) : S1x512x128.Idx → EReal)
local notation "⟮" A "⟯" => (up4 (fun _ _ : Fin 1 => A) : S1x1x128x512.Idx → EReal)
/-- A head that lies across the rows, turned. -/
abbrev turn (A : Fin 128 → Fin 512 → ℝ) (t : Fin 512) (l : Fin 128) : ℝ := A l t

/-- Two heads through their masks, added: a strip. -/
theorem pair (A B : Fin 512 → Fin 128 → ℝ) :
    addf (F := Ideal) (φ := .f32) (matmul (F := Ideal) (sl := S512x128) (φ₁ := .bf16) (φ₂ := .bf16) dot_S512x128_S128x128_S512x128_1_0_0_1_n_n none
        (truncf (F := Ideal) .bf16 (shapeCast S512x128 ⟪A⟫ shapeCasts_S1x512x128_S512x128) bitsLt_bf16_f32) (mask 0 0 64)
        (constant (F := Ideal) S512x128 .f32 0x00000000#32))
      (matmul (F := Ideal) (sl := S512x128) (φ₁ := .bf16) (φ₂ := .bf16) dot_S512x128_S128x128_S512x128_1_0_0_1_n_n none
        (truncf (F := Ideal) .bf16 (shapeCast S512x128 ⟪B⟫ shapeCasts_S1x512x128_S512x128) bitsLt_bf16_f32) (mask 64 0 64)
        (constant (F := Ideal) S512x128 .f32 0x00000000#32))
    = (up2 (strip A B) : S512x128.Idx → EReal) := by
  rw [drop3, drop3, trunc2, trunc2, moves A 0 0 64 (by decide) (by decide) (by decide), moves B 64 0 64 (by decide) (by decide) (by decide), add2]
  rfl
theorem pairT (A B : Fin 128 → Fin 512 → ℝ) :
    addf (F := Ideal) (φ := .f32) (matmul (F := Ideal) (sl := S128x512) (φ₁ := .bf16) (φ₂ := .bf16) dot_S128x512_S128x128_S512x128_0_0_1_1_n_n none
        (truncf (F := Ideal) .bf16 (shapeCast S128x512 ⟮A⟯ shapeCasts_S1x1x128x512_S128x512) bitsLt_bf16_f32) (mask 0 0 64)
        (constant (F := Ideal) S512x128 .f32 0x00000000#32))
      (matmul (F := Ideal) (sl := S128x512) (φ₁ := .bf16) (φ₂ := .bf16) dot_S128x512_S128x128_S512x128_0_0_1_1_n_n none
        (truncf (F := Ideal) .bf16 (shapeCast S128x512 ⟮B⟯ shapeCasts_S1x1x128x512_S128x512) bitsLt_bf16_f32) (mask 64 0 64)
        (constant (F := Ideal) S512x128 .f32 0x00000000#32))
    = (up2 (strip (turn A) (turn B)) : S512x128.Idx → EReal) := by
  rw [drop4, drop4, trunc2, trunc2, movesT A 0 0 64 (by decide) (by decide) (by decide), movesT B 64 0 64 (by decide) (by decide) (by decide), add2]
  rfl
/-- Four strips, the last of them still a sum of two products. -/
theorem cat_last (A B C D : Fin 512 → Fin 128 → ℝ) (v : FVec Ideal S512x128 .f32) (hv : v = (up2 D : S512x128.Idx → EReal)) (h) :
    concatenate S512x512 1 [⟨S512x128, (up2 A : S512x128.Idx → EReal)⟩, ⟨S512x128, (up2 B : S512x128.Idx → EReal)⟩,
      ⟨S512x128, (up2 C : S512x128.Idx → EReal)⟩, ⟨S512x128, v⟩] h = (up2 (cat A B C D) : S512x512.Idx → EReal) := by
  subst hv
  exact cat_eq A B C D h

theorem dq (A B C D E F G H : Fin 128 → Fin 512 → ℝ) :
    k0_pay18 (F := Ideal) (k0_pay12 (k0_pay11 ⟮A⟯) ⟮B⟯) (k0_pay14 (k0_pay13 ⟮C⟯) rows ⟮D⟯) (k0_pay16 (k0_pay15 ⟮E⟯) rows cols ⟮F⟯)
      (k0_pay17 ⟮G⟯) rows cols (0#32) ⟮H⟯
    = (up2 (cat (strip (turn A) (turn B)) (strip (turn C) (turn D)) (strip (turn E) (turn F)) (strip (turn G) (turn H))) : S512x512.Idx → EReal) := by
  have h0 : k0_pay12 (F := Ideal) (k0_pay11 ⟮A⟯) ⟮B⟯ = (up2 (strip (turn A) (turn B)) : S512x128.Idx → EReal) := pairT A B
  have h1 : k0_pay14 (F := Ideal) (k0_pay13 ⟮C⟯) rows ⟮D⟯ = (up2 (strip (turn C) (turn D)) : S512x128.Idx → EReal) := pairT C D
  have h2 : k0_pay16 (F := Ideal) (k0_pay15 ⟮E⟯) rows cols ⟮F⟯ = (up2 (strip (turn E) (turn F)) : S512x128.Idx → EReal) := pairT E F
  rw [h0, h1, h2]
  exact cat_last _ _ _ _ _ (pairT G H) concatenates_S512x128_S512x128_S512x128_S512x128_S512x512_d1

variable (A B C D E F G H : Fin 512 → Fin 128 → ℝ)

theorem dk : k0_pay31 (F := Ideal) (k0_pay21 (k0_pay19 ⟪A⟫) rows cols k0_pay20 ⟪B⟫) (k0_pay25 (k0_pay22 ⟪C⟫) rows k0_pay23 k0_pay24 ⟪D⟫)
      (k0_pay28 (k0_pay26 ⟪E⟫) rows k0_pay27 (0#32) ⟪F⟫) (k0_pay29 ⟪G⟫) rows k0_pay30 ⟪H⟫
    = (up2 (cat (strip A B) (strip C D) (strip E F) (strip G H)) : S512x512.Idx → EReal) := by
  have h0 : k0_pay21 (F := Ideal) (k0_pay19 ⟪A⟫) rows cols k0_pay20 ⟪B⟫ = (up2 (strip A B) : S512x128.Idx → EReal) := pair A B
  have h1 : k0_pay25 (F := Ideal) (k0_pay22 ⟪C⟫) rows k0_pay23 k0_pay24 ⟪D⟫ = (up2 (strip C D) : S512x128.Idx → EReal) := pair C D
  have h2 : k0_pay28 (F := Ideal) (k0_pay26 ⟪E⟫) rows k0_pay27 (0#32) ⟪F⟫ = (up2 (strip E F) : S512x128.Idx → EReal) := pair E F
  rw [h0, h1, h2]
  exact cat_last _ _ _ _ _ (pair G H) concatenates_S512x128_S512x128_S512x128_S512x128_S512x512_d1

theorem dz (Q K S : Fin 512 → Fin 512 → ℝ) (f : Fin 512 → Fin 128 → ℝ) :
    k0_pay43 (F := Ideal) (up2 f : S512x128.Idx → EReal) (up2 Q : S512x512.Idx → EReal) (up2 K : S512x512.Idx → EReal)
      (k0_pay35 (k0_pay32 ⟪A⟫) rows k0_pay33 k0_pay34 ⟪B⟫) (k0_pay38 (k0_pay36 ⟪C⟫) k0_pay37 ⟪D⟫)
      (k0_pay41 (k0_pay39 ⟪E⟫) k0_pay40 (constant (F := Ideal) S512x128 .f32 0#32) ⟪F⟫) (k0_pay42 ⟪G⟫) ⟪H⟫ (up2 S : S512x512.Idx → EReal)
    = (up2 fun t => Inp.zr (Q t) (K t) (cat (strip A B) (strip C D) (strip E F) (strip G H) t) (S t) (f t) : S512x2176.Idx → EReal) := by
  have h0 : k0_pay35 (F := Ideal) (k0_pay32 ⟪A⟫) rows k0_pay33 k0_pay34 ⟪B⟫ = (up2 (strip A B) : S512x128.Idx → EReal) := pair A B
  have h1 : k0_pay38 (F := Ideal) (k0_pay36 ⟪C⟫) k0_pay37 ⟪D⟫ = (up2 (strip C D) : S512x128.Idx → EReal) := pair C D
  have h2 : k0_pay41 (F := Ideal) (k0_pay39 ⟪E⟫) k0_pay40 (constant (F := Ideal) S512x128 .f32 0#32) ⟪F⟫
    = (up2 (strip E F) : S512x128.Idx → EReal) := pair E F
  rw [h0, h1, h2]
  have h3 := cat_last (strip A B) (strip C D) (strip E F) (strip G H) _ (pair G H) concatenates_S512x128_S512x128_S512x128_S512x128_S512x512_d1
  refine (congrArg (fun v : FVec Ideal S512x512 .f32 => truncf (F := Ideal) .bf16 (concatenate S512x2176 1
    [⟨S512x512, (up2 Q : S512x512.Idx → EReal)⟩, ⟨S512x512, (up2 K : S512x512.Idx → EReal)⟩, ⟨S512x512, v⟩,
     ⟨S512x512, (up2 S : S512x512.Idx → EReal)⟩, ⟨S512x128, (up2 f : S512x128.Idx → EReal)⟩]
    concatenates_S512x512_S512x512_S512x512_S512x512_S512x128_S512x2176_d1) bitsLt_bf16_f32) h3).trans ?_
  funext j
  pointwise []
  unfold Inp.zr
  split_ifs <;> rfl

theorem dn (Q K S v : Fin 512 → Fin 512 → ℝ) (f : Fin 512 → Fin 128 → ℝ) (W : Fin 1024 → Fin 2176 → ℝ) (V0 V1 V2 V3 V4 V5)
    (h : k0_pay43 (F := Ideal) (up2 f : S512x128.Idx → EReal) (up2 Q : S512x512.Idx → EReal) (up2 K : S512x512.Idx → EReal) V0 V1 V2 V3 V4 V5
      = (up2 fun t => Inp.zr (Q t) (K t) (v t) (S t) (f t) : S512x2176.Idx → EReal)) :
    k0_pay44 (F := Ideal) (up2 f : S512x128.Idx → EReal) (up2 Q : S512x512.Idx → EReal) (up2 K : S512x512.Idx → EReal) V0 V1 V2 V3 V4 V5
        (up2 W : S1024x2176.Idx → EReal)
      = (up2 fun t j => ∑ c, Inp.zr (Q t) (K t) (v t) (S t) (f t) c * W j c : S512x1024.Idx → EReal) := by
  simp only [k0_pay44, h]
  funext j
  pointwise [dot_S512x2176_S1024x2176_S512x1024_1_1_0_0_n_n]

end
end InPay
end
-- ==== Proof.InBlocks.lean ====
/-
  The tiles of the mixer input's kernel, for finite arguments: they come from the last to the first, and what its input windows hold.
-/
module

public import proofs.«01_k».proof.Proof.InMove

@[expose] public section

set_option maxRecDepth 16384

noncomputable section

namespace InBlocks

open Idealize.ShloMosaic Idealize.ShloMosaic.TcCoe Idealize.SL.Sem Cert.Kernel5Ideal Cert.Kernel5Ideal.Gen Lift InMove
open InHost (lanes wide Finds)

/-- Token `r` of tile `t`, tiles counted from the last. -/
def tok (t : Fin cfg0.N) (r : Fin 512) : Fin 8192 := ⟨(15 - t.val) * 512 + r.val, by have h : t.val < 16 := t.isLt; omega⟩

variable {N : Inp} {X : Fin 8192 → Fin 1024 → ℝ} {C : Cot}
variable {m : (ℓ : Loc nD τ sig) → Buf (Elt Ideal) ℓ} {c : Dev nD} (H : Finds N X C m c) (t : Fin cfg0.N)

theorem idx0 : ∀ t : Fin cfg0.N, win0_0.index t = ![15 - t.val, 0] := (by decide +kernel : ∀ t : Fin grid0.N, _)
theorem idx1 : ∀ t : Fin cfg0.N, win0_1.index t = ![15 - t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 15 - t.val, 0, 0] := (by decide +kernel : ∀ t : Fin grid0.N, _)
theorem idx5 : ∀ t : Fin cfg0.N, win0_5.index t = ![0, 15 - t.val, 0] := (by decide +kernel : ∀ t : Fin grid0.N, _)
theorem idx6 : ∀ t : Fin cfg0.N, win0_6.index t = ![0, 15 - t.val, 0] := (by decide +kernel : ∀ t : Fin grid0.N, _)
theorem idx7 : ∀ t : Fin cfg0.N, win0_7.index t = ![15 - t.val, 0] := (by decide +kernel : ∀ t : Fin grid0.N, _)
theorem idx8 : ∀ t : Fin cfg0.N, win0_8.index t = ![15 - t.val, 0] := (by decide +kernel : ∀ t : Fin grid0.N, _)
theorem idx9 : ∀ t : Fin cfg0.N, win0_9.index t = ![15 - t.val, 0] := (by decide +kernel : ∀ t : Fin grid0.N, _)
theorem idx10 : ∀ t : Fin cfg0.N, win0_10.index t = ![15 - t.val, 0] := (by decide +kernel : ∀ t : Fin grid0.N, _)
theorem idx11 : ∀ t : Fin cfg0.N, win0_11.index t = ![15 - t.val, 0] := (by decide +kernel : ∀ t : Fin grid0.N, _)

include H

theorem b0 : iblk m c 0 t = (up2 (fun r => C.d (tok t r)) : S512x1024.Idx → EReal) := by
  funext y
  have e : iblk m c 0 t y = V m c main_arg4 (ix2 (tok t (y 0)) (y 1)) := by
    unfold iblk; blk_ext! [idx0 t, tok]
  rw [e, H.d]; rfl
theorem b1 : iblk m c 1 t = (up2 (fun r => X (tok t r)) : S512x1024.Idx → EReal) := by
  funext y
  have e : iblk m c 1 t y = V m c main_arg0 (ix2 (tok t (y 0)) (y 1)) := by
    unfold iblk; blk_ext! [idx1 t, tok]
  rw [e, H.x]; rfl
theorem b2 : iblk m c 2 t = (up2 (fun _ => N.g) : S1x1024.Idx → EReal) := by
  rw [← H.g]; unfold iblk; blk_ext! [idx2 t]
theorem b3 : iblk m c 3 t = (up2 (fun k => Inp.wr (N.w k)) : S1024x2176.Idx → EReal) := by
  rw [← H.w]; unfold iblk; blk_ext! [idx3 t]
theorem b4 : iblk m c 4 t
    = (up4 (fun h (_ : Fin 1) k r => lanes (fun l => C.q (tok t r) h l * 8) k) : S8x1x128x512.Idx → EReal) := by
  funext y
  have e : iblk m c 4 t y = V m c main_v33 (ix4 (y 0) ⟨15 - t.val, by omega⟩ (y 2) (y 3)) := by
    unfold iblk; blk_ext! [idx4 t, Fin.val_eq_zero (y 1)]
  rw [e, H.q]; rfl
theorem b5 : iblk m c 5 t = (up3 (fun h r => lanes (C.k (tok t r) h)) : S8x512x128.Idx → EReal) := by
  funext y
  have e : iblk m c 5 t y = V m c main_v37 (ix3 (y 0) (tok t (y 1)) (y 2)) := by
    unfold iblk; blk_ext! [idx5 t, tok]
  rw [e, H.k]; rfl
theorem b6 : iblk m c 6 t = (up3 (fun h r => lanes (C.v (tok t r) h)) : S8x512x128.Idx → EReal) := by
  funext y
  have e : iblk m c 6 t y = V m c main_v40 (ix3 (y 0) (tok t (y 1)) (y 2)) := by
    unfold iblk; blk_ext! [idx6 t, tok]
  rw [e, H.v]; rfl
theorem b7 : iblk m c 7 t = (up2 (fun r => C.s (tok t r)) : S512x512.Idx → EReal) := by
  funext y
  have e : iblk m c 7 t y = V m c main_arg9 (ix2 (tok t (y 0)) (y 1)) := by
    unfold iblk; blk_ext! [idx7 t, tok]
  rw [e, H.s]; rfl
theorem b8 : iblk m c 8 t = (up2 (fun r => wide (C.c (tok t r))) : S512x128.Idx → EReal) := by
  funext y
  have e : iblk m c 8 t y = V m c main_v34 (ix2 (tok t (y 0)) (y 1)) := by
    unfold iblk; blk_ext! [idx8 t, tok]
  rw [e, H.dc]; rfl
theorem b9 : iblk m c 9 t = (up2 (fun r l => ∑ k, N.n (X (tok t r)) k * Inp.wr (N.w k) ⟨2048 + l.val, by omega⟩ + wide N.b l) : S512x128.Idx → EReal) := by
  funext y
  have e : iblk m c 9 t y = V m c main_v26 (ix2 (tok t (y 0)) (y 1)) := by
    unfold iblk; blk_ext! [idx9 t, tok]
  rw [e, H.f]; rfl

end InBlocks
end
-- ==== Proof.InKernel.lean ====
/-
  The mixer input's kernel over its tiles, for finite arguments: what the carried row and every window hold, and the
  arrays after the last tile.
-/
module

public import proofs.«01_k».proof.Proof.InPay
public import proofs.«01_k».proof.Proof.InBlocks

@[expose] public section

set_option maxRecDepth 16384

noncomputable section

namespace InKernel

open Idealize.ShloMosaic Idealize.ShloMosaic.TcCoe Idealize.SL.Sem Cert.Kernel5Ideal Cert.Kernel5Ideal.Gen Lift InMove InBlocks
open InHost (lanes wide Finds)

variable {N : Inp} {X : Fin 8192 → Fin 1024 → ℝ} {C : Cot}
variable {m : (ℓ : Loc nD τ sig) → Buf (Elt Ideal) ℓ} {c : Dev nD} (H : Finds N X C m c) (t : Fin cfg0.N)

/-! ### The gate's gradient, from the carried row -/

/-- The gradient in the logits on all the lanes, and the carried row that meets a tile: the sums over what comes after it. -/
def dfl (N : Inp) (X : Fin 8192 → Fin 1024 → ℝ) (C : Cot) (t : Fin 8192) (l : Fin 128) : ℝ :=
  tailSum (fun u => wide (C.c u) l) t.val * (1 + Real.exp (∑ k, N.n (X t) k * Inp.wr (N.w k) ⟨2048 + l.val, by omega⟩ + wide N.b l))⁻¹
def after (C : Cot) (n : ℕ) (l : Fin 128) : ℝ := tailSum (fun u => wide (C.c u) l) ((15 - n) * 512 + 512)

theorem wide_lt (x : Fin 8 → ℝ) (h : Fin 8) (hh) : wide x ⟨h.val, hh⟩ = x h := dif_pos h.isLt
theorem wr_gate (w : Fin 2056 → ℝ) (h : Fin 8) (hh) : Inp.wr w ⟨2048 + h.val, hh⟩ = w ⟨1536 + h.val, by omega⟩ := by
  unfold Inp.wr
  rw [dif_neg (by simp only; omega), dif_neg (by simp only; omega), dif_neg (by simp only; omega), dif_pos (by simp only; omega)]
  exact congrArg w (Fin.ext (by simp only; omega))
theorem dfl_lt (t : Fin 8192) (h : Fin 8) (hh) : dfl N X C t ⟨h.val, hh⟩ = N.df X C t h := by
  simp only [dfl, wide_lt, wr_gate]
  rfl

theorem tile_tail (r : Fin 512) (l : Fin 128) :
    (∑ k : Fin 512, if r.val ≤ k.val then wide (C.c (tok t k)) l else 0) + after C t.val l
      = tailSum (fun u => wide (C.c u) l) (tok t r).val :=
  (tailSum_tile (fun u => wide (C.c u) l) ((15 - t.val) * 512) (by omega) r).symm
theorem dfl_tile (N : Inp) (X : Fin 8192 → Fin 1024 → ℝ) (r : Fin 512) (l : Fin 128) :
    ((∑ k : Fin 512, if r.val ≤ k.val then wide (C.c (tok t k)) l else 0) + after C t.val l)
        * (1 + Real.exp (∑ k, N.n (X (tok t r)) k * Inp.wr (N.w k) ⟨2048 + l.val, by omega⟩ + wide N.b l))⁻¹
      = dfl N X C (tok t r) l :=
  congrArg (· * _) (tile_tail t r l)
theorem tile_all (l : Fin 128) :
    (∑ k : Fin 512, wide (C.c (tok t k)) l) + after C t.val l = tailSum (fun u => wide (C.c u) l) ((15 - t.val) * 512) := by
  rw [← show _ = tailSum (fun u => wide (C.c u) l) ((15 - t.val) * 512) from tile_tail t ⟨0, by decide⟩ l]
  exact congrArg (· + after C t.val l) (Finset.sum_congr rfl fun k _ => (if_pos (Nat.zero_le _)).symm)

theorem ld_row (p : Fin 128 → ℝ) (h) :
    View.ld (Val := Elt Ideal) (e' := .f32) (up2 (fun _ => p) : Vec Ideal S8x128 .f32) (Rect.unit (s := S8x128) ![0, 0] ![1, 128] h)
      = (up2 (fun _ => p) : S1x128.Idx → EReal) := by
  funext j
  exact (View.ld_unit_apply_of (Val := Elt Ideal) (e := .f32) (up2 (fun _ => p) : Vec Ideal S8x128 .f32) _ _ _ _
    (ix2 ⟨0, by decide⟩ (j 1)) (by have := (j 0).isLt; intro a; fin_cases a <;> simp <;> first | rfl | exact Fin.val_eq_zero (j 0))).trans rfl
theorem zeros4 : k0_pay4 (F := Ideal) = (up2 (fun _ _ => 0) : S8x128.Idx → EReal) := by
  funext j
  pointwise [k0_pay4]
  exact EReal.coe_zero.symm
theorem zeros5 (j : S1x1024.Idx) : k0_pay5 (F := Ideal) j = 0 := by
  pointwise [k0_pay5]
theorem zeros6 (j : S1x128.Idx) : k0_pay6 (F := Ideal) j = 0 := by
  pointwise [k0_pay6]

theorem read_back (h : (Memref.whole cc0_scratch0).IsWhole) (Y : S8x128.Idx → Elt Ideal .f32) :
    View.read (Elt Ideal) (View.whole cc0_scratch0) (h.unread Y) = Y := h.read_unread Y

/-- The row a tile meets: zeros at the first, else what the tile before left. -/
theorem first_row (C : Cot) (h : t.val % 16 = 0) (inb inb') :
    (View.whole cc0_scratch0).readCov (Val := Elt Ideal) [⟨Rect.unit (s := S8x128) ![0, 0] ![8, 128] inb, k0_pay4 (F := Ideal)⟩]
        (Rect.unit (s := S8x128) ![0, 0] ![1, 128] inb').toLoadRect = (up2 (fun _ => after C t.val) : S1x128.Idx → EReal) := by
  have h0 : after C t.val = fun _ => 0 := by
    funext l
    have ht : t.val = 0 := by have : t.val < 16 := t.isLt; omega
    unfold after
    rw [ht]
    exact tailSum_end _
  rw [View.readCov_eq_canon', zeros4, h0]
  funext j
  exact congrFun (View.canon_unit_zero (Val := Elt Ideal) (e := .f32) (S := S8x128) (off := ![0, 0]) (by funext a; fin_cases a <;> rfl) inb
    (up2 (fun _ _ => 0) : S8x128.Idx → EReal)) _

include H
theorem carry : ∀ (n : ℕ) (hn : n < cfg0.N), (outsAt0 m c n hn).2.2.2.2
    = (up2 (fun _ l => tailSum (fun u => wide (C.c u) l) ((15 - n) * 512)) : S8x128.Idx → EReal)
  | 0, hn => by
    rw [outsAt0_A m c ⟨0, hn⟩ rfl]; frame_out
    rw [first_row ⟨0, hn⟩ C rfl, b8 H ⟨0, hn⟩, InPay.pay8]
    exact congrArg (fun f : Fin 128 → ℝ => (up2 (fun _ => f) : S8x128.Idx → EReal)) (funext fun l => tile_all ⟨0, hn⟩ l)
  | n + 1, hn => by
    have hn' : n + 1 < 16 := hn
    have hs : (15 - n) * 512 = (15 - (n + 1)) * 512 + 512 := by omega
    rw [outsAt0_B m c ⟨n + 1, hn⟩ (by show ¬ (n + 1) % 16 = 0; omega)]; frame_out
    have e := carry n (by omega)
    rw [hs] at e
    simp only [Nat.add_sub_cancel, e, read_back]
    rw [ld_row, b8 H ⟨n + 1, hn⟩]
    exact (InPay.pay8 _ _).trans (congrArg (fun f : Fin 128 → ℝ => (up2 (fun _ => f) : S8x128.Idx → EReal)) (funext fun l => tile_all ⟨n + 1, hn⟩ l))
theorem met (h : ¬ t.val % 16 = 0) (hp : t.val - 1 < cfg0.N) :
    (outsAt0 m c (t.val - 1) hp).2.2.2.2 = (up2 (fun _ => after C t.val) : S8x128.Idx → EReal) := by
  rw [carry H (t.val - 1) hp]
  have ht : t.val < 16 := t.isLt
  have hs : (15 - (t.val - 1)) * 512 = (15 - t.val) * 512 + 512 := by omega
  rw [hs]
  rfl
omit H

/-! ### The row of gradients -/

/-- The heads' parts of the row, from the blocks of the heads' gradients. -/
abbrev partQ (B : Vec Ideal S8x1x128x512 .f32) : FVec Ideal S512x512 .f32 :=
  k0_pay18 (k0_pay12 (k0_pay11 (View.ld (Val := Elt Ideal) (e' := .f32) B (Rect.unit (s := S8x1x128x512) ![0, 0, 0, 0] ![1, 1, 128, 512] inb_S8x1x128x512_S1x1x128x512_0_0_0_0))) (View.ld (Val := Elt Ideal) (e' := .f32) B (Rect.unit (s := S8x1x128x512) ![1, 0, 0, 0] ![1, 1, 128, 512] inb_S8x1x128x512_S1x1x128x512_1_0_0_0)))
    (k0_pay14 (k0_pay13 (View.ld (Val := Elt Ideal) (e' := .f32) B (Rect.unit (s := S8x1x128x512) ![2, 0, 0, 0] ![1, 1, 128, 512] inb_S8x1x128x512_S1x1x128x512_2_0_0_0))) rows (View.ld (Val := Elt Ideal) (e' := .f32) B (Rect.unit (s := S8x1x128x512) ![3, 0, 0, 0] ![1, 1, 128, 512] inb_S8x1x128x512_S1x1x128x512_3_0_0_0)))
    (k0_pay16 (k0_pay15 (View.ld (Val := Elt Ideal) (e' := .f32) B (Rect.unit (s := S8x1x128x512) ![4, 0, 0, 0] ![1, 1, 128, 512] inb_S8x1x128x512_S1x1x128x512_4_0_0_0))) rows cols (View.ld (Val := Elt Ideal) (e' := .f32) B (Rect.unit (s := S8x1x128x512) ![5, 0, 0, 0] ![1, 1, 128, 512] inb_S8x1x128x512_S1x1x128x512_5_0_0_0)))
    (k0_pay17 (View.ld (Val := Elt Ideal) (e' := .f32) B (Rect.unit (s := S8x1x128x512) ![6, 0, 0, 0] ![1, 1, 128, 512] inb_S8x1x128x512_S1x1x128x512_6_0_0_0))) rows cols (0#32) (View.ld (Val := Elt Ideal) (e' := .f32) B (Rect.unit (s := S8x1x128x512) ![7, 0, 0, 0] ![1, 1, 128, 512] inb_S8x1x128x512_S1x1x128x512_7_0_0_0))
abbrev partK (B : Vec Ideal S8x512x128 .f32) : FVec Ideal S512x512 .f32 :=
  k0_pay31 (k0_pay21 (k0_pay19 (View.ld (Val := Elt Ideal) (e' := .f32) B (Rect.unit (s := S8x512x128) ![0, 0, 0] ![1, 512, 128] inb_S8x512x128_S1x512x128_0_0_0))) rows cols k0_pay20 (View.ld (Val := Elt Ideal) (e' := .f32) B (Rect.unit (s := S8x512x128) ![1, 0, 0] ![1, 512, 128] inb_S8x512x128_S1x512x128_1_0_0)))
    (k0_pay25 (k0_pay22 (View.ld (Val := Elt Ideal) (e' := .f32) B (Rect.unit (s := S8x512x128) ![2, 0, 0] ![1, 512, 128] inb_S8x512x128_S1x512x128_2_0_0))) rows k0_pay23 k0_pay24 (View.ld (Val := Elt Ideal) (e' := .f32) B (Rect.unit (s := S8x512x128) ![3, 0, 0] ![1, 512, 128] inb_S8x512x128_S1x512x128_3_0_0)))
    (k0_pay28 (k0_pay26 (View.ld (Val := Elt Ideal) (e' := .f32) B (Rect.unit (s := S8x512x128) ![4, 0, 0] ![1, 512, 128] inb_S8x512x128_S1x512x128_4_0_0))) rows k0_pay27 (0#32) (View.ld (Val := Elt Ideal) (e' := .f32) B (Rect.unit (s := S8x512x128) ![5, 0, 0] ![1, 512, 128] inb_S8x512x128_S1x512x128_5_0_0)))
    (k0_pay29 (View.ld (Val := Elt Ideal) (e' := .f32) B (Rect.unit (s := S8x512x128) ![6, 0, 0] ![1, 512, 128] inb_S8x512x128_S1x512x128_6_0_0))) rows k0_pay30 (View.ld (Val := Elt Ideal) (e' := .f32) B (Rect.unit (s := S8x512x128) ![7, 0, 0] ![1, 512, 128] inb_S8x512x128_S1x512x128_7_0_0))
abbrev partV0 (B : Vec Ideal S8x512x128 .f32) : FVec Ideal S512x128 .f32 :=
  k0_pay35 (k0_pay32 (View.ld (Val := Elt Ideal) (e' := .f32) B (Rect.unit (s := S8x512x128) ![0, 0, 0] ![1, 512, 128] inb_S8x512x128_S1x512x128_0_0_0))) rows k0_pay33 k0_pay34 (View.ld (Val := Elt Ideal) (e' := .f32) B (Rect.unit (s := S8x512x128) ![1, 0, 0] ![1, 512, 128] inb_S8x512x128_S1x512x128_1_0_0))
abbrev partV1 (B : Vec Ideal S8x512x128 .f32) : FVec Ideal S512x128 .f32 :=
  k0_pay38 (k0_pay36 (View.ld (Val := Elt Ideal) (e' := .f32) B (Rect.unit (s := S8x512x128) ![2, 0, 0] ![1, 512, 128] inb_S8x512x128_S1x512x128_2_0_0))) k0_pay37 (View.ld (Val := Elt Ideal) (e' := .f32) B (Rect.unit (s := S8x512x128) ![3, 0, 0] ![1, 512, 128] inb_S8x512x128_S1x512x128_3_0_0))
abbrev partV2 (B : Vec Ideal S8x512x128 .f32) : FVec Ideal S512x128 .f32 :=
  k0_pay41 (k0_pay39 (View.ld (Val := Elt Ideal) (e' := .f32) B (Rect.unit (s := S8x512x128) ![4, 0, 0] ![1, 512, 128] inb_S8x512x128_S1x512x128_4_0_0))) k0_pay40 (constant (F := Ideal) S512x128 .f32 0#32) (View.ld (Val := Elt Ideal) (e' := .f32) B (Rect.unit (s := S8x512x128) ![5, 0, 0] ![1, 512, 128] inb_S8x512x128_S1x512x128_5_0_0))
abbrev partV3 (B : Vec Ideal S8x512x128 .f32) : FVec Ideal S512x128 .f32 := k0_pay42 (View.ld (Val := Elt Ideal) (e' := .f32) B (Rect.unit (s := S8x512x128) ![6, 0, 0] ![1, 512, 128] inb_S8x512x128_S1x512x128_6_0_0))
abbrev head7 (B : Vec Ideal S8x512x128 .f32) : FVec Ideal S1x512x128 .f32 := View.ld (Val := Elt Ideal) (e' := .f32) B (Rect.unit (s := S8x512x128) ![7, 0, 0] ![1, 512, 128] inb_S8x512x128_S1x512x128_7_0_0)

/-- The row of gradients in the kernel's order. -/
def zt (N : Inp) (X : Fin 8192 → Fin 1024 → ℝ) (C : Cot) (t : Fin 8192) : Fin 2176 → ℝ :=
  Inp.zr (fun j => Inp.hd (C.q t) j * 8) (Inp.hd (C.k t)) (Inp.hd (C.v t)) (C.s t) (dfl N X C t)
theorem zt_sum (t : Fin 8192) (j : Fin 1024) : ∑ i, zt N X C t i * Inp.wr (N.w j) i = N.dn (N.dz X C t) j := by
  unfold zt
  rw [Inp.reorder]
  simp only [dfl_lt]
  rfl

include H
theorem q_eq : partQ (iblk m c 4 t) = (up2 (fun r j => Inp.hd (C.q (tok t r)) j * 8) : S512x512.Idx → EReal) := by
  rw [b4 H t]
  simp only [partQ, load_headT _ 0 (by decide), load_headT _ 1 (by decide), load_headT _ 2 (by decide), load_headT _ 3 (by decide),
    load_headT _ 4 (by decide), load_headT _ 5 (by decide), load_headT _ 6 (by decide), load_headT _ 7 (by decide), InPay.dq]
  exact congrArg (fun f => (up2 f : S512x512.Idx → EReal)) (heads_eq fun r h l => C.q (tok t r) h l * 8)
theorem k_eq : partK (iblk m c 5 t) = (up2 (fun r => Inp.hd (C.k (tok t r))) : S512x512.Idx → EReal) := by
  rw [b5 H t]
  simp only [partK, load_head _ 0 (by decide), load_head _ 1 (by decide), load_head _ 2 (by decide), load_head _ 3 (by decide),
    load_head _ 4 (by decide), load_head _ 5 (by decide), load_head _ 6 (by decide), load_head _ 7 (by decide), InPay.dk]
  exact congrArg (fun f => (up2 f : S512x512.Idx → EReal)) (heads_eq fun r h l => C.k (tok t r) h l)
variable (P : FVec Ideal S1x128 .f32) (hP : P = (up2 (fun _ => after C t.val) : S1x128.Idx → EReal))
include hP
theorem f_eq : k0_pay9 (iblk m c 8 t) P (iblk m c 9 t) = (up2 (fun r => dfl N X C (tok t r)) : S512x128.Idx → EReal) := by
  rw [hP, b8 H t, b9 H t, InPay.pay9]
  simp only [tile_tail t]
  rfl
theorem z_eq : k0_pay43 (k0_pay9 (iblk m c 8 t) P (iblk m c 9 t)) (partQ (iblk m c 4 t)) (partK (iblk m c 5 t)) (partV0 (iblk m c 6 t))
      (partV1 (iblk m c 6 t)) (partV2 (iblk m c 6 t)) (partV3 (iblk m c 6 t)) (head7 (iblk m c 6 t)) (iblk m c 7 t)
    = (up2 (fun r => zt N X C (tok t r)) : S512x2176.Idx → EReal) := by
  rw [f_eq H t P hP, q_eq H t, k_eq H t, b6 H t, b7 H t]
  simp only [partV0, partV1, partV2, partV3, head7, load_head _ 0 (by decide), load_head _ 1 (by decide), load_head _ 2 (by decide), load_head _ 3 (by decide),
    load_head _ 4 (by decide), load_head _ 5 (by decide), load_head _ 6 (by decide), load_head _ 7 (by decide), InPay.dz]
  rw [heads_eq fun r h l => C.v (tok t r) h l]
  rfl
theorem n_eq : k0_pay44 (k0_pay9 (iblk m c 8 t) P (iblk m c 9 t)) (partQ (iblk m c 4 t)) (partK (iblk m c 5 t)) (partV0 (iblk m c 6 t))
      (partV1 (iblk m c 6 t)) (partV2 (iblk m c 6 t)) (partV3 (iblk m c 6 t)) (head7 (iblk m c 6 t)) (iblk m c 7 t) (iblk m c 3 t)
    = (up2 (fun r => N.dn (N.dz X C (tok t r))) : S512x1024.Idx → EReal) := by
  have e := z_eq H t P hP
  rw [f_eq H t P hP, q_eq H t, k_eq H t, b7 H t] at e ⊢
  rw [b3 H t, InPay.dn _ _ _ (fun r => Inp.hd (C.v (tok t r))) _ _ _ _ _ _ _ _ e]
  exact congrArg (fun f => (up2 f : S512x1024.Idx → EReal)) (funext fun r => funext fun j => zt_sum (tok t r) j)
omit hP

/-! ### The windows -/

theorem o11 : (outsAt0 m c t.val t.isLt).2.1 = (up2 (fun r => zt N X C (tok t r)) : S512x2176.Idx → EReal) := by
  by_cases h : t.val % 16 = 0
  · rw [outsAt0_A m c t h]; frame_out
    exact z_eq H t _ (first_row t C h _ _)
  · rw [outsAt0_B m c t h]; frame_out
    simp only [met H t h, read_back]
    exact z_eq H t _ (ld_row _ _)
theorem o10 : (outsAt0 m c t.val t.isLt).1 = (up2 (fun r => N.dx (X (tok t r)) (N.dz X C (tok t r)) (C.d (tok t r))) : S512x1024.Idx → EReal) := by
  by_cases h : t.val % 16 = 0
  · rw [outsAt0_A m c t h]; frame_out
    simp only [rows_two, cols_two]
    rw [n_eq H t _ (first_row t C h _ _), b0 H t, b1 H t, b2 H t, InPay.pay45, InPay.pay3]
    rfl
  · rw [outsAt0_B m c t h]; frame_out
    simp only [rows_two, cols_two, met H t h, read_back]
    rw [n_eq H t _ (ld_row _ _), b0 H t, b1 H t, b2 H t, InPay.pay45, InPay.pay3]
    rfl

/-! ### The arrays after the last tile -/

theorem w10 : (dats m 0 c).arrAt 10 cfg0.N = (up2 (fun t => N.dx (X t) (N.dz X C t) (C.d t)) : S8192x1024.Idx → EReal) :=
  (dats m 0 c).arrAt_eq_of_covers 10 _ (by decide +kernel) fun t hf y => by
    blk_simp
    rw [after0_10, o10 H t]
    exact congrArg₂ (fun a b => (up2 (fun t => N.dx (X t) (N.dz X C t) (C.d t)) : S8192x1024.Idx → EReal) (ix2 a b))
      (Fin.ext (by simp [tok, idx10 t])) (Fin.ext (by simp [idx10 t]))
theorem w11 : (dats m 0 c).arrAt 11 cfg0.N = (up2 (zt N X C) : S8192x2176.Idx → EReal) :=
  (dats m 0 c).arrAt_eq_of_covers 11 _ (by decide +kernel) fun t hf y => by
    blk_simp
    rw [after0_11, o11 H t]
    exact congrArg₂ (fun a b => (up2 (zt N X C) : S8192x2176.Idx → EReal) (ix2 a b))
      (Fin.ext (by simp [tok, idx11 t])) (Fin.ext (by simp [idx11 t]))

/-- The last tile that comes. -/
abbrev lastTile : Fin cfg0.N := ⟨15, by decide +kernel⟩
omit H in
theorem sum_tok (f : Fin 8192 → ℝ) : ∑ p : Fin 16, ∑ r : Fin 512, f (tok p r) = ∑ t, f t := by
  rw [← Equiv.sum_comp Fin.revPerm]
  exact Fin.sum_mul_add_congr fun s k hl => congrArg f (Fin.ext (by simp [tok, Fin.rev]; omega))

theorem a12 (j : S1x1024.Idx) : (outsAt0 m c lastTile.val lastTile.isLt).2.2.1 j
    = ((∑ t : Fin 8192, N.dg (X t) (N.dz X C t) (j 1) : ℝ) : EReal) := by
  rw [Pipeline.eq_sum_fin_of_reset_step_apply_last (fun n h => (outsAt0 m c n h).2.2.1) 16 (fun _ => 0)
    (fun (p : Fin cfg0.N) j => ((∑ r : Fin 512, N.dg (X (tok p r)) (N.dz X C (tok p r)) (j 1) : ℝ) : EReal))
    (fun t h j => by
      rw [outsAt0_A m c t h]; frame_out
      simp only [rows_two, cols_two]
      rw [n_eq H t _ (first_row t C h _ _), b1 H t, InPay.pay45, InPay.pay2, zeros5]
      rfl)
    (fun t h j => by
      rw [outsAt0_B m c t h]; frame_out
      simp only [rows_two, cols_two, met H t h, read_back]
      rw [n_eq H t _ (ld_row _ _), b1 H t, InPay.pay45, InPay.pay2]
      rfl)
    (le_of_eq N_0) lastTile rfl j, zero_add, sum_coe]
  refine congrArg _ ?_
  exact sum_tok fun t => N.dg (X t) (N.dz X C t) (j 1)
theorem w12 : (dats m 0 c).arrAt 12 cfg0.N = (up2 (fun _ j => ∑ t : Fin 8192, N.dg (X t) (N.dz X C t) j) : S1x1024.Idx → EReal) :=
  (dats m 0 c).arrAt_eq_of_after_last 12 lastTile (by decide +kernel) _ fun j => by
    blk_simp
    rw [after0_12, a12 H]; rfl
theorem a13 (j : S1x128.Idx) : (outsAt0 m c lastTile.val lastTile.isLt).2.2.2.1 j
    = ((∑ t : Fin 8192, dfl N X C t (j 1) : ℝ) : EReal) := by
  rw [Pipeline.eq_sum_fin_of_reset_step_apply_last (fun n h => (outsAt0 m c n h).2.2.2.1) 16 (fun _ => 0)
    (fun (p : Fin cfg0.N) j => ((∑ r : Fin 512, dfl N X C (tok p r) (j 1) : ℝ) : EReal))
    (fun t h j => by
      rw [outsAt0_A m c t h]; frame_out
      rw [first_row t C h, b8 H t, b9 H t, InPay.pay10, zeros6]
      exact congrArg (fun x : ℝ => (0 : EReal) + (x : EReal)) (Finset.sum_congr rfl fun r _ => dfl_tile t N X r (j 1)))
    (fun t h j => by
      rw [outsAt0_B m c t h]; frame_out
      simp only [met H t h, read_back]
      rw [ld_row, b8 H t, b9 H t]
      exact (InPay.pay10 _ _ _ _ _).trans
        (congrArg (fun x : ℝ => _ + (x : EReal)) (Finset.sum_congr rfl fun r _ => dfl_tile t N X r (j 1))))
    (le_of_eq N_0) lastTile rfl j, zero_add, sum_coe]
  refine congrArg _ ?_
  exact sum_tok fun t => dfl N X C t (j 1)
theorem w13 : (dats m 0 c).arrAt 13 cfg0.N = (up2 (fun _ l => ∑ t : Fin 8192, dfl N X C t l) : S1x128.Idx → EReal) :=
  (dats m 0 c).arrAt_eq_of_after_last 13 lastTile (by decide +kernel) _ fun j => by
    blk_simp
    rw [after0_13, a13 H]; rfl

end InKernel
end
-- ==== Proof.InEnd.lean ====
/-
  How a run of the mixer input's gradient call ends: the kernel's arrays, and the host lines after it.
-/
module

public import proofs.«01_k».proof.Proof.InKernel

@[expose] public section

set_option maxRecDepth 65536

noncomputable section

open Idealize.ShloMosaic Idealize.SL.Sem Lift
open Cert.Kernel5Ideal Cert.Kernel5Ideal.Gen
open Idealize.ShloMosaic.StableHlo (launchContents)

namespace InEnd

/-! ### The host lines after the kernel -/

variable (V : Valuation τ sig (Elt Ideal)) (N : Inp) (X : Fin 8192 → Fin 1024 → ℝ) (C : Cot)

theorem cat4 {x1 y1 : S8192x512.Idx → EReal} {x2 y2 : S8192x1024.Idx → EReal} {x3 y3 : S8192x8.Idx → EReal} {x4 y4 : S8192x512.Idx → EReal}
    (h1 : x1 = y1) (h2 : x2 = y2) (h3 : x3 = y3) (h4 : x4 = y4) (h) :
    concatenate S8192x2056 1 [⟨S8192x512, x1⟩, ⟨S8192x1024, x2⟩, ⟨S8192x8, x3⟩, ⟨S8192x512, x4⟩] h
      = concatenate S8192x2056 1 [⟨S8192x512, y1⟩, ⟨S8192x1024, y2⟩, ⟨S8192x8, y3⟩, ⟨S8192x512, y4⟩] h := by
  subst h1 h2 h3 h4; rfl

/-- The row with its middle parts as one. -/
theorem row_of (q k v : Fin 8 → Fin 64 → ℝ) (f : Fin 8 → ℝ) (s : Fin 512 → ℝ) (c : Fin 2056) :
    (if h : c.val < 512 then Inp.hd q ⟨c.val, h⟩
      else if h : c.val - 512 < 1024 then
        (if h' : c.val - 512 < 512 then Inp.hd k ⟨c.val - 512, h'⟩ else Inp.hd v ⟨c.val - 512 - 512, by omega⟩)
      else if h : c.val - 512 - 1024 < 8 then f ⟨c.val - 512 - 1024, h⟩
      else s ⟨c.val - 512 - 1024 - 8, by omega⟩) = Inp.row q k v f s c := by
  unfold Inp.row
  by_cases h1 : c.val < 512
  · rw [dif_pos h1, dif_pos h1]
  · rw [dif_neg h1, dif_neg h1]
    by_cases h2 : c.val - 512 < 512
    · rw [dif_pos (by omega), dif_pos h2, dif_pos h2]
    · rw [dif_neg h2]
      by_cases h3 : c.val - 512 - 512 < 512
      · rw [dif_pos (by omega), dif_neg h2, dif_pos h3]
      · rw [dif_neg (by omega), dif_neg h3]
        by_cases h4 : c.val - 512 - 1024 < 8
        · rw [dif_pos h4, dif_pos (by omega)]
          exact congrArg f (Fin.ext (by show c.val - 512 - 1024 = c.val - 512 - 512 - 512; omega))
        · rw [dif_neg h4, dif_neg (by omega)]
          exact congrArg s (Fin.ext (by show c.val - 512 - 1024 - 8 = c.val - 512 - 512 - 512 - 8; omega))

/-- Where the parts lie in the kernel's row. -/
theorem part_q (t : Fin 8192) (j : Fin 512) : InKernel.zt N X C t ⟨j.val, by omega⟩ = Inp.hd (C.q t) j * 8 := by
  unfold InKernel.zt Inp.zr
  exact dif_pos j.isLt
theorem part_kv (t : Fin 8192) (j : Fin 1024) : InKernel.zt N X C t ⟨512 + j.val, by omega⟩
    = if h : j.val < 512 then Inp.hd (C.k t) ⟨j.val, h⟩ else Inp.hd (C.v t) ⟨j.val - 512, by omega⟩ := by
  unfold InKernel.zt Inp.zr
  rw [dif_neg (by first | omega | (simp only; omega))]
  by_cases h : j.val < 512
  · rw [dif_pos (by first | omega | (simp only; omega)), dif_pos h]
    exact congrArg _ (Fin.ext (by first | omega | (simp only; omega)))
  · rw [dif_neg (by first | omega | (simp only; omega)), dif_pos (by first | omega | (simp only; omega)), dif_neg h]
    exact congrArg _ (Fin.ext (by first | omega | (simp only; omega)))
theorem part_s (t : Fin 8192) (j : Fin 512) : InKernel.zt N X C t ⟨1536 + j.val, by omega⟩ = C.s t j := by
  unfold InKernel.zt Inp.zr
  rw [dif_neg (by first | omega | (simp only; omega)), dif_neg (by first | omega | (simp only; omega)), dif_neg (by first | omega | (simp only; omega)), dif_pos (by first | omega | (simp only; omega))]
  exact congrArg _ (Fin.ext (by first | omega | (simp only; omega)))
theorem part_f (t : Fin 8192) (j : Fin 8) : InKernel.zt N X C t ⟨2048 + j.val, by omega⟩ = N.df X C t j := by
  unfold InKernel.zt Inp.zr
  rw [dif_neg (by first | omega | (simp only; omega)), dif_neg (by first | omega | (simp only; omega)), dif_neg (by first | omega | (simp only; omega)), dif_neg (by first | omega | (simp only; omega)),
    ← InKernel.dfl_lt t j (by omega)]
  exact congrArg _ (Fin.ext (by first | omega | (simp only; omega)))

section
variable (h : V (Proc.devRef .tc main_v41_1) = (up2 (InKernel.zt N X C) : S8192x2176.Idx → EReal))
include h
theorem v44 : StableHlo.upto hostOps1 V 7 (Proc.devRef .tc main_v44) = (up2 fun t => Inp.hd (C.q t) : S8192x512.Idx → EReal) := by
  after_reads_simp; rw [h]; funext j; pointwise []
  exact congrArg _ ((congrArg (· * (1 / 8)) (part_q N X C (j 0) (j 1))).trans (by show Inp.hd _ _ * 8 * (1 / 8) = _; ring))
theorem v45 : StableHlo.upto hostOps1 V 7 (Proc.devRef .tc main_v45)
    = (up2 fun t j => if h : j.val < 512 then Inp.hd (C.k t) ⟨j.val, h⟩ else Inp.hd (C.v t) ⟨j.val - 512, by omega⟩ : S8192x1024.Idx → EReal) := by
  after_reads_simp; rw [h]; funext j; pointwise []
  exact congrArg _ (part_kv N X C (j 0) (j 1))
theorem v46 : StableHlo.upto hostOps1 V 7 (Proc.devRef .tc main_v46) = (up2 (N.df X C) : S8192x8.Idx → EReal) := by
  after_reads_simp; rw [h]; funext j; pointwise []
  exact congrArg _ (part_f N X C (j 0) (j 1))
theorem v47 : StableHlo.upto hostOps1 V 7 (Proc.devRef .tc main_v47) = (up2 C.s : S8192x512.Idx → EReal) := by
  after_reads_simp; rw [h]; funext j; pointwise []
  exact congrArg _ (part_s N X C (j 0) (j 1))
theorem v48 : StableHlo.after hostOps1 V (Proc.devRef .tc main_v48) = (up2 (N.dz X C) : S8192x2056.Idx → EReal) := by
  after_reads_simp
  refine (cat4 (v44 V N X C h) (v45 V N X C h) (v46 V N X C h) (v47 V N X C h) _).trans ?_
  funext j
  pointwise []
  refine Eq.trans ?_ (congrArg (fun x : ℝ => (x : EReal)) (row_of (C.q (j 0)) (C.k (j 0)) (C.v (j 0)) (N.df X C (j 0)) (C.s (j 0)) (j 1)))
  split_ifs <;> rfl
end
theorem v49 (h : V (Proc.devRef .tc main_v41_3) = (up2 (fun _ l => ∑ t : Fin 8192, InKernel.dfl N X C t l) : S1x128.Idx → EReal)) :
    StableHlo.after hostOps1 V (Proc.devRef .tc main_v49) = (up2 fun _ j => ∑ t : Fin 8192, N.df X C t j : S1x8.Idx → EReal) := by
  after_reads_simp; rw [h]; funext j; pointwise []
  exact congrArg (fun x : ℝ => (x : EReal)) (Finset.sum_congr rfl fun t _ => InKernel.dfl_lt t (j 1) _)

/-! ### The run -/

variable (m : (ℓ : Loc nD τ sig) → Buf (Elt Ideal) ℓ) (ρ : Dev nD → PrngReg) (c : Dev nD)

/-- What the last host lines find: the kernel's arrays, and every other buffer as the kernel found it. -/
abbrev found : Valuation τ sig (Elt Ideal) := Pipeline.withArrays spec0 c (V0 m c) fun w => (dats m 0 c).arrAt w cfg0.N

theorem found_arr (w : Fin cfg0.W) : found m c (Proc.devRef .tc (Pipeline.arrRef spec0 w)) = (dats m 0 c).arrAt w cfg0.N :=
  Pipeline.withArrays_arr spec0 (by decide) c (V0 m c) _ w

variable {m c N X C}

theorem end1 (F : InHost.Finds N X C m c) : StableHlo.after hostOps1 (found m c) (Proc.devRef .tc main_v48)
    = (up2 (N.dz X C) : S8192x2056.Idx → EReal) := v48 _ N X C ((found_arr m c 11).trans (InKernel.w11 F))
theorem end3 (F : InHost.Finds N X C m c) : StableHlo.after hostOps1 (found m c) (Proc.devRef .tc main_v49)
    = (up2 fun _ j => ∑ t : Fin 8192, N.df X C t j : S1x8.Idx → EReal) := v49 _ N X C ((found_arr m c 13).trans (InKernel.w13 F))

variable (m)

/-- Two results end as those lines leave them, two as the kernel does, the arguments unchanged. -/
theorem run_ends : θ_run defs (onTc (τ := τ) (main (F := Ideal))) ⟨m, fun _ => 0, ρ⟩ fun r => ∀ c : Dev nD,
      r.2.mem ((c.tc : Thread nD τ).loc main_v41_0) = (dats m 0 c).arrAt 10 cfg0.N
      ∧ r.2.mem ((c.tc : Thread nD τ).loc main_v48) = StableHlo.after hostOps1 (found m c) (Proc.devRef .tc main_v48)
      ∧ r.2.mem ((c.tc : Thread nD τ).loc main_v41_2) = (dats m 0 c).arrAt 12 cfg0.N
      ∧ r.2.mem ((c.tc : Thread nD τ).loc main_v49) = StableHlo.after hostOps1 (found m c) (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h.1 c).1 10, (h.1 c).2 main_v48 (Pipeline.mem_restRefs_of main_v48 (by decide) (by decide)),
      (h.1 c).1 12, (h.1 c).2 main_v49 (Pipeline.mem_restRefs_of main_v49 (by decide) (by decide)), h.2.1 c⟩)
    (θ_run_and (run_main m ρ) (frame m ρ))

end InEnd
end
-- ==== Proof.InClaim.lean ====
/-
  The mixer input's gradient call against the derivative of the forward lines: both runs end with the same four arrays.
-/
module

public import proofs.«01_k».proof.Defs
public import proofs.«01_k».proof.Proof.InRef
public import proofs.«01_k».proof.Proof.InEnd
public import proofs.«01_k».proof.Proof.Gen.Pre_finite_in

@[expose] public section

set_option maxRecDepth 65536

noncomputable section

open Idealize.ShloMosaic Idealize.SL.Sem Lift
open Cert.Kernel5Ideal Cert.Kernel5Ideal.Gen
open Idealize.ShloMosaic.StableHlo (launchContents)

open InEnd

namespace InClaim

/-! ### The claim -/

/-- Finite arguments are arrays of reals. -/
theorem given (m : (ℓ : Loc nD τ sig) → Buf (Elt Ideal) ℓ) (hpre : Cert.Pre_Kernel5Ideal_finite_in m) (c : Dev nD) :
    ∃ N X C, InHost.Given (fun b => m (c, b)) N X C := by
  obtain ⟨h0, h1, h2, h3, h4, h5, h6, h7, h8, h9⟩ := hpre c
  obtain ⟨X, hX⟩ := finite2 h0
  obtain ⟨g, hg⟩ := finiteRow h1
  obtain ⟨w, hw⟩ := finite2 h2
  obtain ⟨b, hb⟩ := finiteRow h3
  obtain ⟨d, hd⟩ := finite2 h4
  obtain ⟨q, hq⟩ := finite3 h5
  obtain ⟨k, hk⟩ := finite3 h6
  obtain ⟨v, hv⟩ := finite3 h7
  obtain ⟨e, he⟩ := finite2 h8
  obtain ⟨s, hs⟩ := finite2 h9
  exact ⟨⟨g, w, b⟩, X, ⟨d, q, k, v, e, s⟩, hX, hg, hw, hb, hd, hq, hk, hv, he, hs⟩

set_option maxHeartbeats 1000000 in
theorem algebraic : Cert.algebraic_Kernel5Ideal_Reference5Ideal_pre_finite_in := by
  intro m g m' g' hpre hagree
  refine ⟨fun c => (dats m 0 c).arrAt 10 cfg0.N, fun c => StableHlo.after hostOps1 (found m c) (Proc.devRef .tc main_v48),
    fun c => (dats m 0 c).arrAt 12 cfg0.N, fun c => StableHlo.after hostOps1 (found m c) (Proc.devRef .tc main_v49), ?_, ?_⟩
  · exact θ_run_mono (run_ends m g) fun r h c => h c
  · refine θ_run_mono (InRef.run_stages m' g') fun r h c => ?_
    obtain ⟨p0, p1, p2, p3, p⟩ := h c
    obtain ⟨e0, e1, e2, e3, e4, e5, e6, e7, e8, e9⟩ := hagree c
    obtain ⟨N, X, C, H⟩ := given m hpre c
    have F := InHost.finds H
    have h0 := e0.trans H.h0; have h1 := e1.trans H.h1; have h2 := e2.trans H.h2; have h3 := e3.trans H.h3
    have h4 := e4.trans H.h4; have h5 := e5.trans H.h5; have h6 := e6.trans H.h6; have h7 := e7.trans H.h7
    have h8 := e8.trans H.h8; have h9 := e9.trans H.h9
    refine ⟨?_, ?_, ?_, ?_, p⟩
    · exact p0.trans ((InRef.r73 N X C h0 h1 h2 h3 h4 h5 h6 h7 h8 h9).trans (InKernel.w10 F).symm)
    · exact p1.trans ((InRef.r75 N X C h0 h1 h2 h3 h5 h6 h7 h8 h9).trans (end1 F).symm)
    · exact p2.trans ((InRef.r74 N X C h0 h1 h2 h3 h5 h6 h7 h8 h9).trans (InKernel.w12 F).symm)
    · exact p3.trans ((InRef.r40 N X C h0 h1 h2 h3 h8).trans (end3 F).symm)

end InClaim
end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.HeadClaim
public import proofs.«01_k».proof.Proof.AttnWords
public import proofs.«01_k».proof.Proof.AttnClaim
public import proofs.«01_k».proof.Proof.FfnClaim
public import proofs.«01_k».proof.Proof.MixClaim
public import proofs.«01_k».proof.Proof.InClaim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_head
public import proofs.«01_k».proof.Proof.Gen.Pre_finite_attn
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_ffn
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_mix
public import proofs.«01_k».proof.Proof.Gen.Pre_finite_in
public import Idealize.ShloMosaic.Adequacy
public import Idealize.ShloMosaic.Init

@[expose] public section

noncomputable section

namespace Cert.Proof

open Idealize.ShloMosaic Idealize.SL.Sem

section
open Cert.ReferenceIdeal
/-- The reference declares no semaphore, so every counter is at zero. -/
theorem sem_ref (f : GSem nD τ sig → Int) : f = fun _ => 0 := by
  funext g
  obtain ⟨_, s⟩ := g
  cases s with
  | reg s => exact Fin.elim0 s
  | dma s => exact Fin.elim0 s
end

section
open Cert.Reference2Ideal
theorem sem_ref2 (f : GSem nD τ sig → Int) : f = fun _ => 0 := by
  funext g
  obtain ⟨_, s⟩ := g
  cases s with
  | reg s => exact Fin.elim0 s
  | dma s => exact Fin.elim0 s
end

section
open Cert.Reference3Ideal
theorem sem_ref3 (f : GSem nD τ sig → Int) : f = fun _ => 0 := by
  funext g
  obtain ⟨_, s⟩ := g
  cases s with
  | reg s => exact Fin.elim0 s
  | dma s => exact Fin.elim0 s
end

section
open Cert.Reference4Ideal
theorem sem_ref4 (f : GSem nD τ sig → Int) : f = fun _ => 0 := by
  funext g
  obtain ⟨_, s⟩ := g
  cases s with
  | reg s => exact Fin.elim0 s
  | dma s => exact Fin.elim0 s
end

section
open Cert.Reference5Ideal
theorem sem_ref5 (f : GSem nD τ sig → Int) : f = fun _ => 0 := by
  funext g
  obtain ⟨_, s⟩ := g
  cases s with
  | reg s => exact Fin.elim0 s
  | dma s => exact Fin.elim0 s
end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_head.Gen.facts, Cert.Pre_finite_attn.Gen.facts,
  Cert.Pre_finite_ffn.Gen.facts, Cert.Pre_finite_mix.Gen.facts, Cert.Pre_finite_in.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2.2.2, sem_ref _⟩) (HeadRef.run_stages m ρ),
  fun m ρ _ => (θ_run _ _ _).mono (fun r h => ⟨fun c => (h c).2.2.2.2.2.2.2, sem_ref _⟩) (HeadRef.run_stages m ρ),
  AttnWords.frame_words,
  fun m ρ _ => Cert.Kernel2Ideal.frame_attn m ρ,
  fun m ρ _ => Cert.Kernel2Ideal.frame_attn m ρ,
  fun m ρ _ => (θ_run _ _ _).mono (fun r h => ⟨fun c => (h c).2.2.2.2, sem_ref2 _⟩) (AttnRef.run_stages m ρ),
  fun m ρ _ => (θ_run _ _ _).mono (fun r h => ⟨fun c => (h c).2.2.2.2, sem_ref2 _⟩) (AttnRef.run_stages m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run _ _ _).mono (fun r h => ⟨fun c => (h c).2.2.2.2.2.2.2.2.2, sem_ref3 _⟩) (FfnRef.run_stages m ρ),
  fun m ρ _ => (θ_run _ _ _).mono (fun r h => ⟨fun c => (h c).2.2.2.2.2.2.2.2.2, sem_ref3 _⟩) (FfnRef.run_stages m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run _ _ _).mono (fun r h => ⟨fun c => (h c).2.2.2.2.2.2.2.2, sem_ref4 _⟩) (MixRef.run_stages m ρ),
  fun m ρ _ => (θ_run _ _ _).mono (fun r h => ⟨fun c => (h c).2.2.2.2.2.2.2.2, sem_ref4 _⟩) (MixRef.run_stages m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run _ _ _).mono (fun r h => ⟨fun c => (h c).2.2.2.2, sem_ref5 _⟩) (InRef.run_stages m ρ),
  fun m ρ _ => (θ_run _ _ _).mono (fun r h => ⟨fun c => (h c).2.2.2.2, sem_ref5 _⟩) (InRef.run_stages m ρ),
  trivial,
  HeadClaim.algebraic,
  trivial,
  AttnClaim.algebraic,
  trivial,
  FfnClaim.algebraic,
  ⟨IdealRules.named_const.statement _ _ _ _ _ rfl, IdealRules.named_const.statement _ _ _ _ _ rfl⟩,
  MixClaim.algebraic,
  trivial,
  InClaim.algebraic⟩

end Cert.Proof

end
